-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_In1 (m : (ℓ : Loc Cert.In1.nD Cert.In1.τ Cert.In1.sig) → Buf (Elt Bits) ℓ) : Prop :=
  True

def Pre_In1Ideal (m : (ℓ : Loc Cert.In1Ideal.nD Cert.In1Ideal.τ Cert.In1Ideal.sig) → Buf (Elt Ideal) ℓ) : Prop :=
  True

def Pre_In1RefIdeal (m : (ℓ : Loc Cert.In1RefIdeal.nD Cert.In1RefIdeal.τ Cert.In1RefIdeal.sig) → Buf (Elt Ideal) ℓ) : Prop :=
  True

def Pre_In0 (m : (ℓ : Loc Cert.In0.nD Cert.In0.τ Cert.In0.sig) → Buf (Elt Bits) ℓ) : Prop :=
  True

def Pre_In0Ideal (m : (ℓ : Loc Cert.In0Ideal.nD Cert.In0Ideal.τ Cert.In0Ideal.sig) → Buf (Elt Ideal) ℓ) : Prop :=
  True

def Pre_In0RefIdeal (m : (ℓ : Loc Cert.In0RefIdeal.nD Cert.In0RefIdeal.τ Cert.In0RefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_step_finite [hPre_step_finite : Cert.Pre_step_finite.Facts] (m : (ℓ : Loc Cert.PrepIdeal.nD Cert.PrepIdeal.τ Cert.PrepIdeal.sig) → Buf (Elt Ideal) ℓ) : Prop :=
  ∀ c : Dev Cert.PrepIdeal.nD,
    (Cert.Pre_step_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9)) (m ((c.tc : Thread Cert.PrepIdeal.nD Cert.PrepIdeal.τ).loc Cert.PrepIdeal.main_arg10)) (m ((c.tc : Thread Cert.PrepIdeal.nD Cert.PrepIdeal.τ).loc Cert.PrepIdeal.main_arg11)) (m ((c.tc : Thread Cert.PrepIdeal.nD Cert.PrepIdeal.τ).loc Cert.PrepIdeal.main_arg12))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_step_finite [hPre_step_finite : Cert.Pre_step_finite.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_step_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8)) (m ((c.tc : Thread Cert.PrepRefIdeal.nD Cert.PrepRefIdeal.τ).loc Cert.PrepRefIdeal.main_arg9)) (m ((c.tc : Thread Cert.PrepRefIdeal.nD Cert.PrepRefIdeal.τ).loc Cert.PrepRefIdeal.main_arg10)) (m ((c.tc : Thread Cert.PrepRefIdeal.nD Cert.PrepRefIdeal.τ).loc Cert.PrepRefIdeal.main_arg11)) (m ((c.tc : Thread Cert.PrepRefIdeal.nD Cert.PrepRefIdeal.τ).loc Cert.PrepRefIdeal.main_arg12))) = (fun _ => 1#1)

def Pre_PrepFwd (m : (ℓ : Loc Cert.PrepFwd.nD Cert.PrepFwd.τ Cert.PrepFwd.sig) → Buf (Elt Bits) ℓ) : Prop :=
  True

def Pre_PrepFwdIdeal (m : (ℓ : Loc Cert.PrepFwdIdeal.nD Cert.PrepFwdIdeal.τ Cert.PrepFwdIdeal.sig) → Buf (Elt Ideal) ℓ) : Prop :=
  True

def Pre_PrepFwdRefIdeal (m : (ℓ : Loc Cert.PrepFwdRefIdeal.nD Cert.PrepFwdRefIdeal.τ Cert.PrepFwdRefIdeal.sig) → Buf (Elt Ideal) ℓ) : Prop :=
  True

def Pre_In0Fwd (m : (ℓ : Loc Cert.In0Fwd.nD Cert.In0Fwd.τ Cert.In0Fwd.sig) → Buf (Elt Bits) ℓ) : Prop :=
  True

def Pre_In0FwdIdeal (m : (ℓ : Loc Cert.In0FwdIdeal.nD Cert.In0FwdIdeal.τ Cert.In0FwdIdeal.sig) → Buf (Elt Ideal) ℓ) : Prop :=
  True

def Pre_In0FwdRefIdeal (m : (ℓ : Loc Cert.In0FwdRefIdeal.nD Cert.In0FwdRefIdeal.τ Cert.In0FwdRefIdeal.sig) → Buf (Elt Ideal) ℓ) : Prop :=
  True

def Pre_In1Fwd (m : (ℓ : Loc Cert.In1Fwd.nD Cert.In1Fwd.τ Cert.In1Fwd.sig) → Buf (Elt Bits) ℓ) : Prop :=
  True

def Pre_In1FwdIdeal (m : (ℓ : Loc Cert.In1FwdIdeal.nD Cert.In1FwdIdeal.τ Cert.In1FwdIdeal.sig) → Buf (Elt Ideal) ℓ) : Prop :=
  True

def Pre_In1FwdRefIdeal (m : (ℓ : Loc Cert.In1FwdRefIdeal.nD Cert.In1FwdRefIdeal.τ Cert.In1FwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_LossSum (m : (ℓ : Loc Cert.LossSum.nD Cert.LossSum.τ Cert.LossSum.sig) → Buf (Elt Bits) ℓ) : Prop :=
  True

def Pre_LossSumIdeal (m : (ℓ : Loc Cert.LossSumIdeal.nD Cert.LossSumIdeal.τ Cert.LossSumIdeal.sig) → Buf (Elt Ideal) ℓ) : Prop :=
  True

def Pre_LossSumRefIdeal (m : (ℓ : Loc Cert.LossSumRefIdeal.nD Cert.LossSumRefIdeal.τ Cert.LossSumRefIdeal.sig) → Buf (Elt Ideal) ℓ) : Prop :=
  True

def Pre_RetFwd (m : (ℓ : Loc Cert.RetFwd.nD Cert.RetFwd.τ Cert.RetFwd.sig) → Buf (Elt Bits) ℓ) : Prop :=
  True

def Pre_RetFwdIdeal (m : (ℓ : Loc Cert.RetFwdIdeal.nD Cert.RetFwdIdeal.τ Cert.RetFwdIdeal.sig) → Buf (Elt Ideal) ℓ) : Prop :=
  True

def Pre_GdnFwd (m : (ℓ : Loc Cert.GdnFwd.nD Cert.GdnFwd.τ Cert.GdnFwd.sig) → Buf (Elt Bits) ℓ) : Prop :=
  True

def Pre_GdnFwdIdeal (m : (ℓ : Loc Cert.GdnFwdIdeal.nD Cert.GdnFwdIdeal.τ Cert.GdnFwdIdeal.sig) → Buf (Elt Ideal) ℓ) : Prop :=
  True

def Pre_SsdFwd (m : (ℓ : Loc Cert.SsdFwd.nD Cert.SsdFwd.τ Cert.SsdFwd.sig) → Buf (Elt Bits) ℓ) : Prop :=
  True

def Pre_SsdFwdIdeal (m : (ℓ : Loc Cert.SsdFwdIdeal.nD Cert.SsdFwdIdeal.τ Cert.SsdFwdIdeal.sig) → Buf (Elt Ideal) ℓ) : Prop :=
  True

def Pre_S5Fwd (m : (ℓ : Loc Cert.S5Fwd.nD Cert.S5Fwd.τ Cert.S5Fwd.sig) → Buf (Elt Bits) ℓ) : Prop :=
  True

def Pre_S5FwdIdeal (m : (ℓ : Loc Cert.S5FwdIdeal.nD Cert.S5FwdIdeal.τ Cert.S5FwdIdeal.sig) → Buf (Elt Ideal) ℓ) : Prop :=
  True

def Pre_RetBwd (m : (ℓ : Loc Cert.RetBwd.nD Cert.RetBwd.τ Cert.RetBwd.sig) → Buf (Elt Bits) ℓ) : Prop :=
  True

def Pre_RetBwdIdeal (m : (ℓ : Loc Cert.RetBwdIdeal.nD Cert.RetBwdIdeal.τ Cert.RetBwdIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_In1 [hIn1 : Cert.In1.Facts] : Prop :=
  ∀ (m : (ℓ : Loc Cert.In1.nD Cert.In1.τ Cert.In1.sig) → Buf (Elt Bits) ℓ) (g : Dev Cert.In1.nD → PrngReg), Pre_In1 m →
    θ_run (Cert.In1.defs (F := Bits)) (onTc (τ := Cert.In1.τ) (Cert.In1.main (F := Bits))) ⟨m, fun _ => 0, g⟩ (fun r => (∀ c : Dev Cert.In1.nD,
      r.2.mem ((c.tc : Thread Cert.In1.nD Cert.In1.τ).loc Cert.In1.main_arg0) = m ((c.tc : Thread Cert.In1.nD Cert.In1.τ).loc Cert.In1.main_arg0)
      ∧ r.2.mem ((c.tc : Thread Cert.In1.nD Cert.In1.τ).loc Cert.In1.main_arg1) = m ((c.tc : Thread Cert.In1.nD Cert.In1.τ).loc Cert.In1.main_arg1)
      ∧ r.2.mem ((c.tc : Thread Cert.In1.nD Cert.In1.τ).loc Cert.In1.main_arg2) = m ((c.tc : Thread Cert.In1.nD Cert.In1.τ).loc Cert.In1.main_arg2)
      ∧ r.2.mem ((c.tc : Thread Cert.In1.nD Cert.In1.τ).loc Cert.In1.main_arg3) = m ((c.tc : Thread Cert.In1.nD Cert.In1.τ).loc Cert.In1.main_arg3)
      ∧ r.2.mem ((c.tc : Thread Cert.In1.nD Cert.In1.τ).loc Cert.In1.main_arg4) = m ((c.tc : Thread Cert.In1.nD Cert.In1.τ).loc Cert.In1.main_arg4))
      ∧ r.2.sem = fun _ => 0)

def quiescent_In1Ideal [hIn1Ideal : Cert.In1Ideal.Facts] : Prop :=
  ∀ (m : (ℓ : Loc Cert.In1Ideal.nD Cert.In1Ideal.τ Cert.In1Ideal.sig) → Buf (Elt Ideal) ℓ) (g : Dev Cert.In1Ideal.nD → PrngReg), Pre_In1Ideal m →
    θ_run (Cert.In1Ideal.defs (F := Ideal)) (onTc (τ := Cert.In1Ideal.τ) (Cert.In1Ideal.main (F := Ideal))) ⟨m, fun _ => 0, g⟩ (fun r => (∀ c : Dev Cert.In1Ideal.nD,
      r.2.mem ((c.tc : Thread Cert.In1Ideal.nD Cert.In1Ideal.τ).loc Cert.In1Ideal.main_arg0) = m ((c.tc : Thread Cert.In1Ideal.nD Cert.In1Ideal.τ).loc Cert.In1Ideal.main_arg0)
      ∧ r.2.mem ((c.tc : Thread Cert.In1Ideal.nD Cert.In1Ideal.τ).loc Cert.In1Ideal.main_arg1) = m ((c.tc : Thread Cert.In1Ideal.nD Cert.In1Ideal.τ).loc Cert.In1Ideal.main_arg1)
      ∧ r.2.mem ((c.tc : Thread Cert.In1Ideal.nD Cert.In1Ideal.τ).loc Cert.In1Ideal.main_arg2) = m ((c.tc : Thread Cert.In1Ideal.nD Cert.In1Ideal.τ).loc Cert.In1Ideal.main_arg2)
      ∧ r.2.mem ((c.tc : Thread Cert.In1Ideal.nD Cert.In1Ideal.τ).loc Cert.In1Ideal.main_arg3) = m ((c.tc : Thread Cert.In1Ideal.nD Cert.In1Ideal.τ).loc Cert.In1Ideal.main_arg3)
      ∧ r.2.mem ((c.tc : Thread Cert.In1Ideal.nD Cert.In1Ideal.τ).loc Cert.In1Ideal.main_arg4) = m ((c.tc : Thread Cert.In1Ideal.nD Cert.In1Ideal.τ).loc Cert.In1Ideal.main_arg4))
      ∧ r.2.sem = fun _ => 0)

def quiescent_In1RefIdeal [hIn1RefIdeal : Cert.In1RefIdeal.Facts] : Prop :=
  ∀ (m : (ℓ : Loc Cert.In1RefIdeal.nD Cert.In1RefIdeal.τ Cert.In1RefIdeal.sig) → Buf (Elt Ideal) ℓ) (g : Dev Cert.In1RefIdeal.nD → PrngReg), Pre_In1RefIdeal m →
    θ_run (Cert.In1RefIdeal.defs (F := Ideal)) (onTc (τ := Cert.In1RefIdeal.τ) (Cert.In1RefIdeal.main (F := Ideal))) ⟨m, fun _ => 0, g⟩ (fun r => (∀ c : Dev Cert.In1RefIdeal.nD,
      r.2.mem ((c.tc : Thread Cert.In1RefIdeal.nD Cert.In1RefIdeal.τ).loc Cert.In1RefIdeal.main_arg0) = m ((c.tc : Thread Cert.In1RefIdeal.nD Cert.In1RefIdeal.τ).loc Cert.In1RefIdeal.main_arg0)
      ∧ r.2.mem ((c.tc : Thread Cert.In1RefIdeal.nD Cert.In1RefIdeal.τ).loc Cert.In1RefIdeal.main_arg1) = m ((c.tc : Thread Cert.In1RefIdeal.nD Cert.In1RefIdeal.τ).loc Cert.In1RefIdeal.main_arg1)
      ∧ r.2.mem ((c.tc : Thread Cert.In1RefIdeal.nD Cert.In1RefIdeal.τ).loc Cert.In1RefIdeal.main_arg2) = m ((c.tc : Thread Cert.In1RefIdeal.nD Cert.In1RefIdeal.τ).loc Cert.In1RefIdeal.main_arg2)
      ∧ r.2.mem ((c.tc : Thread Cert.In1RefIdeal.nD Cert.In1RefIdeal.τ).loc Cert.In1RefIdeal.main_arg3) = m ((c.tc : Thread Cert.In1RefIdeal.nD Cert.In1RefIdeal.τ).loc Cert.In1RefIdeal.main_arg3)
      ∧ r.2.mem ((c.tc : Thread Cert.In1RefIdeal.nD Cert.In1RefIdeal.τ).loc Cert.In1RefIdeal.main_arg4) = m ((c.tc : Thread Cert.In1RefIdeal.nD Cert.In1RefIdeal.τ).loc Cert.In1RefIdeal.main_arg4))
      ∧ r.2.sem = fun _ => 0)

def quiescent_In0 [hIn0 : Cert.In0.Facts] : Prop :=
  ∀ (m : (ℓ : Loc Cert.In0.nD Cert.In0.τ Cert.In0.sig) → Buf (Elt Bits) ℓ) (g : Dev Cert.In0.nD → PrngReg), Pre_In0 m →
    θ_run (Cert.In0.defs (F := Bits)) (onTc (τ := Cert.In0.τ) (Cert.In0.main (F := Bits))) ⟨m, fun _ => 0, g⟩ (fun r => (∀ c : Dev Cert.In0.nD,
      r.2.mem ((c.tc : Thread Cert.In0.nD Cert.In0.τ).loc Cert.In0.main_arg0) = m ((c.tc : Thread Cert.In0.nD Cert.In0.τ).loc Cert.In0.main_arg0)
      ∧ r.2.mem ((c.tc : Thread Cert.In0.nD Cert.In0.τ).loc Cert.In0.main_arg1) = m ((c.tc : Thread Cert.In0.nD Cert.In0.τ).loc Cert.In0.main_arg1)
      ∧ r.2.mem ((c.tc : Thread Cert.In0.nD Cert.In0.τ).loc Cert.In0.main_arg2) = m ((c.tc : Thread Cert.In0.nD Cert.In0.τ).loc Cert.In0.main_arg2)
      ∧ r.2.mem ((c.tc : Thread Cert.In0.nD Cert.In0.τ).loc Cert.In0.main_arg3) = m ((c.tc : Thread Cert.In0.nD Cert.In0.τ).loc Cert.In0.main_arg3)
      ∧ r.2.mem ((c.tc : Thread Cert.In0.nD Cert.In0.τ).loc Cert.In0.main_arg4) = m ((c.tc : Thread Cert.In0.nD Cert.In0.τ).loc Cert.In0.main_arg4))
      ∧ r.2.sem = fun _ => 0)

def quiescent_In0Ideal [hIn0Ideal : Cert.In0Ideal.Facts] : Prop :=
  ∀ (m : (ℓ : Loc Cert.In0Ideal.nD Cert.In0Ideal.τ Cert.In0Ideal.sig) → Buf (Elt Ideal) ℓ) (g : Dev Cert.In0Ideal.nD → PrngReg), Pre_In0Ideal m →
    θ_run (Cert.In0Ideal.defs (F := Ideal)) (onTc (τ := Cert.In0Ideal.τ) (Cert.In0Ideal.main (F := Ideal))) ⟨m, fun _ => 0, g⟩ (fun r => (∀ c : Dev Cert.In0Ideal.nD,
      r.2.mem ((c.tc : Thread Cert.In0Ideal.nD Cert.In0Ideal.τ).loc Cert.In0Ideal.main_arg0) = m ((c.tc : Thread Cert.In0Ideal.nD Cert.In0Ideal.τ).loc Cert.In0Ideal.main_arg0)
      ∧ r.2.mem ((c.tc : Thread Cert.In0Ideal.nD Cert.In0Ideal.τ).loc Cert.In0Ideal.main_arg1) = m ((c.tc : Thread Cert.In0Ideal.nD Cert.In0Ideal.τ).loc Cert.In0Ideal.main_arg1)
      ∧ r.2.mem ((c.tc : Thread Cert.In0Ideal.nD Cert.In0Ideal.τ).loc Cert.In0Ideal.main_arg2) = m ((c.tc : Thread Cert.In0Ideal.nD Cert.In0Ideal.τ).loc Cert.In0Ideal.main_arg2)
      ∧ r.2.mem ((c.tc : Thread Cert.In0Ideal.nD Cert.In0Ideal.τ).loc Cert.In0Ideal.main_arg3) = m ((c.tc : Thread Cert.In0Ideal.nD Cert.In0Ideal.τ).loc Cert.In0Ideal.main_arg3)
      ∧ r.2.mem ((c.tc : Thread Cert.In0Ideal.nD Cert.In0Ideal.τ).loc Cert.In0Ideal.main_arg4) = m ((c.tc : Thread Cert.In0Ideal.nD Cert.In0Ideal.τ).loc Cert.In0Ideal.main_arg4))
      ∧ r.2.sem = fun _ => 0)

def quiescent_In0RefIdeal [hIn0RefIdeal : Cert.In0RefIdeal.Facts] : Prop :=
  ∀ (m : (ℓ : Loc Cert.In0RefIdeal.nD Cert.In0RefIdeal.τ Cert.In0RefIdeal.sig) → Buf (Elt Ideal) ℓ) (g : Dev Cert.In0RefIdeal.nD → PrngReg), Pre_In0RefIdeal m →
    θ_run (Cert.In0RefIdeal.defs (F := Ideal)) (onTc (τ := Cert.In0RefIdeal.τ) (Cert.In0RefIdeal.main (F := Ideal))) ⟨m, fun _ => 0, g⟩ (fun r => (∀ c : Dev Cert.In0RefIdeal.nD,
      r.2.mem ((c.tc : Thread Cert.In0RefIdeal.nD Cert.In0RefIdeal.τ).loc Cert.In0RefIdeal.main_arg0) = m ((c.tc : Thread Cert.In0RefIdeal.nD Cert.In0RefIdeal.τ).loc Cert.In0RefIdeal.main_arg0)
      ∧ r.2.mem ((c.tc : Thread Cert.In0RefIdeal.nD Cert.In0RefIdeal.τ).loc Cert.In0RefIdeal.main_arg1) = m ((c.tc : Thread Cert.In0RefIdeal.nD Cert.In0RefIdeal.τ).loc Cert.In0RefIdeal.main_arg1)
      ∧ r.2.mem ((c.tc : Thread Cert.In0RefIdeal.nD Cert.In0RefIdeal.τ).loc Cert.In0RefIdeal.main_arg2) = m ((c.tc : Thread Cert.In0RefIdeal.nD Cert.In0RefIdeal.τ).loc Cert.In0RefIdeal.main_arg2)
      ∧ r.2.mem ((c.tc : Thread Cert.In0RefIdeal.nD Cert.In0RefIdeal.τ).loc Cert.In0RefIdeal.main_arg3) = m ((c.tc : Thread Cert.In0RefIdeal.nD Cert.In0RefIdeal.τ).loc Cert.In0RefIdeal.main_arg3)
      ∧ r.2.mem ((c.tc : Thread Cert.In0RefIdeal.nD Cert.In0RefIdeal.τ).loc Cert.In0RefIdeal.main_arg4) = m ((c.tc : Thread Cert.In0RefIdeal.nD Cert.In0RefIdeal.τ).loc Cert.In0RefIdeal.main_arg4))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8)
      ∧ r.2.mem ((c.tc : Thread Cert.Prep.nD Cert.Prep.τ).loc Cert.Prep.main_arg9) = m ((c.tc : Thread Cert.Prep.nD Cert.Prep.τ).loc Cert.Prep.main_arg9)
      ∧ r.2.mem ((c.tc : Thread Cert.Prep.nD Cert.Prep.τ).loc Cert.Prep.main_arg10) = m ((c.tc : Thread Cert.Prep.nD Cert.Prep.τ).loc Cert.Prep.main_arg10)
      ∧ r.2.mem ((c.tc : Thread Cert.Prep.nD Cert.Prep.τ).loc Cert.Prep.main_arg11) = m ((c.tc : Thread Cert.Prep.nD Cert.Prep.τ).loc Cert.Prep.main_arg11)
      ∧ r.2.mem ((c.tc : Thread Cert.Prep.nD Cert.Prep.τ).loc Cert.Prep.main_arg12) = m ((c.tc : Thread Cert.Prep.nD Cert.Prep.τ).loc Cert.Prep.main_arg12))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
      ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
      ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11)
      ∧ r.2.mem ((c.tc : Thread Cert.PrepIdeal.nD Cert.PrepIdeal.τ).loc Cert.PrepIdeal.main_arg12) = m ((c.tc : Thread Cert.PrepIdeal.nD Cert.PrepIdeal.τ).loc Cert.PrepIdeal.main_arg12))
      ∧ r.2.sem = fun _ => 0)

def quiescent_PrepIdeal_pre_step_finite [hPrepIdeal : Cert.PrepIdeal.Facts] [hPre_step_finite : Cert.Pre_step_finite.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_step_finite m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
      ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
      ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11)
      ∧ r.2.mem ((c.tc : Thread Cert.PrepIdeal.nD Cert.PrepIdeal.τ).loc Cert.PrepIdeal.main_arg12) = m ((c.tc : Thread Cert.PrepIdeal.nD Cert.PrepIdeal.τ).loc Cert.PrepIdeal.main_arg12))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9)
      ∧ r.2.mem ((c.tc : Thread Cert.PrepRefIdeal.nD Cert.PrepRefIdeal.τ).loc Cert.PrepRefIdeal.main_arg10) = m ((c.tc : Thread Cert.PrepRefIdeal.nD Cert.PrepRefIdeal.τ).loc Cert.PrepRefIdeal.main_arg10)
      ∧ r.2.mem ((c.tc : Thread Cert.PrepRefIdeal.nD Cert.PrepRefIdeal.τ).loc Cert.PrepRefIdeal.main_arg11) = m ((c.tc : Thread Cert.PrepRefIdeal.nD Cert.PrepRefIdeal.τ).loc Cert.PrepRefIdeal.main_arg11)
      ∧ r.2.mem ((c.tc : Thread Cert.PrepRefIdeal.nD Cert.PrepRefIdeal.τ).loc Cert.PrepRefIdeal.main_arg12) = m ((c.tc : Thread Cert.PrepRefIdeal.nD Cert.PrepRefIdeal.τ).loc Cert.PrepRefIdeal.main_arg12))
      ∧ r.2.sem = fun _ => 0)

def quiescent_PrepRefIdeal_pre_step_finite [hPrepRefIdeal : Cert.PrepRefIdeal.Facts] [hPre_step_finite : Cert.Pre_step_finite.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_step_finite m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9)
      ∧ r.2.mem ((c.tc : Thread Cert.PrepRefIdeal.nD Cert.PrepRefIdeal.τ).loc Cert.PrepRefIdeal.main_arg10) = m ((c.tc : Thread Cert.PrepRefIdeal.nD Cert.PrepRefIdeal.τ).loc Cert.PrepRefIdeal.main_arg10)
      ∧ r.2.mem ((c.tc : Thread Cert.PrepRefIdeal.nD Cert.PrepRefIdeal.τ).loc Cert.PrepRefIdeal.main_arg11) = m ((c.tc : Thread Cert.PrepRefIdeal.nD Cert.PrepRefIdeal.τ).loc Cert.PrepRefIdeal.main_arg11)
      ∧ r.2.mem ((c.tc : Thread Cert.PrepRefIdeal.nD Cert.PrepRefIdeal.τ).loc Cert.PrepRefIdeal.main_arg12) = m ((c.tc : Thread Cert.PrepRefIdeal.nD Cert.PrepRefIdeal.τ).loc Cert.PrepRefIdeal.main_arg12))
      ∧ r.2.sem = fun _ => 0)

def quiescent_PrepFwd [hPrepFwd : Cert.PrepFwd.Facts] : Prop :=
  ∀ (m : (ℓ : Loc Cert.PrepFwd.nD Cert.PrepFwd.τ Cert.PrepFwd.sig) → Buf (Elt Bits) ℓ) (g : Dev Cert.PrepFwd.nD → PrngReg), Pre_PrepFwd m →
    θ_run (Cert.PrepFwd.defs (F := Bits)) (onTc (τ := Cert.PrepFwd.τ) (Cert.PrepFwd.main (F := Bits))) ⟨m, fun _ => 0, g⟩ (fun r => (∀ c : Dev Cert.PrepFwd.nD,
      r.2.mem ((c.tc : Thread Cert.PrepFwd.nD Cert.PrepFwd.τ).loc Cert.PrepFwd.main_arg0) = m ((c.tc : Thread Cert.PrepFwd.nD Cert.PrepFwd.τ).loc Cert.PrepFwd.main_arg0)
      ∧ r.2.mem ((c.tc : Thread Cert.PrepFwd.nD Cert.PrepFwd.τ).loc Cert.PrepFwd.main_arg1) = m ((c.tc : Thread Cert.PrepFwd.nD Cert.PrepFwd.τ).loc Cert.PrepFwd.main_arg1)
      ∧ r.2.mem ((c.tc : Thread Cert.PrepFwd.nD Cert.PrepFwd.τ).loc Cert.PrepFwd.main_arg2) = m ((c.tc : Thread Cert.PrepFwd.nD Cert.PrepFwd.τ).loc Cert.PrepFwd.main_arg2)
      ∧ r.2.mem ((c.tc : Thread Cert.PrepFwd.nD Cert.PrepFwd.τ).loc Cert.PrepFwd.main_arg3) = m ((c.tc : Thread Cert.PrepFwd.nD Cert.PrepFwd.τ).loc Cert.PrepFwd.main_arg3)
      ∧ r.2.mem ((c.tc : Thread Cert.PrepFwd.nD Cert.PrepFwd.τ).loc Cert.PrepFwd.main_arg4) = m ((c.tc : Thread Cert.PrepFwd.nD Cert.PrepFwd.τ).loc Cert.PrepFwd.main_arg4)
      ∧ r.2.mem ((c.tc : Thread Cert.PrepFwd.nD Cert.PrepFwd.τ).loc Cert.PrepFwd.main_arg5) = m ((c.tc : Thread Cert.PrepFwd.nD Cert.PrepFwd.τ).loc Cert.PrepFwd.main_arg5)
      ∧ r.2.mem ((c.tc : Thread Cert.PrepFwd.nD Cert.PrepFwd.τ).loc Cert.PrepFwd.main_arg6) = m ((c.tc : Thread Cert.PrepFwd.nD Cert.PrepFwd.τ).loc Cert.PrepFwd.main_arg6))
      ∧ r.2.sem = fun _ => 0)

def quiescent_PrepFwdIdeal [hPrepFwdIdeal : Cert.PrepFwdIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg), Pre_PrepFwdIdeal m →
    θ_run (Cert.PrepFwdIdeal.defs (F := Ideal)) (onTc (τ := Cert.PrepFwdIdeal.τ) (Cert.PrepFwdIdeal.main (F := Ideal))) ⟨m, fun _ => 0, g⟩ (fun r => (∀ c : Dev Cert.PrepFwdIdeal.nD,
      r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
      ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1)
      ∧ r.2.mem ((c.tc : Thread Cert.PrepFwdIdeal.nD Cert.PrepFwdIdeal.τ).loc Cert.PrepFwdIdeal.main_arg2) = m ((c.tc : Thread Cert.PrepFwdIdeal.nD Cert.PrepFwdIdeal.τ).loc Cert.PrepFwdIdeal.main_arg2)
      ∧ r.2.mem ((c.tc : Thread Cert.PrepFwdIdeal.nD Cert.PrepFwdIdeal.τ).loc Cert.PrepFwdIdeal.main_arg3) = m ((c.tc : Thread Cert.PrepFwdIdeal.nD Cert.PrepFwdIdeal.τ).loc Cert.PrepFwdIdeal.main_arg3)
      ∧ r.2.mem ((c.tc : Thread Cert.PrepFwdIdeal.nD Cert.PrepFwdIdeal.τ).loc Cert.PrepFwdIdeal.main_arg4) = m ((c.tc : Thread Cert.PrepFwdIdeal.nD Cert.PrepFwdIdeal.τ).loc Cert.PrepFwdIdeal.main_arg4)
      ∧ r.2.mem ((c.tc : Thread Cert.PrepFwdIdeal.nD Cert.PrepFwdIdeal.τ).loc Cert.PrepFwdIdeal.main_arg5) = m ((c.tc : Thread Cert.PrepFwdIdeal.nD Cert.PrepFwdIdeal.τ).loc Cert.PrepFwdIdeal.main_arg5)
      ∧ r.2.mem ((c.tc : Thread Cert.PrepFwdIdeal.nD Cert.PrepFwdIdeal.τ).loc Cert.PrepFwdIdeal.main_arg6) = m ((c.tc : Thread Cert.PrepFwdIdeal.nD Cert.PrepFwdIdeal.τ).loc Cert.PrepFwdIdeal.main_arg6))
      ∧ r.2.sem = fun _ => 0)

def quiescent_PrepFwdRefIdeal [hPrepFwdRefIdeal : Cert.PrepFwdRefIdeal.Facts] : Prop :=
  ∀ (m : (ℓ : Loc Cert.PrepFwdRefIdeal.nD Cert.PrepFwdRefIdeal.τ Cert.PrepFwdRefIdeal.sig) → Buf (Elt Ideal) ℓ) (g : Dev Cert.PrepFwdRefIdeal.nD → PrngReg), Pre_PrepFwdRefIdeal m →
    θ_run (Cert.PrepFwdRefIdeal.defs (F := Ideal)) (onTc (τ := Cert.PrepFwdRefIdeal.τ) (Cert.PrepFwdRefIdeal.main (F := Ideal))) ⟨m, fun _ => 0, g⟩ (fun r => (∀ c : Dev Cert.PrepFwdRefIdeal.nD,
      r.2.mem ((c.tc : Thread Cert.PrepFwdRefIdeal.nD Cert.PrepFwdRefIdeal.τ).loc Cert.PrepFwdRefIdeal.main_arg0) = m ((c.tc : Thread Cert.PrepFwdRefIdeal.nD Cert.PrepFwdRefIdeal.τ).loc Cert.PrepFwdRefIdeal.main_arg0)
      ∧ r.2.mem ((c.tc : Thread Cert.PrepFwdRefIdeal.nD Cert.PrepFwdRefIdeal.τ).loc Cert.PrepFwdRefIdeal.main_arg1) = m ((c.tc : Thread Cert.PrepFwdRefIdeal.nD Cert.PrepFwdRefIdeal.τ).loc Cert.PrepFwdRefIdeal.main_arg1)
      ∧ r.2.mem ((c.tc : Thread Cert.PrepFwdRefIdeal.nD Cert.PrepFwdRefIdeal.τ).loc Cert.PrepFwdRefIdeal.main_arg2) = m ((c.tc : Thread Cert.PrepFwdRefIdeal.nD Cert.PrepFwdRefIdeal.τ).loc Cert.PrepFwdRefIdeal.main_arg2)
      ∧ r.2.mem ((c.tc : Thread Cert.PrepFwdRefIdeal.nD Cert.PrepFwdRefIdeal.τ).loc Cert.PrepFwdRefIdeal.main_arg3) = m ((c.tc : Thread Cert.PrepFwdRefIdeal.nD Cert.PrepFwdRefIdeal.τ).loc Cert.PrepFwdRefIdeal.main_arg3)
      ∧ r.2.mem ((c.tc : Thread Cert.PrepFwdRefIdeal.nD Cert.PrepFwdRefIdeal.τ).loc Cert.PrepFwdRefIdeal.main_arg4) = m ((c.tc : Thread Cert.PrepFwdRefIdeal.nD Cert.PrepFwdRefIdeal.τ).loc Cert.PrepFwdRefIdeal.main_arg4)
      ∧ r.2.mem ((c.tc : Thread Cert.PrepFwdRefIdeal.nD Cert.PrepFwdRefIdeal.τ).loc Cert.PrepFwdRefIdeal.main_arg5) = m ((c.tc : Thread Cert.PrepFwdRefIdeal.nD Cert.PrepFwdRefIdeal.τ).loc Cert.PrepFwdRefIdeal.main_arg5)
      ∧ r.2.mem ((c.tc : Thread Cert.PrepFwdRefIdeal.nD Cert.PrepFwdRefIdeal.τ).loc Cert.PrepFwdRefIdeal.main_arg6) = m ((c.tc : Thread Cert.PrepFwdRefIdeal.nD Cert.PrepFwdRefIdeal.τ).loc Cert.PrepFwdRefIdeal.main_arg6))
      ∧ r.2.sem = fun _ => 0)

def quiescent_In0Fwd [hIn0Fwd : Cert.In0Fwd.Facts] : Prop :=
  ∀ (m : (ℓ : Loc Cert.In0Fwd.nD Cert.In0Fwd.τ Cert.In0Fwd.sig) → Buf (Elt Bits) ℓ) (g : Dev Cert.In0Fwd.nD → PrngReg), Pre_In0Fwd m →
    θ_run (Cert.In0Fwd.defs (F := Bits)) (onTc (τ := Cert.In0Fwd.τ) (Cert.In0Fwd.main (F := Bits))) ⟨m, fun _ => 0, g⟩ (fun r => (∀ c : Dev Cert.In0Fwd.nD,
      r.2.mem ((c.tc : Thread Cert.In0Fwd.nD Cert.In0Fwd.τ).loc Cert.In0Fwd.main_arg0) = m ((c.tc : Thread Cert.In0Fwd.nD Cert.In0Fwd.τ).loc Cert.In0Fwd.main_arg0)
      ∧ r.2.mem ((c.tc : Thread Cert.In0Fwd.nD Cert.In0Fwd.τ).loc Cert.In0Fwd.main_arg1) = m ((c.tc : Thread Cert.In0Fwd.nD Cert.In0Fwd.τ).loc Cert.In0Fwd.main_arg1)
      ∧ r.2.mem ((c.tc : Thread Cert.In0Fwd.nD Cert.In0Fwd.τ).loc Cert.In0Fwd.main_arg2) = m ((c.tc : Thread Cert.In0Fwd.nD Cert.In0Fwd.τ).loc Cert.In0Fwd.main_arg2))
      ∧ r.2.sem = fun _ => 0)

def quiescent_In0FwdIdeal [hIn0FwdIdeal : Cert.In0FwdIdeal.Facts] : Prop :=
  ∀ (m : (ℓ : Loc Cert.In0FwdIdeal.nD Cert.In0FwdIdeal.τ Cert.In0FwdIdeal.sig) → Buf (Elt Ideal) ℓ) (g : Dev Cert.In0FwdIdeal.nD → PrngReg), Pre_In0FwdIdeal m →
    θ_run (Cert.In0FwdIdeal.defs (F := Ideal)) (onTc (τ := Cert.In0FwdIdeal.τ) (Cert.In0FwdIdeal.main (F := Ideal))) ⟨m, fun _ => 0, g⟩ (fun r => (∀ c : Dev Cert.In0FwdIdeal.nD,
      r.2.mem ((c.tc : Thread Cert.In0FwdIdeal.nD Cert.In0FwdIdeal.τ).loc Cert.In0FwdIdeal.main_arg0) = m ((c.tc : Thread Cert.In0FwdIdeal.nD Cert.In0FwdIdeal.τ).loc Cert.In0FwdIdeal.main_arg0)
      ∧ r.2.mem ((c.tc : Thread Cert.In0FwdIdeal.nD Cert.In0FwdIdeal.τ).loc Cert.In0FwdIdeal.main_arg1) = m ((c.tc : Thread Cert.In0FwdIdeal.nD Cert.In0FwdIdeal.τ).loc Cert.In0FwdIdeal.main_arg1)
      ∧ r.2.mem ((c.tc : Thread Cert.In0FwdIdeal.nD Cert.In0FwdIdeal.τ).loc Cert.In0FwdIdeal.main_arg2) = m ((c.tc : Thread Cert.In0FwdIdeal.nD Cert.In0FwdIdeal.τ).loc Cert.In0FwdIdeal.main_arg2))
      ∧ r.2.sem = fun _ => 0)

def quiescent_In0FwdRefIdeal [hIn0FwdRefIdeal : Cert.In0FwdRefIdeal.Facts] : Prop :=
  ∀ (m : (ℓ : Loc Cert.In0FwdRefIdeal.nD Cert.In0FwdRefIdeal.τ Cert.In0FwdRefIdeal.sig) → Buf (Elt Ideal) ℓ) (g : Dev Cert.In0FwdRefIdeal.nD → PrngReg), Pre_In0FwdRefIdeal m →
    θ_run (Cert.In0FwdRefIdeal.defs (F := Ideal)) (onTc (τ := Cert.In0FwdRefIdeal.τ) (Cert.In0FwdRefIdeal.main (F := Ideal))) ⟨m, fun _ => 0, g⟩ (fun r => (∀ c : Dev Cert.In0FwdRefIdeal.nD,
      r.2.mem ((c.tc : Thread Cert.In0FwdRefIdeal.nD Cert.In0FwdRefIdeal.τ).loc Cert.In0FwdRefIdeal.main_arg0) = m ((c.tc : Thread Cert.In0FwdRefIdeal.nD Cert.In0FwdRefIdeal.τ).loc Cert.In0FwdRefIdeal.main_arg0)
      ∧ r.2.mem ((c.tc : Thread Cert.In0FwdRefIdeal.nD Cert.In0FwdRefIdeal.τ).loc Cert.In0FwdRefIdeal.main_arg1) = m ((c.tc : Thread Cert.In0FwdRefIdeal.nD Cert.In0FwdRefIdeal.τ).loc Cert.In0FwdRefIdeal.main_arg1)
      ∧ r.2.mem ((c.tc : Thread Cert.In0FwdRefIdeal.nD Cert.In0FwdRefIdeal.τ).loc Cert.In0FwdRefIdeal.main_arg2) = m ((c.tc : Thread Cert.In0FwdRefIdeal.nD Cert.In0FwdRefIdeal.τ).loc Cert.In0FwdRefIdeal.main_arg2))
      ∧ r.2.sem = fun _ => 0)

def quiescent_In1Fwd [hIn1Fwd : Cert.In1Fwd.Facts] : Prop :=
  ∀ (m : (ℓ : Loc Cert.In1Fwd.nD Cert.In1Fwd.τ Cert.In1Fwd.sig) → Buf (Elt Bits) ℓ) (g : Dev Cert.In1Fwd.nD → PrngReg), Pre_In1Fwd m →
    θ_run (Cert.In1Fwd.defs (F := Bits)) (onTc (τ := Cert.In1Fwd.τ) (Cert.In1Fwd.main (F := Bits))) ⟨m, fun _ => 0, g⟩ (fun r => (∀ c : Dev Cert.In1Fwd.nD,
      r.2.mem ((c.tc : Thread Cert.In1Fwd.nD Cert.In1Fwd.τ).loc Cert.In1Fwd.main_arg0) = m ((c.tc : Thread Cert.In1Fwd.nD Cert.In1Fwd.τ).loc Cert.In1Fwd.main_arg0)
      ∧ r.2.mem ((c.tc : Thread Cert.In1Fwd.nD Cert.In1Fwd.τ).loc Cert.In1Fwd.main_arg1) = m ((c.tc : Thread Cert.In1Fwd.nD Cert.In1Fwd.τ).loc Cert.In1Fwd.main_arg1)
      ∧ r.2.mem ((c.tc : Thread Cert.In1Fwd.nD Cert.In1Fwd.τ).loc Cert.In1Fwd.main_arg2) = m ((c.tc : Thread Cert.In1Fwd.nD Cert.In1Fwd.τ).loc Cert.In1Fwd.main_arg2))
      ∧ r.2.sem = fun _ => 0)

def quiescent_In1FwdIdeal [hIn1FwdIdeal : Cert.In1FwdIdeal.Facts] : Prop :=
  ∀ (m : (ℓ : Loc Cert.In1FwdIdeal.nD Cert.In1FwdIdeal.τ Cert.In1FwdIdeal.sig) → Buf (Elt Ideal) ℓ) (g : Dev Cert.In1FwdIdeal.nD → PrngReg), Pre_In1FwdIdeal m →
    θ_run (Cert.In1FwdIdeal.defs (F := Ideal)) (onTc (τ := Cert.In1FwdIdeal.τ) (Cert.In1FwdIdeal.main (F := Ideal))) ⟨m, fun _ => 0, g⟩ (fun r => (∀ c : Dev Cert.In1FwdIdeal.nD,
      r.2.mem ((c.tc : Thread Cert.In1FwdIdeal.nD Cert.In1FwdIdeal.τ).loc Cert.In1FwdIdeal.main_arg0) = m ((c.tc : Thread Cert.In1FwdIdeal.nD Cert.In1FwdIdeal.τ).loc Cert.In1FwdIdeal.main_arg0)
      ∧ r.2.mem ((c.tc : Thread Cert.In1FwdIdeal.nD Cert.In1FwdIdeal.τ).loc Cert.In1FwdIdeal.main_arg1) = m ((c.tc : Thread Cert.In1FwdIdeal.nD Cert.In1FwdIdeal.τ).loc Cert.In1FwdIdeal.main_arg1)
      ∧ r.2.mem ((c.tc : Thread Cert.In1FwdIdeal.nD Cert.In1FwdIdeal.τ).loc Cert.In1FwdIdeal.main_arg2) = m ((c.tc : Thread Cert.In1FwdIdeal.nD Cert.In1FwdIdeal.τ).loc Cert.In1FwdIdeal.main_arg2))
      ∧ r.2.sem = fun _ => 0)

def quiescent_In1FwdRefIdeal [hIn1FwdRefIdeal : Cert.In1FwdRefIdeal.Facts] : Prop :=
  ∀ (m : (ℓ : Loc Cert.In1FwdRefIdeal.nD Cert.In1FwdRefIdeal.τ Cert.In1FwdRefIdeal.sig) → Buf (Elt Ideal) ℓ) (g : Dev Cert.In1FwdRefIdeal.nD → PrngReg), Pre_In1FwdRefIdeal m →
    θ_run (Cert.In1FwdRefIdeal.defs (F := Ideal)) (onTc (τ := Cert.In1FwdRefIdeal.τ) (Cert.In1FwdRefIdeal.main (F := Ideal))) ⟨m, fun _ => 0, g⟩ (fun r => (∀ c : Dev Cert.In1FwdRefIdeal.nD,
      r.2.mem ((c.tc : Thread Cert.In1FwdRefIdeal.nD Cert.In1FwdRefIdeal.τ).loc Cert.In1FwdRefIdeal.main_arg0) = m ((c.tc : Thread Cert.In1FwdRefIdeal.nD Cert.In1FwdRefIdeal.τ).loc Cert.In1FwdRefIdeal.main_arg0)
      ∧ r.2.mem ((c.tc : Thread Cert.In1FwdRefIdeal.nD Cert.In1FwdRefIdeal.τ).loc Cert.In1FwdRefIdeal.main_arg1) = m ((c.tc : Thread Cert.In1FwdRefIdeal.nD Cert.In1FwdRefIdeal.τ).loc Cert.In1FwdRefIdeal.main_arg1)
      ∧ r.2.mem ((c.tc : Thread Cert.In1FwdRefIdeal.nD Cert.In1FwdRefIdeal.τ).loc Cert.In1FwdRefIdeal.main_arg2) = m ((c.tc : Thread Cert.In1FwdRefIdeal.nD Cert.In1FwdRefIdeal.τ).loc Cert.In1FwdRefIdeal.main_arg2))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_LossSum [hLossSum : Cert.LossSum.Facts] : Prop :=
  ∀ (m : (ℓ : Loc Cert.LossSum.nD Cert.LossSum.τ Cert.LossSum.sig) → Buf (Elt Bits) ℓ) (g : Dev Cert.LossSum.nD → PrngReg), Pre_LossSum m →
    θ_run (Cert.LossSum.defs (F := Bits)) (onTc (τ := Cert.LossSum.τ) (Cert.LossSum.main (F := Bits))) ⟨m, fun _ => 0, g⟩ (fun r => (∀ c : Dev Cert.LossSum.nD,
      r.2.mem ((c.tc : Thread Cert.LossSum.nD Cert.LossSum.τ).loc Cert.LossSum.main_arg0) = m ((c.tc : Thread Cert.LossSum.nD Cert.LossSum.τ).loc Cert.LossSum.main_arg0))
      ∧ r.2.sem = fun _ => 0)

def quiescent_LossSumIdeal [hLossSumIdeal : Cert.LossSumIdeal.Facts] : Prop :=
  ∀ (m : (ℓ : Loc Cert.LossSumIdeal.nD Cert.LossSumIdeal.τ Cert.LossSumIdeal.sig) → Buf (Elt Ideal) ℓ) (g : Dev Cert.LossSumIdeal.nD → PrngReg), Pre_LossSumIdeal m →
    θ_run (Cert.LossSumIdeal.defs (F := Ideal)) (onTc (τ := Cert.LossSumIdeal.τ) (Cert.LossSumIdeal.main (F := Ideal))) ⟨m, fun _ => 0, g⟩ (fun r => (∀ c : Dev Cert.LossSumIdeal.nD,
      r.2.mem ((c.tc : Thread Cert.LossSumIdeal.nD Cert.LossSumIdeal.τ).loc Cert.LossSumIdeal.main_arg0) = m ((c.tc : Thread Cert.LossSumIdeal.nD Cert.LossSumIdeal.τ).loc Cert.LossSumIdeal.main_arg0))
      ∧ r.2.sem = fun _ => 0)

def quiescent_LossSumRefIdeal [hLossSumRefIdeal : Cert.LossSumRefIdeal.Facts] : Prop :=
  ∀ (m : (ℓ : Loc Cert.LossSumRefIdeal.nD Cert.LossSumRefIdeal.τ Cert.LossSumRefIdeal.sig) → Buf (Elt Ideal) ℓ) (g : Dev Cert.LossSumRefIdeal.nD → PrngReg), Pre_LossSumRefIdeal m →
    θ_run (Cert.LossSumRefIdeal.defs (F := Ideal)) (onTc (τ := Cert.LossSumRefIdeal.τ) (Cert.LossSumRefIdeal.main (F := Ideal))) ⟨m, fun _ => 0, g⟩ (fun r => (∀ c : Dev Cert.LossSumRefIdeal.nD,
      r.2.mem ((c.tc : Thread Cert.LossSumRefIdeal.nD Cert.LossSumRefIdeal.τ).loc Cert.LossSumRefIdeal.main_arg0) = m ((c.tc : Thread Cert.LossSumRefIdeal.nD Cert.LossSumRefIdeal.τ).loc Cert.LossSumRefIdeal.main_arg0))
      ∧ r.2.sem = fun _ => 0)

def quiescent_RetFwd [hRetFwd : Cert.RetFwd.Facts] : Prop :=
  ∀ (m : (ℓ : Loc Cert.RetFwd.nD Cert.RetFwd.τ Cert.RetFwd.sig) → Buf (Elt Bits) ℓ) (g : Dev Cert.RetFwd.nD → PrngReg), Pre_RetFwd m →
    θ_run (Cert.RetFwd.defs (F := Bits)) (onTc (τ := Cert.RetFwd.τ) (Cert.RetFwd.main (F := Bits))) ⟨m, fun _ => 0, g⟩ (fun r => (∀ c : Dev Cert.RetFwd.nD,
      r.2.mem ((c.tc : Thread Cert.RetFwd.nD Cert.RetFwd.τ).loc Cert.RetFwd.main_arg0) = m ((c.tc : Thread Cert.RetFwd.nD Cert.RetFwd.τ).loc Cert.RetFwd.main_arg0))
      ∧ r.2.sem = fun _ => 0)

def quiescent_RetFwdIdeal [hRetFwdIdeal : Cert.RetFwdIdeal.Facts] : Prop :=
  ∀ (m : (ℓ : Loc Cert.RetFwdIdeal.nD Cert.RetFwdIdeal.τ Cert.RetFwdIdeal.sig) → Buf (Elt Ideal) ℓ) (g : Dev Cert.RetFwdIdeal.nD → PrngReg), Pre_RetFwdIdeal m →
    θ_run (Cert.RetFwdIdeal.defs (F := Ideal)) (onTc (τ := Cert.RetFwdIdeal.τ) (Cert.RetFwdIdeal.main (F := Ideal))) ⟨m, fun _ => 0, g⟩ (fun r => (∀ c : Dev Cert.RetFwdIdeal.nD,
      r.2.mem ((c.tc : Thread Cert.RetFwdIdeal.nD Cert.RetFwdIdeal.τ).loc Cert.RetFwdIdeal.main_arg0) = m ((c.tc : Thread Cert.RetFwdIdeal.nD Cert.RetFwdIdeal.τ).loc Cert.RetFwdIdeal.main_arg0))
      ∧ r.2.sem = fun _ => 0)

def quiescent_GdnFwd [hGdnFwd : Cert.GdnFwd.Facts] : Prop :=
  ∀ (m : (ℓ : Loc Cert.GdnFwd.nD Cert.GdnFwd.τ Cert.GdnFwd.sig) → Buf (Elt Bits) ℓ) (g : Dev Cert.GdnFwd.nD → PrngReg), Pre_GdnFwd m →
    θ_run (Cert.GdnFwd.defs (F := Bits)) (onTc (τ := Cert.GdnFwd.τ) (Cert.GdnFwd.main (F := Bits))) ⟨m, fun _ => 0, g⟩ (fun r => (∀ c : Dev Cert.GdnFwd.nD,
      r.2.mem ((c.tc : Thread Cert.GdnFwd.nD Cert.GdnFwd.τ).loc Cert.GdnFwd.main_arg0) = m ((c.tc : Thread Cert.GdnFwd.nD Cert.GdnFwd.τ).loc Cert.GdnFwd.main_arg0)
      ∧ r.2.mem ((c.tc : Thread Cert.GdnFwd.nD Cert.GdnFwd.τ).loc Cert.GdnFwd.main_arg1) = m ((c.tc : Thread Cert.GdnFwd.nD Cert.GdnFwd.τ).loc Cert.GdnFwd.main_arg1)
      ∧ r.2.mem ((c.tc : Thread Cert.GdnFwd.nD Cert.GdnFwd.τ).loc Cert.GdnFwd.main_arg2) = m ((c.tc : Thread Cert.GdnFwd.nD Cert.GdnFwd.τ).loc Cert.GdnFwd.main_arg2)
      ∧ r.2.mem ((c.tc : Thread Cert.GdnFwd.nD Cert.GdnFwd.τ).loc Cert.GdnFwd.main_arg3) = m ((c.tc : Thread Cert.GdnFwd.nD Cert.GdnFwd.τ).loc Cert.GdnFwd.main_arg3)
      ∧ r.2.mem ((c.tc : Thread Cert.GdnFwd.nD Cert.GdnFwd.τ).loc Cert.GdnFwd.main_arg4) = m ((c.tc : Thread Cert.GdnFwd.nD Cert.GdnFwd.τ).loc Cert.GdnFwd.main_arg4))
      ∧ r.2.sem = fun _ => 0)

def quiescent_GdnFwdIdeal [hGdnFwdIdeal : Cert.GdnFwdIdeal.Facts] : Prop :=
  ∀ (m : (ℓ : Loc Cert.GdnFwdIdeal.nD Cert.GdnFwdIdeal.τ Cert.GdnFwdIdeal.sig) → Buf (Elt Ideal) ℓ) (g : Dev Cert.GdnFwdIdeal.nD → PrngReg), Pre_GdnFwdIdeal m →
    θ_run (Cert.GdnFwdIdeal.defs (F := Ideal)) (onTc (τ := Cert.GdnFwdIdeal.τ) (Cert.GdnFwdIdeal.main (F := Ideal))) ⟨m, fun _ => 0, g⟩ (fun r => (∀ c : Dev Cert.GdnFwdIdeal.nD,
      r.2.mem ((c.tc : Thread Cert.GdnFwdIdeal.nD Cert.GdnFwdIdeal.τ).loc Cert.GdnFwdIdeal.main_arg0) = m ((c.tc : Thread Cert.GdnFwdIdeal.nD Cert.GdnFwdIdeal.τ).loc Cert.GdnFwdIdeal.main_arg0)
      ∧ r.2.mem ((c.tc : Thread Cert.GdnFwdIdeal.nD Cert.GdnFwdIdeal.τ).loc Cert.GdnFwdIdeal.main_arg1) = m ((c.tc : Thread Cert.GdnFwdIdeal.nD Cert.GdnFwdIdeal.τ).loc Cert.GdnFwdIdeal.main_arg1)
      ∧ r.2.mem ((c.tc : Thread Cert.GdnFwdIdeal.nD Cert.GdnFwdIdeal.τ).loc Cert.GdnFwdIdeal.main_arg2) = m ((c.tc : Thread Cert.GdnFwdIdeal.nD Cert.GdnFwdIdeal.τ).loc Cert.GdnFwdIdeal.main_arg2)
      ∧ r.2.mem ((c.tc : Thread Cert.GdnFwdIdeal.nD Cert.GdnFwdIdeal.τ).loc Cert.GdnFwdIdeal.main_arg3) = m ((c.tc : Thread Cert.GdnFwdIdeal.nD Cert.GdnFwdIdeal.τ).loc Cert.GdnFwdIdeal.main_arg3)
      ∧ r.2.mem ((c.tc : Thread Cert.GdnFwdIdeal.nD Cert.GdnFwdIdeal.τ).loc Cert.GdnFwdIdeal.main_arg4) = m ((c.tc : Thread Cert.GdnFwdIdeal.nD Cert.GdnFwdIdeal.τ).loc Cert.GdnFwdIdeal.main_arg4))
      ∧ r.2.sem = fun _ => 0)

def quiescent_SsdFwd [hSsdFwd : Cert.SsdFwd.Facts] : Prop :=
  ∀ (m : (ℓ : Loc Cert.SsdFwd.nD Cert.SsdFwd.τ Cert.SsdFwd.sig) → Buf (Elt Bits) ℓ) (g : Dev Cert.SsdFwd.nD → PrngReg), Pre_SsdFwd m →
    θ_run (Cert.SsdFwd.defs (F := Bits)) (onTc (τ := Cert.SsdFwd.τ) (Cert.SsdFwd.main (F := Bits))) ⟨m, fun _ => 0, g⟩ (fun r => (∀ c : Dev Cert.SsdFwd.nD,
      r.2.mem ((c.tc : Thread Cert.SsdFwd.nD Cert.SsdFwd.τ).loc Cert.SsdFwd.main_arg0) = m ((c.tc : Thread Cert.SsdFwd.nD Cert.SsdFwd.τ).loc Cert.SsdFwd.main_arg0)
      ∧ r.2.mem ((c.tc : Thread Cert.SsdFwd.nD Cert.SsdFwd.τ).loc Cert.SsdFwd.main_arg1) = m ((c.tc : Thread Cert.SsdFwd.nD Cert.SsdFwd.τ).loc Cert.SsdFwd.main_arg1)
      ∧ r.2.mem ((c.tc : Thread Cert.SsdFwd.nD Cert.SsdFwd.τ).loc Cert.SsdFwd.main_arg2) = m ((c.tc : Thread Cert.SsdFwd.nD Cert.SsdFwd.τ).loc Cert.SsdFwd.main_arg2)
      ∧ r.2.mem ((c.tc : Thread Cert.SsdFwd.nD Cert.SsdFwd.τ).loc Cert.SsdFwd.main_arg3) = m ((c.tc : Thread Cert.SsdFwd.nD Cert.SsdFwd.τ).loc Cert.SsdFwd.main_arg3)
      ∧ r.2.mem ((c.tc : Thread Cert.SsdFwd.nD Cert.SsdFwd.τ).loc Cert.SsdFwd.main_arg4) = m ((c.tc : Thread Cert.SsdFwd.nD Cert.SsdFwd.τ).loc Cert.SsdFwd.main_arg4)
      ∧ r.2.mem ((c.tc : Thread Cert.SsdFwd.nD Cert.SsdFwd.τ).loc Cert.SsdFwd.main_arg5) = m ((c.tc : Thread Cert.SsdFwd.nD Cert.SsdFwd.τ).loc Cert.SsdFwd.main_arg5)
      ∧ r.2.mem ((c.tc : Thread Cert.SsdFwd.nD Cert.SsdFwd.τ).loc Cert.SsdFwd.main_arg6) = m ((c.tc : Thread Cert.SsdFwd.nD Cert.SsdFwd.τ).loc Cert.SsdFwd.main_arg6))
      ∧ r.2.sem = fun _ => 0)

def quiescent_SsdFwdIdeal [hSsdFwdIdeal : Cert.SsdFwdIdeal.Facts] : Prop :=
  ∀ (m : (ℓ : Loc Cert.SsdFwdIdeal.nD Cert.SsdFwdIdeal.τ Cert.SsdFwdIdeal.sig) → Buf (Elt Ideal) ℓ) (g : Dev Cert.SsdFwdIdeal.nD → PrngReg), Pre_SsdFwdIdeal m →
    θ_run (Cert.SsdFwdIdeal.defs (F := Ideal)) (onTc (τ := Cert.SsdFwdIdeal.τ) (Cert.SsdFwdIdeal.main (F := Ideal))) ⟨m, fun _ => 0, g⟩ (fun r => (∀ c : Dev Cert.SsdFwdIdeal.nD,
      r.2.mem ((c.tc : Thread Cert.SsdFwdIdeal.nD Cert.SsdFwdIdeal.τ).loc Cert.SsdFwdIdeal.main_arg0) = m ((c.tc : Thread Cert.SsdFwdIdeal.nD Cert.SsdFwdIdeal.τ).loc Cert.SsdFwdIdeal.main_arg0)
      ∧ r.2.mem ((c.tc : Thread Cert.SsdFwdIdeal.nD Cert.SsdFwdIdeal.τ).loc Cert.SsdFwdIdeal.main_arg1) = m ((c.tc : Thread Cert.SsdFwdIdeal.nD Cert.SsdFwdIdeal.τ).loc Cert.SsdFwdIdeal.main_arg1)
      ∧ r.2.mem ((c.tc : Thread Cert.SsdFwdIdeal.nD Cert.SsdFwdIdeal.τ).loc Cert.SsdFwdIdeal.main_arg2) = m ((c.tc : Thread Cert.SsdFwdIdeal.nD Cert.SsdFwdIdeal.τ).loc Cert.SsdFwdIdeal.main_arg2)
      ∧ r.2.mem ((c.tc : Thread Cert.SsdFwdIdeal.nD Cert.SsdFwdIdeal.τ).loc Cert.SsdFwdIdeal.main_arg3) = m ((c.tc : Thread Cert.SsdFwdIdeal.nD Cert.SsdFwdIdeal.τ).loc Cert.SsdFwdIdeal.main_arg3)
      ∧ r.2.mem ((c.tc : Thread Cert.SsdFwdIdeal.nD Cert.SsdFwdIdeal.τ).loc Cert.SsdFwdIdeal.main_arg4) = m ((c.tc : Thread Cert.SsdFwdIdeal.nD Cert.SsdFwdIdeal.τ).loc Cert.SsdFwdIdeal.main_arg4)
      ∧ r.2.mem ((c.tc : Thread Cert.SsdFwdIdeal.nD Cert.SsdFwdIdeal.τ).loc Cert.SsdFwdIdeal.main_arg5) = m ((c.tc : Thread Cert.SsdFwdIdeal.nD Cert.SsdFwdIdeal.τ).loc Cert.SsdFwdIdeal.main_arg5)
      ∧ r.2.mem ((c.tc : Thread Cert.SsdFwdIdeal.nD Cert.SsdFwdIdeal.τ).loc Cert.SsdFwdIdeal.main_arg6) = m ((c.tc : Thread Cert.SsdFwdIdeal.nD Cert.SsdFwdIdeal.τ).loc Cert.SsdFwdIdeal.main_arg6))
      ∧ r.2.sem = fun _ => 0)

def quiescent_S5Fwd [hS5Fwd : Cert.S5Fwd.Facts] : Prop :=
  ∀ (m : (ℓ : Loc Cert.S5Fwd.nD Cert.S5Fwd.τ Cert.S5Fwd.sig) → Buf (Elt Bits) ℓ) (g : Dev Cert.S5Fwd.nD → PrngReg), Pre_S5Fwd m →
    θ_run (Cert.S5Fwd.defs (F := Bits)) (onTc (τ := Cert.S5Fwd.τ) (Cert.S5Fwd.main (F := Bits))) ⟨m, fun _ => 0, g⟩ (fun r => (∀ c : Dev Cert.S5Fwd.nD,
      r.2.mem ((c.tc : Thread Cert.S5Fwd.nD Cert.S5Fwd.τ).loc Cert.S5Fwd.main_arg0) = m ((c.tc : Thread Cert.S5Fwd.nD Cert.S5Fwd.τ).loc Cert.S5Fwd.main_arg0)
      ∧ r.2.mem ((c.tc : Thread Cert.S5Fwd.nD Cert.S5Fwd.τ).loc Cert.S5Fwd.main_arg1) = m ((c.tc : Thread Cert.S5Fwd.nD Cert.S5Fwd.τ).loc Cert.S5Fwd.main_arg1)
      ∧ r.2.mem ((c.tc : Thread Cert.S5Fwd.nD Cert.S5Fwd.τ).loc Cert.S5Fwd.main_arg2) = m ((c.tc : Thread Cert.S5Fwd.nD Cert.S5Fwd.τ).loc Cert.S5Fwd.main_arg2)
      ∧ r.2.mem ((c.tc : Thread Cert.S5Fwd.nD Cert.S5Fwd.τ).loc Cert.S5Fwd.main_arg3) = m ((c.tc : Thread Cert.S5Fwd.nD Cert.S5Fwd.τ).loc Cert.S5Fwd.main_arg3)
      ∧ r.2.mem ((c.tc : Thread Cert.S5Fwd.nD Cert.S5Fwd.τ).loc Cert.S5Fwd.main_arg4) = m ((c.tc : Thread Cert.S5Fwd.nD Cert.S5Fwd.τ).loc Cert.S5Fwd.main_arg4)
      ∧ r.2.mem ((c.tc : Thread Cert.S5Fwd.nD Cert.S5Fwd.τ).loc Cert.S5Fwd.main_arg5) = m ((c.tc : Thread Cert.S5Fwd.nD Cert.S5Fwd.τ).loc Cert.S5Fwd.main_arg5)
      ∧ r.2.mem ((c.tc : Thread Cert.S5Fwd.nD Cert.S5Fwd.τ).loc Cert.S5Fwd.main_arg6) = m ((c.tc : Thread Cert.S5Fwd.nD Cert.S5Fwd.τ).loc Cert.S5Fwd.main_arg6)
      ∧ r.2.mem ((c.tc : Thread Cert.S5Fwd.nD Cert.S5Fwd.τ).loc Cert.S5Fwd.main_arg7) = m ((c.tc : Thread Cert.S5Fwd.nD Cert.S5Fwd.τ).loc Cert.S5Fwd.main_arg7)
      ∧ r.2.mem ((c.tc : Thread Cert.S5Fwd.nD Cert.S5Fwd.τ).loc Cert.S5Fwd.main_arg8) = m ((c.tc : Thread Cert.S5Fwd.nD Cert.S5Fwd.τ).loc Cert.S5Fwd.main_arg8)
      ∧ r.2.mem ((c.tc : Thread Cert.S5Fwd.nD Cert.S5Fwd.τ).loc Cert.S5Fwd.main_arg9) = m ((c.tc : Thread Cert.S5Fwd.nD Cert.S5Fwd.τ).loc Cert.S5Fwd.main_arg9))
      ∧ r.2.sem = fun _ => 0)

def quiescent_S5FwdIdeal [hS5FwdIdeal : Cert.S5FwdIdeal.Facts] : Prop :=
  ∀ (m : (ℓ : Loc Cert.S5FwdIdeal.nD Cert.S5FwdIdeal.τ Cert.S5FwdIdeal.sig) → Buf (Elt Ideal) ℓ) (g : Dev Cert.S5FwdIdeal.nD → PrngReg), Pre_S5FwdIdeal m →
    θ_run (Cert.S5FwdIdeal.defs (F := Ideal)) (onTc (τ := Cert.S5FwdIdeal.τ) (Cert.S5FwdIdeal.main (F := Ideal))) ⟨m, fun _ => 0, g⟩ (fun r => (∀ c : Dev Cert.S5FwdIdeal.nD,
      r.2.mem ((c.tc : Thread Cert.S5FwdIdeal.nD Cert.S5FwdIdeal.τ).loc Cert.S5FwdIdeal.main_arg0) = m ((c.tc : Thread Cert.S5FwdIdeal.nD Cert.S5FwdIdeal.τ).loc Cert.S5FwdIdeal.main_arg0)
      ∧ r.2.mem ((c.tc : Thread Cert.S5FwdIdeal.nD Cert.S5FwdIdeal.τ).loc Cert.S5FwdIdeal.main_arg1) = m ((c.tc : Thread Cert.S5FwdIdeal.nD Cert.S5FwdIdeal.τ).loc Cert.S5FwdIdeal.main_arg1)
      ∧ r.2.mem ((c.tc : Thread Cert.S5FwdIdeal.nD Cert.S5FwdIdeal.τ).loc Cert.S5FwdIdeal.main_arg2) = m ((c.tc : Thread Cert.S5FwdIdeal.nD Cert.S5FwdIdeal.τ).loc Cert.S5FwdIdeal.main_arg2)
      ∧ r.2.mem ((c.tc : Thread Cert.S5FwdIdeal.nD Cert.S5FwdIdeal.τ).loc Cert.S5FwdIdeal.main_arg3) = m ((c.tc : Thread Cert.S5FwdIdeal.nD Cert.S5FwdIdeal.τ).loc Cert.S5FwdIdeal.main_arg3)
      ∧ r.2.mem ((c.tc : Thread Cert.S5FwdIdeal.nD Cert.S5FwdIdeal.τ).loc Cert.S5FwdIdeal.main_arg4) = m ((c.tc : Thread Cert.S5FwdIdeal.nD Cert.S5FwdIdeal.τ).loc Cert.S5FwdIdeal.main_arg4)
      ∧ r.2.mem ((c.tc : Thread Cert.S5FwdIdeal.nD Cert.S5FwdIdeal.τ).loc Cert.S5FwdIdeal.main_arg5) = m ((c.tc : Thread Cert.S5FwdIdeal.nD Cert.S5FwdIdeal.τ).loc Cert.S5FwdIdeal.main_arg5)
      ∧ r.2.mem ((c.tc : Thread Cert.S5FwdIdeal.nD Cert.S5FwdIdeal.τ).loc Cert.S5FwdIdeal.main_arg6) = m ((c.tc : Thread Cert.S5FwdIdeal.nD Cert.S5FwdIdeal.τ).loc Cert.S5FwdIdeal.main_arg6)
      ∧ r.2.mem ((c.tc : Thread Cert.S5FwdIdeal.nD Cert.S5FwdIdeal.τ).loc Cert.S5FwdIdeal.main_arg7) = m ((c.tc : Thread Cert.S5FwdIdeal.nD Cert.S5FwdIdeal.τ).loc Cert.S5FwdIdeal.main_arg7)
      ∧ r.2.mem ((c.tc : Thread Cert.S5FwdIdeal.nD Cert.S5FwdIdeal.τ).loc Cert.S5FwdIdeal.main_arg8) = m ((c.tc : Thread Cert.S5FwdIdeal.nD Cert.S5FwdIdeal.τ).loc Cert.S5FwdIdeal.main_arg8)
      ∧ r.2.mem ((c.tc : Thread Cert.S5FwdIdeal.nD Cert.S5FwdIdeal.τ).loc Cert.S5FwdIdeal.main_arg9) = m ((c.tc : Thread Cert.S5FwdIdeal.nD Cert.S5FwdIdeal.τ).loc Cert.S5FwdIdeal.main_arg9))
      ∧ r.2.sem = fun _ => 0)

def quiescent_RetBwd [hRetBwd : Cert.RetBwd.Facts] : Prop :=
  ∀ (m : (ℓ : Loc Cert.RetBwd.nD Cert.RetBwd.τ Cert.RetBwd.sig) → Buf (Elt Bits) ℓ) (g : Dev Cert.RetBwd.nD → PrngReg), Pre_RetBwd m →
    θ_run (Cert.RetBwd.defs (F := Bits)) (onTc (τ := Cert.RetBwd.τ) (Cert.RetBwd.main (F := Bits))) ⟨m, fun _ => 0, g⟩ (fun r => (∀ c : Dev Cert.RetBwd.nD,
      r.2.mem ((c.tc : Thread Cert.RetBwd.nD Cert.RetBwd.τ).loc Cert.RetBwd.main_arg0) = m ((c.tc : Thread Cert.RetBwd.nD Cert.RetBwd.τ).loc Cert.RetBwd.main_arg0)
      ∧ r.2.mem ((c.tc : Thread Cert.RetBwd.nD Cert.RetBwd.τ).loc Cert.RetBwd.main_arg1) = m ((c.tc : Thread Cert.RetBwd.nD Cert.RetBwd.τ).loc Cert.RetBwd.main_arg1)
      ∧ r.2.mem ((c.tc : Thread Cert.RetBwd.nD Cert.RetBwd.τ).loc Cert.RetBwd.main_arg2) = m ((c.tc : Thread Cert.RetBwd.nD Cert.RetBwd.τ).loc Cert.RetBwd.main_arg2))
      ∧ r.2.sem = fun _ => 0)

def quiescent_RetBwdIdeal [hRetBwdIdeal : Cert.RetBwdIdeal.Facts] : Prop :=
  ∀ (m : (ℓ : Loc Cert.RetBwdIdeal.nD Cert.RetBwdIdeal.τ Cert.RetBwdIdeal.sig) → Buf (Elt Ideal) ℓ) (g : Dev Cert.RetBwdIdeal.nD → PrngReg), Pre_RetBwdIdeal m →
    θ_run (Cert.RetBwdIdeal.defs (F := Ideal)) (onTc (τ := Cert.RetBwdIdeal.τ) (Cert.RetBwdIdeal.main (F := Ideal))) ⟨m, fun _ => 0, g⟩ (fun r => (∀ c : Dev Cert.RetBwdIdeal.nD,
      r.2.mem ((c.tc : Thread Cert.RetBwdIdeal.nD Cert.RetBwdIdeal.τ).loc Cert.RetBwdIdeal.main_arg0) = m ((c.tc : Thread Cert.RetBwdIdeal.nD Cert.RetBwdIdeal.τ).loc Cert.RetBwdIdeal.main_arg0)
      ∧ r.2.mem ((c.tc : Thread Cert.RetBwdIdeal.nD Cert.RetBwdIdeal.τ).loc Cert.RetBwdIdeal.main_arg1) = m ((c.tc : Thread Cert.RetBwdIdeal.nD Cert.RetBwdIdeal.τ).loc Cert.RetBwdIdeal.main_arg1)
      ∧ r.2.mem ((c.tc : Thread Cert.RetBwdIdeal.nD Cert.RetBwdIdeal.τ).loc Cert.RetBwdIdeal.main_arg2) = m ((c.tc : Thread Cert.RetBwdIdeal.nD Cert.RetBwdIdeal.τ).loc Cert.RetBwdIdeal.main_arg2))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v2_0)) (v1 : (c : Dev Cert.LossIdeal.nD) → Buf (Elt Ideal) ((c.tc : Thread Cert.LossIdeal.nD Cert.LossIdeal.τ).loc Cert.LossIdeal.main_v2_1)) (v2 : (c : Dev Cert.LossIdeal.nD) → Buf (Elt Ideal) ((c.tc : Thread Cert.LossIdeal.nD Cert.LossIdeal.τ).loc Cert.LossIdeal.main_v2_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2_0) = v0 c
          ∧ r.2.mem ((c.tc : Thread Cert.LossIdeal.nD Cert.LossIdeal.τ).loc Cert.LossIdeal.main_v2_1) = v1 c
          ∧ r.2.mem ((c.tc : Thread Cert.LossIdeal.nD Cert.LossIdeal.τ).loc Cert.LossIdeal.main_v2_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v52) = v0 c
          ∧ r.2.mem ((c.tc : Thread Cert.LossRefIdeal.nD Cert.LossRefIdeal.τ).loc Cert.LossRefIdeal.main_v51) = v1 c
          ∧ r.2.mem ((c.tc : Thread Cert.LossRefIdeal.nD Cert.LossRefIdeal.τ).loc Cert.LossRefIdeal.main_v53) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v6_0)) (v1 : (c : Dev Cert.MlpIdeal.nD) → Buf (Elt Ideal) ((c.tc : Thread Cert.MlpIdeal.nD Cert.MlpIdeal.τ).loc Cert.MlpIdeal.main_v9_0)) (v2 : (c : Dev Cert.MlpIdeal.nD) → Buf (Elt Ideal) ((c.tc : Thread Cert.MlpIdeal.nD Cert.MlpIdeal.τ).loc Cert.MlpIdeal.main_v9_1)) (v3 : (c : Dev Cert.MlpIdeal.nD) → Buf (Elt Ideal) ((c.tc : Thread Cert.MlpIdeal.nD Cert.MlpIdeal.τ).loc Cert.MlpIdeal.main_v9_2)) (v4 : (c : Dev Cert.MlpIdeal.nD) → Buf (Elt Ideal) ((c.tc : Thread Cert.MlpIdeal.nD Cert.MlpIdeal.τ).loc Cert.MlpIdeal.main_v9_3)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v6_0) = v0 c
          ∧ r.2.mem ((c.tc : Thread Cert.MlpIdeal.nD Cert.MlpIdeal.τ).loc Cert.MlpIdeal.main_v9_0) = v1 c
          ∧ r.2.mem ((c.tc : Thread Cert.MlpIdeal.nD Cert.MlpIdeal.τ).loc Cert.MlpIdeal.main_v9_1) = v2 c
          ∧ r.2.mem ((c.tc : Thread Cert.MlpIdeal.nD Cert.MlpIdeal.τ).loc Cert.MlpIdeal.main_v9_2) = v3 c
          ∧ r.2.mem ((c.tc : Thread Cert.MlpIdeal.nD Cert.MlpIdeal.τ).loc Cert.MlpIdeal.main_v9_3) = v4 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v23) = v0 c
          ∧ r.2.mem ((c.tc : Thread Cert.MlpRefIdeal.nD Cert.MlpRefIdeal.τ).loc Cert.MlpRefIdeal.main_v56) = v1 c
          ∧ r.2.mem ((c.tc : Thread Cert.MlpRefIdeal.nD Cert.MlpRefIdeal.τ).loc Cert.MlpRefIdeal.main_v57) = v2 c
          ∧ r.2.mem ((c.tc : Thread Cert.MlpRefIdeal.nD Cert.MlpRefIdeal.τ).loc Cert.MlpRefIdeal.main_v59) = v3 c
          ∧ r.2.mem ((c.tc : Thread Cert.MlpRefIdeal.nD Cert.MlpRefIdeal.τ).loc Cert.MlpRefIdeal.main_v60) = v4 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_In1_In1Ideal : Prop :=
  True

def algebraic_In1Ideal_In1RefIdeal [hIn1Ideal : Cert.In1Ideal.Facts] [hIn1RefIdeal : Cert.In1RefIdeal.Facts] : Prop :=
  ∀ (m : (ℓ : Loc Cert.In1Ideal.nD Cert.In1Ideal.τ Cert.In1Ideal.sig) → Buf (Elt Ideal) ℓ) (g : Dev Cert.In1Ideal.nD → PrngReg)
    (m' : (ℓ : Loc Cert.In1RefIdeal.nD Cert.In1RefIdeal.τ Cert.In1RefIdeal.sig) → Buf (Elt Ideal) ℓ) (g' : Dev Cert.In1RefIdeal.nD → PrngReg), Pre_In1Ideal m →
    (∀ c : Dev Cert.In1Ideal.nD,
      m' ((c.tc : Thread Cert.In1RefIdeal.nD Cert.In1RefIdeal.τ).loc Cert.In1RefIdeal.main_arg0) = m ((c.tc : Thread Cert.In1Ideal.nD Cert.In1Ideal.τ).loc Cert.In1Ideal.main_arg0)
      ∧ m' ((c.tc : Thread Cert.In1RefIdeal.nD Cert.In1RefIdeal.τ).loc Cert.In1RefIdeal.main_arg1) = m ((c.tc : Thread Cert.In1Ideal.nD Cert.In1Ideal.τ).loc Cert.In1Ideal.main_arg1)
      ∧ m' ((c.tc : Thread Cert.In1RefIdeal.nD Cert.In1RefIdeal.τ).loc Cert.In1RefIdeal.main_arg2) = m ((c.tc : Thread Cert.In1Ideal.nD Cert.In1Ideal.τ).loc Cert.In1Ideal.main_arg2)
      ∧ m' ((c.tc : Thread Cert.In1RefIdeal.nD Cert.In1RefIdeal.τ).loc Cert.In1RefIdeal.main_arg3) = m ((c.tc : Thread Cert.In1Ideal.nD Cert.In1Ideal.τ).loc Cert.In1Ideal.main_arg3)
      ∧ m' ((c.tc : Thread Cert.In1RefIdeal.nD Cert.In1RefIdeal.τ).loc Cert.In1RefIdeal.main_arg4) = m ((c.tc : Thread Cert.In1Ideal.nD Cert.In1Ideal.τ).loc Cert.In1Ideal.main_arg4)) →
    ∃ (v0 : (c : Dev Cert.In1Ideal.nD) → Buf (Elt Ideal) ((c.tc : Thread Cert.In1Ideal.nD Cert.In1Ideal.τ).loc Cert.In1Ideal.main_v13_0)) (v1 : (c : Dev Cert.In1Ideal.nD) → Buf (Elt Ideal) ((c.tc : Thread Cert.In1Ideal.nD Cert.In1Ideal.τ).loc Cert.In1Ideal.main_v17)) (v2 : (c : Dev Cert.In1Ideal.nD) → Buf (Elt Ideal) ((c.tc : Thread Cert.In1Ideal.nD Cert.In1Ideal.τ).loc Cert.In1Ideal.main_v13_2)),
      θ_run (Cert.In1Ideal.defs (F := Ideal)) (onTc (τ := Cert.In1Ideal.τ) (Cert.In1Ideal.main (F := Ideal))) ⟨m, fun _ => 0, g⟩ (fun r => ∀ c : Dev Cert.In1Ideal.nD,
          r.2.mem ((c.tc : Thread Cert.In1Ideal.nD Cert.In1Ideal.τ).loc Cert.In1Ideal.main_v13_0) = v0 c
          ∧ r.2.mem ((c.tc : Thread Cert.In1Ideal.nD Cert.In1Ideal.τ).loc Cert.In1Ideal.main_v17) = v1 c
          ∧ r.2.mem ((c.tc : Thread Cert.In1Ideal.nD Cert.In1Ideal.τ).loc Cert.In1Ideal.main_v13_2) = v2 c
          ∧ r.2.mem ((c.tc : Thread Cert.In1Ideal.nD Cert.In1Ideal.τ).loc Cert.In1Ideal.main_arg0) = m ((c.tc : Thread Cert.In1Ideal.nD Cert.In1Ideal.τ).loc Cert.In1Ideal.main_arg0)
          ∧ r.2.mem ((c.tc : Thread Cert.In1Ideal.nD Cert.In1Ideal.τ).loc Cert.In1Ideal.main_arg1) = m ((c.tc : Thread Cert.In1Ideal.nD Cert.In1Ideal.τ).loc Cert.In1Ideal.main_arg1)
          ∧ r.2.mem ((c.tc : Thread Cert.In1Ideal.nD Cert.In1Ideal.τ).loc Cert.In1Ideal.main_arg2) = m ((c.tc : Thread Cert.In1Ideal.nD Cert.In1Ideal.τ).loc Cert.In1Ideal.main_arg2)
          ∧ r.2.mem ((c.tc : Thread Cert.In1Ideal.nD Cert.In1Ideal.τ).loc Cert.In1Ideal.main_arg3) = m ((c.tc : Thread Cert.In1Ideal.nD Cert.In1Ideal.τ).loc Cert.In1Ideal.main_arg3)
          ∧ r.2.mem ((c.tc : Thread Cert.In1Ideal.nD Cert.In1Ideal.τ).loc Cert.In1Ideal.main_arg4) = m ((c.tc : Thread Cert.In1Ideal.nD Cert.In1Ideal.τ).loc Cert.In1Ideal.main_arg4))
      ∧ θ_run (Cert.In1RefIdeal.defs (F := Ideal)) (onTc (τ := Cert.In1RefIdeal.τ) (Cert.In1RefIdeal.main (F := Ideal))) ⟨m', fun _ => 0, g'⟩ (fun r => ∀ c : Dev Cert.In1RefIdeal.nD,
          r.2.mem ((c.tc : Thread Cert.In1RefIdeal.nD Cert.In1RefIdeal.τ).loc Cert.In1RefIdeal.main_v40) = v0 c
          ∧ r.2.mem ((c.tc : Thread Cert.In1RefIdeal.nD Cert.In1RefIdeal.τ).loc Cert.In1RefIdeal.main_v18) = v1 c
          ∧ r.2.mem ((c.tc : Thread Cert.In1RefIdeal.nD Cert.In1RefIdeal.τ).loc Cert.In1RefIdeal.main_v41) = v2 c
          ∧ r.2.mem ((c.tc : Thread Cert.In1RefIdeal.nD Cert.In1RefIdeal.τ).loc Cert.In1RefIdeal.main_arg0) = m' ((c.tc : Thread Cert.In1RefIdeal.nD Cert.In1RefIdeal.τ).loc Cert.In1RefIdeal.main_arg0)
          ∧ r.2.mem ((c.tc : Thread Cert.In1RefIdeal.nD Cert.In1RefIdeal.τ).loc Cert.In1RefIdeal.main_arg1) = m' ((c.tc : Thread Cert.In1RefIdeal.nD Cert.In1RefIdeal.τ).loc Cert.In1RefIdeal.main_arg1)
          ∧ r.2.mem ((c.tc : Thread Cert.In1RefIdeal.nD Cert.In1RefIdeal.τ).loc Cert.In1RefIdeal.main_arg2) = m' ((c.tc : Thread Cert.In1RefIdeal.nD Cert.In1RefIdeal.τ).loc Cert.In1RefIdeal.main_arg2)
          ∧ r.2.mem ((c.tc : Thread Cert.In1RefIdeal.nD Cert.In1RefIdeal.τ).loc Cert.In1RefIdeal.main_arg3) = m' ((c.tc : Thread Cert.In1RefIdeal.nD Cert.In1RefIdeal.τ).loc Cert.In1RefIdeal.main_arg3)
          ∧ r.2.mem ((c.tc : Thread Cert.In1RefIdeal.nD Cert.In1RefIdeal.τ).loc Cert.In1RefIdeal.main_arg4) = m' ((c.tc : Thread Cert.In1RefIdeal.nD Cert.In1RefIdeal.τ).loc Cert.In1RefIdeal.main_arg4))

def preserves_In0_In0Ideal : Prop :=
  True

def algebraic_In0Ideal_In0RefIdeal [hIn0Ideal : Cert.In0Ideal.Facts] [hIn0RefIdeal : Cert.In0RefIdeal.Facts] : Prop :=
  ∀ (m : (ℓ : Loc Cert.In0Ideal.nD Cert.In0Ideal.τ Cert.In0Ideal.sig) → Buf (Elt Ideal) ℓ) (g : Dev Cert.In0Ideal.nD → PrngReg)
    (m' : (ℓ : Loc Cert.In0RefIdeal.nD Cert.In0RefIdeal.τ Cert.In0RefIdeal.sig) → Buf (Elt Ideal) ℓ) (g' : Dev Cert.In0RefIdeal.nD → PrngReg), Pre_In0Ideal m →
    (∀ c : Dev Cert.In0Ideal.nD,
      m' ((c.tc : Thread Cert.In0RefIdeal.nD Cert.In0RefIdeal.τ).loc Cert.In0RefIdeal.main_arg0) = m ((c.tc : Thread Cert.In0Ideal.nD Cert.In0Ideal.τ).loc Cert.In0Ideal.main_arg0)
      ∧ m' ((c.tc : Thread Cert.In0RefIdeal.nD Cert.In0RefIdeal.τ).loc Cert.In0RefIdeal.main_arg1) = m ((c.tc : Thread Cert.In0Ideal.nD Cert.In0Ideal.τ).loc Cert.In0Ideal.main_arg1)
      ∧ m' ((c.tc : Thread Cert.In0RefIdeal.nD Cert.In0RefIdeal.τ).loc Cert.In0RefIdeal.main_arg2) = m ((c.tc : Thread Cert.In0Ideal.nD Cert.In0Ideal.τ).loc Cert.In0Ideal.main_arg2)
      ∧ m' ((c.tc : Thread Cert.In0RefIdeal.nD Cert.In0RefIdeal.τ).loc Cert.In0RefIdeal.main_arg3) = m ((c.tc : Thread Cert.In0Ideal.nD Cert.In0Ideal.τ).loc Cert.In0Ideal.main_arg3)
      ∧ m' ((c.tc : Thread Cert.In0RefIdeal.nD Cert.In0RefIdeal.τ).loc Cert.In0RefIdeal.main_arg4) = m ((c.tc : Thread Cert.In0Ideal.nD Cert.In0Ideal.τ).loc Cert.In0Ideal.main_arg4)) →
    ∃ (v0 : (c : Dev Cert.In0Ideal.nD) → Buf (Elt Ideal) ((c.tc : Thread Cert.In0Ideal.nD Cert.In0Ideal.τ).loc Cert.In0Ideal.main_v17_0)) (v1 : (c : Dev Cert.In0Ideal.nD) → Buf (Elt Ideal) ((c.tc : Thread Cert.In0Ideal.nD Cert.In0Ideal.τ).loc Cert.In0Ideal.main_v22)) (v2 : (c : Dev Cert.In0Ideal.nD) → Buf (Elt Ideal) ((c.tc : Thread Cert.In0Ideal.nD Cert.In0Ideal.τ).loc Cert.In0Ideal.main_v17_2)),
      θ_run (Cert.In0Ideal.defs (F := Ideal)) (onTc (τ := Cert.In0Ideal.τ) (Cert.In0Ideal.main (F := Ideal))) ⟨m, fun _ => 0, g⟩ (fun r => ∀ c : Dev Cert.In0Ideal.nD,
          r.2.mem ((c.tc : Thread Cert.In0Ideal.nD Cert.In0Ideal.τ).loc Cert.In0Ideal.main_v17_0) = v0 c
          ∧ r.2.mem ((c.tc : Thread Cert.In0Ideal.nD Cert.In0Ideal.τ).loc Cert.In0Ideal.main_v22) = v1 c
          ∧ r.2.mem ((c.tc : Thread Cert.In0Ideal.nD Cert.In0Ideal.τ).loc Cert.In0Ideal.main_v17_2) = v2 c
          ∧ r.2.mem ((c.tc : Thread Cert.In0Ideal.nD Cert.In0Ideal.τ).loc Cert.In0Ideal.main_arg0) = m ((c.tc : Thread Cert.In0Ideal.nD Cert.In0Ideal.τ).loc Cert.In0Ideal.main_arg0)
          ∧ r.2.mem ((c.tc : Thread Cert.In0Ideal.nD Cert.In0Ideal.τ).loc Cert.In0Ideal.main_arg1) = m ((c.tc : Thread Cert.In0Ideal.nD Cert.In0Ideal.τ).loc Cert.In0Ideal.main_arg1)
          ∧ r.2.mem ((c.tc : Thread Cert.In0Ideal.nD Cert.In0Ideal.τ).loc Cert.In0Ideal.main_arg2) = m ((c.tc : Thread Cert.In0Ideal.nD Cert.In0Ideal.τ).loc Cert.In0Ideal.main_arg2)
          ∧ r.2.mem ((c.tc : Thread Cert.In0Ideal.nD Cert.In0Ideal.τ).loc Cert.In0Ideal.main_arg3) = m ((c.tc : Thread Cert.In0Ideal.nD Cert.In0Ideal.τ).loc Cert.In0Ideal.main_arg3)
          ∧ r.2.mem ((c.tc : Thread Cert.In0Ideal.nD Cert.In0Ideal.τ).loc Cert.In0Ideal.main_arg4) = m ((c.tc : Thread Cert.In0Ideal.nD Cert.In0Ideal.τ).loc Cert.In0Ideal.main_arg4))
      ∧ θ_run (Cert.In0RefIdeal.defs (F := Ideal)) (onTc (τ := Cert.In0RefIdeal.τ) (Cert.In0RefIdeal.main (F := Ideal))) ⟨m', fun _ => 0, g'⟩ (fun r => ∀ c : Dev Cert.In0RefIdeal.nD,
          r.2.mem ((c.tc : Thread Cert.In0RefIdeal.nD Cert.In0RefIdeal.τ).loc Cert.In0RefIdeal.main_v40) = v0 c
          ∧ r.2.mem ((c.tc : Thread Cert.In0RefIdeal.nD Cert.In0RefIdeal.τ).loc Cert.In0RefIdeal.main_v18) = v1 c
          ∧ r.2.mem ((c.tc : Thread Cert.In0RefIdeal.nD Cert.In0RefIdeal.τ).loc Cert.In0RefIdeal.main_v41) = v2 c
          ∧ r.2.mem ((c.tc : Thread Cert.In0RefIdeal.nD Cert.In0RefIdeal.τ).loc Cert.In0RefIdeal.main_arg0) = m' ((c.tc : Thread Cert.In0RefIdeal.nD Cert.In0RefIdeal.τ).loc Cert.In0RefIdeal.main_arg0)
          ∧ r.2.mem ((c.tc : Thread Cert.In0RefIdeal.nD Cert.In0RefIdeal.τ).loc Cert.In0RefIdeal.main_arg1) = m' ((c.tc : Thread Cert.In0RefIdeal.nD Cert.In0RefIdeal.τ).loc Cert.In0RefIdeal.main_arg1)
          ∧ r.2.mem ((c.tc : Thread Cert.In0RefIdeal.nD Cert.In0RefIdeal.τ).loc Cert.In0RefIdeal.main_arg2) = m' ((c.tc : Thread Cert.In0RefIdeal.nD Cert.In0RefIdeal.τ).loc Cert.In0RefIdeal.main_arg2)
          ∧ r.2.mem ((c.tc : Thread Cert.In0RefIdeal.nD Cert.In0RefIdeal.τ).loc Cert.In0RefIdeal.main_arg3) = m' ((c.tc : Thread Cert.In0RefIdeal.nD Cert.In0RefIdeal.τ).loc Cert.In0RefIdeal.main_arg3)
          ∧ r.2.mem ((c.tc : Thread Cert.In0RefIdeal.nD Cert.In0RefIdeal.τ).loc Cert.In0RefIdeal.main_arg4) = m' ((c.tc : Thread Cert.In0RefIdeal.nD Cert.In0RefIdeal.τ).loc Cert.In0RefIdeal.main_arg4))

def preserves_Prep_PrepIdeal : Prop :=
  True

def algebraic_PrepIdeal_PrepRefIdeal_pre_step_finite [hPrepIdeal : Cert.PrepIdeal.Facts] [hPrepRefIdeal : Cert.PrepRefIdeal.Facts] [hPre_step_finite : Cert.Pre_step_finite.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_step_finite m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)
      ∧ m' ((c.tc : Thread Cert.PrepRefIdeal.nD Cert.PrepRefIdeal.τ).loc Cert.PrepRefIdeal.main_arg9) = m ((c.tc : Thread Cert.PrepIdeal.nD Cert.PrepIdeal.τ).loc Cert.PrepIdeal.main_arg9)
      ∧ m' ((c.tc : Thread Cert.PrepRefIdeal.nD Cert.PrepRefIdeal.τ).loc Cert.PrepRefIdeal.main_arg10) = m ((c.tc : Thread Cert.PrepIdeal.nD Cert.PrepIdeal.τ).loc Cert.PrepIdeal.main_arg10)
      ∧ m' ((c.tc : Thread Cert.PrepRefIdeal.nD Cert.PrepRefIdeal.τ).loc Cert.PrepRefIdeal.main_arg11) = m ((c.tc : Thread Cert.PrepIdeal.nD Cert.PrepIdeal.τ).loc Cert.PrepIdeal.main_arg11)
      ∧ m' ((c.tc : Thread Cert.PrepRefIdeal.nD Cert.PrepRefIdeal.τ).loc Cert.PrepRefIdeal.main_arg12) = m ((c.tc : Thread Cert.PrepIdeal.nD Cert.PrepIdeal.τ).loc Cert.PrepIdeal.main_arg12)) →
    ∃ (v0 : (c : Dev Cert.PrepIdeal.nD) → Buf (Elt Ideal) ((c.tc : Thread Cert.PrepIdeal.nD Cert.PrepIdeal.τ).loc Cert.PrepIdeal.main_v12_0)) (v1 : (c : Dev Cert.PrepIdeal.nD) → Buf (Elt Ideal) ((c.tc : Thread Cert.PrepIdeal.nD Cert.PrepIdeal.τ).loc Cert.PrepIdeal.main_v12_1)) (v2 : (c : Dev Cert.PrepIdeal.nD) → Buf (Elt Ideal) ((c.tc : Thread Cert.PrepIdeal.nD Cert.PrepIdeal.τ).loc Cert.PrepIdeal.main_v14)) (v3 : (c : Dev Cert.PrepIdeal.nD) → Buf (Elt Ideal) ((c.tc : Thread Cert.PrepIdeal.nD Cert.PrepIdeal.τ).loc Cert.PrepIdeal.main_v16)) (v4 : (c : Dev Cert.PrepIdeal.nD) → Buf (Elt Ideal) ((c.tc : Thread Cert.PrepIdeal.nD Cert.PrepIdeal.τ).loc Cert.PrepIdeal.main_v18)) (v5 : (c : Dev Cert.PrepIdeal.nD) → Buf (Elt Ideal) ((c.tc : Thread Cert.PrepIdeal.nD Cert.PrepIdeal.τ).loc Cert.PrepIdeal.main_v20)) (v6 : (c : Dev Cert.PrepIdeal.nD) → Buf (Elt Ideal) ((c.tc : Thread Cert.PrepIdeal.nD Cert.PrepIdeal.τ).loc Cert.PrepIdeal.main_v22)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v12_0) = v0 c
          ∧ r.2.mem ((c.tc : Thread Cert.PrepIdeal.nD Cert.PrepIdeal.τ).loc Cert.PrepIdeal.main_v12_1) = v1 c
          ∧ r.2.mem ((c.tc : Thread Cert.PrepIdeal.nD Cert.PrepIdeal.τ).loc Cert.PrepIdeal.main_v14) = v2 c
          ∧ r.2.mem ((c.tc : Thread Cert.PrepIdeal.nD Cert.PrepIdeal.τ).loc Cert.PrepIdeal.main_v16) = v3 c
          ∧ r.2.mem ((c.tc : Thread Cert.PrepIdeal.nD Cert.PrepIdeal.τ).loc Cert.PrepIdeal.main_v18) = v4 c
          ∧ r.2.mem ((c.tc : Thread Cert.PrepIdeal.nD Cert.PrepIdeal.τ).loc Cert.PrepIdeal.main_v20) = v5 c
          ∧ r.2.mem ((c.tc : Thread Cert.PrepIdeal.nD Cert.PrepIdeal.τ).loc Cert.PrepIdeal.main_v22) = v6 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
          ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
          ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
          ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11)
          ∧ r.2.mem ((c.tc : Thread Cert.PrepIdeal.nD Cert.PrepIdeal.τ).loc Cert.PrepIdeal.main_arg12) = m ((c.tc : Thread Cert.PrepIdeal.nD Cert.PrepIdeal.τ).loc Cert.PrepIdeal.main_arg12))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v190) = v0 c
          ∧ r.2.mem ((c.tc : Thread Cert.PrepRefIdeal.nD Cert.PrepRefIdeal.τ).loc Cert.PrepRefIdeal.main_v191) = v1 c
          ∧ r.2.mem ((c.tc : Thread Cert.PrepRefIdeal.nD Cert.PrepRefIdeal.τ).loc Cert.PrepRefIdeal.main_v189) = v2 c
          ∧ r.2.mem ((c.tc : Thread Cert.PrepRefIdeal.nD Cert.PrepRefIdeal.τ).loc Cert.PrepRefIdeal.main_v126) = v3 c
          ∧ r.2.mem ((c.tc : Thread Cert.PrepRefIdeal.nD Cert.PrepRefIdeal.τ).loc Cert.PrepRefIdeal.main_v119) = v4 c
          ∧ r.2.mem ((c.tc : Thread Cert.PrepRefIdeal.nD Cert.PrepRefIdeal.τ).loc Cert.PrepRefIdeal.main_v89) = v5 c
          ∧ r.2.mem ((c.tc : Thread Cert.PrepRefIdeal.nD Cert.PrepRefIdeal.τ).loc Cert.PrepRefIdeal.main_v83) = v6 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8)
          ∧ r.2.mem ((c.tc : Thread Cert.PrepRefIdeal.nD Cert.PrepRefIdeal.τ).loc Cert.PrepRefIdeal.main_arg9) = m' ((c.tc : Thread Cert.PrepRefIdeal.nD Cert.PrepRefIdeal.τ).loc Cert.PrepRefIdeal.main_arg9)
          ∧ r.2.mem ((c.tc : Thread Cert.PrepRefIdeal.nD Cert.PrepRefIdeal.τ).loc Cert.PrepRefIdeal.main_arg10) = m' ((c.tc : Thread Cert.PrepRefIdeal.nD Cert.PrepRefIdeal.τ).loc Cert.PrepRefIdeal.main_arg10)
          ∧ r.2.mem ((c.tc : Thread Cert.PrepRefIdeal.nD Cert.PrepRefIdeal.τ).loc Cert.PrepRefIdeal.main_arg11) = m' ((c.tc : Thread Cert.PrepRefIdeal.nD Cert.PrepRefIdeal.τ).loc Cert.PrepRefIdeal.main_arg11)
          ∧ r.2.mem ((c.tc : Thread Cert.PrepRefIdeal.nD Cert.PrepRefIdeal.τ).loc Cert.PrepRefIdeal.main_arg12) = m' ((c.tc : Thread Cert.PrepRefIdeal.nD Cert.PrepRefIdeal.τ).loc Cert.PrepRefIdeal.main_arg12))

def preserves_PrepFwd_PrepFwdIdeal : Prop :=
  True

def algebraic_PrepFwdIdeal_PrepFwdRefIdeal [hPrepFwdIdeal : Cert.PrepFwdIdeal.Facts] [hPrepFwdRefIdeal : Cert.PrepFwdRefIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg)
    (m' : (ℓ : Loc Cert.PrepFwdRefIdeal.nD Cert.PrepFwdRefIdeal.τ Cert.PrepFwdRefIdeal.sig) → Buf (Elt Ideal) ℓ) (g' : Dev Cert.PrepFwdRefIdeal.nD → PrngReg), Pre_PrepFwdIdeal m →
    (∀ c : Dev Cert.PrepFwdIdeal.nD,
      m' ((c.tc : Thread Cert.PrepFwdRefIdeal.nD Cert.PrepFwdRefIdeal.τ).loc Cert.PrepFwdRefIdeal.main_arg0) = m ((c.tc : Thread Cert.PrepFwdIdeal.nD Cert.PrepFwdIdeal.τ).loc Cert.PrepFwdIdeal.main_arg0)
      ∧ m' ((c.tc : Thread Cert.PrepFwdRefIdeal.nD Cert.PrepFwdRefIdeal.τ).loc Cert.PrepFwdRefIdeal.main_arg1) = m ((c.tc : Thread Cert.PrepFwdIdeal.nD Cert.PrepFwdIdeal.τ).loc Cert.PrepFwdIdeal.main_arg1)
      ∧ m' ((c.tc : Thread Cert.PrepFwdRefIdeal.nD Cert.PrepFwdRefIdeal.τ).loc Cert.PrepFwdRefIdeal.main_arg2) = m ((c.tc : Thread Cert.PrepFwdIdeal.nD Cert.PrepFwdIdeal.τ).loc Cert.PrepFwdIdeal.main_arg2)
      ∧ m' ((c.tc : Thread Cert.PrepFwdRefIdeal.nD Cert.PrepFwdRefIdeal.τ).loc Cert.PrepFwdRefIdeal.main_arg3) = m ((c.tc : Thread Cert.PrepFwdIdeal.nD Cert.PrepFwdIdeal.τ).loc Cert.PrepFwdIdeal.main_arg3)
      ∧ m' ((c.tc : Thread Cert.PrepFwdRefIdeal.nD Cert.PrepFwdRefIdeal.τ).loc Cert.PrepFwdRefIdeal.main_arg4) = m ((c.tc : Thread Cert.PrepFwdIdeal.nD Cert.PrepFwdIdeal.τ).loc Cert.PrepFwdIdeal.main_arg4)
      ∧ m' ((c.tc : Thread Cert.PrepFwdRefIdeal.nD Cert.PrepFwdRefIdeal.τ).loc Cert.PrepFwdRefIdeal.main_arg5) = m ((c.tc : Thread Cert.PrepFwdIdeal.nD Cert.PrepFwdIdeal.τ).loc Cert.PrepFwdIdeal.main_arg5)
      ∧ m' ((c.tc : Thread Cert.PrepFwdRefIdeal.nD Cert.PrepFwdRefIdeal.τ).loc Cert.PrepFwdRefIdeal.main_arg6) = m ((c.tc : Thread Cert.PrepFwdIdeal.nD Cert.PrepFwdIdeal.τ).loc Cert.PrepFwdIdeal.main_arg6)) →
    ∃ (v0 : (c : Dev Cert.PrepFwdIdeal.nD) → Buf (Elt Ideal) ((c.tc : Thread Cert.PrepFwdIdeal.nD Cert.PrepFwdIdeal.τ).loc Cert.PrepFwdIdeal.main_v12_0)) (v1 : (c : Dev Cert.PrepFwdIdeal.nD) → Buf (Elt Ideal) ((c.tc : Thread Cert.PrepFwdIdeal.nD Cert.PrepFwdIdeal.τ).loc Cert.PrepFwdIdeal.main_v12_1)) (v2 : (c : Dev Cert.PrepFwdIdeal.nD) → Buf (Elt Ideal) ((c.tc : Thread Cert.PrepFwdIdeal.nD Cert.PrepFwdIdeal.τ).loc Cert.PrepFwdIdeal.main_v12_2)) (v3 : (c : Dev Cert.PrepFwdIdeal.nD) → Buf (Elt Ideal) ((c.tc : Thread Cert.PrepFwdIdeal.nD Cert.PrepFwdIdeal.τ).loc Cert.PrepFwdIdeal.main_v12_3)) (v4 : (c : Dev Cert.PrepFwdIdeal.nD) → Buf (Elt Ideal) ((c.tc : Thread Cert.PrepFwdIdeal.nD Cert.PrepFwdIdeal.τ).loc Cert.PrepFwdIdeal.main_v12_4)) (v5 : (c : Dev Cert.PrepFwdIdeal.nD) → Buf (Elt Ideal) ((c.tc : Thread Cert.PrepFwdIdeal.nD Cert.PrepFwdIdeal.τ).loc Cert.PrepFwdIdeal.main_v12_5)),
      θ_run (Cert.PrepFwdIdeal.defs (F := Ideal)) (onTc (τ := Cert.PrepFwdIdeal.τ) (Cert.PrepFwdIdeal.main (F := Ideal))) ⟨m, fun _ => 0, g⟩ (fun r => ∀ c : Dev Cert.PrepFwdIdeal.nD,
          r.2.mem ((c.tc : Thread Cert.PrepFwdIdeal.nD Cert.PrepFwdIdeal.τ).loc Cert.PrepFwdIdeal.main_v12_0) = v0 c
          ∧ r.2.mem ((c.tc : Thread Cert.PrepFwdIdeal.nD Cert.PrepFwdIdeal.τ).loc Cert.PrepFwdIdeal.main_v12_1) = v1 c
          ∧ r.2.mem ((c.tc : Thread Cert.PrepFwdIdeal.nD Cert.PrepFwdIdeal.τ).loc Cert.PrepFwdIdeal.main_v12_2) = v2 c
          ∧ r.2.mem ((c.tc : Thread Cert.PrepFwdIdeal.nD Cert.PrepFwdIdeal.τ).loc Cert.PrepFwdIdeal.main_v12_3) = v3 c
          ∧ r.2.mem ((c.tc : Thread Cert.PrepFwdIdeal.nD Cert.PrepFwdIdeal.τ).loc Cert.PrepFwdIdeal.main_v12_4) = v4 c
          ∧ r.2.mem ((c.tc : Thread Cert.PrepFwdIdeal.nD Cert.PrepFwdIdeal.τ).loc Cert.PrepFwdIdeal.main_v12_5) = v5 c
          ∧ r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
          ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1)
          ∧ r.2.mem ((c.tc : Thread Cert.PrepFwdIdeal.nD Cert.PrepFwdIdeal.τ).loc Cert.PrepFwdIdeal.main_arg2) = m ((c.tc : Thread Cert.PrepFwdIdeal.nD Cert.PrepFwdIdeal.τ).loc Cert.PrepFwdIdeal.main_arg2)
          ∧ r.2.mem ((c.tc : Thread Cert.PrepFwdIdeal.nD Cert.PrepFwdIdeal.τ).loc Cert.PrepFwdIdeal.main_arg3) = m ((c.tc : Thread Cert.PrepFwdIdeal.nD Cert.PrepFwdIdeal.τ).loc Cert.PrepFwdIdeal.main_arg3)
          ∧ r.2.mem ((c.tc : Thread Cert.PrepFwdIdeal.nD Cert.PrepFwdIdeal.τ).loc Cert.PrepFwdIdeal.main_arg4) = m ((c.tc : Thread Cert.PrepFwdIdeal.nD Cert.PrepFwdIdeal.τ).loc Cert.PrepFwdIdeal.main_arg4)
          ∧ r.2.mem ((c.tc : Thread Cert.PrepFwdIdeal.nD Cert.PrepFwdIdeal.τ).loc Cert.PrepFwdIdeal.main_arg5) = m ((c.tc : Thread Cert.PrepFwdIdeal.nD Cert.PrepFwdIdeal.τ).loc Cert.PrepFwdIdeal.main_arg5)
          ∧ r.2.mem ((c.tc : Thread Cert.PrepFwdIdeal.nD Cert.PrepFwdIdeal.τ).loc Cert.PrepFwdIdeal.main_arg6) = m ((c.tc : Thread Cert.PrepFwdIdeal.nD Cert.PrepFwdIdeal.τ).loc Cert.PrepFwdIdeal.main_arg6))
      ∧ θ_run (Cert.PrepFwdRefIdeal.defs (F := Ideal)) (onTc (τ := Cert.PrepFwdRefIdeal.τ) (Cert.PrepFwdRefIdeal.main (F := Ideal))) ⟨m', fun _ => 0, g'⟩ (fun r => ∀ c : Dev Cert.PrepFwdRefIdeal.nD,
          r.2.mem ((c.tc : Thread Cert.PrepFwdRefIdeal.nD Cert.PrepFwdRefIdeal.τ).loc Cert.PrepFwdRefIdeal.main_v42) = v0 c
          ∧ r.2.mem ((c.tc : Thread Cert.PrepFwdRefIdeal.nD Cert.PrepFwdRefIdeal.τ).loc Cert.PrepFwdRefIdeal.main_v43) = v1 c
          ∧ r.2.mem ((c.tc : Thread Cert.PrepFwdRefIdeal.nD Cert.PrepFwdRefIdeal.τ).loc Cert.PrepFwdRefIdeal.main_v50) = v2 c
          ∧ r.2.mem ((c.tc : Thread Cert.PrepFwdRefIdeal.nD Cert.PrepFwdRefIdeal.τ).loc Cert.PrepFwdRefIdeal.main_v57) = v3 c
          ∧ r.2.mem ((c.tc : Thread Cert.PrepFwdRefIdeal.nD Cert.PrepFwdRefIdeal.τ).loc Cert.PrepFwdRefIdeal.main_v63) = v4 c
          ∧ r.2.mem ((c.tc : Thread Cert.PrepFwdRefIdeal.nD Cert.PrepFwdRefIdeal.τ).loc Cert.PrepFwdRefIdeal.main_v69) = v5 c
          ∧ r.2.mem ((c.tc : Thread Cert.PrepFwdRefIdeal.nD Cert.PrepFwdRefIdeal.τ).loc Cert.PrepFwdRefIdeal.main_arg0) = m' ((c.tc : Thread Cert.PrepFwdRefIdeal.nD Cert.PrepFwdRefIdeal.τ).loc Cert.PrepFwdRefIdeal.main_arg0)
          ∧ r.2.mem ((c.tc : Thread Cert.PrepFwdRefIdeal.nD Cert.PrepFwdRefIdeal.τ).loc Cert.PrepFwdRefIdeal.main_arg1) = m' ((c.tc : Thread Cert.PrepFwdRefIdeal.nD Cert.PrepFwdRefIdeal.τ).loc Cert.PrepFwdRefIdeal.main_arg1)
          ∧ r.2.mem ((c.tc : Thread Cert.PrepFwdRefIdeal.nD Cert.PrepFwdRefIdeal.τ).loc Cert.PrepFwdRefIdeal.main_arg2) = m' ((c.tc : Thread Cert.PrepFwdRefIdeal.nD Cert.PrepFwdRefIdeal.τ).loc Cert.PrepFwdRefIdeal.main_arg2)
          ∧ r.2.mem ((c.tc : Thread Cert.PrepFwdRefIdeal.nD Cert.PrepFwdRefIdeal.τ).loc Cert.PrepFwdRefIdeal.main_arg3) = m' ((c.tc : Thread Cert.PrepFwdRefIdeal.nD Cert.PrepFwdRefIdeal.τ).loc Cert.PrepFwdRefIdeal.main_arg3)
          ∧ r.2.mem ((c.tc : Thread Cert.PrepFwdRefIdeal.nD Cert.PrepFwdRefIdeal.τ).loc Cert.PrepFwdRefIdeal.main_arg4) = m' ((c.tc : Thread Cert.PrepFwdRefIdeal.nD Cert.PrepFwdRefIdeal.τ).loc Cert.PrepFwdRefIdeal.main_arg4)
          ∧ r.2.mem ((c.tc : Thread Cert.PrepFwdRefIdeal.nD Cert.PrepFwdRefIdeal.τ).loc Cert.PrepFwdRefIdeal.main_arg5) = m' ((c.tc : Thread Cert.PrepFwdRefIdeal.nD Cert.PrepFwdRefIdeal.τ).loc Cert.PrepFwdRefIdeal.main_arg5)
          ∧ r.2.mem ((c.tc : Thread Cert.PrepFwdRefIdeal.nD Cert.PrepFwdRefIdeal.τ).loc Cert.PrepFwdRefIdeal.main_arg6) = m' ((c.tc : Thread Cert.PrepFwdRefIdeal.nD Cert.PrepFwdRefIdeal.τ).loc Cert.PrepFwdRefIdeal.main_arg6))

def preserves_In0Fwd_In0FwdIdeal : Prop :=
  True

def algebraic_In0FwdIdeal_In0FwdRefIdeal [hIn0FwdIdeal : Cert.In0FwdIdeal.Facts] [hIn0FwdRefIdeal : Cert.In0FwdRefIdeal.Facts] : Prop :=
  ∀ (m : (ℓ : Loc Cert.In0FwdIdeal.nD Cert.In0FwdIdeal.τ Cert.In0FwdIdeal.sig) → Buf (Elt Ideal) ℓ) (g : Dev Cert.In0FwdIdeal.nD → PrngReg)
    (m' : (ℓ : Loc Cert.In0FwdRefIdeal.nD Cert.In0FwdRefIdeal.τ Cert.In0FwdRefIdeal.sig) → Buf (Elt Ideal) ℓ) (g' : Dev Cert.In0FwdRefIdeal.nD → PrngReg), Pre_In0FwdIdeal m →
    (∀ c : Dev Cert.In0FwdIdeal.nD,
      m' ((c.tc : Thread Cert.In0FwdRefIdeal.nD Cert.In0FwdRefIdeal.τ).loc Cert.In0FwdRefIdeal.main_arg0) = m ((c.tc : Thread Cert.In0FwdIdeal.nD Cert.In0FwdIdeal.τ).loc Cert.In0FwdIdeal.main_arg0)
      ∧ m' ((c.tc : Thread Cert.In0FwdRefIdeal.nD Cert.In0FwdRefIdeal.τ).loc Cert.In0FwdRefIdeal.main_arg1) = m ((c.tc : Thread Cert.In0FwdIdeal.nD Cert.In0FwdIdeal.τ).loc Cert.In0FwdIdeal.main_arg1)
      ∧ m' ((c.tc : Thread Cert.In0FwdRefIdeal.nD Cert.In0FwdRefIdeal.τ).loc Cert.In0FwdRefIdeal.main_arg2) = m ((c.tc : Thread Cert.In0FwdIdeal.nD Cert.In0FwdIdeal.τ).loc Cert.In0FwdIdeal.main_arg2)) →
    ∃ (v0 : (c : Dev Cert.In0FwdIdeal.nD) → Buf (Elt Ideal) ((c.tc : Thread Cert.In0FwdIdeal.nD Cert.In0FwdIdeal.τ).loc Cert.In0FwdIdeal.main_v13)),
      θ_run (Cert.In0FwdIdeal.defs (F := Ideal)) (onTc (τ := Cert.In0FwdIdeal.τ) (Cert.In0FwdIdeal.main (F := Ideal))) ⟨m, fun _ => 0, g⟩ (fun r => ∀ c : Dev Cert.In0FwdIdeal.nD,
          r.2.mem ((c.tc : Thread Cert.In0FwdIdeal.nD Cert.In0FwdIdeal.τ).loc Cert.In0FwdIdeal.main_v13) = v0 c
          ∧ r.2.mem ((c.tc : Thread Cert.In0FwdIdeal.nD Cert.In0FwdIdeal.τ).loc Cert.In0FwdIdeal.main_arg0) = m ((c.tc : Thread Cert.In0FwdIdeal.nD Cert.In0FwdIdeal.τ).loc Cert.In0FwdIdeal.main_arg0)
          ∧ r.2.mem ((c.tc : Thread Cert.In0FwdIdeal.nD Cert.In0FwdIdeal.τ).loc Cert.In0FwdIdeal.main_arg1) = m ((c.tc : Thread Cert.In0FwdIdeal.nD Cert.In0FwdIdeal.τ).loc Cert.In0FwdIdeal.main_arg1)
          ∧ r.2.mem ((c.tc : Thread Cert.In0FwdIdeal.nD Cert.In0FwdIdeal.τ).loc Cert.In0FwdIdeal.main_arg2) = m ((c.tc : Thread Cert.In0FwdIdeal.nD Cert.In0FwdIdeal.τ).loc Cert.In0FwdIdeal.main_arg2))
      ∧ θ_run (Cert.In0FwdRefIdeal.defs (F := Ideal)) (onTc (τ := Cert.In0FwdRefIdeal.τ) (Cert.In0FwdRefIdeal.main (F := Ideal))) ⟨m', fun _ => 0, g'⟩ (fun r => ∀ c : Dev Cert.In0FwdRefIdeal.nD,
          r.2.mem ((c.tc : Thread Cert.In0FwdRefIdeal.nD Cert.In0FwdRefIdeal.τ).loc Cert.In0FwdRefIdeal.main_v13) = v0 c
          ∧ r.2.mem ((c.tc : Thread Cert.In0FwdRefIdeal.nD Cert.In0FwdRefIdeal.τ).loc Cert.In0FwdRefIdeal.main_arg0) = m' ((c.tc : Thread Cert.In0FwdRefIdeal.nD Cert.In0FwdRefIdeal.τ).loc Cert.In0FwdRefIdeal.main_arg0)
          ∧ r.2.mem ((c.tc : Thread Cert.In0FwdRefIdeal.nD Cert.In0FwdRefIdeal.τ).loc Cert.In0FwdRefIdeal.main_arg1) = m' ((c.tc : Thread Cert.In0FwdRefIdeal.nD Cert.In0FwdRefIdeal.τ).loc Cert.In0FwdRefIdeal.main_arg1)
          ∧ r.2.mem ((c.tc : Thread Cert.In0FwdRefIdeal.nD Cert.In0FwdRefIdeal.τ).loc Cert.In0FwdRefIdeal.main_arg2) = m' ((c.tc : Thread Cert.In0FwdRefIdeal.nD Cert.In0FwdRefIdeal.τ).loc Cert.In0FwdRefIdeal.main_arg2))

def preserves_In1Fwd_In1FwdIdeal : Prop :=
  True

def algebraic_In1FwdIdeal_In1FwdRefIdeal [hIn1FwdIdeal : Cert.In1FwdIdeal.Facts] [hIn1FwdRefIdeal : Cert.In1FwdRefIdeal.Facts] : Prop :=
  ∀ (m : (ℓ : Loc Cert.In1FwdIdeal.nD Cert.In1FwdIdeal.τ Cert.In1FwdIdeal.sig) → Buf (Elt Ideal) ℓ) (g : Dev Cert.In1FwdIdeal.nD → PrngReg)
    (m' : (ℓ : Loc Cert.In1FwdRefIdeal.nD Cert.In1FwdRefIdeal.τ Cert.In1FwdRefIdeal.sig) → Buf (Elt Ideal) ℓ) (g' : Dev Cert.In1FwdRefIdeal.nD → PrngReg), Pre_In1FwdIdeal m →
    (∀ c : Dev Cert.In1FwdIdeal.nD,
      m' ((c.tc : Thread Cert.In1FwdRefIdeal.nD Cert.In1FwdRefIdeal.τ).loc Cert.In1FwdRefIdeal.main_arg0) = m ((c.tc : Thread Cert.In1FwdIdeal.nD Cert.In1FwdIdeal.τ).loc Cert.In1FwdIdeal.main_arg0)
      ∧ m' ((c.tc : Thread Cert.In1FwdRefIdeal.nD Cert.In1FwdRefIdeal.τ).loc Cert.In1FwdRefIdeal.main_arg1) = m ((c.tc : Thread Cert.In1FwdIdeal.nD Cert.In1FwdIdeal.τ).loc Cert.In1FwdIdeal.main_arg1)
      ∧ m' ((c.tc : Thread Cert.In1FwdRefIdeal.nD Cert.In1FwdRefIdeal.τ).loc Cert.In1FwdRefIdeal.main_arg2) = m ((c.tc : Thread Cert.In1FwdIdeal.nD Cert.In1FwdIdeal.τ).loc Cert.In1FwdIdeal.main_arg2)) →
    ∃ (v0 : (c : Dev Cert.In1FwdIdeal.nD) → Buf (Elt Ideal) ((c.tc : Thread Cert.In1FwdIdeal.nD Cert.In1FwdIdeal.τ).loc Cert.In1FwdIdeal.main_v11)),
      θ_run (Cert.In1FwdIdeal.defs (F := Ideal)) (onTc (τ := Cert.In1FwdIdeal.τ) (Cert.In1FwdIdeal.main (F := Ideal))) ⟨m, fun _ => 0, g⟩ (fun r => ∀ c : Dev Cert.In1FwdIdeal.nD,
          r.2.mem ((c.tc : Thread Cert.In1FwdIdeal.nD Cert.In1FwdIdeal.τ).loc Cert.In1FwdIdeal.main_v11) = v0 c
          ∧ r.2.mem ((c.tc : Thread Cert.In1FwdIdeal.nD Cert.In1FwdIdeal.τ).loc Cert.In1FwdIdeal.main_arg0) = m ((c.tc : Thread Cert.In1FwdIdeal.nD Cert.In1FwdIdeal.τ).loc Cert.In1FwdIdeal.main_arg0)
          ∧ r.2.mem ((c.tc : Thread Cert.In1FwdIdeal.nD Cert.In1FwdIdeal.τ).loc Cert.In1FwdIdeal.main_arg1) = m ((c.tc : Thread Cert.In1FwdIdeal.nD Cert.In1FwdIdeal.τ).loc Cert.In1FwdIdeal.main_arg1)
          ∧ r.2.mem ((c.tc : Thread Cert.In1FwdIdeal.nD Cert.In1FwdIdeal.τ).loc Cert.In1FwdIdeal.main_arg2) = m ((c.tc : Thread Cert.In1FwdIdeal.nD Cert.In1FwdIdeal.τ).loc Cert.In1FwdIdeal.main_arg2))
      ∧ θ_run (Cert.In1FwdRefIdeal.defs (F := Ideal)) (onTc (τ := Cert.In1FwdRefIdeal.τ) (Cert.In1FwdRefIdeal.main (F := Ideal))) ⟨m', fun _ => 0, g'⟩ (fun r => ∀ c : Dev Cert.In1FwdRefIdeal.nD,
          r.2.mem ((c.tc : Thread Cert.In1FwdRefIdeal.nD Cert.In1FwdRefIdeal.τ).loc Cert.In1FwdRefIdeal.main_v13) = v0 c
          ∧ r.2.mem ((c.tc : Thread Cert.In1FwdRefIdeal.nD Cert.In1FwdRefIdeal.τ).loc Cert.In1FwdRefIdeal.main_arg0) = m' ((c.tc : Thread Cert.In1FwdRefIdeal.nD Cert.In1FwdRefIdeal.τ).loc Cert.In1FwdRefIdeal.main_arg0)
          ∧ r.2.mem ((c.tc : Thread Cert.In1FwdRefIdeal.nD Cert.In1FwdRefIdeal.τ).loc Cert.In1FwdRefIdeal.main_arg1) = m' ((c.tc : Thread Cert.In1FwdRefIdeal.nD Cert.In1FwdRefIdeal.τ).loc Cert.In1FwdRefIdeal.main_arg1)
          ∧ r.2.mem ((c.tc : Thread Cert.In1FwdRefIdeal.nD Cert.In1FwdRefIdeal.τ).loc Cert.In1FwdRefIdeal.main_arg2) = m' ((c.tc : Thread Cert.In1FwdRefIdeal.nD Cert.In1FwdRefIdeal.τ).loc Cert.In1FwdRefIdeal.main_arg2))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)) →
    ∃ (v0 : (c : Dev Cert.OutFwdIdeal.nD) → Buf (Elt Ideal) ((c.tc : Thread Cert.OutFwdIdeal.nD Cert.OutFwdIdeal.τ).loc Cert.OutFwdIdeal.main_v1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v1) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v2) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v1_0)) (v1 : (c : Dev Cert.OutIdeal.nD) → Buf (Elt Ideal) ((c.tc : Thread Cert.OutIdeal.nD Cert.OutIdeal.τ).loc Cert.OutIdeal.main_v1_1)) (v2 : (c : Dev Cert.OutIdeal.nD) → Buf (Elt Ideal) ((c.tc : Thread Cert.OutIdeal.nD Cert.OutIdeal.τ).loc Cert.OutIdeal.main_v1_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1_0) = v0 c
          ∧ r.2.mem ((c.tc : Thread Cert.OutIdeal.nD Cert.OutIdeal.τ).loc Cert.OutIdeal.main_v1_1) = v1 c
          ∧ r.2.mem ((c.tc : Thread Cert.OutIdeal.nD Cert.OutIdeal.τ).loc Cert.OutIdeal.main_v1_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5) = v0 c
          ∧ r.2.mem ((c.tc : Thread Cert.OutRefIdeal.nD Cert.OutRefIdeal.τ).loc Cert.OutRefIdeal.main_v6) = v1 c
          ∧ r.2.mem ((c.tc : Thread Cert.OutRefIdeal.nD Cert.OutRefIdeal.τ).loc Cert.OutRefIdeal.main_v3) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v0) = v0 c
          ∧ r.2.mem ((c.tc : Thread Cert.AdamRefIdeal.nD Cert.AdamRefIdeal.τ).loc Cert.AdamRefIdeal.main_v24) = v1 c
          ∧ r.2.mem ((c.tc : Thread Cert.AdamRefIdeal.nD Cert.AdamRefIdeal.τ).loc Cert.AdamRefIdeal.main_v5) = v2 c
          ∧ r.2.mem ((c.tc : Thread Cert.AdamRefIdeal.nD Cert.AdamRefIdeal.τ).loc Cert.AdamRefIdeal.main_v11) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_LossSum_LossSumIdeal : Prop :=
  True

def algebraic_LossSumIdeal_LossSumRefIdeal [hLossSumIdeal : Cert.LossSumIdeal.Facts] [hLossSumRefIdeal : Cert.LossSumRefIdeal.Facts] : Prop :=
  ∀ (m : (ℓ : Loc Cert.LossSumIdeal.nD Cert.LossSumIdeal.τ Cert.LossSumIdeal.sig) → Buf (Elt Ideal) ℓ) (g : Dev Cert.LossSumIdeal.nD → PrngReg)
    (m' : (ℓ : Loc Cert.LossSumRefIdeal.nD Cert.LossSumRefIdeal.τ Cert.LossSumRefIdeal.sig) → Buf (Elt Ideal) ℓ) (g' : Dev Cert.LossSumRefIdeal.nD → PrngReg), Pre_LossSumIdeal m →
    (∀ c : Dev Cert.LossSumIdeal.nD,
      m ((c.tc : Thread Cert.LossSumIdeal.nD Cert.LossSumIdeal.τ).loc Cert.LossSumIdeal.main_arg0) = Layout.block ⟨1, ![1]⟩ ⟨1, ![8]⟩ 0 8 c (m' (((0 : Dev Cert.LossSumRefIdeal.nD).tc : Thread Cert.LossSumRefIdeal.nD Cert.LossSumRefIdeal.τ).loc Cert.LossSumRefIdeal.main_arg0))) →
    ∃ (v0 : Buf (Elt Ideal) (((0 : Dev Cert.LossSumRefIdeal.nD).tc : Thread Cert.LossSumRefIdeal.nD Cert.LossSumRefIdeal.τ).loc Cert.LossSumRefIdeal.main_v0)),
      θ_run (Cert.LossSumIdeal.defs (F := Ideal)) (onTc (τ := Cert.LossSumIdeal.τ) (Cert.LossSumIdeal.main (F := Ideal))) ⟨m, fun _ => 0, g⟩ (fun r => ∀ c : Dev Cert.LossSumIdeal.nD,
          r.2.mem ((c.tc : Thread Cert.LossSumIdeal.nD Cert.LossSumIdeal.τ).loc Cert.LossSumIdeal.main_v2) = v0
          ∧ r.2.mem ((c.tc : Thread Cert.LossSumIdeal.nD Cert.LossSumIdeal.τ).loc Cert.LossSumIdeal.main_arg0) = m ((c.tc : Thread Cert.LossSumIdeal.nD Cert.LossSumIdeal.τ).loc Cert.LossSumIdeal.main_arg0))
      ∧ θ_run (Cert.LossSumRefIdeal.defs (F := Ideal)) (onTc (τ := Cert.LossSumRefIdeal.τ) (Cert.LossSumRefIdeal.main (F := Ideal))) ⟨m', fun _ => 0, g'⟩ (fun r =>
          r.2.mem (((0 : Dev Cert.LossSumRefIdeal.nD).tc : Thread Cert.LossSumRefIdeal.nD Cert.LossSumRefIdeal.τ).loc Cert.LossSumRefIdeal.main_v0) = v0
          ∧ r.2.mem (((0 : Dev Cert.LossSumRefIdeal.nD).tc : Thread Cert.LossSumRefIdeal.nD Cert.LossSumRefIdeal.τ).loc Cert.LossSumRefIdeal.main_arg0) = m' (((0 : Dev Cert.LossSumRefIdeal.nD).tc : Thread Cert.LossSumRefIdeal.nD Cert.LossSumRefIdeal.τ).loc Cert.LossSumRefIdeal.main_arg0))

def preserves_RetFwd_RetFwdIdeal : Prop :=
  True

def preserves_GdnFwd_GdnFwdIdeal : Prop :=
  True

def preserves_SsdFwd_SsdFwdIdeal : Prop :=
  True

def preserves_S5Fwd_S5FwdIdeal : Prop :=
  True

def preserves_RetBwd_RetBwdIdeal : Prop :=
  True

def Claim : Prop :=
  ∃ (hLoss : Cert.Loss.Facts) (hLossIdeal : Cert.LossIdeal.Facts) (hLossRefIdeal : Cert.LossRefIdeal.Facts) (hMlp : Cert.Mlp.Facts) (hMlpIdeal : Cert.MlpIdeal.Facts) (hMlpRefIdeal : Cert.MlpRefIdeal.Facts) (hIn1 : Cert.In1.Facts) (hIn1Ideal : Cert.In1Ideal.Facts) (hIn1RefIdeal : Cert.In1RefIdeal.Facts) (hIn0 : Cert.In0.Facts) (hIn0Ideal : Cert.In0Ideal.Facts) (hIn0RefIdeal : Cert.In0RefIdeal.Facts) (hPrep : Cert.Prep.Facts) (hPrepIdeal : Cert.PrepIdeal.Facts) (hPrepRefIdeal : Cert.PrepRefIdeal.Facts) (hPrepFwd : Cert.PrepFwd.Facts) (hPrepFwdIdeal : Cert.PrepFwdIdeal.Facts) (hPrepFwdRefIdeal : Cert.PrepFwdRefIdeal.Facts) (hIn0Fwd : Cert.In0Fwd.Facts) (hIn0FwdIdeal : Cert.In0FwdIdeal.Facts) (hIn0FwdRefIdeal : Cert.In0FwdRefIdeal.Facts) (hIn1Fwd : Cert.In1Fwd.Facts) (hIn1FwdIdeal : Cert.In1FwdIdeal.Facts) (hIn1FwdRefIdeal : Cert.In1FwdRefIdeal.Facts) (hOutFwd : Cert.OutFwd.Facts) (hOutFwdIdeal : Cert.OutFwdIdeal.Facts) (hOutFwdRefIdeal : Cert.OutFwdRefIdeal.Facts) (hOut : Cert.Out.Facts) (hOutIdeal : Cert.OutIdeal.Facts) (hOutRefIdeal : Cert.OutRefIdeal.Facts) (hAdam : Cert.Adam.Facts) (hAdamIdeal : Cert.AdamIdeal.Facts) (hAdamRefIdeal : Cert.AdamRefIdeal.Facts) (hLossSum : Cert.LossSum.Facts) (hLossSumIdeal : Cert.LossSumIdeal.Facts) (hLossSumRefIdeal : Cert.LossSumRefIdeal.Facts) (hRetFwd : Cert.RetFwd.Facts) (hRetFwdIdeal : Cert.RetFwdIdeal.Facts) (hGdnFwd : Cert.GdnFwd.Facts) (hGdnFwdIdeal : Cert.GdnFwdIdeal.Facts) (hSsdFwd : Cert.SsdFwd.Facts) (hSsdFwdIdeal : Cert.SsdFwdIdeal.Facts) (hS5Fwd : Cert.S5Fwd.Facts) (hS5FwdIdeal : Cert.S5FwdIdeal.Facts) (hRetBwd : Cert.RetBwd.Facts) (hRetBwdIdeal : Cert.RetBwdIdeal.Facts) (hPre_step_finite : Cert.Pre_step_finite.Facts),
    quiescent_Loss (hLoss := hLoss)
    ∧ quiescent_LossIdeal (hLossIdeal := hLossIdeal)
    ∧ quiescent_LossRefIdeal (hLossRefIdeal := hLossRefIdeal)
    ∧ quiescent_Mlp (hMlp := hMlp)
    ∧ quiescent_MlpIdeal (hMlpIdeal := hMlpIdeal)
    ∧ quiescent_MlpRefIdeal (hMlpRefIdeal := hMlpRefIdeal)
    ∧ quiescent_In1 (hIn1 := hIn1)
    ∧ quiescent_In1Ideal (hIn1Ideal := hIn1Ideal)
    ∧ quiescent_In1RefIdeal (hIn1RefIdeal := hIn1RefIdeal)
    ∧ quiescent_In0 (hIn0 := hIn0)
    ∧ quiescent_In0Ideal (hIn0Ideal := hIn0Ideal)
    ∧ quiescent_In0RefIdeal (hIn0RefIdeal := hIn0RefIdeal)
    ∧ quiescent_Prep (hPrep := hPrep)
    ∧ quiescent_PrepIdeal (hPrepIdeal := hPrepIdeal)
    ∧ quiescent_PrepIdeal_pre_step_finite (hPrepIdeal := hPrepIdeal) (hPre_step_finite := hPre_step_finite)
    ∧ quiescent_PrepRefIdeal (hPrepRefIdeal := hPrepRefIdeal)
    ∧ quiescent_PrepRefIdeal_pre_step_finite (hPrepRefIdeal := hPrepRefIdeal) (hPre_step_finite := hPre_step_finite)
    ∧ quiescent_PrepFwd (hPrepFwd := hPrepFwd)
    ∧ quiescent_PrepFwdIdeal (hPrepFwdIdeal := hPrepFwdIdeal)
    ∧ quiescent_PrepFwdRefIdeal (hPrepFwdRefIdeal := hPrepFwdRefIdeal)
    ∧ quiescent_In0Fwd (hIn0Fwd := hIn0Fwd)
    ∧ quiescent_In0FwdIdeal (hIn0FwdIdeal := hIn0FwdIdeal)
    ∧ quiescent_In0FwdRefIdeal (hIn0FwdRefIdeal := hIn0FwdRefIdeal)
    ∧ quiescent_In1Fwd (hIn1Fwd := hIn1Fwd)
    ∧ quiescent_In1FwdIdeal (hIn1FwdIdeal := hIn1FwdIdeal)
    ∧ quiescent_In1FwdRefIdeal (hIn1FwdRefIdeal := hIn1FwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_Out (hOut := hOut)
    ∧ quiescent_OutIdeal (hOutIdeal := hOutIdeal)
    ∧ quiescent_OutRefIdeal (hOutRefIdeal := hOutRefIdeal)
    ∧ quiescent_Adam (hAdam := hAdam)
    ∧ quiescent_AdamIdeal (hAdamIdeal := hAdamIdeal)
    ∧ quiescent_AdamRefIdeal (hAdamRefIdeal := hAdamRefIdeal)
    ∧ quiescent_LossSum (hLossSum := hLossSum)
    ∧ quiescent_LossSumIdeal (hLossSumIdeal := hLossSumIdeal)
    ∧ quiescent_LossSumRefIdeal (hLossSumRefIdeal := hLossSumRefIdeal)
    ∧ quiescent_RetFwd (hRetFwd := hRetFwd)
    ∧ quiescent_RetFwdIdeal (hRetFwdIdeal := hRetFwdIdeal)
    ∧ quiescent_GdnFwd (hGdnFwd := hGdnFwd)
    ∧ quiescent_GdnFwdIdeal (hGdnFwdIdeal := hGdnFwdIdeal)
    ∧ quiescent_SsdFwd (hSsdFwd := hSsdFwd)
    ∧ quiescent_SsdFwdIdeal (hSsdFwdIdeal := hSsdFwdIdeal)
    ∧ quiescent_S5Fwd (hS5Fwd := hS5Fwd)
    ∧ quiescent_S5FwdIdeal (hS5FwdIdeal := hS5FwdIdeal)
    ∧ quiescent_RetBwd (hRetBwd := hRetBwd)
    ∧ quiescent_RetBwdIdeal (hRetBwdIdeal := hRetBwdIdeal)
    ∧ preserves_Loss_LossIdeal
    ∧ algebraic_LossIdeal_LossRefIdeal (hLossIdeal := hLossIdeal) (hLossRefIdeal := hLossRefIdeal)
    ∧ preserves_Mlp_MlpIdeal
    ∧ algebraic_MlpIdeal_MlpRefIdeal (hMlpIdeal := hMlpIdeal) (hMlpRefIdeal := hMlpRefIdeal)
    ∧ preserves_In1_In1Ideal
    ∧ algebraic_In1Ideal_In1RefIdeal (hIn1Ideal := hIn1Ideal) (hIn1RefIdeal := hIn1RefIdeal)
    ∧ preserves_In0_In0Ideal
    ∧ algebraic_In0Ideal_In0RefIdeal (hIn0Ideal := hIn0Ideal) (hIn0RefIdeal := hIn0RefIdeal)
    ∧ preserves_Prep_PrepIdeal
    ∧ algebraic_PrepIdeal_PrepRefIdeal_pre_step_finite (hPrepIdeal := hPrepIdeal) (hPrepRefIdeal := hPrepRefIdeal) (hPre_step_finite := hPre_step_finite)
    ∧ preserves_PrepFwd_PrepFwdIdeal
    ∧ algebraic_PrepFwdIdeal_PrepFwdRefIdeal (hPrepFwdIdeal := hPrepFwdIdeal) (hPrepFwdRefIdeal := hPrepFwdRefIdeal)
    ∧ preserves_In0Fwd_In0FwdIdeal
    ∧ algebraic_In0FwdIdeal_In0FwdRefIdeal (hIn0FwdIdeal := hIn0FwdIdeal) (hIn0FwdRefIdeal := hIn0FwdRefIdeal)
    ∧ preserves_In1Fwd_In1FwdIdeal
    ∧ algebraic_In1FwdIdeal_In1FwdRefIdeal (hIn1FwdIdeal := hIn1FwdIdeal) (hIn1FwdRefIdeal := hIn1FwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_Out_OutIdeal
    ∧ algebraic_OutIdeal_OutRefIdeal (hOutIdeal := hOutIdeal) (hOutRefIdeal := hOutRefIdeal)
    ∧ preserves_Adam_AdamIdeal
    ∧ algebraic_AdamIdeal_AdamRefIdeal (hAdamIdeal := hAdamIdeal) (hAdamRefIdeal := hAdamRefIdeal)
    ∧ preserves_LossSum_LossSumIdeal
    ∧ algebraic_LossSumIdeal_LossSumRefIdeal (hLossSumIdeal := hLossSumIdeal) (hLossSumRefIdeal := hLossSumRefIdeal)
    ∧ preserves_RetFwd_RetFwdIdeal
    ∧ preserves_GdnFwd_GdnFwdIdeal
    ∧ preserves_SsdFwd_SsdFwdIdeal
    ∧ preserves_S5Fwd_S5FwdIdeal
    ∧ preserves_RetBwd_RetBwdIdeal
-- ==== Pre_step_finite.lean ====
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S1x1024 : Shape := ⟨2, ![1, 1024]⟩
abbrev S256x1024 : Shape := ⟨2, ![256, 1024]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16x64 .f32) (main_arg1 : FVec F S16x64 .f32) (main_arg2 : FVec F S16 .f32) (main_arg3 : FVec F S16x64x16 .f32) (main_arg4 : FVec F S16x64x16 .f32) (main_arg5 : FVec F S16x16x64 .f32) (main_arg6 : FVec F S16x16x64 .f32) (main_arg7 : FVec F S1x1024 .f32) (main_arg8 : FVec F S1x1024 .f32) (main_arg9 : FVec F S256x1024 .f32) (main_arg10 : FVec F S256x1024 .f32) (main_arg11 : FVec F S256x1024 .f32) (main_arg12 : FVec F S256x1024 .f32) : IVec S16 1 :=
  let main_cst : FVec F S_ .f32 := constant S_ .f32 0x7F800000#32
  let main_v0 : FVec F S16 .f32 := broadcastInDim S16 ![] bcast_S_S16 main_cst
  let main_v1 : IVec S16 1 := cmpf .olt main_arg2 main_v0
  main_v1
-- ==== Loss.lean ====
abbrev S16384x1024 : Shape := ⟨2, ![16384, 1024]⟩
abbrev S1024 : Shape := ⟨1, ![1024]⟩
abbrev S1x16384x1024 : Shape := ⟨3, ![1, 16384, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 8
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x16384x1024, .f32⟩
  | .hbm, ⟨3, _⟩ => ⟨S1x1024, .f32⟩
  | .hbm, ⟨4, _⟩ => ⟨S16384x1024, .f32⟩
  | .hbm, ⟨5, _⟩ => ⟨S8x128, .f32⟩
  | .hbm, ⟨6, _⟩ => ⟨S16384x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S16384x1024 : Shape := ⟨2, ![16384, 1024]⟩
abbrev S1024 : Shape := ⟨1, ![1024]⟩
abbrev S1x16384x1024 : Shape := ⟨3, ![1, 16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S8x128 : Shape := ⟨2, ![8, 128]⟩

abbrev nBuf : Space → Nat
  | .hbm => 74
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x16384x1024, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S_, .f32⟩
  | .hbm, ⟨32, _⟩ => ⟨S16384, .f32⟩
  | .hbm, ⟨33, _⟩ => ⟨S16384, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S16384, .f32⟩
  | .hbm, ⟨42, _⟩ => ⟨S_, .f32⟩
  | .hbm, ⟨43, _⟩ => ⟨S16384, .f32⟩
  | .hbm, ⟨44, _⟩ => ⟨S16384, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S1024, .f32⟩
  | .hbm, ⟨55, _⟩ => ⟨S16384x1024, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S16384x1024, .f32⟩
  | .hbm, ⟨60, _⟩ => ⟨S16384x1024, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S_, .f32⟩
  | .hbm, ⟨66, _⟩ => ⟨S16384, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S8x128, .f32⟩
  | .hbm, ⟨73, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Mlp.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩
abbrev S8x512x1024 : Shape := ⟨3, ![8, 512, 1024]⟩
abbrev S1x1024 : Shape := ⟨2, ![1, 1024]⟩
abbrev S8x16384x512 : Shape := ⟨3, ![8, 16384, 512]⟩
abbrev S512x1024 : Shape := ⟨2, ![512, 1024]⟩
abbrev S8x512x512 : Shape := ⟨3, ![8, 512, 512]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1x512x512 : Shape := ⟨3, ![1, 512, 512]⟩
abbrev S1x512x1024 : Shape := ⟨3, ![1, 512, 1024]⟩
abbrev S4x1024x512 : Shape := ⟨3, ![4, 1024, 512]⟩
abbrev S4x512x1024 : Shape := ⟨3, ![4, 512, 1024]⟩
abbrev S4x512x512 : Shape := ⟨3, ![4, 512, 512]⟩

abbrev nBuf : Space → Nat
  | .hbm => 21
  | .vmem => 38
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S16384x1024, .f32⟩
  | .hbm, ⟨5, _⟩ => ⟨S1024x8x512, .f32⟩
  | .hbm, ⟨6, _⟩ => ⟨S8x1024x512, .f32⟩
  | .hbm, ⟨7, _⟩ => ⟨S8x1024x512, .bf16⟩
  | .hbm, ⟨8, _⟩ => ⟨S8x512x1024, .f32⟩
  | .hbm, ⟨9, _⟩ => ⟨S8x512x1024, .bf16⟩
  | .hbm, ⟨10, _⟩ => ⟨S1x1024, .f32⟩
  | .hbm, ⟨11, _⟩ => ⟨S16384x1024, .f32⟩
  | .hbm, ⟨12, _⟩ => ⟨S8x16384x512, .bf16⟩
  | .hbm, ⟨13, _⟩ => ⟨S1x1024, .f32⟩
  | .hbm, ⟨14, _⟩ => ⟨S16384x1024, .f32⟩
  | .hbm, ⟨15, _⟩ => ⟨S8x1024x512, .f32⟩
  | .hbm, ⟨16, _⟩ => ⟨S8x512x1024, .f32⟩
  | .hbm, ⟨17, _⟩ => ⟨S16384x1024, .f32⟩
  | .hbm, ⟨18, _⟩ => ⟨S1x1024, .f32⟩
  | .hbm, ⟨19, _⟩ => ⟨S8x1024x512, .f32⟩
  | .hbm, ⟨20, _⟩ => ⟨S8x512x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x512, .bf16⟩
  | .local _ .vmem, ⟨4, _⟩ => ⟨S8x512x1024, .bf16⟩
  | .local _ .vmem, ⟨5, _⟩ => ⟨S512x1024, .f32⟩
  | .local _ .vmem, ⟨6, _⟩ => ⟨S512x1024, .f32⟩
  | .local _ .vmem, ⟨7, _⟩ => ⟨S8x512x512, .bf16⟩
  | .local _ .vmem, ⟨8, _⟩ => ⟨S8x512x512, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S4x1024x512, .bf16⟩
  | .local _ .vmem, ⟨13, _⟩ => ⟨S4x512x1024, .bf16⟩
  | .local _ .vmem, ⟨14, _⟩ => ⟨S4x512x512, .bf16⟩
  | .local _ .vmem, ⟨15, _⟩ => ⟨S4x512x512, .bf16⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S4x1024x512, .f32⟩
  | .local _ .vmem, ⟨21, _⟩ => ⟨S4x512x1024, .f32⟩
  | .local _ .vmem, ⟨22, _⟩ => ⟨S512x1024, .f32⟩
  | .local _ .vmem, ⟨23, _⟩ => ⟨S512x1024, .f32⟩
  | .local _ .vmem, ⟨24, _⟩ => ⟨S1x1024, .f32⟩
  | .local _ .vmem, ⟨25, _⟩ => ⟨S4x1024x512, .bf16⟩
  | .local _ .vmem, ⟨26, _⟩ => ⟨S4x512x1024, .bf16⟩
  | .local _ .vmem, ⟨27, _⟩ => ⟨S4x512x512, .bf16⟩
  | .local _ .vmem, ⟨28, _⟩ => ⟨S4x512x512, .bf16⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S512x1024, .f32⟩
  | .local _ .vmem, ⟨33, _⟩ => ⟨S512x1024, .f32⟩
  | .local _ .vmem, ⟨34, _⟩ => ⟨S512x1024, .f32⟩
  | .local _ .vmem, ⟨35, _⟩ => ⟨S1x1024, .f32⟩
  | .local _ .vmem, ⟨36, _⟩ => ⟨S4x1024x512, .f32⟩
  | .local _ .vmem, ⟨37, _⟩ => ⟨S4x512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg8_0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg4_1 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg6_1 : Ref sig .tc := ⟨.vmem, 32, rfl⟩
abbrev cc2_stg7_0 : Ref sig .tc := ⟨.vmem, 33, rfl⟩
abbrev cc2_stg7_1 : Ref sig .tc := ⟨.vmem, 34, rfl⟩
abbrev cc2_stg8_0 : Ref sig .tc := ⟨.vmem, 35, rfl⟩
abbrev cc2_stg9_0 : Ref sig .tc := ⟨.vmem, 36, rfl⟩
abbrev cc2_stg10_0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem8_0 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem4_1 : DmaSem sig := 28
abbrev cc2_sem5_0 : DmaSem sig := 29
abbrev cc2_sem5_1 : DmaSem sig := 30
abbrev cc2_sem6_0 : DmaSem sig := 31
abbrev cc2_sem6_1 : DmaSem sig := 32
abbrev cc2_sem7_0 : DmaSem sig := 33
abbrev cc2_sem7_1 : DmaSem sig := 34
abbrev cc2_sem8_0 : DmaSem sig := 35
abbrev cc2_sem9_0 : DmaSem sig := 36
abbrev cc2_sem10_0 : DmaSem sig := 37

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x1024x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x512x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4x512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S4x1024x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S4x512x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_3 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_4 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_12 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4x1024x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4x512x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4x512x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S512x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S1x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S4x1024x512 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S4x512x1024 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]
-- ==== MlpRefIdeal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩
abbrev S1024x8x512 : Shape := ⟨3, ![1024, 8, 512]⟩
abbrev S8x1024x512 : Shape := ⟨3, ![8, 1024, 512]⟩
abbrev S8x512x1024 : Shape := ⟨3, ![8, 512, 1024]⟩

abbrev nBuf : Space → Nat
  | .hbm => 80
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x4096, .f32⟩
  | .hbm, ⟨26, _⟩ => ⟨S_, .f32⟩
  | .hbm, ⟨27, _⟩ => ⟨S16384x4096, .f32⟩
  | .hbm, ⟨28, _⟩ => ⟨S16384x4096, .f32⟩
  | .hbm, ⟨29, _⟩ => ⟨S_, .f32⟩
  | .hbm, ⟨30, _⟩ => ⟨S16384x4096, .f32⟩
  | .hbm, ⟨31, _⟩ => ⟨S16384x4096, .i1⟩
  | .hbm, ⟨32, _⟩ => ⟨S_, .f32⟩
  | .hbm, ⟨33, _⟩ => ⟨S16384x4096, .f32⟩
  | .hbm, ⟨34, _⟩ => ⟨S16384x4096, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S1024x4096, .f32⟩
  | .hbm, ⟨39, _⟩ => ⟨S4096x1024, .f32⟩
  | .hbm, ⟨40, _⟩ => ⟨S16384x4096, .f32⟩
  | .hbm, ⟨41, _⟩ => ⟨S16384x4096, .f32⟩
  | .hbm, ⟨42, _⟩ => ⟨S16384x4096, .f32⟩
  | .hbm, ⟨43, _⟩ => ⟨S16384x4096, .f32⟩
  | .hbm, ⟨44, _⟩ => ⟨S_, .f32⟩
  | .hbm, ⟨45, _⟩ => ⟨S16384x4096, .f32⟩
  | .hbm, ⟨46, _⟩ => ⟨S16384x4096, .f32⟩
  | .hbm, ⟨47, _⟩ => ⟨S4096x1024, .f32⟩
  | .hbm, ⟨48, _⟩ => ⟨S1024x4096, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S1024, .f32⟩
  | .hbm, ⟨58, _⟩ => ⟨S16384x1024, .f32⟩
  | .hbm, ⟨59, _⟩ => ⟨S_, .f32⟩
  | .hbm, ⟨60, _⟩ => ⟨S16384, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S_, .f32⟩
  | .hbm, ⟨70, _⟩ => ⟨S16384, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S1x1024, .f32⟩
  | .hbm, ⟨77, _⟩ => ⟨S1024x8x512, .f32⟩
  | .hbm, ⟨78, _⟩ => ⟨S8x1024x512, .f32⟩
  | .hbm, ⟨79, _⟩ => ⟨S8x512x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩

abbrev nD : Nat := 1
abbrev τ : Topo := Topo.v7x

variable {F : FTy → Type} [FloatOps F]
-- ==== In1.lean ====
abbrev S16384x1024 : Shape := ⟨2, ![16384, 1024]⟩
abbrev S1024 : Shape := ⟨1, ![1024]⟩
abbrev S1024x3340 : Shape := ⟨2, ![1024, 3340]⟩
abbrev S16384x3340 : Shape := ⟨2, ![16384, 3340]⟩
abbrev S1024x3072 : Shape := ⟨2, ![1024, 3072]⟩
abbrev S1024x256 : Shape := ⟨2, ![1024, 256]⟩
abbrev S1024x12 : Shape := ⟨2, ![1024, 12]⟩
abbrev S_ : Shape := ⟨0, ![]⟩
abbrev S1024x116 : Shape := ⟨2, ![1024, 116]⟩
abbrev S1024x3456 : Shape := ⟨2, ![1024, 3456]⟩
abbrev S16384x12 : Shape := ⟨2, ![16384, 12]⟩
abbrev S16384x116 : Shape := ⟨2, ![16384, 116]⟩
abbrev S16384x128 : Shape := ⟨2, ![16384, 128]⟩
abbrev S16384x2304 : Shape := ⟨2, ![16384, 2304]⟩
abbrev S16384x768 : Shape := ⟨2, ![16384, 768]⟩
abbrev S16384x256 : Shape := ⟨2, ![16384, 256]⟩
abbrev S1x1024 : Shape := ⟨2, ![1, 1024]⟩
abbrev S512x1024 : Shape := ⟨2, ![512, 1024]⟩
abbrev S512x2304 : Shape := ⟨2, ![512, 2304]⟩
abbrev S512x768 : Shape := ⟨2, ![512, 768]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S1024x2304 : Shape := ⟨2, ![1024, 2304]⟩
abbrev S1024x768 : Shape := ⟨2, ![1024, 768]⟩
abbrev S1024x128 : Shape := ⟨2, ![1024, 128]⟩

abbrev nBuf : Space → Nat
  | .hbm => 27
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3340, .f32⟩
  | .hbm, ⟨3, _⟩ => ⟨S16384x3340, .f32⟩
  | .hbm, ⟨4, _⟩ => ⟨S16384x1024, .f32⟩
  | .hbm, ⟨5, _⟩ => ⟨S1024x3340, .bf16⟩
  | .hbm, ⟨6, _⟩ => ⟨S1024x3072, .bf16⟩
  | .hbm, ⟨7, _⟩ => ⟨S1024x256, .bf16⟩
  | .hbm, ⟨8, _⟩ => ⟨S1024x12, .bf16⟩
  | .hbm, ⟨9, _⟩ => ⟨S_, .bf16⟩
  | .hbm, ⟨10, _⟩ => ⟨S1024x116, .bf16⟩
  | .hbm, ⟨11, _⟩ => ⟨S1024x3456, .bf16⟩
  | .hbm, ⟨12, _⟩ => ⟨S16384x12, .f32⟩
  | .hbm, ⟨13, _⟩ => ⟨S_, .f32⟩
  | .hbm, ⟨14, _⟩ => ⟨S16384x116, .f32⟩
  | .hbm, ⟨15, _⟩ => ⟨S16384x128, .f32⟩
  | .hbm, ⟨16, _⟩ => ⟨S16384x2304, .f32⟩
  | .hbm, ⟨17, _⟩ => ⟨S16384x768, .f32⟩
  | .hbm, ⟨18, _⟩ => ⟨S16384x256, .f32⟩
  | .hbm, ⟨19, _⟩ => ⟨S1x1024, .f32⟩
  | .hbm, ⟨20, _⟩ => ⟨S16384x1024, .f32⟩
  | .hbm, ⟨21, _⟩ => ⟨S1024x3456, .f32⟩
  | .hbm, ⟨22, _⟩ => ⟨S1x1024, .f32⟩
  | .hbm, ⟨23, _⟩ => ⟨S1024x3072, .f32⟩
  | .hbm, ⟨24, _⟩ => ⟨S1024x12, .f32⟩
  | .hbm, ⟨25, _⟩ => ⟨S1024x256, .f32⟩
  | .hbm, ⟨26, _⟩ => ⟨S1024x3340, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3456, .bf16⟩
  | .local _ .vmem, ⟨4, _⟩ => ⟨S512x2304, .f32⟩
  | .local _ .vmem, ⟨5, _⟩ => ⟨S512x2304, .f32⟩
  | .local _ .vmem, ⟨6, _⟩ => ⟨S512x768, .f32⟩
  | .local _ .vmem, ⟨7, _⟩ => ⟨S512x768, .f32⟩
  | .local _ .vmem, ⟨8, _⟩ => ⟨S512x256, .f32⟩
  | .local _ .vmem, ⟨9, _⟩ => ⟨S512x256, .f32⟩
  | .local _ .vmem, ⟨10, _⟩ => ⟨S512x128, .f32⟩
  | .local _ .vmem, ⟨11, _⟩ => ⟨S512x128, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1024x3456, .f32⟩
  | .local _ .vmem, ⟨17, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x3456 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== In1RefIdeal.lean ====
abbrev S16384x1024 : Shape := ⟨2, ![16384, 1024]⟩
abbrev S1024 : Shape := ⟨1, ![1024]⟩
abbrev S1024x3340 : Shape := ⟨2, ![1024, 3340]⟩
abbrev S16384x3340 : Shape := ⟨2, ![16384, 3340]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S3340x1024 : Shape := ⟨2, ![3340, 1024]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3340, .f32⟩
  | .hbm, ⟨3, _⟩ => ⟨S16384x3340, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x3340, .f32⟩
  | .hbm, ⟨26, _⟩ => ⟨S3340x1024, .f32⟩
  | .hbm, ⟨27, _⟩ => ⟨S1024x3340, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== In0.lean ====
abbrev S16384x1024 : Shape := ⟨2, ![16384, 1024]⟩
abbrev S1024 : Shape := ⟨1, ![1024]⟩
abbrev S1024x3592 : Shape := ⟨2, ![1024, 3592]⟩
abbrev S16384x3592 : Shape := ⟨2, ![16384, 3592]⟩
abbrev S1024x2048 : Shape := ⟨2, ![1024, 2048]⟩
abbrev S1024x1024 : Shape := ⟨2, ![1024, 1024]⟩
abbrev S1024x512 : Shape := ⟨2, ![1024, 512]⟩
abbrev S1024x8 : Shape := ⟨2, ![1024, 8]⟩
abbrev S_ : Shape := ⟨0, ![]⟩
abbrev S1024x120 : Shape := ⟨2, ![1024, 120]⟩
abbrev S1024x3712 : Shape := ⟨2, ![1024, 3712]⟩
abbrev S16384x512 : Shape := ⟨2, ![16384, 512]⟩
abbrev S16384x8 : Shape := ⟨2, ![16384, 8]⟩
abbrev S16384x120 : Shape := ⟨2, ![16384, 120]⟩
abbrev S16384x128 : Shape := ⟨2, ![16384, 128]⟩
abbrev S1x1024 : Shape := ⟨2, ![1, 1024]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1024x128 : Shape := ⟨2, ![1024, 128]⟩

abbrev nBuf : Space → Nat
  | .hbm => 32
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3592, .f32⟩
  | .hbm, ⟨3, _⟩ => ⟨S16384x3592, .f32⟩
  | .hbm, ⟨4, _⟩ => ⟨S16384x1024, .f32⟩
  | .hbm, ⟨5, _⟩ => ⟨S1024x3592, .bf16⟩
  | .hbm, ⟨6, _⟩ => ⟨S1024x2048, .bf16⟩
  | .hbm, ⟨7, _⟩ => ⟨S1024x1024, .bf16⟩
  | .hbm, ⟨8, _⟩ => ⟨S1024x512, .bf16⟩
  | .hbm, ⟨9, _⟩ => ⟨S1024x8, .bf16⟩
  | .hbm, ⟨10, _⟩ => ⟨S_, .bf16⟩
  | .hbm, ⟨11, _⟩ => ⟨S1024x120, .bf16⟩
  | .hbm, ⟨12, _⟩ => ⟨S1024x3712, .bf16⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S16384x8, .f32⟩
  | .hbm, ⟨18, _⟩ => ⟨S_, .f32⟩
  | .hbm, ⟨19, _⟩ => ⟨S16384x120, .f32⟩
  | .hbm, ⟨20, _⟩ => ⟨S16384x128, .f32⟩
  | .hbm, ⟨21, _⟩ => ⟨S16384x1024, .f32⟩
  | .hbm, ⟨22, _⟩ => ⟨S16384x512, .f32⟩
  | .hbm, ⟨23, _⟩ => ⟨S1x1024, .f32⟩
  | .hbm, ⟨24, _⟩ => ⟨S16384x1024, .f32⟩
  | .hbm, ⟨25, _⟩ => ⟨S1024x3712, .f32⟩
  | .hbm, ⟨26, _⟩ => ⟨S1x1024, .f32⟩
  | .hbm, ⟨27, _⟩ => ⟨S1024x2048, .f32⟩
  | .hbm, ⟨28, _⟩ => ⟨S1024x512, .f32⟩
  | .hbm, ⟨29, _⟩ => ⟨S1024x1024, .f32⟩
  | .hbm, ⟨30, _⟩ => ⟨S1024x8, .f32⟩
  | .hbm, ⟨31, _⟩ => ⟨S1024x3592, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3712, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x1024, .f32⟩
  | .local _ .vmem, ⟨13, _⟩ => ⟨S512x1024, .f32⟩
  | .local _ .vmem, ⟨14, _⟩ => ⟨S512x512, .f32⟩
  | .local _ .vmem, ⟨15, _⟩ => ⟨S512x512, .f32⟩
  | .local _ .vmem, ⟨16, _⟩ => ⟨S512x128, .f32⟩
  | .local _ .vmem, ⟨17, _⟩ => ⟨S512x128, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S1024x3712, .f32⟩
  | .local _ .vmem, ⟨23, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev main_v17_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x3712 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== In0RefIdeal.lean ====
abbrev S16384x1024 : Shape := ⟨2, ![16384, 1024]⟩
abbrev S1024 : Shape := ⟨1, ![1024]⟩
abbrev S1024x3592 : Shape := ⟨2, ![1024, 3592]⟩
abbrev S16384x3592 : Shape := ⟨2, ![16384, 3592]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S3592x1024 : Shape := ⟨2, ![3592, 1024]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3592, .f32⟩
  | .hbm, ⟨3, _⟩ => ⟨S16384x3592, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x3592, .f32⟩
  | .hbm, ⟨26, _⟩ => ⟨S3592x1024, .f32⟩
  | .hbm, ⟨27, _⟩ => ⟨S1024x3592, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Prep.lean ====
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S1x1024 : Shape := ⟨2, ![1, 1024]⟩
abbrev S256x1024 : Shape := ⟨2, ![256, 1024]⟩
abbrev S_ : Shape := ⟨0, ![]⟩
abbrev S128 : Shape := ⟨1, ![128]⟩
abbrev S1x128 : Shape := ⟨2, ![1, 128]⟩
abbrev S16x1024 : Shape := ⟨2, ![16, 1024]⟩
abbrev S128x1024 : Shape := ⟨2, ![128, 1024]⟩
abbrev S16x16x1x1024 : Shape := ⟨4, ![16, 16, 1, 1024]⟩
abbrev S1024 : Shape := ⟨1, ![1024]⟩
abbrev S1x16 : Shape := ⟨2, ![1, 16]⟩

abbrev nBuf : Space → Nat
  | .hbm => 44
  | .vmem => 20
  | .smem => 0
  | _ => 0

abbrev bufTy : (tb : Table) → Fin (tcTables nBuf tb) → BufTy
  | .hbm, ⟨0, _⟩ => ⟨S16x64, .f32⟩
  | .hbm, ⟨1, _⟩ => ⟨S16x64, .f32⟩
  | .hbm, ⟨2, _⟩ => ⟨S16, .f32⟩
  | .hbm, ⟨3, _⟩ => ⟨S16x64x16, .f32⟩
  | .hbm, ⟨4, _⟩ => ⟨S16x64x16, .f32⟩
  | .hbm, ⟨5, _⟩ => ⟨S16x16x64, .f32⟩
  | .hbm, ⟨6, _⟩ => ⟨S16x16x64, .f32⟩
  | .hbm, ⟨7, _⟩ => ⟨S1x1024, .f32⟩
  | .hbm, ⟨8, _⟩ => ⟨S1x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S1x1024, .f32⟩
  | .hbm, ⟨14, _⟩ => ⟨S1x1024, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S16x16x64, .f32⟩
  | .hbm, ⟨20, _⟩ => ⟨S16x1024, .f32⟩
  | .hbm, ⟨21, _⟩ => ⟨S16x16x64, .f32⟩
  | .hbm, ⟨22, _⟩ => ⟨S16x1024, .f32⟩
  | .hbm, ⟨23, _⟩ => ⟨S16x16x64, .f32⟩
  | .hbm, ⟨24, _⟩ => ⟨S16x1024, .f32⟩
  | .hbm, ⟨25, _⟩ => ⟨S16x16x64, .f32⟩
  | .hbm, ⟨26, _⟩ => ⟨S16x1024, .f32⟩
  | .hbm, ⟨27, _⟩ => ⟨S1x1024, .f32⟩
  | .hbm, ⟨28, _⟩ => ⟨S1x1024, .f32⟩
  | .hbm, ⟨29, _⟩ => ⟨S1x128, .f32⟩
  | .hbm, ⟨30, _⟩ => ⟨S16x1024, .f32⟩
  | .hbm, ⟨31, _⟩ => ⟨S16x1024, .f32⟩
  | .hbm, ⟨32, _⟩ => ⟨S16x1024, .f32⟩
  | .hbm, ⟨33, _⟩ => ⟨S16x1024, .f32⟩
  | .hbm, ⟨34, _⟩ => ⟨S1x16, .f32⟩
  | .hbm, ⟨35, _⟩ => ⟨S16, .f32⟩
  | .hbm, ⟨36, _⟩ => ⟨S16x16x64, .f32⟩
  | .hbm, ⟨37, _⟩ => ⟨S16x64x16, .f32⟩
  | .hbm, ⟨38, _⟩ => ⟨S16x16x64, .f32⟩
  | .hbm, ⟨39, _⟩ => ⟨S16x64x16, .f32⟩
  | .hbm, ⟨40, _⟩ => ⟨S16x16x64, .f32⟩
  | .hbm, ⟨41, _⟩ => ⟨S16x16x64, .f32⟩
  | .hbm, ⟨42, _⟩ => ⟨S16x16x64, .f32⟩
  | .hbm, ⟨43, _⟩ => ⟨S16x16x64, .f32⟩
  | .local _ .vmem, ⟨0, _⟩ => ⟨S1x1024, .f32⟩
  | .local _ .vmem, ⟨1, _⟩ => ⟨S1x1024, .f32⟩
  | .local _ .vmem, ⟨2, _⟩ => ⟨S1x128, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S1x1024, .f32⟩
  | .local _ .vmem, ⟨15, _⟩ => ⟨S1x128, .f32⟩
  | .local _ .vmem, ⟨16, _⟩ => ⟨S16x1024, .f32⟩
  | .local _ .vmem, ⟨17, _⟩ => ⟨S16x1024, .f32⟩
  | .local _ .vmem, ⟨18, _⟩ => ⟨S16x1024, .f32⟩
  | .local _ .vmem, ⟨19, _⟩ => ⟨S16x1024, .f32⟩
  | _, _ => ⟨S16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_call0_v0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12_0 : Ref sig .tc := ⟨.hbm, 27, rfl⟩
abbrev main_v12_1 : Ref sig .tc := ⟨.hbm, 28, rfl⟩
abbrev main_v12_2 : Ref sig .tc := ⟨.hbm, 29, rfl⟩
abbrev main_v12_3 : Ref sig .tc := ⟨.hbm, 30, rfl⟩
abbrev main_v12_4 : Ref sig .tc := ⟨.hbm, 31, rfl⟩
abbrev main_v12_5 : Ref sig .tc := ⟨.hbm, 32, rfl⟩
abbrev main_v12_6 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S16x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S16x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S16x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S16x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== PrepRefIdeal.lean ====
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S1x1024 : Shape := ⟨2, ![1, 1024]⟩
abbrev S256x1024 : Shape := ⟨2, ![256, 1024]⟩
abbrev S16x1 : Shape := ⟨2, ![16, 1]⟩
abbrev S_ : Shape := ⟨0, ![]⟩
abbrev S16x64x1 : Shape := ⟨3, ![16, 64, 1]⟩
abbrev S16x16 : Shape := ⟨2, ![16, 16]⟩
abbrev S16x1x16x1 : Shape := ⟨4, ![16, 1, 16, 1]⟩
abbrev S16x16x1x64 : Shape := ⟨4, ![16, 16, 1, 64]⟩
abbrev S16x16x16x64 : Shape := ⟨4, ![16, 16, 16, 64]⟩

abbrev nBuf : Space → Nat
  | .hbm => 226
  | .vmem => 0
  | .smem => 0
  | _ => 0

abbrev hbmTy0_0 (i : Nat) : BufTy := match i % 128 with
  | 0 => ⟨S16x64, .f32⟩
  | 1 => ⟨S16x64, .f32⟩
  | 2 => ⟨S16, .f32⟩
  | 3 => ⟨S16x64x16, .f32⟩
  | 4 => ⟨S16x64x16, .f32⟩
  | 5 => ⟨S16x16x64, .f32⟩
  | 6 => ⟨S16x16x64, .f32⟩
  | 7 => ⟨S1x1024, .f32⟩
  | 8 => ⟨S1x1024, .f32⟩
  | 9 => ⟨S256x1024, .f32⟩
  | 10 => ⟨S256x1024, .f32⟩
  | 11 => ⟨S256x1024, .f32⟩
  | 12 => ⟨S256x1024, .f32⟩
  | 13 => ⟨S16, .f32⟩
  | 14 => ⟨S16x1, .f32⟩
  | 15 => ⟨S16x64, .f32⟩
  | 16 => ⟨S16x64, .f32⟩
  | 17 => ⟨S16x64, .f32⟩
  | 18 => ⟨S16x64, .f32⟩
  | 19 => ⟨S16x64, .f32⟩
  | 20 => ⟨S16x64, .f32⟩
  | 21 => ⟨S16x64, .f32⟩
  | 22 => ⟨S16x64, .f32⟩
  | 23 => ⟨S16x64, .f32⟩
  | 24 => ⟨S16x64, .f32⟩
  | 25 => ⟨S16x64, .f32⟩
  | 26 => ⟨S16x64, .f32⟩
  | 27 => ⟨S16x64, .f32⟩
  | 28 => ⟨S16x64, .f32⟩
  | 29 => ⟨S_, .f32⟩
  | 30 => ⟨S16x64, .f32⟩
  | 31 => ⟨S16x64, .f32⟩
  | 32 => ⟨S16x64, .f32⟩
  | 33 => ⟨S16x64, .f32⟩
  | 34 => ⟨S16x64, .f32⟩
  | 35 => ⟨S16x64, .f32⟩
  | 36 => ⟨S16x64, .f32⟩
  | 37 => ⟨S_, .f32⟩
  | 38 => ⟨S16x64, .f32⟩
  | 39 => ⟨S16x64, .f32⟩
  | 40 => ⟨S16x64, .f32⟩
  | 41 => ⟨S16x64, .f32⟩
  | 42 => ⟨S16x64, .f32⟩
  | 43 => ⟨S16x64, .f32⟩
  | 44 => ⟨S16x64, .f32⟩
  | 45 => ⟨S_, .f32⟩
  | 46 => ⟨S16x64, .f32⟩
  | 47 => ⟨S16x64, .f32⟩
  | 48 => ⟨S16x64x1, .f32⟩
  | 49 => ⟨S16x64x1, .f32⟩
  | 50 => ⟨S16x64x16, .f32⟩
  | 51 => ⟨S16x64x16, .f32⟩
  | 52 => ⟨S16x64x16, .f32⟩
  | 53 => ⟨S16x64x16, .f32⟩
  | 54 => ⟨S16x64x16, .f32⟩
  | 55 => ⟨S16x64x16, .f32⟩
  | 56 => ⟨S16x64x16, .f32⟩
  | 57 => ⟨S16x64x16, .f32⟩
  | 58 => ⟨S16x64x16, .f32⟩
  | 59 => ⟨S16x64x16, .f32⟩
  | 60 => ⟨S16x16, .i32⟩
  | 61 => ⟨S16x16, .i32⟩
  | 62 => ⟨S_, .i32⟩
  | 63 => ⟨S16x16, .i32⟩
  | 64 => ⟨S16x16, .i32⟩
  | 65 => ⟨S16x16, .i1⟩
  | 66 => ⟨S16x16, .f32⟩
  | 67 => ⟨S1x1024, .f32⟩
  | 68 => ⟨S1x1024, .f32⟩
  | 69 => ⟨S16x16x64, .f32⟩
  | 70 => ⟨S16x1x16x1, .f32⟩
  | 71 => ⟨S16x16x1x64, .f32⟩
  | 72 => ⟨S16x16x16x64, .f32⟩
  | 73 => ⟨S16x16x16x64, .f32⟩
  | 74 => ⟨S16x16x16x64, .f32⟩
  | 75 => ⟨S256x1024, .f32⟩
  | 76 => ⟨S16x16x64, .f32⟩
  | 77 => ⟨S16x1x16x1, .f32⟩
  | 78 => ⟨S16x16x1x64, .f32⟩
  | 79 => ⟨S16x16x16x64, .f32⟩
  | 80 => ⟨S16x16x16x64, .f32⟩
  | 81 => ⟨S16x16x16x64, .f32⟩
  | 82 => ⟨S256x1024, .f32⟩
  | 83 => ⟨S16x1x16x1, .f32⟩
  | 84 => ⟨S16x16x1x64, .f32⟩
  | 85 => ⟨S16x16x16x64, .f32⟩
  | 86 => ⟨S16x16x16x64, .f32⟩
  | 87 => ⟨S16x16x16x64, .f32⟩
  | 88 => ⟨S256x1024, .f32⟩
  | 89 => ⟨S16x1x16x1, .f32⟩
  | 90 => ⟨S16x16x1x64, .f32⟩
  | 91 => ⟨S16x16x16x64, .f32⟩
  | 92 => ⟨S16x16x16x64, .f32⟩
  | 93 => ⟨S16x16x16x64, .f32⟩
  | 94 => ⟨S256x1024, .f32⟩
  | 95 => ⟨S16x16x16x64, .f32⟩
  | 96 => ⟨S16x16x16x64, .f32⟩
  | 97 => ⟨S16x16x16x64, .f32⟩
  | 98 => ⟨S_, .f32⟩
  | 99 => ⟨S16x16x64, .f32⟩
  | 100 => ⟨S16x16x1x64, .f32⟩
  | 101 => ⟨S_, .f32⟩
  | 102 => ⟨S16x16x64, .f32⟩
  | 103 => ⟨S16x16x16x64, .f32⟩
  | 104 => ⟨S16x16x16x64, .f32⟩
  | 105 => ⟨S16x16x16x64, .f32⟩
  | 106 => ⟨S_, .f32⟩
  | 107 => ⟨S16x16x64, .f32⟩
  | 108 => ⟨S16x16x1x64, .f32⟩
  | 109 => ⟨S_, .f32⟩
  | 110 => ⟨S16x16x64, .f32⟩
  | 111 => ⟨S16x16x16x64, .f32⟩
  | 112 => ⟨S16x16x16x64, .f32⟩
  | 113 => ⟨S16x16x16x64, .f32⟩
  | 114 => ⟨S_, .f32⟩
  | 115 => ⟨S16x16x64, .f32⟩
  | 116 => ⟨S16x16x1x64, .f32⟩
  | 117 => ⟨S_, .f32⟩
  | 118 => ⟨S16x16x64, .f32⟩
  | 119 => ⟨S16x64x16, .f32⟩
  | 120 => ⟨S16x16x16x64, .f32⟩
  | 121 => ⟨S16x16x16x64, .f32⟩
  | 122 => ⟨S16x16x16x64, .f32⟩
  | 123 => ⟨S_, .f32⟩
  | 124 => ⟨S16x16x64, .f32⟩
  | 125 => ⟨S16x16x1x64, .f32⟩
  | 126 => ⟨S_, .f32⟩
  | 127 => ⟨S16x16x64, .f32⟩
  | _ => ⟨S16x64, .f32⟩

abbrev hbmTy0_1 (i : Nat) : BufTy := match i % 128 with
  | 0 => ⟨S16x64x16, .f32⟩
  | 1 => ⟨S16x64, .f32⟩
  | 2 => ⟨S16x64, .f32⟩
  | 3 => ⟨S16x64x16, .f32⟩
  | 4 => ⟨S16x64x16, .f32⟩
  | 5 => ⟨S16x64x16, .f32⟩
  | 6 => ⟨S_, .f32⟩
  | 7 => ⟨S16x64, .f32⟩
  | 8 => ⟨S16x64x1, .f32⟩
  | 9 => ⟨S16x64x16, .f32⟩
  | 10 => ⟨S16x64x16, .f32⟩
  | 11 => ⟨S16x64x16, .f32⟩
  | 12 => ⟨S_, .f32⟩
  | 13 => ⟨S16x64, .f32⟩
  | 14 => ⟨S16x64x1, .f32⟩
  | 15 => ⟨S16x64x16, .f32⟩
  | 16 => ⟨S16x64x16, .f32⟩
  | 17 => ⟨S16x64x16, .f32⟩
  | 18 => ⟨S16x64x16, .f32⟩
  | 19 => ⟨S16x64x16, .f32⟩
  | 20 => ⟨S_, .f32⟩
  | 21 => ⟨S16x64, .f32⟩
  | 22 => ⟨S16x64x1, .f32⟩
  | 23 => ⟨S16x64x1, .f32⟩
  | 24 => ⟨S16x64x16, .f32⟩
  | 25 => ⟨S16x64x16, .f32⟩
  | 26 => ⟨S16x64x16, .f32⟩
  | 27 => ⟨S16x64x16, .f32⟩
  | 28 => ⟨S_, .f32⟩
  | 29 => ⟨S16x64, .f32⟩
  | 30 => ⟨S16x64x1, .f32⟩
  | 31 => ⟨S16x64x1, .f32⟩
  | 32 => ⟨S_, .f32⟩
  | 33 => ⟨S16x64, .f32⟩
  | 34 => ⟨S_, .f32⟩
  | 35 => ⟨S16x64, .f32⟩
  | 36 => ⟨S16x64, .f32⟩
  | 37 => ⟨S16x64, .f32⟩
  | 38 => ⟨S16x64, .f32⟩
  | 39 => ⟨S16x64, .f32⟩
  | 40 => ⟨S16x64, .f32⟩
  | 41 => ⟨S16x64, .f32⟩
  | 42 => ⟨S16x64, .f32⟩
  | 43 => ⟨S16x64, .f32⟩
  | 44 => ⟨S16x64, .f32⟩
  | 45 => ⟨S16x64, .f32⟩
  | 46 => ⟨S16x64, .f32⟩
  | 47 => ⟨S16x64, .f32⟩
  | 48 => ⟨S16x64, .f32⟩
  | 49 => ⟨S16x64, .f32⟩
  | 50 => ⟨S16x64, .f32⟩
  | 51 => ⟨S16x64, .f32⟩
  | 52 => ⟨S16x64, .f32⟩
  | 53 => ⟨S16x64, .f32⟩
  | 54 => ⟨S16x64, .f32⟩
  | 55 => ⟨S16x64, .f32⟩
  | 56 => ⟨S16x64, .f32⟩
  | 57 => ⟨S16x64, .f32⟩
  | 58 => ⟨S16x64, .f32⟩
  | 59 => ⟨S16x64, .f32⟩
  | 60 => ⟨S16x64, .f32⟩
  | 61 => ⟨S16x64, .f32⟩
  | 62 => ⟨S16x64, .f32⟩
  | 63 => ⟨S16x64, .f32⟩
  | 64 => ⟨S16x64, .f32⟩
  | 65 => ⟨S16x64, .f32⟩
  | 66 => ⟨S16x64, .f32⟩
  | 67 => ⟨S16x64, .f32⟩
  | 68 => ⟨S16x64, .f32⟩
  | 69 => ⟨S16x64, .f32⟩
  | 70 => ⟨S16x64, .f32⟩
  | 71 => ⟨S16x64, .f32⟩
  | 72 => ⟨S16x64, .f32⟩
  | 73 => ⟨S16x64, .f32⟩
  | 74 => ⟨S16x64, .f32⟩
  | 75 => ⟨S16x64, .f32⟩
  | 76 => ⟨S16x64, .f32⟩
  | 77 => ⟨S16x64, .f32⟩
  | 78 => ⟨S16x64, .f32⟩
  | 79 => ⟨S_, .f32⟩
  | 80 => ⟨S16, .f32⟩
  | 81 => ⟨S16x1, .f32⟩
  | 82 => ⟨S16x64, .f32⟩
  | 83 => ⟨S16x64, .f32⟩
  | 84 => ⟨S16x64, .f32⟩
  | 85 => ⟨S16x64, .f32⟩
  | 86 => ⟨S_, .f32⟩
  | 87 => ⟨S16, .f32⟩
  | 88 => ⟨S16x1, .f32⟩
  | 89 => ⟨S16x1, .f32⟩
  | 90 => ⟨S16x64, .f32⟩
  | 91 => ⟨S16x64, .f32⟩
  | 92 => ⟨S16x64, .f32⟩
  | 93 => ⟨S_, .f32⟩
  | 94 => ⟨S16, .f32⟩
  | 95 => ⟨S16, .f32⟩
  | 96 => ⟨S1x1024, .f32⟩
  | 97 => ⟨S1x1024, .f32⟩
  | _ => ⟨S16x64, .f32⟩

abbrev hbmTy (i : Nat) : BufTy := match i / 128 with
  | 0 => hbmTy0_0 i
  | 1 => hbmTy0_1 i
  | _ => ⟨S16x64, .f32⟩

abbrev bufTy : (tb : Table) → Fin (tcTables nBuf tb) → BufTy
  | .hbm, ⟨i, _⟩ => hbmTy i
  | _, _ => ⟨S16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_1 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_2 : Ref sig .tc := ⟨.hbm, 98, rfl⟩
abbrev main_v81 : Ref sig .tc := ⟨.hbm, 99, rfl⟩
abbrev main_v82 : Ref sig .tc := ⟨.hbm, 100, rfl⟩
abbrev main_cst_3 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_cst_4 : Ref sig .tc := ⟨.hbm, 106, rfl⟩
abbrev main_v87 : Ref sig .tc := ⟨.hbm, 107, rfl⟩
abbrev main_v88 : Ref sig .tc := ⟨.hbm, 108, rfl⟩
abbrev main_cst_5 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_cst_6 : Ref sig .tc := ⟨.hbm, 114, rfl⟩
abbrev main_v93 : Ref sig .tc := ⟨.hbm, 115, rfl⟩
abbrev main_v94 : Ref sig .tc := ⟨.hbm, 116, rfl⟩
abbrev main_cst_7 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_cst_8 : Ref sig .tc := ⟨.hbm, 123, rfl⟩
abbrev main_v100 : Ref sig .tc := ⟨.hbm, 124, rfl⟩
abbrev main_v101 : Ref sig .tc := ⟨.hbm, 125, rfl⟩
abbrev main_cst_9 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_cst_10 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_cst_11 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_cst_12 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_cst_13 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_cst_14 : Ref sig .tc := ⟨.hbm, 160, rfl⟩
abbrev main_v131 : Ref sig .tc := ⟨.hbm, 161, rfl⟩
abbrev main_cst_15 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_cst_16 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_cst_17 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_cst_18 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩

abbrev nD : Nat := 1
abbrev τ : Topo := Topo.v7x

variable {F : FTy → Type} [FloatOps F]
-- ==== PrepFwd.lean ====
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S1x1024 : Shape := ⟨2, ![1, 1024]⟩
abbrev S_ : Shape := ⟨0, ![]⟩
abbrev S128 : Shape := ⟨1, ![128]⟩
abbrev S1x128 : Shape := ⟨2, ![1, 128]⟩
abbrev S16x1024 : Shape := ⟨2, ![16, 1024]⟩
abbrev S256x1024 : Shape := ⟨2, ![256, 1024]⟩
abbrev S128x1024 : Shape := ⟨2, ![128, 1024]⟩

abbrev nBuf : Space → Nat
  | .hbm => 27
  | .vmem => 13
  | .smem => 0
  | _ => 0

abbrev bufTy : (tb : Table) → Fin (tcTables nBuf tb) → BufTy
  | .hbm, ⟨0, _⟩ => ⟨S16x64, .f32⟩
  | .hbm, ⟨1, _⟩ => ⟨S16x64, .f32⟩
  | .hbm, ⟨2, _⟩ => ⟨S16, .f32⟩
  | .hbm, ⟨3, _⟩ => ⟨S16x64x16, .f32⟩
  | .hbm, ⟨4, _⟩ => ⟨S16x64x16, .f32⟩
  | .hbm, ⟨5, _⟩ => ⟨S16x16x64, .f32⟩
  | .hbm, ⟨6, _⟩ => ⟨S16x16x64, .f32⟩
  | .hbm, ⟨7, _⟩ => ⟨S1x1024, .f32⟩
  | .hbm, ⟨8, _⟩ => ⟨S1x1024, .f32⟩
  | .hbm, ⟨9, _⟩ => ⟨S_, .i32⟩
  | .hbm, ⟨10, _⟩ => ⟨S_, .f32⟩
  | .hbm, ⟨11, _⟩ => ⟨S128, .f32⟩
  | .hbm, ⟨12, _⟩ => ⟨S1x128, .f32⟩
  | .hbm, ⟨13, _⟩ => ⟨S16x16x64, .f32⟩
  | .hbm, ⟨14, _⟩ => ⟨S16x1024, .f32⟩
  | .hbm, ⟨15, _⟩ => ⟨S16x16x64, .f32⟩
  | .hbm, ⟨16, _⟩ => ⟨S16x1024, .f32⟩
  | .hbm, ⟨17, _⟩ => ⟨S16x16x64, .f32⟩
  | .hbm, ⟨18, _⟩ => ⟨S16x1024, .f32⟩
  | .hbm, ⟨19, _⟩ => ⟨S16x16x64, .f32⟩
  | .hbm, ⟨20, _⟩ => ⟨S16x1024, .f32⟩
  | .hbm, ⟨21, _⟩ => ⟨S1x1024, .f32⟩
  | .hbm, ⟨22, _⟩ => ⟨S1x1024, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S256x1024, .f32⟩
  | .local _ .vmem, ⟨0, _⟩ => ⟨S1x1024, .f32⟩
  | .local _ .vmem, ⟨1, _⟩ => ⟨S1x1024, .f32⟩
  | .local _ .vmem, ⟨2, _⟩ => ⟨S1x128, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev main_v12_4 : Ref sig .tc := ⟨.hbm, 25, rfl⟩
abbrev main_v12_5 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== PrepFwdRefIdeal.lean ====
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S16x1 : Shape := ⟨2, ![16, 1]⟩
abbrev S_ : Shape := ⟨0, ![]⟩
abbrev S16x64x1 : Shape := ⟨3, ![16, 64, 1]⟩
abbrev S16x16 : Shape := ⟨2, ![16, 16]⟩
abbrev S1x1024 : Shape := ⟨2, ![1, 1024]⟩
abbrev S16x1x16x1 : Shape := ⟨4, ![16, 1, 16, 1]⟩
abbrev S16x16x1x64 : Shape := ⟨4, ![16, 16, 1, 64]⟩
abbrev S16x16x16x64 : Shape := ⟨4, ![16, 16, 16, 64]⟩
abbrev S256x1024 : Shape := ⟨2, ![256, 1024]⟩

abbrev nBuf : Space → Nat
  | .hbm => 79
  | .vmem => 0
  | .smem => 0
  | _ => 0

abbrev bufTy : (tb : Table) → Fin (tcTables nBuf tb) → BufTy
  | .hbm, ⟨0, _⟩ => ⟨S16x64, .f32⟩
  | .hbm, ⟨1, _⟩ => ⟨S16x64, .f32⟩
  | .hbm, ⟨2, _⟩ => ⟨S16, .f32⟩
  | .hbm, ⟨3, _⟩ => ⟨S16x64x16, .f32⟩
  | .hbm, ⟨4, _⟩ => ⟨S16x64x16, .f32⟩
  | .hbm, ⟨5, _⟩ => ⟨S16x16x64, .f32⟩
  | .hbm, ⟨6, _⟩ => ⟨S16x16x64, .f32⟩
  | .hbm, ⟨7, _⟩ => ⟨S16, .f32⟩
  | .hbm, ⟨8, _⟩ => ⟨S16x1, .f32⟩
  | .hbm, ⟨9, _⟩ => ⟨S16x64, .f32⟩
  | .hbm, ⟨10, _⟩ => ⟨S16x64, .f32⟩
  | .hbm, ⟨11, _⟩ => ⟨S16x64, .f32⟩
  | .hbm, ⟨12, _⟩ => ⟨S16x64, .f32⟩
  | .hbm, ⟨13, _⟩ => ⟨S16x64, .f32⟩
  | .hbm, ⟨14, _⟩ => ⟨S16x64, .f32⟩
  | .hbm, ⟨15, _⟩ => ⟨S16x64, .f32⟩
  | .hbm, ⟨16, _⟩ => ⟨S16x64, .f32⟩
  | .hbm, ⟨17, _⟩ => ⟨S16x64, .f32⟩
  | .hbm, ⟨18, _⟩ => ⟨S16x64, .f32⟩
  | .hbm, ⟨19, _⟩ => ⟨S16x64, .f32⟩
  | .hbm, ⟨20, _⟩ => ⟨S16x64, .f32⟩
  | .hbm, ⟨21, _⟩ => ⟨S_, .f32⟩
  | .hbm, ⟨22, _⟩ => ⟨S16x64, .f32⟩
  | .hbm, ⟨23, _⟩ => ⟨S16x64, .f32⟩
  | .hbm, ⟨24, _⟩ => ⟨S16x64, .f32⟩
  | .hbm, ⟨25, _⟩ => ⟨S16x64, .f32⟩
  | .hbm, ⟨26, _⟩ => ⟨S16x64, .f32⟩
  | .hbm, ⟨27, _⟩ => ⟨S16x64, .f32⟩
  | .hbm, ⟨28, _⟩ => ⟨S16x64, .f32⟩
  | .hbm, ⟨29, _⟩ => ⟨S16x64, .f32⟩
  | .hbm, ⟨30, _⟩ => ⟨S16x64, .f32⟩
  | .hbm, ⟨31, _⟩ => ⟨S16x64, .f32⟩
  | .hbm, ⟨32, _⟩ => ⟨S16x64x1, .f32⟩
  | .hbm, ⟨33, _⟩ => ⟨S16x64x1, .f32⟩
  | .hbm, ⟨34, _⟩ => ⟨S16x64x16, .f32⟩
  | .hbm, ⟨35, _⟩ => ⟨S16x64x16, .f32⟩
  | .hbm, ⟨36, _⟩ => ⟨S16x64x16, .f32⟩
  | .hbm, ⟨37, _⟩ => ⟨S16x64x16, .f32⟩
  | .hbm, ⟨38, _⟩ => ⟨S16x64x16, .f32⟩
  | .hbm, ⟨39, _⟩ => ⟨S16x64x16, .f32⟩
  | .hbm, ⟨40, _⟩ => ⟨S16x64x16, .f32⟩
  | .hbm, ⟨41, _⟩ => ⟨S16x64x16, .f32⟩
  | .hbm, ⟨42, _⟩ => ⟨S16x64x16, .f32⟩
  | .hbm, ⟨43, _⟩ => ⟨S16x64x16, .f32⟩
  | .hbm, ⟨44, _⟩ => ⟨S16x16, .i32⟩
  | .hbm, ⟨45, _⟩ => ⟨S16x16, .i32⟩
  | .hbm, ⟨46, _⟩ => ⟨S_, .i32⟩
  | .hbm, ⟨47, _⟩ => ⟨S16x16, .i32⟩
  | .hbm, ⟨48, _⟩ => ⟨S16x16, .i32⟩
  | .hbm, ⟨49, _⟩ => ⟨S16x16, .i1⟩
  | .hbm, ⟨50, _⟩ => ⟨S16x16, .f32⟩
  | .hbm, ⟨51, _⟩ => ⟨S1x1024, .f32⟩
  | .hbm, ⟨52, _⟩ => ⟨S1x1024, .f32⟩
  | .hbm, ⟨53, _⟩ => ⟨S16x16x64, .f32⟩
  | .hbm, ⟨54, _⟩ => ⟨S16x1x16x1, .f32⟩
  | .hbm, ⟨55, _⟩ => ⟨S16x16x1x64, .f32⟩
  | .hbm, ⟨56, _⟩ => ⟨S16x16x16x64, .f32⟩
  | .hbm, ⟨57, _⟩ => ⟨S16x16x16x64, .f32⟩
  | .hbm, ⟨58, _⟩ => ⟨S16x16x16x64, .f32⟩
  | .hbm, ⟨59, _⟩ => ⟨S256x1024, .f32⟩
  | .hbm, ⟨60, _⟩ => ⟨S16x16x64, .f32⟩
  | .hbm, ⟨61, _⟩ => ⟨S16x1x16x1, .f32⟩
  | .hbm, ⟨62, _⟩ => ⟨S16x16x1x64, .f32⟩
  | .hbm, ⟨63, _⟩ => ⟨S16x16x16x64, .f32⟩
  | .hbm, ⟨64, _⟩ => ⟨S16x16x16x64, .f32⟩
  | .hbm, ⟨65, _⟩ => ⟨S16x16x16x64, .f32⟩
  | .hbm, ⟨66, _⟩ => ⟨S256x1024, .f32⟩
  | .hbm, ⟨67, _⟩ => ⟨S16x1x16x1, .f32⟩
  | .hbm, ⟨68, _⟩ => ⟨S16x16x1x64, .f32⟩
  | .hbm, ⟨69, _⟩ => ⟨S16x16x16x64, .f32⟩
  | .hbm, ⟨70, _⟩ => ⟨S16x16x16x64, .f32⟩
  | .hbm, ⟨71, _⟩ => ⟨S16x16x16x64, .f32⟩
  | .hbm, ⟨72, _⟩ => ⟨S256x1024, .f32⟩
  | .hbm, ⟨73, _⟩ => ⟨S16x1x16x1, .f32⟩
  | .hbm, ⟨74, _⟩ => ⟨S16x16x1x64, .f32⟩
  | .hbm, ⟨75, _⟩ => ⟨S16x16x16x64, .f32⟩
  | .hbm, ⟨76, _⟩ => ⟨S16x16x16x64, .f32⟩
  | .hbm, ⟨77, _⟩ => ⟨S16x16x16x64, .f32⟩
  | .hbm, ⟨78, _⟩ => ⟨S256x1024, .f32⟩
  | _, _ => ⟨S16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_c : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩

abbrev nD : Nat := 1
abbrev τ : Topo := Topo.v7x

variable {F : FTy → Type} [FloatOps F]
-- ==== In0Fwd.lean ====
abbrev S16384x1024 : Shape := ⟨2, ![16384, 1024]⟩
abbrev S1024 : Shape := ⟨1, ![1024]⟩
abbrev S1024x3592 : Shape := ⟨2, ![1024, 3592]⟩
abbrev S1024x2048 : Shape := ⟨2, ![1024, 2048]⟩
abbrev S1024x1024 : Shape := ⟨2, ![1024, 1024]⟩
abbrev S1024x512 : Shape := ⟨2, ![1024, 512]⟩
abbrev S1024x8 : Shape := ⟨2, ![1024, 8]⟩
abbrev S_ : Shape := ⟨0, ![]⟩
abbrev S1024x120 : Shape := ⟨2, ![1024, 120]⟩
abbrev S1024x3712 : Shape := ⟨2, ![1024, 3712]⟩
abbrev S1x1024 : Shape := ⟨2, ![1, 1024]⟩
abbrev S16384x3712 : Shape := ⟨2, ![16384, 3712]⟩
abbrev S512x1024 : Shape := ⟨2, ![512, 1024]⟩
abbrev S512x3712 : Shape := ⟨2, ![512, 3712]⟩
abbrev S512 : Shape := ⟨1, ![512]⟩
abbrev S512x1 : Shape := ⟨2, ![512, 1]⟩
abbrev S16384x2048 : Shape := ⟨2, ![16384, 2048]⟩
abbrev S16384x512 : Shape := ⟨2, ![16384, 512]⟩
abbrev S16384x8 : Shape := ⟨2, ![16384, 8]⟩
abbrev S16384x3592 : Shape := ⟨2, ![16384, 3592]⟩

abbrev nBuf : Space → Nat
  | .hbm => 18
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3592, .f32⟩
  | .hbm, ⟨3, _⟩ => ⟨S1024x3592, .bf16⟩
  | .hbm, ⟨4, _⟩ => ⟨S1024x2048, .bf16⟩
  | .hbm, ⟨5, _⟩ => ⟨S1024x1024, .bf16⟩
  | .hbm, ⟨6, _⟩ => ⟨S1024x512, .bf16⟩
  | .hbm, ⟨7, _⟩ => ⟨S1024x8, .bf16⟩
  | .hbm, ⟨8, _⟩ => ⟨S_, .bf16⟩
  | .hbm, ⟨9, _⟩ => ⟨S1024x120, .bf16⟩
  | .hbm, ⟨10, _⟩ => ⟨S1024x3712, .bf16⟩
  | .hbm, ⟨11, _⟩ => ⟨S1x1024, .f32⟩
  | .hbm, ⟨12, _⟩ => ⟨S16384x3712, .f32⟩
  | .hbm, ⟨13, _⟩ => ⟨S16384x2048, .f32⟩
  | .hbm, ⟨14, _⟩ => ⟨S16384x512, .f32⟩
  | .hbm, ⟨15, _⟩ => ⟨S16384x1024, .f32⟩
  | .hbm, ⟨16, _⟩ => ⟨S16384x8, .f32⟩
  | .hbm, ⟨17, _⟩ => ⟨S16384x3592, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3712, .bf16⟩
  | .local _ .vmem, ⟨4, _⟩ => ⟨S512x3712, .f32⟩
  | .local _ .vmem, ⟨5, _⟩ => ⟨S512x3712, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3712 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== In0FwdRefIdeal.lean ====
abbrev S16384x1024 : Shape := ⟨2, ![16384, 1024]⟩
abbrev S1024 : Shape := ⟨1, ![1024]⟩
abbrev S1024x3592 : Shape := ⟨2, ![1024, 3592]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3592 : Shape := ⟨2, ![16384, 3592]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3592, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x3592, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== In1Fwd.lean ====
abbrev S16384x1024 : Shape := ⟨2, ![16384, 1024]⟩
abbrev S1024 : Shape := ⟨1, ![1024]⟩
abbrev S1024x3340 : Shape := ⟨2, ![1024, 3340]⟩
abbrev S1024x3072 : Shape := ⟨2, ![1024, 3072]⟩
abbrev S1024x256 : Shape := ⟨2, ![1024, 256]⟩
abbrev S1024x12 : Shape := ⟨2, ![1024, 12]⟩
abbrev S_ : Shape := ⟨0, ![]⟩
abbrev S1024x116 : Shape := ⟨2, ![1024, 116]⟩
abbrev S1024x3456 : Shape := ⟨2, ![1024, 3456]⟩
abbrev S1x1024 : Shape := ⟨2, ![1, 1024]⟩
abbrev S16384x3456 : Shape := ⟨2, ![16384, 3456]⟩
abbrev S512x1024 : Shape := ⟨2, ![512, 1024]⟩
abbrev S512x3456 : Shape := ⟨2, ![512, 3456]⟩
abbrev S512 : Shape := ⟨1, ![512]⟩
abbrev S512x1 : Shape := ⟨2, ![512, 1]⟩
abbrev S16384x3072 : Shape := ⟨2, ![16384, 3072]⟩
abbrev S16384x12 : Shape := ⟨2, ![16384, 12]⟩
abbrev S16384x256 : Shape := ⟨2, ![16384, 256]⟩
abbrev S16384x3340 : Shape := ⟨2, ![16384, 3340]⟩

abbrev nBuf : Space → Nat
  | .hbm => 16
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3340, .f32⟩
  | .hbm, ⟨3, _⟩ => ⟨S1024x3340, .bf16⟩
  | .hbm, ⟨4, _⟩ => ⟨S1024x3072, .bf16⟩
  | .hbm, ⟨5, _⟩ => ⟨S1024x256, .bf16⟩
  | .hbm, ⟨6, _⟩ => ⟨S1024x12, .bf16⟩
  | .hbm, ⟨7, _⟩ => ⟨S_, .bf16⟩
  | .hbm, ⟨8, _⟩ => ⟨S1024x116, .bf16⟩
  | .hbm, ⟨9, _⟩ => ⟨S1024x3456, .bf16⟩
  | .hbm, ⟨10, _⟩ => ⟨S1x1024, .f32⟩
  | .hbm, ⟨11, _⟩ => ⟨S16384x3456, .f32⟩
  | .hbm, ⟨12, _⟩ => ⟨S16384x3072, .f32⟩
  | .hbm, ⟨13, _⟩ => ⟨S16384x12, .f32⟩
  | .hbm, ⟨14, _⟩ => ⟨S16384x256, .f32⟩
  | .hbm, ⟨15, _⟩ => ⟨S16384x3340, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3456, .bf16⟩
  | .local _ .vmem, ⟨4, _⟩ => ⟨S512x3456, .f32⟩
  | .local _ .vmem, ⟨5, _⟩ => ⟨S512x3456, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3456 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== In1FwdRefIdeal.lean ====
abbrev S16384x1024 : Shape := ⟨2, ![16384, 1024]⟩
abbrev S1024 : Shape := ⟨1, ![1024]⟩
abbrev S1024x3340 : Shape := ⟨2, ![1024, 3340]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3340 : Shape := ⟨2, ![16384, 3340]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3340, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x3340, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== OutFwd.lean ====
abbrev S16384x1024 : Shape := ⟨2, ![16384, 1024]⟩
abbrev S16384x768 : Shape := ⟨2, ![16384, 768]⟩
abbrev S16384x256 : Shape := ⟨2, ![16384, 256]⟩
abbrev S1024x1024 : Shape := ⟨2, ![1024, 1024]⟩
abbrev S512x1024 : Shape := ⟨2, ![512, 1024]⟩
abbrev S512x768 : Shape := ⟨2, ![512, 768]⟩
abbrev S512x256 : Shape := ⟨2, ![512, 256]⟩
abbrev S768x1024 : Shape := ⟨2, ![768, 1024]⟩
abbrev S256x1024 : Shape := ⟨2, ![256, 1024]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x768, .f32⟩
  | .hbm, ⟨2, _⟩ => ⟨S16384x256, .f32⟩
  | .hbm, ⟨3, _⟩ => ⟨S1024x1024, .f32⟩
  | .hbm, ⟨4, _⟩ => ⟨S1024x1024, .bf16⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x768, .f32⟩
  | .local _ .vmem, ⟨3, _⟩ => ⟨S512x768, .f32⟩
  | .local _ .vmem, ⟨4, _⟩ => ⟨S512x256, .f32⟩
  | .local _ .vmem, ⟨5, _⟩ => ⟨S512x256, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutFwdRefIdeal.lean ====
abbrev S16384x1024 : Shape := ⟨2, ![16384, 1024]⟩
abbrev S16384x768 : Shape := ⟨2, ![16384, 768]⟩
abbrev S16384x256 : Shape := ⟨2, ![16384, 256]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x768, .f32⟩
  | .hbm, ⟨2, _⟩ => ⟨S16384x256, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Out.lean ====
abbrev S16384x768 : Shape := ⟨2, ![16384, 768]⟩
abbrev S16384x256 : Shape := ⟨2, ![16384, 256]⟩
abbrev S1024x1024 : Shape := ⟨2, ![1024, 1024]⟩
abbrev S16384x1024 : Shape := ⟨2, ![16384, 1024]⟩
abbrev S512x1024 : Shape := ⟨2, ![512, 1024]⟩
abbrev S512x768 : Shape := ⟨2, ![512, 768]⟩
abbrev S512x256 : Shape := ⟨2, ![512, 256]⟩
abbrev S768x1024 : Shape := ⟨2, ![768, 1024]⟩
abbrev S256x1024 : Shape := ⟨2, ![256, 1024]⟩

abbrev nBuf : Space → Nat
  | .hbm => 8
  | .vmem => 12
  | .smem => 0
  | _ => 0

abbrev bufTy : (tb : Table) → Fin (tcTables nBuf tb) → BufTy
  | .hbm, ⟨0, _⟩ => ⟨S16384x768, .f32⟩
  | .hbm, ⟨1, _⟩ => ⟨S16384x256, .f32⟩
  | .hbm, ⟨2, _⟩ => ⟨S1024x1024, .f32⟩
  | .hbm, ⟨3, _⟩ => ⟨S16384x1024, .f32⟩
  | .hbm, ⟨4, _⟩ => ⟨S1024x1024, .bf16⟩
  | .hbm, ⟨5, _⟩ => ⟨S16384x768, .f32⟩
  | .hbm, ⟨6, _⟩ => ⟨S16384x256, .f32⟩
  | .hbm, ⟨7, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x768, .f32⟩
  | .local _ .vmem, ⟨3, _⟩ => ⟨S512x768, .f32⟩
  | .local _ .vmem, ⟨4, _⟩ => ⟨S512x256, .f32⟩
  | .local _ .vmem, ⟨5, _⟩ => ⟨S512x256, .f32⟩
  | .local _ .vmem, ⟨6, _⟩ => ⟨S1024x1024, .bf16⟩
  | .local _ .vmem, ⟨7, _⟩ => ⟨S512x768, .f32⟩
  | .local _ .vmem, ⟨8, _⟩ => ⟨S512x768, .f32⟩
  | .local _ .vmem, ⟨9, _⟩ => ⟨S512x256, .f32⟩
  | .local _ .vmem, ⟨10, _⟩ => ⟨S512x256, .f32⟩
  | .local _ .vmem, ⟨11, _⟩ => ⟨S1024x1024, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== OutRefIdeal.lean ====
abbrev S16384x768 : Shape := ⟨2, ![16384, 768]⟩
abbrev S16384x256 : Shape := ⟨2, ![16384, 256]⟩
abbrev S1024x1024 : Shape := ⟨2, ![1024, 1024]⟩
abbrev S16384x1024 : Shape := ⟨2, ![16384, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S16384x256, .f32⟩
  | .hbm, ⟨2, _⟩ => ⟨S1024x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S1024x1024, .f32⟩
  | .hbm, ⟨8, _⟩ => ⟨S16384x1024, .f32⟩
  | .hbm, ⟨9, _⟩ => ⟨S16384x768, .f32⟩
  | .hbm, ⟨10, _⟩ => ⟨S16384x256, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Adam.lean ====
abbrev S8x1024x512 : Shape := ⟨3, ![8, 1024, 512]⟩
abbrev S1024x512 : Shape := ⟨2, ![1024, 512]⟩
abbrev S8x512x512 : Shape := ⟨3, ![8, 512, 512]⟩
abbrev S512x512 : Shape := ⟨2, ![512, 512]⟩
abbrev S1x512x512 : Shape := ⟨3, ![1, 512, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S8x512x512, .f32⟩
  | .local _ .vmem, ⟨1, _⟩ => ⟨S8x512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRefIdeal.lean ====
abbrev S8x1024x512 : Shape := ⟨3, ![8, 1024, 512]⟩
abbrev S1024x512 : Shape := ⟨2, ![1024, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S_, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S_, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S1024x512, .f32⟩
  | .hbm, ⟨36, _⟩ => ⟨S_, .f32⟩
  | .hbm, ⟨37, _⟩ => ⟨S1024x512, .f32⟩
  | .hbm, ⟨38, _⟩ => ⟨S1024x512, .f32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== LossSum.lean ====
abbrev S1 : Shape := ⟨1, ![1]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | _, _ => ⟨S1, .f32⟩

abbrev bufScoped : (cs : CoreSpace) → Fin (nBuf (.core cs)) → Bool
  | _, _ => false

abbrev semScoped : Fin 1 → Bool
  | ⟨0, _⟩ => false
  | _ => false

abbrev dmaSemScoped : Fin 2 → Bool
  | ⟨0, _⟩ => false
  | ⟨1, _⟩ => false
  | _ => false

abbrev sig : RefSig :=
  ofTc nBuf bufTy 1 2 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev main_v2_s0 : Ref sig .tc := ⟨.hbm, 3, rfl⟩
abbrev main_v2_s1 : Ref sig .tc := ⟨.hbm, 4, rfl⟩
abbrev main_v2_s2 : Ref sig .tc := ⟨.hbm, 5, rfl⟩
abbrev main_v2_s3 : Ref sig .tc := ⟨.hbm, 6, rfl⟩
abbrev main_v2_s4 : Ref sig .tc := ⟨.hbm, 7, rfl⟩
abbrev main_v2_s5 : Ref sig .tc := ⟨.hbm, 8, rfl⟩
abbrev main_v2_s6 : Ref sig .tc := ⟨.hbm, 9, rfl⟩
abbrev main_v2_s7 : Ref sig .tc := ⟨.hbm, 10, rfl⟩
abbrev ar0_recv : DmaSem sig := 0
abbrev ar0_send : DmaSem sig := 1
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v2_s0 | 1 => main_v2_s1 | 2 => main_v2_s2 | 3 => main_v2_s3 | 4 => main_v2_s4 | 5 => main_v2_s5 | 6 => main_v2_s6 | 7 => main_v2_s7 | ⟨_ + 8, h⟩ => absurd h (Nat.not_lt.2 (Nat.le_add_left _ _))
-- ==== LossSumRefIdeal.lean ====
abbrev S8 : Shape := ⟨1, ![8]⟩
abbrev S_ : Shape := ⟨0, ![]⟩

abbrev nBuf : Space → Nat
  | .hbm => 3
  | .vmem => 0
  | .smem => 0
  | _ => 0

abbrev bufTy : (tb : Table) → Fin (tcTables nBuf tb) → BufTy
  | .hbm, ⟨0, _⟩ => ⟨S8, .f32⟩
  | .hbm, ⟨1, _⟩ => ⟨S_, .f32⟩
  | .hbm, ⟨2, _⟩ => ⟨S_, .f32⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== RetFwd.lean ====
abbrev S16384x3592 : Shape := ⟨2, ![16384, 3592]⟩
abbrev S16384x2048 : Shape := ⟨2, ![16384, 2048]⟩
abbrev S16384x1024 : Shape := ⟨2, ![16384, 1024]⟩
abbrev S16384x512 : Shape := ⟨2, ![16384, 512]⟩
abbrev S16384x8 : Shape := ⟨2, ![16384, 8]⟩
abbrev S_ : Shape := ⟨0, ![]⟩
abbrev S16384x120 : Shape := ⟨2, ![16384, 120]⟩
abbrev S16384x3712 : Shape := ⟨2, ![16384, 3712]⟩
abbrev S64 : Shape := ⟨1, ![64]⟩
abbrev S16384 : Shape := ⟨1, ![16384]⟩
abbrev S16384x1 : Shape := ⟨2, ![16384, 1]⟩
abbrev S1x64 : Shape := ⟨2, ![1, 64]⟩
abbrev S16384x64 : Shape := ⟨2, ![16384, 64]⟩
abbrev S16384x128 : Shape := ⟨2, ![16384, 128]⟩
abbrev S256x512x128 : Shape := ⟨3, ![256, 512, 128]⟩
abbrev S512x512 : Shape := ⟨2, ![512, 512]⟩
abbrev S512x128 : Shape := ⟨2, ![512, 128]⟩
abbrev S8x512x128 : Shape := ⟨3, ![8, 512, 128]⟩
abbrev S64x512 : Shape := ⟨2, ![64, 512]⟩
abbrev S64x128 : Shape := ⟨2, ![64, 128]⟩
abbrev S1x512x128 : Shape := ⟨3, ![1, 512, 128]⟩
abbrev S64x1 : Shape := ⟨2, ![64, 1]⟩
abbrev S64x64 : Shape := ⟨2, ![64, 64]⟩
abbrev S128x128 : Shape := ⟨2, ![128, 128]⟩

abbrev nBuf : Space → Nat
  | .hbm => 29
  | .vmem => 17
  | .smem => 0
  | _ => 0

abbrev bufTy : (tb : Table) → Fin (tcTables nBuf tb) → BufTy
  | .hbm, ⟨0, _⟩ => ⟨S16384x3592, .f32⟩
  | .hbm, ⟨1, _⟩ => ⟨S16384x2048, .f32⟩
  | .hbm, ⟨2, _⟩ => ⟨S16384x1024, .f32⟩
  | .hbm, ⟨3, _⟩ => ⟨S16384x512, .f32⟩
  | .hbm, ⟨4, _⟩ => ⟨S16384x8, .f32⟩
  | .hbm, ⟨5, _⟩ => ⟨S_, .f32⟩
  | .hbm, ⟨6, _⟩ => ⟨S16384x120, .f32⟩
  | .hbm, ⟨7, _⟩ => ⟨S16384x3712, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S16384, .f32⟩
  | .hbm, ⟨17, _⟩ => ⟨S16384x1, .f32⟩
  | .hbm, ⟨18, _⟩ => ⟨S1x64, .f32⟩
  | .hbm, ⟨19, _⟩ => ⟨S16384x64, .f32⟩
  | .hbm, ⟨20, _⟩ => ⟨S16384x64, .f32⟩
  | .hbm, ⟨21, _⟩ => ⟨S16384x64, .f32⟩
  | .hbm, ⟨22, _⟩ => ⟨S16384x64, .f32⟩
  | .hbm, ⟨23, _⟩ => ⟨S16384x64, .f32⟩
  | .hbm, ⟨24, _⟩ => ⟨S16384x128, .f32⟩
  | .hbm, ⟨25, _⟩ => ⟨S16384x64, .f32⟩
  | .hbm, ⟨26, _⟩ => ⟨S16384x128, .f32⟩
  | .hbm, ⟨27, _⟩ => ⟨S16384x512, .f32⟩
  | .hbm, ⟨28, _⟩ => ⟨S256x512x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x512, .f32⟩
  | .local _ .vmem, ⟨13, _⟩ => ⟨S512x512, .f32⟩
  | .local _ .vmem, ⟨14, _⟩ => ⟨S8x512x128, .f32⟩
  | .local _ .vmem, ⟨15, _⟩ => ⟨S8x512x128, .f32⟩
  | .local _ .vmem, ⟨16, _⟩ => ⟨S512x128, .f32⟩
  | _, _ => ⟨S16384x3592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23_0 : Ref sig .tc := ⟨.hbm, 27, rfl⟩
abbrev main_v23_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GdnFwd.lean ====
abbrev S16384x3340 : Shape := ⟨2, ![16384, 3340]⟩
abbrev S4x2304 : Shape := ⟨2, ![4, 2304]⟩
abbrev S6 : Shape := ⟨1, ![6]⟩
abbrev S128 : Shape := ⟨1, ![128]⟩
abbrev S16384x3072 : Shape := ⟨2, ![16384, 3072]⟩
abbrev S16384x256 : Shape := ⟨2, ![16384, 256]⟩
abbrev S16384x12 : Shape := ⟨2, ![16384, 12]⟩
abbrev S_ : Shape := ⟨0, ![]⟩
abbrev S16384x116 : Shape := ⟨2, ![16384, 116]⟩
abbrev S16384x3456 : Shape := ⟨2, ![16384, 3456]⟩
abbrev S1x128 : Shape := ⟨2, ![1, 128]⟩
abbrev S16384x768 : Shape := ⟨2, ![16384, 768]⟩
abbrev S256x768x128 : Shape := ⟨3, ![256, 768, 128]⟩
abbrev S256x6x64x64 : Shape := ⟨4, ![256, 6, 64, 64]⟩
abbrev S8x2304 : Shape := ⟨2, ![8, 2304]⟩
abbrev S256x2304 : Shape := ⟨2, ![256, 2304]⟩
abbrev S256x768 : Shape := ⟨2, ![256, 768]⟩
abbrev S256x128 : Shape := ⟨2, ![256, 128]⟩
abbrev S4x768x128 : Shape := ⟨3, ![4, 768, 128]⟩
abbrev S4x6x64x64 : Shape := ⟨4, ![4, 6, 64, 64]⟩
abbrev S768x128 : Shape := ⟨2, ![768, 128]⟩
abbrev S64x2304 : Shape := ⟨2, ![64, 2304]⟩
abbrev S72x2304 : Shape := ⟨2, ![72, 2304]⟩
abbrev S64x768 : Shape := ⟨2, ![64, 768]⟩
abbrev S64x128 : Shape := ⟨2, ![64, 128]⟩
abbrev S1x768x128 : Shape := ⟨3, ![1, 768, 128]⟩
abbrev S1x2304 : Shape := ⟨2, ![1, 2304]⟩
abbrev S64x64 : Shape := ⟨2, ![64, 64]⟩
abbrev S128x64 : Shape := ⟨2, ![128, 64]⟩
abbrev S64 : Shape := ⟨1, ![64]⟩
abbrev S64x1 : Shape := ⟨2, ![64, 1]⟩
abbrev S1x64 : Shape := ⟨2, ![1, 64]⟩
abbrev S1x1 : Shape := ⟨2, ![1, 1]⟩
abbrev S128x128 : Shape := ⟨2, ![128, 128]⟩
abbrev S1x1x64x64 : Shape := ⟨4, ![1, 1, 64, 64]⟩

abbrev nBuf : Space → Nat
  | .hbm => 23
  | .vmem => 19
  | .smem => 0
  | _ => 0

abbrev bufTy : (tb : Table) → Fin (tcTables nBuf tb) → BufTy
  | .hbm, ⟨0, _⟩ => ⟨S16384x3340, .f32⟩
  | .hbm, ⟨1, _⟩ => ⟨S4x2304, .f32⟩
  | .hbm, ⟨2, _⟩ => ⟨S6, .f32⟩
  | .hbm, ⟨3, _⟩ => ⟨S6, .f32⟩
  | .hbm, ⟨4, _⟩ => ⟨S128, .f32⟩
  | .hbm, ⟨5, _⟩ => ⟨S16384x3072, .f32⟩
  | .hbm, ⟨6, _⟩ => ⟨S16384x256, .f32⟩
  | .hbm, ⟨7, _⟩ => ⟨S16384x12, .f32⟩
  | .hbm, ⟨8, _⟩ => ⟨S_, .f32⟩
  | .hbm, ⟨9, _⟩ => ⟨S16384x116, .f32⟩
  | .hbm, ⟨10, _⟩ => ⟨S16384x3456, .f32⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S1x128, .f32⟩
  | .hbm, ⟨20, _⟩ => ⟨S16384x768, .f32⟩
  | .hbm, ⟨21, _⟩ => ⟨S256x768x128, .f32⟩
  | .hbm, ⟨22, _⟩ => ⟨S256x6x64x64, .f32⟩
  | .local _ .vmem, ⟨0, _⟩ => ⟨S8x2304, .f32⟩
  | .local _ .vmem, ⟨1, _⟩ => ⟨S8x2304, .f32⟩
  | .local _ .vmem, ⟨2, _⟩ => ⟨S256x2304, .f32⟩
  | .local _ .vmem, ⟨3, _⟩ => ⟨S256x2304, .f32⟩
  | .local _ .vmem, ⟨4, _⟩ => ⟨S256x768, .f32⟩
  | .local _ .vmem, ⟨5, _⟩ => ⟨S256x768, .f32⟩
  | .local _ .vmem, ⟨6, _⟩ => ⟨S256x128, .f32⟩
  | .local _ .vmem, ⟨7, _⟩ => ⟨S256x128, .f32⟩
  | .local _ .vmem, ⟨8, _⟩ => ⟨S4x2304, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S256x768, .f32⟩
  | .local _ .vmem, ⟨13, _⟩ => ⟨S256x768, .f32⟩
  | .local _ .vmem, ⟨14, _⟩ => ⟨S4x768x128, .f32⟩
  | .local _ .vmem, ⟨15, _⟩ => ⟨S4x768x128, .f32⟩
  | .local _ .vmem, ⟨16, _⟩ => ⟨S4x6x64x64, .f32⟩
  | .local _ .vmem, ⟨17, _⟩ => ⟨S4x6x64x64, .f32⟩
  | .local _ .vmem, ⟨18, _⟩ => ⟨S768x128, .f32⟩
  | _, _ => ⟨S16384x3340, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c26_i32 : BitVec 32 := 26#32
  let c0_i32 : BitVec 32 := 0#32
  ![arg0.toNat, c26_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x768x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x6x64x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== SsdFwd.lean ====
abbrev S16384x3592 : Shape := ⟨2, ![16384, 3592]⟩
abbrev S4x1024 : Shape := ⟨2, ![4, 1024]⟩
abbrev S1024 : Shape := ⟨1, ![1024]⟩
abbrev S8 : Shape := ⟨1, ![8]⟩
abbrev S512 : Shape := ⟨1, ![512]⟩
abbrev S16384x2048 : Shape := ⟨2, ![16384, 2048]⟩
abbrev S16384x1024 : Shape := ⟨2, ![16384, 1024]⟩
abbrev S16384x512 : Shape := ⟨2, ![16384, 512]⟩
abbrev S16384x8 : Shape := ⟨2, ![16384, 8]⟩
abbrev S_ : Shape := ⟨0, ![]⟩
abbrev S16384x120 : Shape := ⟨2, ![16384, 120]⟩
abbrev S16384x3712 : Shape := ⟨2, ![16384, 3712]⟩
abbrev S1x1024 : Shape := ⟨2, ![1, 1024]⟩
abbrev S128 : Shape := ⟨1, ![128]⟩
abbrev S1x128 : Shape := ⟨2, ![1, 128]⟩
abbrev S1x512 : Shape := ⟨2, ![1, 512]⟩
abbrev S256x512x128 : Shape := ⟨3, ![256, 512, 128]⟩
abbrev S512x512 : Shape := ⟨2, ![512, 512]⟩
abbrev S8x1024 : Shape := ⟨2, ![8, 1024]⟩
abbrev S512x1024 : Shape := ⟨2, ![512, 1024]⟩
abbrev S512x128 : Shape := ⟨2, ![512, 128]⟩
abbrev S8x512x128 : Shape := ⟨3, ![8, 512, 128]⟩
abbrev S64x512 : Shape := ⟨2, ![64, 512]⟩
abbrev S64x1024 : Shape := ⟨2, ![64, 1024]⟩
abbrev S72x1024 : Shape := ⟨2, ![72, 1024]⟩
abbrev S64x128 : Shape := ⟨2, ![64, 128]⟩
abbrev S1x512x128 : Shape := ⟨3, ![1, 512, 128]⟩
abbrev S64x256 : Shape := ⟨2, ![64, 256]⟩
abbrev S128x512 : Shape := ⟨2, ![128, 512]⟩
abbrev S64x64 : Shape := ⟨2, ![64, 64]⟩
abbrev S128x64 : Shape := ⟨2, ![128, 64]⟩
abbrev S128x1 : Shape := ⟨2, ![128, 1]⟩
abbrev S128x128 : Shape := ⟨2, ![128, 128]⟩
abbrev S64x1 : Shape := ⟨2, ![64, 1]⟩
abbrev S1x64 : Shape := ⟨2, ![1, 64]⟩
abbrev S1x1 : Shape := ⟨2, ![1, 1]⟩
abbrev S64 : Shape := ⟨1, ![64]⟩

abbrev nBuf : Space → Nat
  | .hbm => 30
  | .vmem => 19
  | .smem => 0
  | _ => 0

abbrev bufTy : (tb : Table) → Fin (tcTables nBuf tb) → BufTy
  | .hbm, ⟨0, _⟩ => ⟨S16384x3592, .f32⟩
  | .hbm, ⟨1, _⟩ => ⟨S4x1024, .f32⟩
  | .hbm, ⟨2, _⟩ => ⟨S1024, .f32⟩
  | .hbm, ⟨3, _⟩ => ⟨S8, .f32⟩
  | .hbm, ⟨4, _⟩ => ⟨S8, .f32⟩
  | .hbm, ⟨5, _⟩ => ⟨S8, .f32⟩
  | .hbm, ⟨6, _⟩ => ⟨S512, .f32⟩
  | .hbm, ⟨7, _⟩ => ⟨S16384x2048, .f32⟩
  | .hbm, ⟨8, _⟩ => ⟨S16384x1024, .f32⟩
  | .hbm, ⟨9, _⟩ => ⟨S16384x512, .f32⟩
  | .hbm, ⟨10, _⟩ => ⟨S16384x8, .f32⟩
  | .hbm, ⟨11, _⟩ => ⟨S_, .f32⟩
  | .hbm, ⟨12, _⟩ => ⟨S16384x120, .f32⟩
  | .hbm, ⟨13, _⟩ => ⟨S16384x3712, .f32⟩
  | .hbm, ⟨14, _⟩ => ⟨S1x1024, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S_, .i32⟩
  | .hbm, ⟨24, _⟩ => ⟨S_, .f32⟩
  | .hbm, ⟨25, _⟩ => ⟨S128, .f32⟩
  | .hbm, ⟨26, _⟩ => ⟨S1x128, .f32⟩
  | .hbm, ⟨27, _⟩ => ⟨S1x512, .f32⟩
  | .hbm, ⟨28, _⟩ => ⟨S16384x512, .f32⟩
  | .hbm, ⟨29, _⟩ => ⟨S256x512x128, .f32⟩
  | .local _ .vmem, ⟨0, _⟩ => ⟨S512x512, .f32⟩
  | .local _ .vmem, ⟨1, _⟩ => ⟨S512x512, .f32⟩
  | .local _ .vmem, ⟨2, _⟩ => ⟨S8x1024, .f32⟩
  | .local _ .vmem, ⟨3, _⟩ => ⟨S8x1024, .f32⟩
  | .local _ .vmem, ⟨4, _⟩ => ⟨S512x1024, .f32⟩
  | .local _ .vmem, ⟨5, _⟩ => ⟨S512x1024, .f32⟩
  | .local _ .vmem, ⟨6, _⟩ => ⟨S512x128, .f32⟩
  | .local _ .vmem, ⟨7, _⟩ => ⟨S512x128, .f32⟩
  | .local _ .vmem, ⟨8, _⟩ => ⟨S4x1024, .f32⟩
  | .local _ .vmem, ⟨9, _⟩ => ⟨S1x1024, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x512, .f32⟩
  | .local _ .vmem, ⟨14, _⟩ => ⟨S512x512, .f32⟩
  | .local _ .vmem, ⟨15, _⟩ => ⟨S512x512, .f32⟩
  | .local _ .vmem, ⟨16, _⟩ => ⟨S8x512x128, .f32⟩
  | .local _ .vmem, ⟨17, _⟩ => ⟨S8x512x128, .f32⟩
  | .local _ .vmem, ⟨18, _⟩ => ⟨S512x128, .f32⟩
  | _, _ => ⟨S16384x3592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_call2_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c28_i32 : BitVec 32 := 28#32
  let c0_i32 : BitVec 32 := 0#32
  ![arg0.toNat, c28_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== S5Fwd.lean ====
abbrev S16384x256 : Shape := ⟨2, ![16384, 256]⟩
abbrev S16x64 : Shape := ⟨2, ![16, 64]⟩
abbrev S16x16x64 : Shape := ⟨3, ![16, 16, 64]⟩
abbrev S256 : Shape := ⟨1, ![256]⟩
abbrev S256x256 : Shape := ⟨2, ![256, 256]⟩
abbrev S_ : Shape := ⟨0, ![]⟩
abbrev S16384x3072 : Shape := ⟨2, ![16384, 3072]⟩
abbrev S16384x128 : Shape := ⟨2, ![16384, 128]⟩
abbrev S16384x3456 : Shape := ⟨2, ![16384, 3456]⟩
abbrev S1x1024 : Shape := ⟨2, ![1, 1024]⟩
abbrev S16x16 : Shape := ⟨2, ![16, 16]⟩
abbrev S16x1x16x1 : Shape := ⟨4, ![16, 1, 16, 1]⟩
abbrev S1x16x16x64 : Shape := ⟨4, ![1, 16, 16, 64]⟩
abbrev S16x16x16x64 : Shape := ⟨4, ![16, 16, 16, 64]⟩
abbrev S256x1024 : Shape := ⟨2, ![256, 1024]⟩
abbrev S1x256 : Shape := ⟨2, ![1, 256]⟩
abbrev S16384x1024 : Shape := ⟨2, ![16384, 1024]⟩
abbrev S512x256 : Shape := ⟨2, ![512, 256]⟩
abbrev S512x1024 : Shape := ⟨2, ![512, 1024]⟩
abbrev S8x1024 : Shape := ⟨2, ![8, 1024]⟩
abbrev S64x1024 : Shape := ⟨2, ![64, 1024]⟩
abbrev S512x512 : Shape := ⟨2, ![512, 512]⟩

abbrev nBuf : Space → Nat
  | .hbm => 78
  | .vmem => 23
  | .smem => 0
  | _ => 0

abbrev bufTy : (tb : Table) → Fin (tcTables nBuf tb) → BufTy
  | .hbm, ⟨0, _⟩ => ⟨S16384x256, .f32⟩
  | .hbm, ⟨1, _⟩ => ⟨S16x64, .f32⟩
  | .hbm, ⟨2, _⟩ => ⟨S16x64, .f32⟩
  | .hbm, ⟨3, _⟩ => ⟨S16x16x64, .f32⟩
  | .hbm, ⟨4, _⟩ => ⟨S16x16x64, .f32⟩
  | .hbm, ⟨5, _⟩ => ⟨S16x16x64, .f32⟩
  | .hbm, ⟨6, _⟩ => ⟨S16x16x64, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S_, .f32⟩
  | .hbm, ⟨11, _⟩ => ⟨S16384x3072, .f32⟩
  | .hbm, ⟨12, _⟩ => ⟨S_, .f32⟩
  | .hbm, ⟨13, _⟩ => ⟨S16384x128, .f32⟩
  | .hbm, ⟨14, _⟩ => ⟨S16384x3456, .f32⟩
  | .hbm, ⟨15, _⟩ => ⟨S1x1024, .f32⟩
  | .hbm, ⟨16, _⟩ => ⟨S1x1024, .f32⟩
  | .hbm, ⟨17, _⟩ => ⟨S16x16, .i32⟩
  | .hbm, ⟨18, _⟩ => ⟨S16x16, .i32⟩
  | .hbm, ⟨19, _⟩ => ⟨S_, .i32⟩
  | .hbm, ⟨20, _⟩ => ⟨S16x16, .i32⟩
  | .hbm, ⟨21, _⟩ => ⟨S16x16, .i32⟩
  | .hbm, ⟨22, _⟩ => ⟨S16x16, .i1⟩
  | .hbm, ⟨23, _⟩ => ⟨S16x16, .f32⟩
  | .hbm, ⟨24, _⟩ => ⟨S16x1x16x1, .f32⟩
  | .hbm, ⟨25, _⟩ => ⟨S16x16x64, .f32⟩
  | .hbm, ⟨26, _⟩ => ⟨S1x16x16x64, .f32⟩
  | .hbm, ⟨27, _⟩ => ⟨S16x16x16x64, .f32⟩
  | .hbm, ⟨28, _⟩ => ⟨S16x16x16x64, .f32⟩
  | .hbm, ⟨29, _⟩ => ⟨S16x16x16x64, .f32⟩
  | .hbm, ⟨30, _⟩ => ⟨S256x1024, .f32⟩
  | .hbm, ⟨31, _⟩ => ⟨S16x16, .i32⟩
  | .hbm, ⟨32, _⟩ => ⟨S16x16, .i32⟩
  | .hbm, ⟨33, _⟩ => ⟨S_, .i32⟩
  | .hbm, ⟨34, _⟩ => ⟨S16x16, .i32⟩
  | .hbm, ⟨35, _⟩ => ⟨S16x16, .i32⟩
  | .hbm, ⟨36, _⟩ => ⟨S16x16, .i1⟩
  | .hbm, ⟨37, _⟩ => ⟨S16x16, .f32⟩
  | .hbm, ⟨38, _⟩ => ⟨S16x1x16x1, .f32⟩
  | .hbm, ⟨39, _⟩ => ⟨S16x16x64, .f32⟩
  | .hbm, ⟨40, _⟩ => ⟨S1x16x16x64, .f32⟩
  | .hbm, ⟨41, _⟩ => ⟨S16x16x16x64, .f32⟩
  | .hbm, ⟨42, _⟩ => ⟨S16x16x16x64, .f32⟩
  | .hbm, ⟨43, _⟩ => ⟨S16x16x16x64, .f32⟩
  | .hbm, ⟨44, _⟩ => ⟨S256x1024, .f32⟩
  | .hbm, ⟨45, _⟩ => ⟨S16x16, .i32⟩
  | .hbm, ⟨46, _⟩ => ⟨S16x16, .i32⟩
  | .hbm, ⟨47, _⟩ => ⟨S_, .i32⟩
  | .hbm, ⟨48, _⟩ => ⟨S16x16, .i32⟩
  | .hbm, ⟨49, _⟩ => ⟨S16x16, .i32⟩
  | .hbm, ⟨50, _⟩ => ⟨S16x16, .i1⟩
  | .hbm, ⟨51, _⟩ => ⟨S16x16, .f32⟩
  | .hbm, ⟨52, _⟩ => ⟨S16x1x16x1, .f32⟩
  | .hbm, ⟨53, _⟩ => ⟨S16x16x64, .f32⟩
  | .hbm, ⟨54, _⟩ => ⟨S1x16x16x64, .f32⟩
  | .hbm, ⟨55, _⟩ => ⟨S16x16x16x64, .f32⟩
  | .hbm, ⟨56, _⟩ => ⟨S16x16x16x64, .f32⟩
  | .hbm, ⟨57, _⟩ => ⟨S16x16x16x64, .f32⟩
  | .hbm, ⟨58, _⟩ => ⟨S256x1024, .f32⟩
  | .hbm, ⟨59, _⟩ => ⟨S16x16, .i32⟩
  | .hbm, ⟨60, _⟩ => ⟨S16x16, .i32⟩
  | .hbm, ⟨61, _⟩ => ⟨S_, .i32⟩
  | .hbm, ⟨62, _⟩ => ⟨S16x16, .i32⟩
  | .hbm, ⟨63, _⟩ => ⟨S16x16, .i32⟩
  | .hbm, ⟨64, _⟩ => ⟨S16x16, .i1⟩
  | .hbm, ⟨65, _⟩ => ⟨S16x16, .f32⟩
  | .hbm, ⟨66, _⟩ => ⟨S16x1x16x1, .f32⟩
  | .hbm, ⟨67, _⟩ => ⟨S16x16x64, .f32⟩
  | .hbm, ⟨68, _⟩ => ⟨S1x16x16x64, .f32⟩
  | .hbm, ⟨69, _⟩ => ⟨S16x16x16x64, .f32⟩
  | .hbm, ⟨70, _⟩ => ⟨S16x16x16x64, .f32⟩
  | .hbm, ⟨71, _⟩ => ⟨S16x16x16x64, .f32⟩
  | .hbm, ⟨72, _⟩ => ⟨S256x1024, .f32⟩
  | .hbm, ⟨73, _⟩ => ⟨S1x256, .f32⟩
  | .hbm, ⟨74, _⟩ => ⟨S1x256, .f32⟩
  | .hbm, ⟨75, _⟩ => ⟨S16384x256, .f32⟩
  | .hbm, ⟨76, _⟩ => ⟨S16384x1024, .f32⟩
  | .hbm, ⟨77, _⟩ => ⟨S16384x1024, .f32⟩
  | .local _ .vmem, ⟨0, _⟩ => ⟨S512x256, .f32⟩
  | .local _ .vmem, ⟨1, _⟩ => ⟨S512x256, .f32⟩
  | .local _ .vmem, ⟨2, _⟩ => ⟨S1x1024, .f32⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x256, .f32⟩
  | .local _ .vmem, ⟨9, _⟩ => ⟨S256x256, .f32⟩
  | .local _ .vmem, ⟨10, _⟩ => ⟨S1x256, .f32⟩
  | .local _ .vmem, ⟨11, _⟩ => ⟨S512x256, .f32⟩
  | .local _ .vmem, ⟨12, _⟩ => ⟨S512x256, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S8x1024, .f32⟩
  | .local _ .vmem, ⟨18, _⟩ => ⟨S8x1024, .f32⟩
  | .local _ .vmem, ⟨19, _⟩ => ⟨S64x1024, .f32⟩
  | .local _ .vmem, ⟨20, _⟩ => ⟨S64x1024, .f32⟩
  | .local _ .vmem, ⟨21, _⟩ => ⟨S8x1024, .f32⟩
  | .local _ .vmem, ⟨22, _⟩ => ⟨S8x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_2 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_3 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59_0 : Ref sig .tc := ⟨.hbm, 75, rfl⟩
abbrev main_v59_1 : Ref sig .tc := ⟨.hbm, 76, rfl⟩
abbrev main_v59_2 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== RetBwd.lean ====
abbrev S16384x3592 : Shape := ⟨2, ![16384, 3592]⟩
abbrev S256x512x128 : Shape := ⟨3, ![256, 512, 128]⟩
abbrev S16384x512 : Shape := ⟨2, ![16384, 512]⟩
abbrev S16384x2048 : Shape := ⟨2, ![16384, 2048]⟩
abbrev S16384x1024 : Shape := ⟨2, ![16384, 1024]⟩
abbrev S16384x8 : Shape := ⟨2, ![16384, 8]⟩
abbrev S_ : Shape := ⟨0, ![]⟩
abbrev S16384x120 : Shape := ⟨2, ![16384, 120]⟩
abbrev S16384x3712 : Shape := ⟨2, ![16384, 3712]⟩
abbrev S64 : Shape := ⟨1, ![64]⟩
abbrev S16384 : Shape := ⟨1, ![16384]⟩
abbrev S16384x1 : Shape := ⟨2, ![16384, 1]⟩
abbrev S1x64 : Shape := ⟨2, ![1, 64]⟩
abbrev S16384x64 : Shape := ⟨2, ![16384, 64]⟩
abbrev S16384x128 : Shape := ⟨2, ![16384, 128]⟩
abbrev S512x512 : Shape := ⟨2, ![512, 512]⟩
abbrev S512x128 : Shape := ⟨2, ![512, 128]⟩
abbrev S8x512x128 : Shape := ⟨3, ![8, 512, 128]⟩
abbrev S64x512 : Shape := ⟨2, ![64, 512]⟩
abbrev S64x128 : Shape := ⟨2, ![64, 128]⟩
abbrev S1x512x128 : Shape := ⟨3, ![1, 512, 128]⟩
abbrev S64x1 : Shape := ⟨2, ![64, 1]⟩
abbrev S64x64 : Shape := ⟨2, ![64, 64]⟩
abbrev S128x128 : Shape := ⟨2, ![128, 128]⟩
abbrev S64x384 : Shape := ⟨2, ![64, 384]⟩
abbrev S64x256 : Shape := ⟨2, ![64, 256]⟩
abbrev S384x128 : Shape := ⟨2, ![384, 128]⟩
abbrev S256x128 : Shape := ⟨2, ![256, 128]⟩

abbrev nBuf : Space → Nat
  | .hbm => 33
  | .vmem => 25
  | .smem => 0
  | _ => 0

abbrev bufTy : (tb : Table) → Fin (tcTables nBuf tb) → BufTy
  | .hbm, ⟨0, _⟩ => ⟨S16384x3592, .f32⟩
  | .hbm, ⟨1, _⟩ => ⟨S256x512x128, .f32⟩
  | .hbm, ⟨2, _⟩ => ⟨S16384x512, .f32⟩
  | .hbm, ⟨3, _⟩ => ⟨S16384x2048, .f32⟩
  | .hbm, ⟨4, _⟩ => ⟨S16384x1024, .f32⟩
  | .hbm, ⟨5, _⟩ => ⟨S16384x512, .f32⟩
  | .hbm, ⟨6, _⟩ => ⟨S16384x8, .f32⟩
  | .hbm, ⟨7, _⟩ => ⟨S_, .f32⟩
  | .hbm, ⟨8, _⟩ => ⟨S16384x120, .f32⟩
  | .hbm, ⟨9, _⟩ => ⟨S16384x3712, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S16384, .f32⟩
  | .hbm, ⟨19, _⟩ => ⟨S16384x1, .f32⟩
  | .hbm, ⟨20, _⟩ => ⟨S1x64, .f32⟩
  | .hbm, ⟨21, _⟩ => ⟨S16384x64, .f32⟩
  | .hbm, ⟨22, _⟩ => ⟨S16384x64, .f32⟩
  | .hbm, ⟨23, _⟩ => ⟨S16384x64, .f32⟩
  | .hbm, ⟨24, _⟩ => ⟨S16384x64, .f32⟩
  | .hbm, ⟨25, _⟩ => ⟨S16384x64, .f32⟩
  | .hbm, ⟨26, _⟩ => ⟨S16384x128, .f32⟩
  | .hbm, ⟨27, _⟩ => ⟨S16384x64, .f32⟩
  | .hbm, ⟨28, _⟩ => ⟨S16384x128, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S8x512x128, .f32⟩
  | .local _ .vmem, ⟨13, _⟩ => ⟨S8x512x128, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x128, .f32⟩
  | _, _ => ⟨S16384x3592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23_0 : Ref sig .tc := ⟨.hbm, 29, rfl⟩
abbrev main_v23_1 : Ref sig .tc := ⟨.hbm, 30, rfl⟩
abbrev main_v23_2 : Ref sig .tc := ⟨.hbm, 31, rfl⟩
abbrev main_v23_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c3_i32 : BitVec 32 := 3#32
  let c0_i32 : BitVec 32 := 0#32
  ![v0.toNat, c3_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Proof.Rows.lean ====
/- ONE ROW OF THE ROOT-MEAN-SQUARE NORM, over the extended reals: a row `x` of 1024 entries is divided by the root of its
   mean square (plus a small constant) and multiplied entrywise by a weight `w`. Here: the factor, the normalised row,
   and the gradient of a row in the form in which reverse-mode differentiation writes it. Every norm of the step that is
   claimed (forward or backward) is stated by these functions, a row at a time. -/
module

public import Idealize.ShloMosaic.Lib.Pointwise
public import Idealize.ShloMosaic.Lib.ValueIdx

@[expose] public section

noncomputable section

namespace Cert.Rows

open Idealize.ShloMosaic

/-- The row's length as the programs write it (the float word of 1024). -/
abbrev width : EReal := Ideal.ofBits .f32 1149239296#32
/-- The constant added to the mean square (the float word nearest to one millionth). -/
abbrev eps : EReal := Ideal.ofBits .f32 897988541#32
/-- Minus one half. -/
abbrev negHalf : EReal := Ideal.ofBits .f32 3204448256#32

/-- The mean square of a row plus the constant. -/
def meanSq (x : Fin 1024 → EReal) : EReal := Ideal.div (∑ j, x j * x j) width + eps

/-- The factor by which a row is normalised. -/
def factor (x : Fin 1024 → EReal) : EReal := Ideal.rsqrt (meanSq x)

/-- An entry of the normalised, weighted row. -/
def norm (x w : Fin 1024 → EReal) (j : Fin 1024) : EReal := x j * factor x * w j

/-- What the row's factor contributes to every entry's gradient, `u` being the cotangent times the weight: the derivative
    of the inverse root, spread over the mean. -/
def spread (x u : Fin 1024 → EReal) : EReal :=
  Ideal.div ((∑ j, x j * u j) * (negHalf * Ideal.div (factor x) (meanSq x))) width

/-- The gradient of a row: `u` is the cotangent times the weight. -/
def gradRow (x u : Fin 1024 → EReal) (j : Fin 1024) : EReal := u j * factor x + x j * spread x u + spread x u * x j

end Cert.Rows

end
-- ==== Proof.Loss.Rows.lean ====
/- THE LOSS OF ONE ROW: half the mean squared difference between the normalised row and its target, with its gradients
   by the row and by the weight. -/
module

public import proofs.«01_k».proof.Proof.Rows

@[expose] public section

noncomputable section

namespace Cert.Proof.Loss

open Idealize.ShloMosaic Cert.Rows

/-- The error of a row: the normalised row minus its target. -/
def err (x w t : Fin 1024 → EReal) (j : Fin 1024) : EReal := norm x w j - t j
/-- The mean squared error of a row. -/
def rowLoss (x w t : Fin 1024 → EReal) : EReal := Ideal.div (∑ j, err x w t j * err x w t j) width
/-- One half. -/
abbrev half : EReal := Ideal.ofBits .f32 1056964608#32
/-- One over the row's length. -/
abbrev invWidth : EReal := Ideal.ofBits .f32 981467136#32
/-- The cotangent of a row's normalised entries. -/
def ct (x w t : Fin 1024 → EReal) (j : Fin 1024) : EReal := err x w t j * invWidth
/-- The gradient of the row. -/
def rowGrad (x w t : Fin 1024 → EReal) : Fin 1024 → EReal := gradRow x fun j => ct x w t j * w j
/-- The row's contribution to the gradient of the weight. -/
def rowDw (x w t : Fin 1024 → EReal) (j : Fin 1024) : EReal := x j * factor x * ct x w t j

end Cert.Proof.Loss

end
-- ==== Proof.Loss.Kernel.lean ====
/- THE LOSS KERNEL'S THREE RESULTS. The grid walks the 16384 rows in 32 tiles of 512. A tile writes its rows' gradient
   (`final_dx`), and adds to two blocks that stay in place over the whole grid, zeroed at the first tile: the loss
   (`final_loss`) and the weight's gradient (`final_dw`), each a sum over the tiles of a sum over a tile's rows. -/
module

public import proofs.«01_k».proof.Proof.Gen.LossIdeal.Value
public import proofs.«01_k».proof.Proof.Loss.Rows
public import Idealize.ShloMosaic.Lib.Pipeline.ValueKit

@[expose] public section

noncomputable section

namespace Cert.Proof.Loss

open Cert.LossIdeal Cert.LossIdeal.Gen Idealize.ShloMosaic Idealize.ShloMosaic.TcCoe Idealize.SL.Sem Cert.Rows
  Idealize.ShloMosaic.Pipeline

section Payloads

variable (x : Vec Ideal S512x1024 .f32) (w : Vec Ideal S1x1024 .f32) (t : Vec Ideal S512x1024 .f32)

/-- A tile's stored gradient, at a row and a column. -/
theorem pay_dx (a : Fin 512) (b : Fin 1024) :
    k0_pay2 x (k0_pay6 w) (k0_pay8 x) (k0_pay9 x) (k0_pay11 x w t) (ix2 a b)
      = rowGrad (fun j => x (ix2 a j)) (fun j => w (ix2 0 j)) (fun j => t (ix2 a j)) b := by
  unfold k0_pay2 k0_pay11 k0_pay10 k0_pay9 k0_pay8 k0_pay6 k0_pay7 k0_pay1
  pointwise
  simp only [Finset.univ_unique, Finset.sum_singleton]
  rfl

/-- What a tile adds to the loss block. -/
theorem pay_loss (o : Vec Ideal S8x128 .f32) (i : S8x128.Idx) :
    k0_pay12 x w t o i
      = o i + half * ∑ a, rowLoss (fun j => x (ix2 a j)) (fun j => w (ix2 0 j)) (fun j => t (ix2 a j)) := by
  unfold k0_pay12 k0_pay11 k0_pay10 k0_pay8 k0_pay6 k0_pay7
  pointwise
  rfl

/-- What a tile adds to the weight's gradient. -/
theorem pay_dw (o : Vec Ideal S1x1024 .f32) (z : Fin 1) (b : Fin 1024) :
    k0_pay3 (k0_pay10 x) (k0_pay11 x w t) o (ix2 z b)
      = o (ix2 z b) + ∑ a, rowDw (fun j => x (ix2 a j)) (fun j => w (ix2 0 j)) (fun j => t (ix2 a j)) b := by
  unfold k0_pay3 k0_pay1 k0_pay11 k0_pay10 k0_pay8 k0_pay6 k0_pay7
  pointwise
  rfl

end Payloads

variable (m : (ℓ : Loc nD τ sig) → Buf (Elt Ideal) ℓ)

/-- A row of the input. -/
def X (c : Dev nD) (r : Fin 16384) : Fin 1024 → EReal := fun j => m ((c : Thread nD τ).loc main_arg0) (ix2 r j)
/-- The weight. -/
def W (c : Dev nD) : Fin 1024 → EReal := fun j => m ((c : Thread nD τ).loc main_arg1) (ix1 j)
/-- A row of the target. -/
def T (c : Dev nD) (r : Fin 16384) : Fin 1024 → EReal := fun j => m ((c : Thread nD τ).loc main_arg2) (ix3 0 r j)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)

/-- The row of the whole array that row `a` of tile `t` is. -/
def at_ (t : Fin cfg0.N) (a : Fin 512) : Fin 16384 :=
  ⟨t.val * 512 + a.val, by have : t.val < 32 := t.isLt; omega⟩

theorem blkX (c : Dev nD) (t : Fin cfg0.N) (a : Fin 512) (j : Fin 1024) :
    iblk m c 0 t (ix2 a j) = X m c (at_ t a) j := by
  unfold X at_
  blk_ext! [iblk, idx0 t, V_main_arg0]

theorem blkW (c : Dev nD) (t : Fin cfg0.N) (z : Fin 1) (j : Fin 1024) : iblk m c 1 t (ix2 z j) = W m c j := by
  unfold W
  blk_ext! [iblk, idx1 t]

theorem blkT (c : Dev nD) (t : Fin cfg0.N) (a : Fin 512) (j : Fin 1024) :
    iblk m c 2 t (ix2 a j) = T m c (at_ t a) j := by
  unfold T at_
  blk_ext! [iblk, idx2 t]

theorem zero_loss (i : S8x128.Idx) : k0_pay4 (F := Ideal) i = 0 := by unfold k0_pay4; pointwise

theorem zero_dw (i : S1x1024.Idx) : k0_pay5 (F := Ideal) i = 0 := by unfold k0_pay5; pointwise

/-- What tile `t` adds to the loss. -/
def tileLoss (c : Dev nD) (t : Fin cfg0.N) : EReal :=
  half * ∑ a, rowLoss (X m c (at_ t a)) (W m c) (T m c (at_ t a))
/-- What tile `t` adds to an entry of the weight's gradient. -/
def tileDw (c : Dev nD) (t : Fin cfg0.N) (b : Fin 1024) : EReal :=
  ∑ a, rowDw (X m c (at_ t a)) (W m c) (T m c (at_ t a)) b

theorem tile_dx (c : Dev nD) (t : Fin cfg0.N) (a : Fin 512) (b : Fin 1024) :
    k0_pay2 (iblk m c 0 t) (k0_pay6 (iblk m c 1 t)) (k0_pay8 (iblk m c 0 t)) (k0_pay9 (iblk m c 0 t))
        (k0_pay11 (iblk m c 0 t) (iblk m c 1 t) (iblk m c 2 t)) (ix2 a b)
      = rowGrad (X m c (at_ t a)) (W m c) (T m c (at_ t a)) b := by
  rw [pay_dx]
  simp only [blkX, blkW, blkT]

theorem tile_loss (c : Dev nD) (t : Fin cfg0.N) (o : Vec Ideal S8x128 .f32) (i : S8x128.Idx) :
    k0_pay12 (iblk m c 0 t) (iblk m c 1 t) (iblk m c 2 t) o i = o i + tileLoss m c t := by
  rw [pay_loss]
  simp only [blkX, blkW, blkT, tileLoss]

theorem tile_dw (c : Dev nD) (t : Fin cfg0.N) (o : Vec Ideal S1x1024 .f32) (i : S1x1024.Idx) :
    k0_pay3 (k0_pay10 (iblk m c 0 t)) (k0_pay11 (iblk m c 0 t) (iblk m c 1 t) (iblk m c 2 t)) o i
      = o i + tileDw m c t (i 1) := by
  obtain ⟨z, b, rfl⟩ : ∃ z b, i = ix2 z b := ⟨i 0, i 1, by funext a; fin_cases a <;> rfl⟩
  rw [pay_dw]
  simp only [blkX, blkW, blkT, tileDw]
  rfl

/-- The gradient of the input: every row's own. -/
theorem final_dx (c : Dev nD) : (dats m 0 c).arrAt 4 cfg0.N
    = fun i => rowGrad (X m c (i 0)) (W m c) (T m c (i 0)) (i 1) := by
  refine (dats m 0 c).arrAt_eq_of_covers 4 _ (by decide +kernel) fun t hf y => ?_
  obtain ⟨a, b, rfl⟩ : ∃ a b, y = ix2 a b := ⟨y 0, y 1, by funext a; fin_cases a <;> rfl⟩
  have hout : (dats m 0 c).after 4 t (ix2 a b) = rowGrad (X m c (at_ t a)) (W m c) (T m c (at_ t a)) b := by
    rw [after0_4]
    by_cases h : t.val % 32 = 0
    · rw [outsAt0_A m c t h]; frame_out; exact tile_dx m c t a b
    · rw [outsAt0_B m c t h]; frame_out; exact tile_dx m c t a b
  have he : ((cfg0.win 4).blk t).view.emb (ix2 a b) = ix2 (at_ t a) b := by
    unfold at_; blk_ext [idx4 t]
  rw [he]
  exact hout

/-- The loss block: every entry the sum over the tiles. -/
theorem final_loss (c : Dev nD) : (dats m 0 c).arrAt 3 cfg0.N = fun _ => ∑ t : Fin cfg0.N, tileLoss m c t := by
  refine (dats m 0 c).arrAt_eq_of_after_last 3 (⟨31, by decide⟩ : Fin cfg0.N) (by decide +kernel)
    (G := (fun _ => ∑ t : Fin cfg0.N, tileLoss m c t : Vec Ideal S8x128 .f32)) fun i => ?_
  rw [after0_3, Pipeline.eq_sum_fin_of_reset_step_apply_last (fun n h => (outsAt0 m c n h).1) 32
    (k0_pay4 (F := Ideal)) (fun t _ => tileLoss m c t)
    (fun t h i => by rw [outsAt0_A m c t h]; frame_out; exact tile_loss m c t _ i)
    (fun t h i => by rw [outsAt0_B m c t h]; frame_out; exact tile_loss m c t _ i) (by decide) _ (by decide)]
  exact (congrArg (· + _) (zero_loss _)).trans (zero_add (M := EReal) _)

/-- The weight's gradient: every entry the sum over the tiles. -/
theorem final_dw (c : Dev nD) : (dats m 0 c).arrAt 5 cfg0.N = fun i => ∑ t : Fin cfg0.N, tileDw m c t (i 1) := by
  refine (dats m 0 c).arrAt_eq_of_after_last 5 (⟨31, by decide⟩ : Fin cfg0.N) (by decide +kernel)
    (G := (fun i => ∑ t : Fin cfg0.N, tileDw m c t (i 1) : Vec Ideal S1x1024 .f32)) fun i => ?_
  rw [after0_5, Pipeline.eq_sum_fin_of_reset_step_apply_last (fun n h => (outsAt0 m c n h).2.2) 32
    (k0_pay5 (F := Ideal)) (fun t i => tileDw m c t (i 1))
    (fun t h i => by rw [outsAt0_A m c t h]; frame_out; exact tile_dw m c t _ i)
    (fun t h i => by rw [outsAt0_B m c t h]; frame_out; exact tile_dw m c t _ i) (by decide) _ (by decide)]
  exact (congrArg (· + _) (zero_dw _)).trans (zero_add (M := EReal) _)

end Cert.Proof.Loss

end
-- ==== Proof.Consts.lean ====
/- THE FLOAT WORDS the programs write, as the real numbers they are, and a finite nonnegative constant taken out of a sum. -/
module

public import Idealize.ShloMosaic.Lib.IdealHost

@[expose] public section

noncomputable section

namespace Cert.Consts

open Idealize.ShloMosaic

theorem word_half : Ideal.ofBits .f32 1056964608#32 = ((1 / 2 : ℝ) : EReal) := by
  simp [Ideal.ofBits, Ideal.ieee, -EReal.coe_mul]; norm_num
theorem word_two : Ideal.ofBits .f32 1073741824#32 = ((2 : ℝ) : EReal) := by
  simp [Ideal.ofBits, Ideal.ieee, -EReal.coe_mul]; norm_num
theorem word_1024 : Ideal.ofBits .f32 1149239296#32 = ((1024 : ℝ) : EReal) := by
  simp [Ideal.ofBits, Ideal.ieee, -EReal.coe_mul]; norm_num
theorem word_inv1024 : Ideal.ofBits .f32 981467136#32 = ((1 / 1024 : ℝ) : EReal) := by
  simp [Ideal.ofBits, Ideal.ieee, -EReal.coe_mul]; norm_num

/-- A nonnegative real times a sum is the sum of the products, whatever the terms. -/
theorem mul_sum {ι : Type*} (r : ℝ) (hr : 0 ≤ r) (s : Finset ι) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

end Cert.Consts

end
-- ==== Proof.Loss.Reference.lean ====
/- THE LOSS REFERENCE'S THREE RESULTS, read at an index: jax's derivative of the loss lines, written by the row functions. -/
module

public import proofs.«01_k».proof.Proof.Gen.LossRefIdeal.Read
public import proofs.«01_k».proof.Proof.Loss.Rows
public import proofs.«01_k».proof.Proof.Consts

@[expose] public section

noncomputable section

namespace Cert.Proof.Loss

open Cert.LossRefIdeal Cert.LossRefIdeal.Gen Cert.LossRefIdeal.Read Idealize.ShloMosaic Cert.Rows

variable (x : Vec Ideal S16384x1024 .f32) (w : Vec Ideal S1024 .f32) (t : Vec Ideal S1x16384x1024 .f32)

/-- The factors of the derivative of half a mean square are one over the row's length. -/
theorem scale (e : EReal) : Ideal.div half width * (Ideal.ofBits .f32 1073741824#32 * e) = e * invWidth := by
  unfold half width invWidth
  rw [Consts.word_half, Consts.word_two, Consts.word_1024, Consts.word_inv1024, Ideal.div_coe (by norm_num), ← mul_assoc,
    mul_comm e, ← EReal.coe_mul, ← EReal.coe_mul]
  norm_num

theorem ref_dx (a : Fin 16384) (b : Fin 1024) : val_main_v51 (F := Ideal) x w t (ix2 a b)
    = rowGrad (fun j => x (ix2 a j)) (fun j => w (ix1 j)) (fun j => t (ix3 0 a j)) b := by
  pointwise [val_main_v51, val_main_v50, val_main_v49, val_main_v48, val_main_v47, val_main_v46, val_main_cst_15, val_main_v45, val_main_v44, val_main_cst_14, val_main_v43, val_main_v42, val_main_v41, val_main_v40, val_main_v39, val_main_cst_13, val_main_v38, val_main_v36, val_main_v35, val_main_v31, val_main_v30, val_main_v29, val_main_v28, val_main_cst_10, val_main_v27, val_main_v26, val_main_cst_9, val_main_cst_8, val_main_v20, val_main_v19, val_main_cst_3, val_main_v17, val_main_v16, val_main_v15, val_main_v14, val_main_v13, val_main_v12, val_main_v11, val_main_v10, val_main_cst_2, val_main_v9, val_main_v8, val_main_v7, val_main_v6, val_main_cst_1, val_main_v5, val_main_v4, val_main_cst_0, val_main_v3, val_main_v2, val_main_cst, val_main_v1, val_main_v0]
  simp only [Finset.univ_unique, Finset.sum_singleton, scale]
  rfl

theorem ref_loss (i : S8x128.Idx) : val_main_v52 (F := Ideal) x w t i
    = half * ∑ r, rowLoss (fun j => x (ix2 r j)) (fun j => w (ix1 j)) (fun j => t (ix3 0 r j)) := by
  pointwise [val_main_v52, val_main_v25, val_main_cst_7, val_main_v24, val_main_cst_6, val_main_v23, val_main_v22, val_main_cst_5, val_main_v21, val_main_cst_4, val_main_v18, val_main_v17, val_main_v16, val_main_v15, val_main_v14, val_main_v13, val_main_v12, val_main_v8, val_main_v7, val_main_v6, val_main_cst_1, val_main_v5, val_main_v4, val_main_cst_0, val_main_v3, val_main_v2, val_main_cst, val_main_v1, val_main_v0]
  rfl

theorem ref_dw (z : Fin 1) (b : Fin 1024) : val_main_v53 (F := Ideal) x w t (ix2 z b)
    = ∑ r, rowDw (fun j => x (ix2 r j)) (fun j => w (ix1 j)) (fun j => t (ix3 0 r j)) b := by
  pointwise [val_main_v53, val_main_v37, val_main_cst_12, val_main_v34, val_main_v33, val_main_cst_11, val_main_v32, val_main_v31, val_main_v30, val_main_v29, val_main_v28, val_main_cst_10, val_main_v27, val_main_v26, val_main_cst_9, val_main_cst_8, val_main_v20, val_main_v19, val_main_cst_3, val_main_v17, val_main_v16, val_main_v15, val_main_v14, val_main_v13, val_main_v12, val_main_v8, val_main_v7, val_main_v6, val_main_cst_1, val_main_v5, val_main_v4, val_main_cst_0, val_main_v3, val_main_v2, val_main_cst, val_main_v1, val_main_v0]
  simp only [Finset.univ_unique, Finset.sum_singleton, scale]
  rfl

end Cert.Proof.Loss

end
-- ==== Proof.Loss.Equation.lean ====
/- THE LOSS CALL COMPUTES THE LOSS AND ITS TWO GRADIENTS: a sum over 32 tiles of 512 rows is the sum over the 16384 rows,
   and one half times each tile's sum is one half times the whole sum. -/
module

public import proofs.«01_k».proof.Defs
public import proofs.«01_k».proof.Proof.Gen.LossRefIdeal.Run
public import proofs.«01_k».proof.Proof.Loss.Kernel
public import proofs.«01_k».proof.Proof.Loss.Reference

@[expose] public section

noncomputable section

namespace Cert.Proof.Loss

open Idealize.ShloMosaic Idealize.ShloMosaic.TcCoe Idealize.SL.Sem Cert.Rows

/-- The tiles' losses add up to the loss of the rows. -/
theorem sum_loss (m : (ℓ : Loc LossIdeal.nD LossIdeal.τ LossIdeal.sig) → Buf (Elt Ideal) ℓ) (c : Dev LossIdeal.nD) :
    ∑ t : Fin LossIdeal.cfg0.N, tileLoss m c t = half * ∑ r, rowLoss (X m c r) (W m c) (T m c r) := by
  unfold tileLoss half
  rw [Consts.word_half, ← Consts.mul_sum _ (by norm_num)]
  exact congrArg _ (Fin.sum_mul_add_fin 32 512 fun r => rowLoss (X m c r) (W m c) (T m c r))

/-- The tiles' contributions to the weight's gradient add up to those of the rows. -/
theorem sum_dw (m : (ℓ : Loc LossIdeal.nD LossIdeal.τ LossIdeal.sig) → Buf (Elt Ideal) ℓ) (c : Dev LossIdeal.nD) (b : Fin 1024) :
    ∑ t : Fin LossIdeal.cfg0.N, tileDw m c t b = ∑ r, rowDw (X m c r) (W m c) (T m c r) b :=
  Fin.sum_mul_add_fin 32 512 fun r => rowDw (X m c r) (W m c) (T m c r) b

section Values

variable (m : (ℓ : Loc LossIdeal.nD LossIdeal.τ LossIdeal.sig) → Buf (Elt Ideal) ℓ) (c : Dev LossIdeal.nD)

/-- The loss, in every entry of its block. -/
def lossVal : Vec Ideal LossIdeal.S8x128 .f32 := fun _ => half * ∑ r, rowLoss (X m c r) (W m c) (T m c r)
/-- The gradient of the input. -/
def dxVal : Vec Ideal LossIdeal.S16384x1024 .f32 := fun i => rowGrad (X m c (i 0)) (W m c) (T m c (i 0)) (i 1)
/-- The gradient of the weight. -/
def dwVal : Vec Ideal LossIdeal.S1x1024 .f32 := fun i => ∑ r, rowDw (X m c r) (W m c) (T m c r) (i 1)

end Values

/-- The reference's frame. -/
theorem ref_frame : Cert.quiescent_LossRefIdeal := fun m ρ _ =>
  (θ_run LossRefIdeal.defs _ _).mono (fun r h => ⟨fun c => (h c).2.2.2, sem_eq_zero_of_no_sems (by decide) r.2⟩)
    (LossRefIdeal.Value.run (F := Ideal) m ρ)

theorem algebraic : Cert.algebraic_LossIdeal_LossRefIdeal := by
  intro m g m' g' _ hag
  refine ⟨lossVal m, dxVal m, dwVal m, ?_, ?_⟩
  · refine (θ_run LossIdeal.defs _ _).mono (fun r h c => ?_) (LossIdeal.Value.run_blocks m g)
    obtain ⟨h3, h4, h5, ha⟩ := h c
    refine ⟨h3.trans ?_, h4.trans (final_dx m c), h5.trans ?_, ha⟩
    · rw [final_loss, sum_loss]; rfl
    · rw [final_dw]; funext i; exact sum_dw m c (i 1)
  · refine (θ_run LossRefIdeal.defs _ _).mono (fun r h c => ?_) (LossRefIdeal.Value.run (F := Ideal) m' g')
    obtain ⟨h3, h4, h5, ha⟩ := h c
    obtain ⟨e0, e1, e2⟩ := hag c
    refine ⟨h3.trans ((LossRefIdeal.Read.val_main_v52_eq _ _ _).trans ?_),
      h4.trans ((LossRefIdeal.Read.val_main_v51_eq _ _).trans ?_),
      h5.trans ((LossRefIdeal.Read.val_main_v53_eq _ _ _).trans ?_), ha⟩
    · rw [e0, e1, e2]
      funext i
      exact ref_loss _ _ _ i
    · rw [e0, e1, e2]
      funext i
      obtain ⟨a, b, rfl⟩ : ∃ a b, i = ix2 a b := ⟨i 0, i 1, by funext a; fin_cases a <;> rfl⟩
      exact ref_dx _ _ _ a b
    · rw [e0, e1, e2]
      funext i
      obtain ⟨a, b, rfl⟩ : ∃ a b, i = ix2 a b := ⟨i 0, i 1, by funext a; fin_cases a <;> rfl⟩
      exact ref_dw _ _ _ a b

end Cert.Proof.Loss

end
-- ==== Proof.Mlp.Run.lean ====
/- WHERE EVERYTHING ENDS: the run of the whole program leaves every buffer at the last boundary's contents, of which the
   forward result and the four gradients are read. -/
module

public import proofs.«01_k».proof.Proof.Gen.MlpIdeal.Frame

@[expose] public section

set_option maxRecDepth 16384

noncomputable section

namespace Cert.Proof.Mlp

open Cert.MlpIdeal Cert.MlpIdeal.Gen Idealize.ShloMosaic Idealize.ShloMosaic.TcCoe
open Idealize.SL Idealize.SL.RA Idealize.SL.BI Idealize.SL.BI.BIBase Idealize.SL.BI.Laws Idealize.SL.ProofMode Idealize.SL.Sem
open scoped Idealize.SL.BI
open Idealize.ShloMosaic.Rounds

variable {F : FTy → Type} [FloatOps F] (m : (ℓ : Loc nD τ sig) → Buf (Elt F) ℓ) (ρ : Dev nD → PrngReg)

set_option backward.isDefEq.respectTransparency.types false in
/-- Every execution ends with every buffer at the last valuation. -/
theorem run : θ_run defs (onTc (τ := τ) (main (F := F))) ⟨m, fun _ => 0, ρ⟩ fun r => ∀ (c : Dev nD) (b : Ref sig .tc),
    ¬ (Proc.devRef .tc b : DevRef τ sig).isScoped → r.2.mem ((c.tc : Thread nD τ).loc b) = W6 m ρ c (Proc.devRef .tc b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c b hb => h c _ (mem_uc b hb))

end Cert.Proof.Mlp

end
-- ==== Proof.Mlp.Rows.lean ====
/- ONE ROW OF THE GATED PRODUCT, over the extended reals: the cotangent that reaches an entry of the hidden layer through the
   square of its positive part, and the places of the eight blocks of 512 hidden entries. -/
module

public import proofs.«01_k».proof.Proof.Rows

@[expose] public section

noncomputable section

namespace Cert.Proof.Mlp

open Idealize.ShloMosaic Cert.Rows

/-- Two. -/
abbrev two : EReal := Ideal.ofBits .f32 1073741824#32

/-- The cotangent of a hidden entry: `g` is the row's cotangent, `d` the entry's row of the second weight, `r` the entry's
    positive part. -/
def gate (g d : Fin 1024 → EReal) (r : EReal) : EReal := (∑ j, g j * d j) * (two * r)

/-- The positive part of a hidden entry: `u` is the entry's column of the first weight. -/
def relu (x w u : Fin 1024 → EReal) : EReal := max (∑ j, norm x w j * u j) 0

/-- Block `e` of the first four, among the eight. -/
def lo (e : Fin 4) : Fin 8 := ⟨e.val, by omega⟩
/-- Block `e` of the last four, among the eight. -/
def hi (e : Fin 4) : Fin 8 := ⟨4 + e.val, by omega⟩

section Whole

variable (x : Fin 16384 → Fin 1024 → EReal) (w : Fin 1024 → EReal) (u : Fin 8 → Fin 1024 → Fin 512 → EReal)
  (d : Fin 8 → Fin 512 → Fin 1024 → EReal) (g : Fin 16384 → Fin 1024 → EReal)

/-- The positive part of a hidden entry: block `e`, row `r`, entry `f`. -/
def hid (e : Fin 8) (r : Fin 16384) (f : Fin 512) : EReal := relu (x r) w fun j => u e j f
/-- The cotangent of a hidden entry. -/
def cotA (e : Fin 8) (r : Fin 16384) (f : Fin 512) : EReal := gate (g r) (d e f) (hid x w u e r f)
/-- The cotangent of a normalised row. -/
def cotN (r : Fin 16384) (j : Fin 1024) : EReal := ∑ e, ∑ f, cotA x w u d g e r f * u e j f
/-- The result. -/
def outV (r : Fin 16384) (j : Fin 1024) : EReal := x r j + ∑ e, ∑ f, hid x w u e r f * hid x w u e r f * d e f j
/-- The gradient of the input. -/
def dxV (r : Fin 16384) (j : Fin 1024) : EReal := g r j + gradRow (x r) (fun j => cotN x w u d g r j * w j) j
/-- The gradient of the norm's weight. -/
def dnV (j : Fin 1024) : EReal := ∑ r, x r j * factor (x r) * cotN x w u d g r j
/-- The gradient of the first weight. -/
def duV (e : Fin 8) (j : Fin 1024) (f : Fin 512) : EReal := ∑ r, norm (x r) w j * cotA x w u d g e r f
/-- The gradient of the second weight. -/
def ddV (e : Fin 8) (f : Fin 512) (j : Fin 1024) : EReal := ∑ r, hid x w u e r f * hid x w u e r f * g r j

end Whole

/-- The entry of the whole hidden layer that entry `f` of block `e` is. -/
def col (e : Fin 8) (f : Fin 512) : Fin 4096 := ⟨e.val * 512 + f.val, by omega⟩

end Cert.Proof.Mlp

end
-- ==== Proof.Mlp.Blocks.lean ====
/- FOUR BLOCKS STORED ONE AFTER ANOTHER fill their array, whatever lay there before (`fill_up`, `fill_down`). -/
module

public import proofs.«01_k».proof.Proof.Gen.MlpIdeal.Frame
public import proofs.«01_k».proof.Proof.Mlp.Rows
public import Idealize.ShloMosaic.Lib.Pipeline.ValueKit
public import Idealize.ShloMosaic.Lib.Pipeline.ReadBack

@[expose] public section

noncomputable section

namespace Cert.Proof.Mlp

open Cert.MlpIdeal Cert.MlpIdeal.Gen Idealize.ShloMosaic Idealize.ShloMosaic.TcCoe Idealize.SL.Sem Cert.Rows
  Idealize.ShloMosaic.Pipeline

/-- The place of one block of the first weight's gradient among four. -/
theorem emb_up (e : Fin 4) (inb) (z : Fin 1) (j : Fin 1024) (f : Fin 512) :
    (Rect.unit (s := S4x1024x512) ![e.val, 0, 0] ![1, 1024, 512] inb).emb (ix3 z j f) = ix3 e j f := by
  funext a; apply Fin.ext; rw [ValueKit.rect_emb_unit_val]; fin_cases a <;> simp [ix3] <;> omega
/-- The place of one block of the second weight's gradient among four. -/
theorem emb_down (e : Fin 4) (inb) (z : Fin 1) (f : Fin 512) (j : Fin 1024) :
    (Rect.unit (s := S4x512x1024) ![e.val, 0, 0] ![1, 512, 1024] inb).emb (ix3 z f j) = ix3 e f j := by
  funext a; apply Fin.ext; rw [ValueKit.rect_emb_unit_val]; fin_cases a <;> simp [ix3] <;> omega

/-- Four blocks of the first weight's gradient, stored one after another. -/
theorem fill_up (G : Vec Ideal S4x1024x512 .f32) (p0 p1 p2 p3 : Vec Ideal S1x1024x512 .f32)
    (h0 : ∀ (z : Fin 1) (j : Fin 1024) (f : Fin 512), p0 (ix3 z j f) = G (ix3 0 j f))
    (h1 : ∀ (z : Fin 1) (j : Fin 1024) (f : Fin 512), p1 (ix3 z j f) = G (ix3 1 j f))
    (h2 : ∀ (z : Fin 1) (j : Fin 1024) (f : Fin 512), p2 (ix3 z j f) = G (ix3 2 j f))
    (h3 : ∀ (z : Fin 1) (j : Fin 1024) (f : Fin 512), p3 (ix3 z j f) = G (ix3 3 j f))
    (L : List (View.Piece (Elt Ideal) S4x1024x512 .f32)) (i : S4x1024x512.Idx) : View.canon
      ([⟨Rect.unit ![3, 0, 0] ![1, 1024, 512] inb_S4x1024x512_S1x1024x512_3_0_0, p3⟩,
        ⟨Rect.unit ![2, 0, 0] ![1, 1024, 512] inb_S4x1024x512_S1x1024x512_2_0_0, p2⟩,
        ⟨Rect.unit ![1, 0, 0] ![1, 1024, 512] inb_S4x1024x512_S1x1024x512_1_0_0, p1⟩,
        ⟨Rect.unit ![0, 0, 0] ![1, 1024, 512] inb_S4x1024x512_S1x1024x512_0_0_0, p0⟩] ++ L) i = G i := by
  refine View.canon_append_of_piecesOf G L _ ?_ i ?_
  · refine ⟨fun y => ?_, fun y => ?_, fun y => ?_, fun y => ?_, trivial⟩
    all_goals obtain ⟨z, a, b, rfl⟩ : ∃ (z : Fin 1) (a : Fin 1024) (b : Fin 512), y = ix3 z a b := ⟨y 0, y 1, y 2, eq_ix3 y⟩
    · exact (h3 z a b).trans (congrArg G (emb_up 3 inb_S4x1024x512_S1x1024x512_3_0_0 z a b).symm)
    · exact (h2 z a b).trans (congrArg G (emb_up 2 inb_S4x1024x512_S1x1024x512_2_0_0 z a b).symm)
    · exact (h1 z a b).trans (congrArg G (emb_up 1 inb_S4x1024x512_S1x1024x512_1_0_0 z a b).symm)
    · exact (h0 z a b).trans (congrArg G (emb_up 0 inb_S4x1024x512_S1x1024x512_0_0_0 z a b).symm)
  · obtain ⟨e, a, b, rfl⟩ : ∃ (e : Fin 4) (a : Fin 1024) (b : Fin 512), i = ix3 e a b := ⟨i 0, i 1, i 2, eq_ix3 i⟩
    fin_cases e
    · exact ⟨_, .tail _ (.tail _ (.tail _ (.head _))), by rw [Rect.mem_set_unit]; intro a; fin_cases a <;> simp [ix3] <;> omega⟩
    · exact ⟨_, .tail _ (.tail _ (.head _)), by rw [Rect.mem_set_unit]; intro a; fin_cases a <;> simp [ix3] <;> omega⟩
    · exact ⟨_, .tail _ (.head _), by rw [Rect.mem_set_unit]; intro a; fin_cases a <;> simp [ix3] <;> omega⟩
    · exact ⟨_, .head _, by rw [Rect.mem_set_unit]; intro a; fin_cases a <;> simp [ix3] <;> omega⟩

/-- Four blocks of the second weight's gradient, stored one after another. -/
theorem fill_down (G : Vec Ideal S4x512x1024 .f32) (p0 p1 p2 p3 : Vec Ideal S1x512x1024 .f32)
    (h0 : ∀ (z : Fin 1) (f : Fin 512) (j : Fin 1024), p0 (ix3 z f j) = G (ix3 0 f j))
    (h1 : ∀ (z : Fin 1) (f : Fin 512) (j : Fin 1024), p1 (ix3 z f j) = G (ix3 1 f j))
    (h2 : ∀ (z : Fin 1) (f : Fin 512) (j : Fin 1024), p2 (ix3 z f j) = G (ix3 2 f j))
    (h3 : ∀ (z : Fin 1) (f : Fin 512) (j : Fin 1024), p3 (ix3 z f j) = G (ix3 3 f j))
    (L : List (View.Piece (Elt Ideal) S4x512x1024 .f32)) (i : S4x512x1024.Idx) : View.canon
      ([⟨Rect.unit ![3, 0, 0] ![1, 512, 1024] inb_S4x512x1024_S1x512x1024_3_0_0, p3⟩,
        ⟨Rect.unit ![2, 0, 0] ![1, 512, 1024] inb_S4x512x1024_S1x512x1024_2_0_0, p2⟩,
        ⟨Rect.unit ![1, 0, 0] ![1, 512, 1024] inb_S4x512x1024_S1x512x1024_1_0_0, p1⟩,
        ⟨Rect.unit ![0, 0, 0] ![1, 512, 1024] inb_S4x512x1024_S1x512x1024_0_0_0, p0⟩] ++ L) i = G i := by
  refine View.canon_append_of_piecesOf G L _ ?_ i ?_
  · refine ⟨fun y => ?_, fun y => ?_, fun y => ?_, fun y => ?_, trivial⟩
    all_goals obtain ⟨z, a, b, rfl⟩ : ∃ (z : Fin 1) (a : Fin 512) (b : Fin 1024), y = ix3 z a b := ⟨y 0, y 1, y 2, eq_ix3 y⟩
    · exact (h3 z a b).trans (congrArg G (emb_down 3 inb_S4x512x1024_S1x512x1024_3_0_0 z a b).symm)
    · exact (h2 z a b).trans (congrArg G (emb_down 2 inb_S4x512x1024_S1x512x1024_2_0_0 z a b).symm)
    · exact (h1 z a b).trans (congrArg G (emb_down 1 inb_S4x512x1024_S1x512x1024_1_0_0 z a b).symm)
    · exact (h0 z a b).trans (congrArg G (emb_down 0 inb_S4x512x1024_S1x512x1024_0_0_0 z a b).symm)
  · obtain ⟨e, a, b, rfl⟩ : ∃ (e : Fin 4) (a : Fin 512) (b : Fin 1024), i = ix3 e a b := ⟨i 0, i 1, i 2, eq_ix3 i⟩
    fin_cases e
    · exact ⟨_, .tail _ (.tail _ (.tail _ (.head _))), by rw [Rect.mem_set_unit]; intro a; fin_cases a <;> simp [ix3] <;> omega⟩
    · exact ⟨_, .tail _ (.tail _ (.head _)), by rw [Rect.mem_set_unit]; intro a; fin_cases a <;> simp [ix3] <;> omega⟩
    · exact ⟨_, .tail _ (.head _), by rw [Rect.mem_set_unit]; intro a; fin_cases a <;> simp [ix3] <;> omega⟩
    · exact ⟨_, .head _, by rw [Rect.mem_set_unit]; intro a; fin_cases a <;> simp [ix3] <;> omega⟩

section Tile

variable (x : Vec Ideal S512x1024 .f32) (w : Vec Ideal S1x1024 .f32) (up : Vec Ideal S4x1024x512 .bf16)
  (dn : Vec Ideal S4x512x1024 .bf16) (r : Vec Ideal S4x512x512 .bf16) (g : Vec Ideal S512x1024 .f32)

/-- The cotangent of a tile's hidden entry, from the tile's blocks. -/
def dA (e : Fin 4) (a f : Fin 512) : EReal := gate (fun j => g (ix2 a j)) (fun j => dn (ix3 e f j)) (r (ix3 e a f))
/-- What a tile adds to an entry of the first weight's gradient. -/
def dUp (e : Fin 4) (j : Fin 1024) (f : Fin 512) : EReal :=
  ∑ a, norm (fun j => x (ix2 a j)) (fun j => w (ix2 0 j)) j * dA dn r g e a f
/-- What a tile adds to an entry of the second weight's gradient. -/
def dDown (e : Fin 4) (f : Fin 512) (j : Fin 1024) : EReal := ∑ a, r (ix3 e a f) * r (ix3 e a f) * g (ix2 a j)
/-- What four blocks contribute to the cotangent of a tile's normalised row. -/
def dH (a : Fin 512) (j : Fin 1024) : EReal := ∑ e, ∑ f, dA dn r g e a f * up (ix3 e j f)

end Tile

section Arrays

variable (V : (c : Dev nD) → (b : Ref sig .tc) → Buf (Elt Ideal) ((c : Thread nD τ).loc b)) (c : Dev nD)

/-- A row of the input. -/
def X (r : Fin 16384) : Fin 1024 → EReal := fun j => V c main_arg0 (ix2 r j)
/-- The norm's weight, as the calls of the backward pass read it. -/
def W : Fin 1024 → EReal := fun j => V c main_v7 (ix2 0 j)
/-- The first weight, in its eight blocks. -/
def Up (e : Fin 8) (j : Fin 1024) (f : Fin 512) : EReal := V c main_v2 (ix3 e j f)
/-- The second weight, in its eight blocks. -/
def Dn (e : Fin 8) (f : Fin 512) : Fin 1024 → EReal := fun j => V c main_v4 (ix3 e f j)
/-- The positive parts of the hidden layer, in their eight blocks. -/
def R (e : Fin 8) (r : Fin 16384) (f : Fin 512) : EReal := V c main_v6_1 (ix3 e r f)
/-- A row of the cotangent. -/
def DY (r : Fin 16384) : Fin 1024 → EReal := fun j => V c main_arg4 (ix2 r j)
/-- The cotangent of a hidden entry. -/
def DA (e : Fin 8) (r : Fin 16384) (f : Fin 512) : EReal := gate (DY V c r) (Dn V c e f) (R V c e r f)

/-- What the first half wrote of the cotangent of the normalised rows. -/
def DH (r : Fin 16384) (j : Fin 1024) : EReal := V c main_v8_0 (ix2 r j)

/-- The row of the whole array that row `a` of tile `t` is. -/
def at_ (t : Fin 32) (a : Fin 512) : Fin 16384 := ⟨t.val * 512 + a.val, by omega⟩

end Arrays

end Cert.Proof.Mlp

end
-- ==== Proof.Mlp.Forward.lean ====
/- THE FORWARD PASS: over 32 tiles of 512 rows. A tile writes the positive part of every entry of the hidden layer
   (`forward_relu`) and its rows of the result (`forward_out`). -/
module

public import proofs.«01_k».proof.Proof.Mlp.Blocks

@[expose] public section

noncomputable section

namespace Cert.Proof.Mlp

open Cert.MlpIdeal Cert.MlpIdeal.Gen Idealize.ShloMosaic Idealize.ShloMosaic.TcCoe Idealize.SL.Sem Cert.Rows
  Idealize.ShloMosaic.Pipeline

theorem emb_relu (e : Fin 8) (inb) (z : Fin 1) (a f : Fin 512) :
    (Rect.unit (s := S8x512x512) ![e.val, 0, 0] ![1, 512, 512] inb).emb (ix3 z a f) = ix3 e a f := by
  funext a; apply Fin.ext; rw [ValueKit.rect_emb_unit_val]; fin_cases a <;> simp [ix3] <;> omega

/-- Eight blocks of positive parts, stored one after another. -/
theorem fill_relu (G : Vec Ideal S8x512x512 .bf16) (p0 p1 p2 p3 p4 p5 p6 p7 : Vec Ideal S1x512x512 .bf16)
    (h0 : ∀ (z : Fin 1) (a f : Fin 512), p0 (ix3 z a f) = G (ix3 0 a f))
    (h1 : ∀ (z : Fin 1) (a f : Fin 512), p1 (ix3 z a f) = G (ix3 1 a f))
    (h2 : ∀ (z : Fin 1) (a f : Fin 512), p2 (ix3 z a f) = G (ix3 2 a f))
    (h3 : ∀ (z : Fin 1) (a f : Fin 512), p3 (ix3 z a f) = G (ix3 3 a f))
    (h4 : ∀ (z : Fin 1) (a f : Fin 512), p4 (ix3 z a f) = G (ix3 4 a f))
    (h5 : ∀ (z : Fin 1) (a f : Fin 512), p5 (ix3 z a f) = G (ix3 5 a f))
    (h6 : ∀ (z : Fin 1) (a f : Fin 512), p6 (ix3 z a f) = G (ix3 6 a f))
    (h7 : ∀ (z : Fin 1) (a f : Fin 512), p7 (ix3 z a f) = G (ix3 7 a f))
    (i : S8x512x512.Idx) : View.canon (Val := Elt Ideal)
      [⟨Rect.unit ![7, 0, 0] ![1, 512, 512] inb_S8x512x512_S1x512x512_7_0_0, p7⟩,
        ⟨Rect.unit ![6, 0, 0] ![1, 512, 512] inb_S8x512x512_S1x512x512_6_0_0, p6⟩,
        ⟨Rect.unit ![5, 0, 0] ![1, 512, 512] inb_S8x512x512_S1x512x512_5_0_0, p5⟩,
        ⟨Rect.unit ![4, 0, 0] ![1, 512, 512] inb_S8x512x512_S1x512x512_4_0_0, p4⟩,
        ⟨Rect.unit ![3, 0, 0] ![1, 512, 512] inb_S8x512x512_S1x512x512_3_0_0, p3⟩,
        ⟨Rect.unit ![2, 0, 0] ![1, 512, 512] inb_S8x512x512_S1x512x512_2_0_0, p2⟩,
        ⟨Rect.unit ![1, 0, 0] ![1, 512, 512] inb_S8x512x512_S1x512x512_1_0_0, p1⟩,
        ⟨Rect.unit ![0, 0, 0] ![1, 512, 512] inb_S8x512x512_S1x512x512_0_0_0, p0⟩] i = G i := by
  refine (congrFun (congrArg View.canon (List.append_nil _).symm) i).trans (View.canon_append_of_piecesOf G [] _ ?_ i ?_)
  · refine ⟨fun y => ?_, fun y => ?_, fun y => ?_, fun y => ?_, fun y => ?_, fun y => ?_, fun y => ?_, fun y => ?_, trivial⟩
    all_goals obtain ⟨z, a, b, rfl⟩ : ∃ (z : Fin 1) (a b : Fin 512), y = ix3 z a b := ⟨y 0, y 1, y 2, eq_ix3 y⟩
    · exact (h7 z a b).trans (congrArg G (emb_relu 7 inb_S8x512x512_S1x512x512_7_0_0 z a b).symm)
    · exact (h6 z a b).trans (congrArg G (emb_relu 6 inb_S8x512x512_S1x512x512_6_0_0 z a b).symm)
    · exact (h5 z a b).trans (congrArg G (emb_relu 5 inb_S8x512x512_S1x512x512_5_0_0 z a b).symm)
    · exact (h4 z a b).trans (congrArg G (emb_relu 4 inb_S8x512x512_S1x512x512_4_0_0 z a b).symm)
    · exact (h3 z a b).trans (congrArg G (emb_relu 3 inb_S8x512x512_S1x512x512_3_0_0 z a b).symm)
    · exact (h2 z a b).trans (congrArg G (emb_relu 2 inb_S8x512x512_S1x512x512_2_0_0 z a b).symm)
    · exact (h1 z a b).trans (congrArg G (emb_relu 1 inb_S8x512x512_S1x512x512_1_0_0 z a b).symm)
    · exact (h0 z a b).trans (congrArg G (emb_relu 0 inb_S8x512x512_S1x512x512_0_0_0 z a b).symm)
  · obtain ⟨e, a, b, rfl⟩ : ∃ (e : Fin 8) (a b : Fin 512), i = ix3 e a b := ⟨i 0, i 1, i 2, eq_ix3 i⟩
    fin_cases e
    · exact ⟨_, .tail _ (.tail _ (.tail _ (.tail _ (.tail _ (.tail _ (.tail _ (.head _))))))), by rw [Rect.mem_set_unit]; intro a; fin_cases a <;> simp [ix3] <;> omega⟩
    · exact ⟨_, .tail _ (.tail _ (.tail _ (.tail _ (.tail _ (.tail _ (.head _)))))), by rw [Rect.mem_set_unit]; intro a; fin_cases a <;> simp [ix3] <;> omega⟩
    · exact ⟨_, .tail _ (.tail _ (.tail _ (.tail _ (.tail _ (.head _))))), by rw [Rect.mem_set_unit]; intro a; fin_cases a <;> simp [ix3] <;> omega⟩
    · exact ⟨_, .tail _ (.tail _ (.tail _ (.tail _ (.head _)))), by rw [Rect.mem_set_unit]; intro a; fin_cases a <;> simp [ix3] <;> omega⟩
    · exact ⟨_, .tail _ (.tail _ (.tail _ (.head _))), by rw [Rect.mem_set_unit]; intro a; fin_cases a <;> simp [ix3] <;> omega⟩
    · exact ⟨_, .tail _ (.tail _ (.head _)), by rw [Rect.mem_set_unit]; intro a; fin_cases a <;> simp [ix3] <;> omega⟩
    · exact ⟨_, .tail _ (.head _), by rw [Rect.mem_set_unit]; intro a; fin_cases a <;> simp [ix3] <;> omega⟩
    · exact ⟨_, .head _, by rw [Rect.mem_set_unit]; intro a; fin_cases a <;> simp [ix3] <;> omega⟩

section Tile

variable (x : Vec Ideal S512x1024 .f32) (w : Vec Ideal S1x1024 .f32) (up : Vec Ideal S8x1024x512 .bf16)
  (dn : Vec Ideal S8x512x1024 .bf16)

/-- The positive part of a tile's hidden entry. -/
def rT (e : Fin 8) (a f : Fin 512) : EReal := relu (fun j => x (ix2 a j)) (fun j => w (ix2 0 j)) fun j => up (ix3 e j f)
/-- A tile's result. -/
def outT (a : Fin 512) (j : Fin 1024) : EReal :=
  x (ix2 a j) + ∑ e, ∑ f, rT x w up e a f * rT x w up e a f * dn (ix3 e f j)

theorem tile0_relu0 (z : Fin 1) (a f : Fin 512) : k0_pay5 x w (View.ld up (Rect.unit ![0, 0, 0] ![1, 1024, 512] inb_S8x1024x512_S1x1024x512_0_0_0)) (ix3 z a f) = rT x w up 0 a f := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
  rfl
theorem tile0_relu1 (z : Fin 1) (a f : Fin 512) : k0_pay9 (k0_pay29 x w up dn) (ix3 z a f) = rT x w up 1 a f := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
  rfl
theorem tile0_relu2 (z : Fin 1) (a f : Fin 512) : k0_pay11 (k0_pay28 x w up dn) (View.ld up (Rect.unit ![2, 0, 0] ![1, 1024, 512] inb_S8x1024x512_S1x1024x512_2_0_0)) (ix3 z a f) = rT x w up 2 a f := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
  rfl
theorem tile0_relu3 (z : Fin 1) (a f : Fin 512) : k0_pay16 (k0_pay30 x w up dn) (k0_pay31 x w up dn) (ix3 z a f) = rT x w up 3 a f := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
  rfl
theorem tile0_relu4 (z : Fin 1) (a f : Fin 512) : k0_pay18 (k0_pay28 x w up dn) (View.ld up (Rect.unit ![4, 0, 0] ![1, 1024, 512] inb_S8x1024x512_S1x1024x512_4_0_0)) (ix3 z a f) = rT x w up 4 a f := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
  rfl
theorem tile0_relu5 (z : Fin 1) (a f : Fin 512) : k0_pay22 (k0_pay21 (k0_pay28 x w up dn) (View.ld up (Rect.unit ![5, 0, 0] ![1, 1024, 512] inb_S8x1024x512_S1x1024x512_5_0_0))) (ix3 z a f) = rT x w up 5 a f := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
  rfl
theorem tile0_relu6 (z : Fin 1) (a f : Fin 512) : k0_pay24 (k0_pay28 x w up dn) (View.ld up (Rect.unit ![6, 0, 0] ![1, 1024, 512] inb_S8x1024x512_S1x1024x512_6_0_0)) (ix3 z a f) = rT x w up 6 a f := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
  rfl
theorem tile0_relu7 (z : Fin 1) (a f : Fin 512) : k0_pay1 (k0_pay27 (k0_pay28 x w up dn) (View.ld up (Rect.unit ![7, 0, 0] ![1, 1024, 512] inb_S8x1024x512_S1x1024x512_7_0_0))) (ix3 z a f) = rT x w up 7 a f := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
  rfl

theorem tile0_out (a : Fin 512) (j : Fin 1024) : k0_pay2
    (k0_pay25 (k0_pay28 x w up dn)
      (k0_pay19 (k0_pay28 x w up dn)
        (k0_pay12 (k0_pay28 x w up dn) (k0_pay6 x w (View.ld up (Rect.unit ![0, 0, 0] ![1, 1024, 512] inb_S8x1024x512_S1x1024x512_0_0_0)) (View.ld dn (Rect.unit ![0, 0, 0] ![1, 512, 1024] inb_S8x512x1024_S1x512x1024_0_0_0)))
          (k0_pay29 x w up dn) (View.ld dn (Rect.unit ![1, 0, 0] ![1, 512, 1024] inb_S8x512x1024_S1x512x1024_1_0_0)) (View.ld up (Rect.unit ![2, 0, 0] ![1, 1024, 512] inb_S8x1024x512_S1x1024x512_2_0_0)) (View.ld dn (Rect.unit ![2, 0, 0] ![1, 512, 1024] inb_S8x512x1024_S1x512x1024_2_0_0)))
        (k0_pay30 x w up dn) (k0_pay31 x w up dn) (View.ld dn (Rect.unit ![3, 0, 0] ![1, 512, 1024] inb_S8x512x1024_S1x512x1024_3_0_0)) (View.ld up (Rect.unit ![4, 0, 0] ![1, 1024, 512] inb_S8x1024x512_S1x1024x512_4_0_0)) (View.ld dn (Rect.unit ![4, 0, 0] ![1, 512, 1024] inb_S8x512x1024_S1x512x1024_4_0_0)))
      (k0_pay20 (k0_pay28 x w up dn) (View.ld up (Rect.unit ![5, 0, 0] ![1, 1024, 512] inb_S8x1024x512_S1x1024x512_5_0_0))) (View.ld dn (Rect.unit ![5, 0, 0] ![1, 512, 1024] inb_S8x512x1024_S1x512x1024_5_0_0)) (View.ld up (Rect.unit ![6, 0, 0] ![1, 1024, 512] inb_S8x1024x512_S1x1024x512_6_0_0)) (View.ld dn (Rect.unit ![6, 0, 0] ![1, 512, 1024] inb_S8x512x1024_S1x512x1024_6_0_0)))
    (k0_pay26 (k0_pay28 x w up dn) (View.ld up (Rect.unit ![7, 0, 0] ![1, 1024, 512] inb_S8x1024x512_S1x1024x512_7_0_0))) (View.ld dn (Rect.unit ![7, 0, 0] ![1, 512, 1024] inb_S8x512x1024_S1x512x1024_7_0_0)) (ix2 a j) = outT x w up dn a j := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
  unfold outT
  rw [Fin.sum_univ_eight]
  simp only [← add_assoc]
  rfl

end Tile

theorem idx0_0 : ∀ t : Fin cfg0.N, win0_0.index t = ![t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0, 0] := (by decide +kernel : ∀ t : Fin grid0.N, _)
theorem idx0_3 : ∀ t : Fin cfg0.N, win0_3.index t = ![0, 0, 0] := (by decide +kernel : ∀ t : Fin grid0.N, _)
theorem idx0_4 : ∀ t : Fin cfg0.N, win0_4.index t = ![t.val, 0] := (by decide +kernel : ∀ t : Fin grid0.N, _)
theorem idx0_5 : ∀ t : Fin cfg0.N, win0_5.index t = ![0, t.val, 0] := (by decide +kernel : ∀ t : Fin grid0.N, _)

section Arrays

variable (V : (c : Dev nD) → (b : Ref sig .tc) → Buf (Elt Ideal) ((c : Thread nD τ).loc b)) (c : Dev nD)

/-- The norm's weight, as the forward pass reads it. -/
def W0 : Fin 1024 → EReal := fun j => V c main_v5 (ix2 0 j)
/-- The positive part of a hidden entry. -/
def relu0 (e : Fin 8) (r : Fin 16384) (f : Fin 512) : EReal := relu (X V c r) (W0 V c) fun j => Up V c e j f

theorem blk0_x (t : Fin cfg0.N) (a : Fin 512) (j : Fin 1024) : iblk0 V c 0 t (ix2 a j) = X V c (at_ t a) j := by
  unfold X at_; blk_ext! [iblk0, idx0_0 t]
theorem blk0_w (t : Fin cfg0.N) (j : Fin 1024) : iblk0 V c 1 t (ix2 0 j) = W0 V c j := by
  unfold W0; blk_ext! [iblk0, idx0_1 t]
theorem blk0_up (t : Fin cfg0.N) (e : Fin 8) (j : Fin 1024) (f : Fin 512) : iblk0 V c 2 t (ix3 e j f) = Up V c e j f := by
  unfold Up; blk_ext! [iblk0, idx0_2 t]
theorem blk0_dn (t : Fin cfg0.N) (e : Fin 8) (f : Fin 512) (j : Fin 1024) : iblk0 V c 3 t (ix3 e f j) = Dn V c e f j := by
  unfold Dn; blk_ext! [iblk0, idx0_3 t]

theorem relu_eq (t : Fin cfg0.N) (e : Fin 8) (a f : Fin 512) :
    rT (iblk0 V c 0 t) (iblk0 V c 1 t) (iblk0 V c 2 t) e a f = relu0 V c e (at_ t a) f := by
  simp only [rT, relu0, blk0_x, blk0_w, blk0_up]

/-- The positive parts. -/
theorem forward_relu : (dat0 V c).arrAt 5 cfg0.N = fun i => relu0 V c (i 0) (i 1) (i 2) := by
  refine (dat0 V c).arrAt_eq_of_covers 5 _ (by decide +kernel) fun t hf y => ?_
  obtain ⟨e, a, f, rfl⟩ : ∃ (e : Fin 8) (a f : Fin 512), y = ix3 e a f := ⟨y 0, y 1, y 2, eq_ix3 y⟩
  have hout : (dat0 V c).after 5 t (ix3 e a f) = relu0 V c e (at_ t a) f := by
    refine Eq.trans ?_ (relu_eq V c t e a f)
    rw [after0_5]
    frame_out
    let G : Vec Ideal S8x512x512 .bf16 := fun i => rT (iblk0 V c 0 t) (iblk0 V c 1 t) (iblk0 V c 2 t) (i 0) (i 1) (i 2)
    refine fill_relu G _ _ _ _ _ _ _ _ (tile0_relu0 _ _ _ ) (tile0_relu1 _ _ _ _) (tile0_relu2 _ _ _ _) (tile0_relu3 _ _ _ _) (tile0_relu4 _ _ _ _)
      (tile0_relu5 _ _ _ _) (tile0_relu6 _ _ _ _) (tile0_relu7 _ _ _ _) (ix3 e a f)
  have he : ((cfg0.win 5).blk t).view.emb (ix3 e a f) = ix3 e (at_ t a) f := by
    unfold at_; blk_ext [idx0_5 t]
  rw [he]
  exact hout

/-- The result. -/
theorem forward_out : (dat0 V c).arrAt 4 cfg0.N = fun i => X V c (i 0) (i 1)
    + ∑ e, ∑ f, relu0 V c e (i 0) f * relu0 V c e (i 0) f * Dn V c e f (i 1) := by
  refine (dat0 V c).arrAt_eq_of_covers 4 _ (by decide +kernel) fun t hf y => ?_
  obtain ⟨a, b, rfl⟩ : ∃ a b, y = ix2 a b := ⟨y 0, y 1, by funext a; fin_cases a <;> rfl⟩
  have hout : (dat0 V c).after 4 t (ix2 a b) = X V c (at_ t a) b
      + ∑ e, ∑ f, relu0 V c e (at_ t a) f * relu0 V c e (at_ t a) f * Dn V c e f b := by
    refine Eq.trans ?_ (show outT (iblk0 V c 0 t) (iblk0 V c 1 t) (iblk0 V c 2 t) (iblk0 V c 3 t) a b = _ by
      simp only [outT, relu_eq, blk0_x, blk0_dn])
    rw [after0_4]
    frame_out
    exact tile0_out _ _ _ _ a b
  have he : ((cfg0.win 4).blk t).view.emb (ix2 a b) = ix2 (at_ t a) b := by
    unfold at_; blk_ext [idx0_4 t]
  rw [he]
  exact hout

end Arrays

end Cert.Proof.Mlp

end
-- ==== Proof.Mlp.First.lean ====
/- THE FIRST HALF OF THE BACKWARD PASS: over 32 tiles of 512 rows, with the first four blocks of the hidden layer. A tile
   writes what these blocks contribute to the cotangent of the normalised row (`first_dh`), and adds to the first four
   blocks of the two weights' gradients, zeroed at the first tile (`first_up`, `first_down`). -/
module

public import proofs.«01_k».proof.Proof.Gen.MlpIdeal.Frame
public import proofs.«01_k».proof.Proof.Mlp.Blocks

@[expose] public section

noncomputable section

namespace Cert.Proof.Mlp

open Cert.MlpIdeal Cert.MlpIdeal.Gen Idealize.ShloMosaic Idealize.ShloMosaic.TcCoe Idealize.SL.Sem Cert.Rows
  Idealize.ShloMosaic.Pipeline

section Tile

variable (x : Vec Ideal S512x1024 .f32) (w : Vec Ideal S1x1024 .f32) (up : Vec Ideal S4x1024x512 .bf16)
  (dn : Vec Ideal S4x512x1024 .bf16) (r : Vec Ideal S4x512x512 .bf16) (g : Vec Ideal S512x1024 .f32)

theorem tile1_dh (a : Fin 512) (j : Fin 1024) : k1_pay3
      (k1_pay27
        (k1_pay22
          (k1_pay15 k1_pay7
            (k1_pay9 g
              (View.ld r (Rect.unit ![0, 0, 0] ![1, 512, 512] inb_S4x512x512_S1x512x512_0_0_0))
              (View.ld dn (Rect.unit ![0, 0, 0] ![1, 512, 1024] inb_S4x512x1024_S1x512x1024_0_0_0)))
            (View.ld up (Rect.unit ![0, 0, 0] ![1, 1024, 512] inb_S4x1024x512_S1x1024x512_0_0_0)))
          (k1_pay17 g
            (View.ld r (Rect.unit ![1, 0, 0] ![1, 512, 512] inb_S4x512x512_S1x512x512_1_0_0))
            (View.ld dn (Rect.unit ![1, 0, 0] ![1, 512, 1024] inb_S4x512x1024_S1x512x1024_1_0_0)))
          (View.ld up (Rect.unit ![1, 0, 0] ![1, 1024, 512] inb_S4x1024x512_S1x1024x512_1_0_0)))
        (k1_pay24 g
          (View.ld r (Rect.unit ![2, 0, 0] ![1, 512, 512] inb_S4x512x512_S1x512x512_2_0_0))
          (View.ld dn (Rect.unit ![2, 0, 0] ![1, 512, 1024] inb_S4x512x1024_S1x512x1024_2_0_0)))
        (View.ld up (Rect.unit ![2, 0, 0] ![1, 1024, 512] inb_S4x1024x512_S1x1024x512_2_0_0)))
      (k1_pay29 g
        (View.ld r (Rect.unit ![3, 0, 0] ![1, 512, 512] inb_S4x512x512_S1x512x512_3_0_0))
        (View.ld dn (Rect.unit ![3, 0, 0] ![1, 512, 1024] inb_S4x512x1024_S1x512x1024_3_0_0)))
      (View.ld up (Rect.unit ![3, 0, 0] ![1, 1024, 512] inb_S4x1024x512_S1x1024x512_3_0_0)) (ix2 a j) = dH up dn r g a j := by
  pointwise [k1_pay3, k1_pay27, k1_pay22, k1_pay15, k1_pay7, k1_pay9, k1_pay17, k1_pay24, k1_pay29, k1_pay8, k1_pay16, k1_pay23, k1_pay28]
  unfold dH
  rw [Fin.sum_univ_four]
  rfl

variable (ou : Vec Ideal S4x1024x512 .f32) (od : Vec Ideal S4x512x1024 .f32)

theorem tile1_up0 (z : Fin 1) (j : Fin 1024) (f : Fin 512) : k1_pay14 (k1_pay6 x w)
      (k1_pay9 g (View.ld r (Rect.unit ![0, 0, 0] ![1, 512, 512] inb_S4x512x512_S1x512x512_0_0_0))
        (View.ld dn (Rect.unit ![0, 0, 0] ![1, 512, 1024] inb_S4x512x1024_S1x512x1024_0_0_0)))
      (View.ld ou (Rect.unit ![0, 0, 0] ![1, 1024, 512] inb_S4x1024x512_S1x1024x512_0_0_0)) (ix3 z j f)
    = ou (ix3 0 j f) + dUp x w dn r g 0 j f := by
  pointwise [k1_pay14, k1_pay6, k1_pay9, k1_pay8]
  rfl

theorem tile1_up1 (z : Fin 1) (j : Fin 1024) (f : Fin 512) : k1_pay21 (k1_pay6 x w)
      (k1_pay17 g (View.ld r (Rect.unit ![1, 0, 0] ![1, 512, 512] inb_S4x512x512_S1x512x512_1_0_0))
        (View.ld dn (Rect.unit ![1, 0, 0] ![1, 512, 1024] inb_S4x512x1024_S1x512x1024_1_0_0)))
      (View.ld ou (Rect.unit ![1, 0, 0] ![1, 1024, 512] inb_S4x1024x512_S1x1024x512_1_0_0)) (ix3 z j f)
    = ou (ix3 1 j f) + dUp x w dn r g 1 j f := by
  pointwise [k1_pay21, k1_pay6, k1_pay17, k1_pay16]
  rfl

theorem tile1_up2 (z : Fin 1) (j : Fin 1024) (f : Fin 512) : k1_pay26 (k1_pay6 x w)
      (k1_pay24 g (View.ld r (Rect.unit ![2, 0, 0] ![1, 512, 512] inb_S4x512x512_S1x512x512_2_0_0))
        (View.ld dn (Rect.unit ![2, 0, 0] ![1, 512, 1024] inb_S4x512x1024_S1x512x1024_2_0_0)))
      (View.ld ou (Rect.unit ![2, 0, 0] ![1, 1024, 512] inb_S4x1024x512_S1x1024x512_2_0_0)) (ix3 z j f)
    = ou (ix3 2 j f) + dUp x w dn r g 2 j f := by
  pointwise [k1_pay26, k1_pay6, k1_pay24, k1_pay23]
  rfl

theorem tile1_up3 (z : Fin 1) (j : Fin 1024) (f : Fin 512) : k1_pay2 (k1_pay6 x w)
      (k1_pay29 g (View.ld r (Rect.unit ![3, 0, 0] ![1, 512, 512] inb_S4x512x512_S1x512x512_3_0_0))
        (View.ld dn (Rect.unit ![3, 0, 0] ![1, 512, 1024] inb_S4x512x1024_S1x512x1024_3_0_0)))
      (View.ld ou (Rect.unit ![3, 0, 0] ![1, 1024, 512] inb_S4x1024x512_S1x1024x512_3_0_0)) (ix3 z j f)
    = ou (ix3 3 j f) + dUp x w dn r g 3 j f := by
  pointwise [k1_pay2, k1_pay6, k1_pay29, k1_pay28]
  rfl

theorem tile1_down0 (z : Fin 1) (f : Fin 512) (j : Fin 1024) : k1_pay13 (k1_pay10 (View.ld od (Rect.unit ![0, 0, 0] ![1, 512, 1024] inb_S4x512x1024_S1x512x1024_0_0_0)))
      (k1_pay11 (View.ld r (Rect.unit ![0, 0, 0] ![1, 512, 512] inb_S4x512x512_S1x512x512_0_0_0))) (k1_pay12 g) (ix3 z f j)
    = od (ix3 0 f j) + dDown r g 0 f j := by
  pointwise [k1_pay13, k1_pay10, k1_pay11, k1_pay12, k1_pay8]
  rfl

theorem tile1_down1 (z : Fin 1) (f : Fin 512) (j : Fin 1024) : k1_pay20 g (k1_pay18 (View.ld od (Rect.unit ![1, 0, 0] ![1, 512, 1024] inb_S4x512x1024_S1x512x1024_1_0_0)))
      (k1_pay19 (View.ld r (Rect.unit ![1, 0, 0] ![1, 512, 512] inb_S4x512x512_S1x512x512_1_0_0))) (ix3 z f j)
    = od (ix3 1 f j) + dDown r g 1 f j := by
  pointwise [k1_pay20, k1_pay18, k1_pay19, k1_pay16]
  rfl

theorem tile1_down2 (z : Fin 1) (f : Fin 512) (j : Fin 1024) : k1_pay25 g (k1_pay23 (View.ld r (Rect.unit ![2, 0, 0] ![1, 512, 512] inb_S4x512x512_S1x512x512_2_0_0)))
      (View.ld od (Rect.unit ![2, 0, 0] ![1, 512, 1024] inb_S4x512x1024_S1x512x1024_2_0_0)) (ix3 z f j)
    = od (ix3 2 f j) + dDown r g 2 f j := by
  pointwise [k1_pay25, k1_pay23]
  rfl

theorem tile1_down3 (z : Fin 1) (f : Fin 512) (j : Fin 1024) : k1_pay1 g (k1_pay28 (View.ld r (Rect.unit ![3, 0, 0] ![1, 512, 512] inb_S4x512x512_S1x512x512_3_0_0)))
      (View.ld od (Rect.unit ![3, 0, 0] ![1, 512, 1024] inb_S4x512x1024_S1x512x1024_3_0_0)) (ix3 z f j)
    = od (ix3 3 f j) + dDown r g 3 f j := by
  pointwise [k1_pay1, k1_pay28]
  rfl

variable (V : (c : Dev nD) → (b : Ref sig .tc) → Buf (Elt Ideal) ((c : Thread nD τ).loc b)) (c : Dev nD)

/-- What a tile leaves of the first weight's gradient, over what it finds (the zeros it stored, or what the tile before left). -/
theorem after_up1 (t : Fin cfg1.N) (o : Vec Ideal S4x1024x512 .f32)
    (ho : t.val % 32 = 0 ∧ o = k1_pay4 (F := Ideal)
      ∨ ¬ t.val % 32 = 0 ∧ o = (outsAt1 V c (t.val - 1) (Nat.lt_of_le_of_lt (Nat.sub_le _ _) t.isLt)).2.1)
    (i : S4x1024x512.Idx) : (outsAt1 V c t.val t.isLt).2.1 i = o i + dUp (iblk1 V c 0 t) (iblk1 V c 1 t) (iblk1 V c 3 t) (iblk1 V c 4 t) (iblk1 V c 5 t) (i 0) (i 1) (i 2) := by
  obtain ⟨h, rfl⟩ | ⟨h, rfl⟩ := ho
  · rw [outsAt1_A V c t h]
    frame_open
    simp (disch := decide) only [↓View.readCov_skip, ↓View.readCov_fill]
    frame_out
    refine fill_up (fun i => k1_pay4 (F := Ideal) i + dUp (iblk1 V c 0 t) (iblk1 V c 1 t) (iblk1 V c 3 t) (iblk1 V c 4 t) (iblk1 V c 5 t) (i 0) (i 1) (i 2)) _ _ _ _
      (tile1_up0 _ _ _ _ _ _) (tile1_up1 _ _ _ _ _ _) (tile1_up2 _ _ _ _ _ _) (tile1_up3 _ _ _ _ _ _) [_] i
  · rw [outsAt1_B V c t h]
    frame_out
    refine fill_up (fun i => (outsAt1 V c (t.val - 1) (Nat.lt_of_le_of_lt (Nat.sub_le _ _) t.isLt)).2.1 i + dUp (iblk1 V c 0 t) (iblk1 V c 1 t) (iblk1 V c 3 t) (iblk1 V c 4 t) (iblk1 V c 5 t) (i 0) (i 1) (i 2)) _ _ _ _
      (tile1_up0 _ _ _ _ _ _) (tile1_up1 _ _ _ _ _ _) (tile1_up2 _ _ _ _ _ _) (tile1_up3 _ _ _ _ _ _) [] i

/-- The same for the second weight's gradient. -/
theorem after_down1 (t : Fin cfg1.N) (o : Vec Ideal S4x512x1024 .f32)
    (ho : t.val % 32 = 0 ∧ o = k1_pay5 (F := Ideal)
      ∨ ¬ t.val % 32 = 0 ∧ o = (outsAt1 V c (t.val - 1) (Nat.lt_of_le_of_lt (Nat.sub_le _ _) t.isLt)).2.2)
    (i : S4x512x1024.Idx) : (outsAt1 V c t.val t.isLt).2.2 i = o i + dDown (iblk1 V c 4 t) (iblk1 V c 5 t) (i 0) (i 1) (i 2) := by
  obtain ⟨h, rfl⟩ | ⟨h, rfl⟩ := ho
  · rw [outsAt1_A V c t h]
    frame_open
    simp (disch := decide) only [↓View.readCov_skip, ↓View.readCov_fill]
    frame_out
    refine fill_down (fun i => k1_pay5 (F := Ideal) i + dDown (iblk1 V c 4 t) (iblk1 V c 5 t) (i 0) (i 1) (i 2)) _ _ _ _
      (tile1_down0 _ _ _) (tile1_down1 _ _ _) (tile1_down2 _ _ _) (tile1_down3 _ _ _) [_] i
  · rw [outsAt1_B V c t h]
    frame_out
    refine fill_down (fun i => (outsAt1 V c (t.val - 1) (Nat.lt_of_le_of_lt (Nat.sub_le _ _) t.isLt)).2.2 i + dDown (iblk1 V c 4 t) (iblk1 V c 5 t) (i 0) (i 1) (i 2)) _ _ _ _
      (tile1_down0 _ _ _) (tile1_down1 _ _ _) (tile1_down2 _ _ _) (tile1_down3 _ _ _) [] i

end Tile

theorem idx1_0 : ∀ t : Fin cfg1.N, win1_0.index t = ![t.val, 0] := (by decide +kernel : ∀ t : Fin grid1.N, _)
theorem idx1_1 : ∀ t : Fin cfg1.N, win1_1.index t = ![0, 0] := (by decide +kernel : ∀ t : Fin grid1.N, _)
theorem idx1_2 : ∀ t : Fin cfg1.N, win1_2.index t = ![0, 0, 0] := (by decide +kernel : ∀ t : Fin grid1.N, _)
theorem idx1_3 : ∀ t : Fin cfg1.N, win1_3.index t = ![0, 0, 0] := (by decide +kernel : ∀ t : Fin grid1.N, _)
theorem idx1_4 : ∀ t : Fin cfg1.N, win1_4.index t = ![0, t.val, 0] := (by decide +kernel : ∀ t : Fin grid1.N, _)
theorem idx1_5 : ∀ t : Fin cfg1.N, win1_5.index t = ![t.val, 0] := (by decide +kernel : ∀ t : Fin grid1.N, _)
theorem idx1_6 : ∀ t : Fin cfg1.N, win1_6.index t = ![t.val, 0] := (by decide +kernel : ∀ t : Fin grid1.N, _)
theorem idx1_7 : ∀ t : Fin cfg1.N, win1_7.index t = ![0, 0, 0] := (by decide +kernel : ∀ t : Fin grid1.N, _)
theorem idx1_8 : ∀ t : Fin cfg1.N, win1_8.index t = ![0, 0, 0] := (by decide +kernel : ∀ t : Fin grid1.N, _)

section Arrays

variable (V : (c : Dev nD) → (b : Ref sig .tc) → Buf (Elt Ideal) ((c : Thread nD τ).loc b)) (c : Dev nD)

theorem blk1_x (t : Fin cfg1.N) (a : Fin 512) (j : Fin 1024) : iblk1 V c 0 t (ix2 a j) = X V c (at_ t a) j := by
  unfold X at_; blk_ext! [iblk1, idx1_0 t]
theorem blk1_w (t : Fin cfg1.N) (j : Fin 1024) : iblk1 V c 1 t (ix2 0 j) = W V c j := by
  unfold W; blk_ext! [iblk1, idx1_1 t]
theorem blk1_up (t : Fin cfg1.N) (e : Fin 4) (j : Fin 1024) (f : Fin 512) : iblk1 V c 2 t (ix3 e j f) = Up V c (lo e) j f := by
  unfold Up lo; blk_ext! [iblk1, idx1_2 t]
theorem blk1_dn (t : Fin cfg1.N) (e : Fin 4) (f : Fin 512) (j : Fin 1024) : iblk1 V c 3 t (ix3 e f j) = Dn V c (lo e) f j := by
  unfold Dn lo; blk_ext! [iblk1, idx1_3 t]
theorem blk1_r (t : Fin cfg1.N) (e : Fin 4) (a f : Fin 512) : iblk1 V c 4 t (ix3 e a f) = R V c (lo e) (at_ t a) f := by
  unfold R lo at_; blk_ext! [iblk1, idx1_4 t]
theorem blk1_dy (t : Fin cfg1.N) (a : Fin 512) (j : Fin 1024) : iblk1 V c 5 t (ix2 a j) = DY V c (at_ t a) j := by
  unfold DY at_; blk_ext! [iblk1, idx1_5 t]

theorem dA1 (t : Fin cfg1.N) (e : Fin 4) (a f : Fin 512) :
    dA (iblk1 V c 3 t) (iblk1 V c 4 t) (iblk1 V c 5 t) e a f = DA V c (lo e) (at_ t a) f := by
  simp only [dA, DA, blk1_dn, blk1_r, blk1_dy]

/-- What the first four blocks of the hidden layer contribute to the cotangent of the normalised rows. -/
theorem first_dh : (dat1 V c).arrAt 6 cfg1.N
    = fun i => ∑ e : Fin 4, ∑ f, DA V c (lo e) (i 0) f * Up V c (lo e) (i 1) f := by
  refine (dat1 V c).arrAt_eq_of_covers 6 _ (by decide +kernel) fun t hf y => ?_
  obtain ⟨a, b, rfl⟩ : ∃ a b, y = ix2 a b := ⟨y 0, y 1, by funext a; fin_cases a <;> rfl⟩
  have hout : (dat1 V c).after 6 t (ix2 a b) = ∑ e : Fin 4, ∑ f, DA V c (lo e) (at_ t a) f * Up V c (lo e) b f := by
    refine Eq.trans ?_ (show dH (iblk1 V c 2 t) (iblk1 V c 3 t) (iblk1 V c 4 t) (iblk1 V c 5 t) a b = _ by
      simp only [dH, dA1, blk1_up])
    rw [after1_6]
    by_cases h : t.val % 32 = 0
    · rw [outsAt1_A V c t h]; frame_out; exact tile1_dh _ _ _ _ a b
    · rw [outsAt1_B V c t h]; frame_out; exact tile1_dh _ _ _ _ a b
  have he : ((cfg1.win 6).blk t).view.emb (ix2 a b) = ix2 (at_ t a) b := by
    unfold at_; blk_ext [idx1_6 t]
  rw [he]
  exact hout

theorem zero_up1 (i : S4x1024x512.Idx) : k1_pay4 (F := Ideal) i = 0 := by unfold k1_pay4; pointwise
theorem zero_down1 (i : S4x512x1024.Idx) : k1_pay5 (F := Ideal) i = 0 := by unfold k1_pay5; pointwise

theorem last1_up (t : Fin cfg1.N) (ht : t.val + 1 = cfg1.N) (e : Fin 4) (j : Fin 1024) (f : Fin 512) :
    (outsAt1 V c t.val t.isLt).2.1 (ix3 e j f) = ∑ t : Fin cfg1.N, ∑ a, norm (X V c (at_ t a)) (W V c) j * DA V c (lo e) (at_ t a) f := by
  rw [eq_sum_fin_of_reset_step_apply_last (fun n h => (outsAt1 V c n h).2.1) 32 (k1_pay4 (F := Ideal)) _
    (fun t h i => after_up1 V c t _ (.inl ⟨h, rfl⟩) i) (fun t h i => after_up1 V c t _ (.inr ⟨h, rfl⟩) i) (by decide) t ht _]
  refine (congrArg (· + _) (zero_up1 _)).trans ((zero_add (M := EReal) _).trans (Finset.sum_congr rfl fun t _ => ?_))
  refine Eq.trans (b := dUp (iblk1 V c 0 t) (iblk1 V c 1 t) (iblk1 V c 3 t) (iblk1 V c 4 t) (iblk1 V c 5 t) e j f) rfl ?_
  simp only [dUp, dA1, blk1_x, blk1_w]

theorem last1_down (t : Fin cfg1.N) (ht : t.val + 1 = cfg1.N) (e : Fin 4) (f : Fin 512) (j : Fin 1024) :
    (outsAt1 V c t.val t.isLt).2.2 (ix3 e f j) = ∑ t : Fin cfg1.N, ∑ a, R V c (lo e) (at_ t a) f * R V c (lo e) (at_ t a) f * DY V c (at_ t a) j := by
  rw [eq_sum_fin_of_reset_step_apply_last (fun n h => (outsAt1 V c n h).2.2) 32 (k1_pay5 (F := Ideal)) _
    (fun t h i => after_down1 V c t _ (.inl ⟨h, rfl⟩) i) (fun t h i => after_down1 V c t _ (.inr ⟨h, rfl⟩) i) (by decide) t ht _]
  refine (congrArg (· + _) (zero_down1 _)).trans ((zero_add (M := EReal) _).trans (Finset.sum_congr rfl fun t _ => ?_))
  refine Eq.trans (b := dDown (iblk1 V c 4 t) (iblk1 V c 5 t) e f j) rfl ?_
  simp only [dDown, blk1_r, blk1_dy]

/-- The first four blocks of the first weight's gradient. -/
theorem first_up (e : Fin 4) (j : Fin 1024) (f : Fin 512) : (dat1 V c).arrAt 7 cfg1.N (ix3 (lo e) j f)
    = ∑ t : Fin cfg1.N, ∑ a, norm (X V c (at_ t a)) (W V c) j * DA V c (lo e) (at_ t a) f := by
  refine ((dat1 V c).arrAt_apply_of_coversWhere 7 (P := fun i => (i 0).val / 4 = 0)
    (G := (fun i => ∑ t : Fin cfg1.N, ∑ a, norm (X V c (at_ t a)) (W V c) (i 1) * DA V c (i 0) (at_ t a) (i 2) : Vec Ideal S8x1024x512 .f32))
    (fun β => β 0 = 0) (by decide +kernel) (fun t hf y => ?_) (fun _ => Iff.rfl) (ix3 (lo e) j f)).trans
    (if_pos (Nat.div_eq_of_lt e.isLt))
  obtain ⟨e, a, b, rfl⟩ : ∃ (e : Fin 4) (a : Fin 1024) (b : Fin 512), y = ix3 e a b := ⟨y 0, y 1, y 2, eq_ix3 y⟩
  have he : ((cfg1.win 7).blk t).view.emb (ix3 e a b) = ix3 (lo e) a b := by unfold lo; blk_ext [idx1_7 t]
  rw [he]
  have ht : t.val + 1 = cfg1.N := by
    have := (flush1_7 t).mp hf
    have h : t.val < 32 := t.isLt
    show t.val + 1 = 32
    omega
  exact (congrFun (after1_7 V c t) _).trans (last1_up V c t ht e a b)

/-- The first four blocks of the second weight's gradient. -/
theorem first_down (e : Fin 4) (f : Fin 512) (j : Fin 1024) : (dat1 V c).arrAt 8 cfg1.N (ix3 (lo e) f j)
    = ∑ t : Fin cfg1.N, ∑ a, R V c (lo e) (at_ t a) f * R V c (lo e) (at_ t a) f * DY V c (at_ t a) j := by
  refine ((dat1 V c).arrAt_apply_of_coversWhere 8 (P := fun i => (i 0).val / 4 = 0)
    (G := (fun i => ∑ t : Fin cfg1.N, ∑ a, R V c (i 0) (at_ t a) (i 1) * R V c (i 0) (at_ t a) (i 1) * DY V c (at_ t a) (i 2) : Vec Ideal S8x512x1024 .f32))
    (fun β => β 0 = 0) (by decide +kernel) (fun t hf y => ?_) (fun _ => Iff.rfl) (ix3 (lo e) f j)).trans
    (if_pos (Nat.div_eq_of_lt e.isLt))
  obtain ⟨e, a, b, rfl⟩ : ∃ (e : Fin 4) (a : Fin 512) (b : Fin 1024), y = ix3 e a b := ⟨y 0, y 1, y 2, eq_ix3 y⟩
  have he : ((cfg1.win 8).blk t).view.emb (ix3 e a b) = ix3 (lo e) a b := by unfold lo; blk_ext [idx1_8 t]
  rw [he]
  have ht : t.val + 1 = cfg1.N := by
    have := (flush1_8 t).mp hf
    have h : t.val < 32 := t.isLt
    show t.val + 1 = 32
    omega
  exact (congrFun (after1_8 V c t) _).trans (last1_down V c t ht e a b)

end Arrays

end Cert.Proof.Mlp

end
-- ==== Proof.Mlp.Second.lean ====
/- THE SECOND HALF OF THE BACKWARD PASS: over the same tiles, with the last four blocks of the hidden layer. A tile completes
   the cotangent of its normalised rows and writes the gradient of its input rows (`second_dx`); it adds to the gradient of
   the norm's weight (`second_dn`) and to the last four blocks of the two weights' gradients (`second_up`, `second_down`). -/
module

public import proofs.«01_k».proof.Proof.Gen.MlpIdeal.Frame
public import proofs.«01_k».proof.Proof.Mlp.Blocks

@[expose] public section

noncomputable section

namespace Cert.Proof.Mlp

open Cert.MlpIdeal Cert.MlpIdeal.Gen Idealize.ShloMosaic Idealize.ShloMosaic.TcCoe Idealize.SL.Sem Cert.Rows
  Idealize.ShloMosaic.Pipeline

section Tile

variable (x : Vec Ideal S512x1024 .f32) (w : Vec Ideal S1x1024 .f32) (up : Vec Ideal S4x1024x512 .bf16)
  (dn : Vec Ideal S4x512x1024 .bf16) (r : Vec Ideal S4x512x512 .bf16) (g : Vec Ideal S512x1024 .f32)

variable (d : Vec Ideal S512x1024 .f32)

/-- The cotangent of a tile's normalised row, from the tile's blocks. -/
def dN (a : Fin 512) (j : Fin 1024) : EReal := d (ix2 a j) + dH up dn r g a j
/-- A tile's gradient of the input. -/
def dX (a : Fin 512) (j : Fin 1024) : EReal :=
  g (ix2 a j) + gradRow (fun j => x (ix2 a j)) (fun j => dN up dn r g d a j * w (ix2 0 j)) j
/-- What a tile adds to the gradient of the norm's weight. -/
def dW (j : Fin 1024) : EReal := ∑ a, x (ix2 a j) * factor (fun j => x (ix2 a j)) * dN up dn r g d a j

/-- The tile's cotangent with the first three of its four blocks, and what the fourth adds is made of. -/
abbrev threeBlocks := k2_pay29
  (k2_pay22
    (k2_pay17 (k2_pay12 d)
      (k2_pay14 g (View.ld r (Rect.unit ![0, 0, 0] ![1, 512, 512] inb_S4x512x512_S1x512x512_0_0_0))
        (View.ld dn (Rect.unit ![0, 0, 0] ![1, 512, 1024] inb_S4x512x1024_S1x512x1024_0_0_0)))
      (View.ld up (Rect.unit ![0, 0, 0] ![1, 1024, 512] inb_S4x1024x512_S1x1024x512_0_0_0)))
    (k2_pay19 g (View.ld r (Rect.unit ![1, 0, 0] ![1, 512, 512] inb_S4x512x512_S1x512x512_1_0_0))
      (View.ld dn (Rect.unit ![1, 0, 0] ![1, 512, 1024] inb_S4x512x1024_S1x512x1024_1_0_0)))
    (View.ld up (Rect.unit ![1, 0, 0] ![1, 1024, 512] inb_S4x1024x512_S1x1024x512_1_0_0)))
  (k2_pay23 (View.ld r (Rect.unit ![2, 0, 0] ![1, 512, 512] inb_S4x512x512_S1x512x512_2_0_0)))
  (k2_pay24 g (View.ld dn (Rect.unit ![2, 0, 0] ![1, 512, 1024] inb_S4x512x1024_S1x512x1024_2_0_0)))
  k2_pay25 (View.ld up (Rect.unit ![2, 0, 0] ![1, 1024, 512] inb_S4x1024x512_S1x1024x512_2_0_0))
abbrev gate3 := k2_pay30 (View.ld r (Rect.unit ![3, 0, 0] ![1, 512, 512] inb_S4x512x512_S1x512x512_3_0_0))
abbrev back3 := k2_pay31 g (View.ld dn (Rect.unit ![3, 0, 0] ![1, 512, 1024] inb_S4x512x1024_S1x512x1024_3_0_0))
abbrev up3 := View.ld up (Rect.unit ![3, 0, 0] ![1, 1024, 512] inb_S4x1024x512_S1x1024x512_3_0_0)

/-- The cotangent of a tile's normalised row: what the first half found and what these four blocks add. -/
theorem tile2_dh (a : Fin 512) (j : Fin 1024) : k2_pay35 (threeBlocks up dn r g d) (gate3 r) (back3 dn g) (up3 up) (ix2 a j) = dN up dn r g d a j := by
  pointwise [threeBlocks, gate3, back3, up3, k2_pay35, k2_pay29, k2_pay22, k2_pay17, k2_pay12, k2_pay14, k2_pay19, k2_pay23, k2_pay24, k2_pay25, k2_pay30, k2_pay31, k2_pay32, k2_pay13, k2_pay18, k2_pay26]
  unfold dN dH
  rw [Fin.sum_univ_four]
  simp only [← add_assoc]
  rfl

/-- A tile's stored gradient of the input. -/
theorem tile2_dx (a : Fin 512) (j : Fin 1024) : k2_pay1 x (k2_pay9 x) g
    (k2_pay38 x (k2_pay6 w) (threeBlocks up dn r g d) (gate3 r) (back3 dn g) (up3 up))
    (k2_pay39 (k2_pay6 w) (k2_pay8 x) (threeBlocks up dn r g d) (gate3 r) (back3 dn g) (up3 up)) (ix2 a j) = dX x w up dn r g d a j := by
  unfold k2_pay38 k2_pay39 k2_pay37
  pointwise [k2_pay1, k2_pay9, k2_pay6, k2_pay8, k2_pay7]
  simp only [tile2_dh, Finset.univ_unique, Finset.sum_singleton]
  rfl

/-- What a tile adds to the norm's weight's gradient. -/
theorem tile2_dn (o : Vec Ideal S1x1024 .f32) (z : Fin 1) (j : Fin 1024) : k2_pay2
    (k2_pay36 (k2_pay10 x) (threeBlocks up dn r g d) (gate3 r) (back3 dn g) (up3 up)) o (ix2 z j)
    = o (ix2 z j) + dW x up dn r g d j := by
  unfold k2_pay36
  pointwise [k2_pay2, k2_pay10, k2_pay8, k2_pay7]
  simp only [tile2_dh]
  rfl

variable (ou : Vec Ideal S4x1024x512 .f32) (od : Vec Ideal S4x512x1024 .f32)

theorem tile2_up0 (z : Fin 1) (j : Fin 1024) (f : Fin 512) : k2_pay16 (k2_pay11 x w)
      (k2_pay14 g (View.ld r (Rect.unit ![0, 0, 0] ![1, 512, 512] inb_S4x512x512_S1x512x512_0_0_0))
        (View.ld dn (Rect.unit ![0, 0, 0] ![1, 512, 1024] inb_S4x512x1024_S1x512x1024_0_0_0)))
      (View.ld ou (Rect.unit ![0, 0, 0] ![1, 1024, 512] inb_S4x1024x512_S1x1024x512_0_0_0)) (ix3 z j f)
    = ou (ix3 0 j f) + dUp x w dn r g 0 j f := by
  pointwise [k2_pay16, k2_pay14, k2_pay13, k2_pay11, k2_pay10, k2_pay8, k2_pay7, k2_pay6]
  rfl

theorem tile2_up1 (z : Fin 1) (j : Fin 1024) (f : Fin 512) : k2_pay21 (k2_pay11 x w)
      (k2_pay19 g (View.ld r (Rect.unit ![1, 0, 0] ![1, 512, 512] inb_S4x512x512_S1x512x512_1_0_0))
        (View.ld dn (Rect.unit ![1, 0, 0] ![1, 512, 1024] inb_S4x512x1024_S1x512x1024_1_0_0)))
      (View.ld ou (Rect.unit ![1, 0, 0] ![1, 1024, 512] inb_S4x1024x512_S1x1024x512_1_0_0)) (ix3 z j f)
    = ou (ix3 1 j f) + dUp x w dn r g 1 j f := by
  pointwise [k2_pay21, k2_pay19, k2_pay18, k2_pay11, k2_pay10, k2_pay8, k2_pay7, k2_pay6]
  rfl

theorem tile2_up2 (z : Fin 1) (j : Fin 1024) (f : Fin 512) : k2_pay28 (k2_pay11 x w)
      (k2_pay23 (View.ld r (Rect.unit ![2, 0, 0] ![1, 512, 512] inb_S4x512x512_S1x512x512_2_0_0)))
      (k2_pay24 g (View.ld dn (Rect.unit ![2, 0, 0] ![1, 512, 1024] inb_S4x512x1024_S1x512x1024_2_0_0)))
      k2_pay25
      (View.ld ou (Rect.unit ![2, 0, 0] ![1, 1024, 512] inb_S4x1024x512_S1x1024x512_2_0_0)) (ix3 z j f)
    = ou (ix3 2 j f) + dUp x w dn r g 2 j f := by
  pointwise [k2_pay28, k2_pay23, k2_pay24, k2_pay25, k2_pay26, k2_pay11, k2_pay10, k2_pay8, k2_pay7, k2_pay6]
  rfl

theorem tile2_up3 (z : Fin 1) (j : Fin 1024) (f : Fin 512) : k2_pay34 (k2_pay11 x w)
      (k2_pay30 (View.ld r (Rect.unit ![3, 0, 0] ![1, 512, 512] inb_S4x512x512_S1x512x512_3_0_0)))
      (k2_pay31 g (View.ld dn (Rect.unit ![3, 0, 0] ![1, 512, 1024] inb_S4x512x1024_S1x512x1024_3_0_0)))
      (View.ld ou (Rect.unit ![3, 0, 0] ![1, 1024, 512] inb_S4x1024x512_S1x1024x512_3_0_0)) (ix3 z j f)
    = ou (ix3 3 j f) + dUp x w dn r g 3 j f := by
  pointwise [k2_pay34, k2_pay30, k2_pay31, k2_pay32, k2_pay11, k2_pay10, k2_pay8, k2_pay7, k2_pay6]
  rfl

theorem tile2_down0 (z : Fin 1) (f : Fin 512) (j : Fin 1024) : k2_pay15 g (k2_pay13 (View.ld r (Rect.unit ![0, 0, 0] ![1, 512, 512] inb_S4x512x512_S1x512x512_0_0_0)))
      (View.ld od (Rect.unit ![0, 0, 0] ![1, 512, 1024] inb_S4x512x1024_S1x512x1024_0_0_0)) (ix3 z f j)
    = od (ix3 0 f j) + dDown r g 0 f j := by
  pointwise [k2_pay15, k2_pay13]
  rfl

theorem tile2_down1 (z : Fin 1) (f : Fin 512) (j : Fin 1024) : k2_pay20 g (k2_pay18 (View.ld r (Rect.unit ![1, 0, 0] ![1, 512, 512] inb_S4x512x512_S1x512x512_1_0_0)))
      (View.ld od (Rect.unit ![1, 0, 0] ![1, 512, 1024] inb_S4x512x1024_S1x512x1024_1_0_0)) (ix3 z f j)
    = od (ix3 1 f j) + dDown r g 1 f j := by
  pointwise [k2_pay20, k2_pay18]
  rfl

theorem tile2_down2 (z : Fin 1) (f : Fin 512) (j : Fin 1024) : k2_pay27 g (k2_pay23 (View.ld r (Rect.unit ![2, 0, 0] ![1, 512, 512] inb_S4x512x512_S1x512x512_2_0_0)))
      (View.ld od (Rect.unit ![2, 0, 0] ![1, 512, 1024] inb_S4x512x1024_S1x512x1024_2_0_0)) (ix3 z f j)
    = od (ix3 2 f j) + dDown r g 2 f j := by
  pointwise [k2_pay27, k2_pay23]
  rfl

theorem tile2_down3 (z : Fin 1) (f : Fin 512) (j : Fin 1024) : k2_pay33 g (k2_pay30 (View.ld r (Rect.unit ![3, 0, 0] ![1, 512, 512] inb_S4x512x512_S1x512x512_3_0_0)))
      (View.ld od (Rect.unit ![3, 0, 0] ![1, 512, 1024] inb_S4x512x1024_S1x512x1024_3_0_0)) (ix3 z f j)
    = od (ix3 3 f j) + dDown r g 3 f j := by
  pointwise [k2_pay33, k2_pay30]
  rfl

variable (V : (c : Dev nD) → (b : Ref sig .tc) → Buf (Elt Ideal) ((c : Thread nD τ).loc b)) (c : Dev nD)

/-- What a tile leaves of the first weight's gradient, over what it finds (the zeros it stored, or what the tile before left). -/
theorem after_up2 (t : Fin cfg2.N) (o : Vec Ideal S4x1024x512 .f32)
    (ho : t.val % 32 = 0 ∧ o = k2_pay3 (F := Ideal)
      ∨ ¬ t.val % 32 = 0 ∧ o = (outsAt2 V c (t.val - 1) (Nat.lt_of_le_of_lt (Nat.sub_le _ _) t.isLt)).2.2.1)
    (i : S4x1024x512.Idx) : (outsAt2 V c t.val t.isLt).2.2.1 i = o i + dUp (iblk2 V c 0 t) (iblk2 V c 1 t) (iblk2 V c 3 t) (iblk2 V c 4 t) (iblk2 V c 5 t) (i 0) (i 1) (i 2) := by
  obtain ⟨h, rfl⟩ | ⟨h, rfl⟩ := ho
  · rw [outsAt2_A V c t h]
    frame_open
    simp (disch := decide) only [↓View.readCov_skip, ↓View.readCov_fill]
    frame_out
    refine fill_up (fun i => k2_pay3 (F := Ideal) i + dUp (iblk2 V c 0 t) (iblk2 V c 1 t) (iblk2 V c 3 t) (iblk2 V c 4 t) (iblk2 V c 5 t) (i 0) (i 1) (i 2)) _ _ _ _
      (tile2_up0 _ _ _ _ _ _) (tile2_up1 _ _ _ _ _ _) (tile2_up2 _ _ _ _ _ _) (tile2_up3 _ _ _ _ _ _) [_] i
  · rw [outsAt2_B V c t h]
    frame_out
    refine fill_up (fun i => (outsAt2 V c (t.val - 1) (Nat.lt_of_le_of_lt (Nat.sub_le _ _) t.isLt)).2.2.1 i + dUp (iblk2 V c 0 t) (iblk2 V c 1 t) (iblk2 V c 3 t) (iblk2 V c 4 t) (iblk2 V c 5 t) (i 0) (i 1) (i 2)) _ _ _ _
      (tile2_up0 _ _ _ _ _ _) (tile2_up1 _ _ _ _ _ _) (tile2_up2 _ _ _ _ _ _) (tile2_up3 _ _ _ _ _ _) [] i

/-- The same for the second weight's gradient. -/
theorem after_down2 (t : Fin cfg2.N) (o : Vec Ideal S4x512x1024 .f32)
    (ho : t.val % 32 = 0 ∧ o = k2_pay4 (F := Ideal)
      ∨ ¬ t.val % 32 = 0 ∧ o = (outsAt2 V c (t.val - 1) (Nat.lt_of_le_of_lt (Nat.sub_le _ _) t.isLt)).2.2.2)
    (i : S4x512x1024.Idx) : (outsAt2 V c t.val t.isLt).2.2.2 i = o i + dDown (iblk2 V c 4 t) (iblk2 V c 5 t) (i 0) (i 1) (i 2) := by
  obtain ⟨h, rfl⟩ | ⟨h, rfl⟩ := ho
  · rw [outsAt2_A V c t h]
    frame_open
    simp (disch := decide) only [↓View.readCov_skip, ↓View.readCov_fill]
    frame_out
    refine fill_down (fun i => k2_pay4 (F := Ideal) i + dDown (iblk2 V c 4 t) (iblk2 V c 5 t) (i 0) (i 1) (i 2)) _ _ _ _
      (tile2_down0 _ _ _) (tile2_down1 _ _ _) (tile2_down2 _ _ _) (tile2_down3 _ _ _) [_] i
  · rw [outsAt2_B V c t h]
    frame_out
    refine fill_down (fun i => (outsAt2 V c (t.val - 1) (Nat.lt_of_le_of_lt (Nat.sub_le _ _) t.isLt)).2.2.2 i + dDown (iblk2 V c 4 t) (iblk2 V c 5 t) (i 0) (i 1) (i 2)) _ _ _ _
      (tile2_down0 _ _ _) (tile2_down1 _ _ _) (tile2_down2 _ _ _) (tile2_down3 _ _ _) [] i

end Tile

theorem idx2_0 : ∀ t : Fin cfg2.N, win2_0.index t = ![t.val, 0] := (by decide +kernel : ∀ t : Fin grid2.N, _)
theorem idx2_1 : ∀ t : Fin cfg2.N, win2_1.index t = ![0, 0] := (by decide +kernel : ∀ t : Fin grid2.N, _)
theorem idx2_2 : ∀ t : Fin cfg2.N, win2_2.index t = ![1, 0, 0] := (by decide +kernel : ∀ t : Fin grid2.N, _)
theorem idx2_3 : ∀ t : Fin cfg2.N, win2_3.index t = ![1, 0, 0] := (by decide +kernel : ∀ t : Fin grid2.N, _)
theorem idx2_4 : ∀ t : Fin cfg2.N, win2_4.index t = ![1, t.val, 0] := (by decide +kernel : ∀ t : Fin grid2.N, _)
theorem idx2_5 : ∀ t : Fin cfg2.N, win2_5.index t = ![t.val, 0] := (by decide +kernel : ∀ t : Fin grid2.N, _)
theorem idx2_6 : ∀ t : Fin cfg2.N, win2_6.index t = ![t.val, 0] := (by decide +kernel : ∀ t : Fin grid2.N, _)
theorem idx2_7 : ∀ t : Fin cfg2.N, win2_7.index t = ![t.val, 0] := (by decide +kernel : ∀ t : Fin grid2.N, _)
theorem idx2_8 : ∀ t : Fin cfg2.N, win2_8.index t = ![0, 0] := (by decide +kernel : ∀ t : Fin grid2.N, _)
theorem idx2_9 : ∀ t : Fin cfg2.N, win2_9.index t = ![1, 0, 0] := (by decide +kernel : ∀ t : Fin grid2.N, _)
theorem idx2_10 : ∀ t : Fin cfg2.N, win2_10.index t = ![1, 0, 0] := (by decide +kernel : ∀ t : Fin grid2.N, _)

section Arrays

variable (V : (c : Dev nD) → (b : Ref sig .tc) → Buf (Elt Ideal) ((c : Thread nD τ).loc b)) (c : Dev nD)

theorem blk2_x (t : Fin cfg2.N) (a : Fin 512) (j : Fin 1024) : iblk2 V c 0 t (ix2 a j) = X V c (at_ t a) j := by
  unfold X at_; blk_ext! [iblk2, idx2_0 t]
theorem blk2_w (t : Fin cfg2.N) (j : Fin 1024) : iblk2 V c 1 t (ix2 0 j) = W V c j := by
  unfold W; blk_ext! [iblk2, idx2_1 t]
theorem blk2_up (t : Fin cfg2.N) (e : Fin 4) (j : Fin 1024) (f : Fin 512) : iblk2 V c 2 t (ix3 e j f) = Up V c (hi e) j f := by
  unfold Up hi; blk_ext! [iblk2, idx2_2 t]
theorem blk2_dn (t : Fin cfg2.N) (e : Fin 4) (f : Fin 512) (j : Fin 1024) : iblk2 V c 3 t (ix3 e f j) = Dn V c (hi e) f j := by
  unfold Dn hi; blk_ext! [iblk2, idx2_3 t]
theorem blk2_r (t : Fin cfg2.N) (e : Fin 4) (a f : Fin 512) : iblk2 V c 4 t (ix3 e a f) = R V c (hi e) (at_ t a) f := by
  unfold R hi at_; blk_ext! [iblk2, idx2_4 t]
theorem blk2_dy (t : Fin cfg2.N) (a : Fin 512) (j : Fin 1024) : iblk2 V c 5 t (ix2 a j) = DY V c (at_ t a) j := by
  unfold DY at_; blk_ext! [iblk2, idx2_5 t]

theorem dA2 (t : Fin cfg2.N) (e : Fin 4) (a f : Fin 512) :
    dA (iblk2 V c 3 t) (iblk2 V c 4 t) (iblk2 V c 5 t) e a f = DA V c (hi e) (at_ t a) f := by
  simp only [dA, DA, blk2_dn, blk2_r, blk2_dy]

theorem blk2_dh (t : Fin cfg2.N) (a : Fin 512) (j : Fin 1024) : iblk2 V c 6 t (ix2 a j) = DH V c (at_ t a) j := by
  unfold DH at_; blk_ext! [iblk2, idx2_6 t]

/-- The cotangent of the normalised rows: what the first half wrote and what the last four blocks contribute. -/
def DN (r : Fin 16384) (j : Fin 1024) : EReal := DH V c r j + ∑ e : Fin 4, ∑ f, DA V c (hi e) r f * Up V c (hi e) j f

theorem tile_dn (t : Fin cfg2.N) (a : Fin 512) (j : Fin 1024) :
    dN (iblk2 V c 2 t) (iblk2 V c 3 t) (iblk2 V c 4 t) (iblk2 V c 5 t) (iblk2 V c 6 t) a j = DN V c (at_ t a) j := by
  simp only [dN, DN, dH, dA2, blk2_up, blk2_dh]

/-- The gradient of the input. -/
theorem second_dx : (dat2 V c).arrAt 7 cfg2.N
    = fun i => DY V c (i 0) (i 1) + gradRow (X V c (i 0)) (fun j => DN V c (i 0) j * W V c j) (i 1) := by
  refine (dat2 V c).arrAt_eq_of_covers 7 _ (by decide +kernel) fun t hf y => ?_
  obtain ⟨a, b, rfl⟩ : ∃ a b, y = ix2 a b := ⟨y 0, y 1, by funext a; fin_cases a <;> rfl⟩
  have hout : (dat2 V c).after 7 t (ix2 a b)
      = DY V c (at_ t a) b + gradRow (X V c (at_ t a)) (fun j => DN V c (at_ t a) j * W V c j) b := by
    refine Eq.trans ?_ (show dX (iblk2 V c 0 t) (iblk2 V c 1 t) (iblk2 V c 2 t) (iblk2 V c 3 t) (iblk2 V c 4 t) (iblk2 V c 5 t) (iblk2 V c 6 t) a b = _ by
      simp only [dX, tile_dn, blk2_x, blk2_w, blk2_dy])
    rw [after2_7]
    by_cases h : t.val % 32 = 0
    · rw [outsAt2_A V c t h]; frame_out; exact tile2_dx _ _ _ _ _ _ _ a b
    · rw [outsAt2_B V c t h]; frame_out; exact tile2_dx _ _ _ _ _ _ _ a b
  have he : ((cfg2.win 7).blk t).view.emb (ix2 a b) = ix2 (at_ t a) b := by
    unfold at_; blk_ext [idx2_7 t]
  rw [he]
  exact hout

theorem tile_dw (t : Fin cfg2.N) (o : Vec Ideal S1x1024 .f32) (i : S1x1024.Idx) : k2_pay2
    (k2_pay36 (k2_pay10 (iblk2 V c 0 t)) (threeBlocks (iblk2 V c 2 t) (iblk2 V c 3 t) (iblk2 V c 4 t) (iblk2 V c 5 t) (iblk2 V c 6 t)) (gate3 (iblk2 V c 4 t)) (back3 (iblk2 V c 3 t) (iblk2 V c 5 t)) (up3 (iblk2 V c 2 t))) o i
    = o i + ∑ a, X V c (at_ t a) (i 1) * factor (X V c (at_ t a)) * DN V c (at_ t a) (i 1) := by
  obtain ⟨z, j, rfl⟩ : ∃ (z : Fin 1) (j : Fin 1024), i = ix2 z j := ⟨i 0, i 1, by funext a; fin_cases a <;> rfl⟩
  refine (tile2_dn _ _ _ _ _ _ _ _ _).trans (congrArg (_ + ·) ?_)
  simp only [dW, tile_dn, blk2_x]
  rfl

theorem zero_dn (i : S1x1024.Idx) : k2_pay5 (F := Ideal) i = 0 := by unfold k2_pay5; pointwise

/-- The gradient of the norm's weight: every entry the sum over the tiles. -/
theorem second_dn : (dat2 V c).arrAt 8 cfg2.N
    = fun i => ∑ t : Fin cfg2.N, ∑ a, X V c (at_ t a) (i 1) * factor (X V c (at_ t a)) * DN V c (at_ t a) (i 1) := by
  refine (dat2 V c).arrAt_eq_of_after_last 8 (⟨31, by decide⟩ : Fin cfg2.N) (by decide +kernel)
    (G := (fun i => ∑ t : Fin cfg2.N, ∑ a, X V c (at_ t a) (i 1) * factor (X V c (at_ t a)) * DN V c (at_ t a) (i 1) : Vec Ideal S1x1024 .f32)) fun i => ?_
  rw [after2_8, Pipeline.eq_sum_fin_of_reset_step_apply_last (fun n h => (outsAt2 V c n h).2.1) 32
    (k2_pay5 (F := Ideal)) (fun t i => ∑ a, X V c (at_ t a) (i 1) * factor (X V c (at_ t a)) * DN V c (at_ t a) (i 1))
    (fun t h i => by
      rw [outsAt2_A V c t h]; frame_open
      simp (disch := decide) only [↓View.readCov_skip, ↓View.readCov_fill]
      frame_out; exact tile_dw V c t _ i)
    (fun t h i => by rw [outsAt2_B V c t h]; frame_out; exact tile_dw V c t _ i)
    (by decide) _ (by decide)]
  exact (congrArg (· + _) (zero_dn _)).trans (zero_add (M := EReal) _)

theorem zero_up2 (i : S4x1024x512.Idx) : k2_pay3 (F := Ideal) i = 0 := by unfold k2_pay3; pointwise
theorem zero_down2 (i : S4x512x1024.Idx) : k2_pay4 (F := Ideal) i = 0 := by unfold k2_pay4; pointwise

theorem last2_up (t : Fin cfg2.N) (ht : t.val + 1 = cfg2.N) (e : Fin 4) (j : Fin 1024) (f : Fin 512) :
    (outsAt2 V c t.val t.isLt).2.2.1 (ix3 e j f) = ∑ t : Fin cfg2.N, ∑ a, norm (X V c (at_ t a)) (W V c) j * DA V c (hi e) (at_ t a) f := by
  rw [eq_sum_fin_of_reset_step_apply_last (fun n h => (outsAt2 V c n h).2.2.1) 32 (k2_pay3 (F := Ideal)) _
    (fun t h i => after_up2 V c t _ (.inl ⟨h, rfl⟩) i) (fun t h i => after_up2 V c t _ (.inr ⟨h, rfl⟩) i) (by decide) t ht _]
  refine (congrArg (· + _) (zero_up2 _)).trans ((zero_add (M := EReal) _).trans (Finset.sum_congr rfl fun t _ => ?_))
  refine Eq.trans (b := dUp (iblk2 V c 0 t) (iblk2 V c 1 t) (iblk2 V c 3 t) (iblk2 V c 4 t) (iblk2 V c 5 t) e j f) rfl ?_
  simp only [dUp, dA2, blk2_x, blk2_w]

theorem last2_down (t : Fin cfg2.N) (ht : t.val + 1 = cfg2.N) (e : Fin 4) (f : Fin 512) (j : Fin 1024) :
    (outsAt2 V c t.val t.isLt).2.2.2 (ix3 e f j) = ∑ t : Fin cfg2.N, ∑ a, R V c (hi e) (at_ t a) f * R V c (hi e) (at_ t a) f * DY V c (at_ t a) j := by
  rw [eq_sum_fin_of_reset_step_apply_last (fun n h => (outsAt2 V c n h).2.2.2) 32 (k2_pay4 (F := Ideal)) _
    (fun t h i => after_down2 V c t _ (.inl ⟨h, rfl⟩) i) (fun t h i => after_down2 V c t _ (.inr ⟨h, rfl⟩) i) (by decide) t ht _]
  refine (congrArg (· + _) (zero_down2 _)).trans ((zero_add (M := EReal) _).trans (Finset.sum_congr rfl fun t _ => ?_))
  refine Eq.trans (b := dDown (iblk2 V c 4 t) (iblk2 V c 5 t) e f j) rfl ?_
  simp only [dDown, blk2_r, blk2_dy]

/-- The last four blocks of the first weight's gradient. -/
theorem up_where (i : S8x1024x512.Idx) : (dat2 V c).arrAt 9 cfg2.N i
    = if (i 0).val / 4 = 1 then ∑ t : Fin cfg2.N, ∑ a, norm (X V c (at_ t a)) (W V c) (i 1) * DA V c (i 0) (at_ t a) (i 2) else (dat2 V c).A 9 i := by
  refine (dat2 V c).arrAt_apply_of_coversWhere 9 (P := fun i => (i 0).val / 4 = 1)
    (G := (fun i => ∑ t : Fin cfg2.N, ∑ a, norm (X V c (at_ t a)) (W V c) (i 1) * DA V c (i 0) (at_ t a) (i 2) : Vec Ideal S8x1024x512 .f32))
    (fun β => β 0 = 1) (by decide +kernel) (fun t hf y => ?_) (fun _ => Iff.rfl) i
  obtain ⟨e, a, b, rfl⟩ : ∃ (e : Fin 4) (a : Fin 1024) (b : Fin 512), y = ix3 e a b := ⟨y 0, y 1, y 2, eq_ix3 y⟩
  have he : ((cfg2.win 9).blk t).view.emb (ix3 e a b) = ix3 (hi e) a b := by unfold hi; blk_ext [idx2_9 t]
  rw [he]
  have ht : t.val + 1 = cfg2.N := by
    have := (flush2_9 t).mp hf
    have h : t.val < 32 := t.isLt
    show t.val + 1 = 32
    omega
  exact (congrFun (after2_9 V c t) _).trans (last2_up V c t ht e a b)

theorem second_up (e : Fin 4) (j : Fin 1024) (f : Fin 512) : (dat2 V c).arrAt 9 cfg2.N (ix3 (hi e) j f)
    = ∑ t : Fin cfg2.N, ∑ a, norm (X V c (at_ t a)) (W V c) j * DA V c (hi e) (at_ t a) f :=
  (up_where V c _).trans (if_pos (show (4 + e.val) / 4 = 1 by omega))

/-- The first four are left as they were found. -/
theorem up_kept (e : Fin 4) (j : Fin 1024) (f : Fin 512) :
    (dat2 V c).arrAt 9 cfg2.N (ix3 (lo e) j f) = V c main_v9_2 (ix3 (lo e) j f) :=
  ((up_where V c _).trans (if_neg (show ¬ e.val / 4 = 1 by omega))).trans (congrFun (A_eq2 V c 9) _)

/-- The last four blocks of the second weight's gradient. -/
theorem down_where (i : S8x512x1024.Idx) : (dat2 V c).arrAt 10 cfg2.N i
    = if (i 0).val / 4 = 1 then ∑ t : Fin cfg2.N, ∑ a, R V c (i 0) (at_ t a) (i 1) * R V c (i 0) (at_ t a) (i 1) * DY V c (at_ t a) (i 2) else (dat2 V c).A 10 i := by
  refine (dat2 V c).arrAt_apply_of_coversWhere 10 (P := fun i => (i 0).val / 4 = 1)
    (G := (fun i => ∑ t : Fin cfg2.N, ∑ a, R V c (i 0) (at_ t a) (i 1) * R V c (i 0) (at_ t a) (i 1) * DY V c (at_ t a) (i 2) : Vec Ideal S8x512x1024 .f32))
    (fun β => β 0 = 1) (by decide +kernel) (fun t hf y => ?_) (fun _ => Iff.rfl) i
  obtain ⟨e, a, b, rfl⟩ : ∃ (e : Fin 4) (a : Fin 512) (b : Fin 1024), y = ix3 e a b := ⟨y 0, y 1, y 2, eq_ix3 y⟩
  have he : ((cfg2.win 10).blk t).view.emb (ix3 e a b) = ix3 (hi e) a b := by unfold hi; blk_ext [idx2_10 t]
  rw [he]
  have ht : t.val + 1 = cfg2.N := by
    have := (flush2_10 t).mp hf
    have h : t.val < 32 := t.isLt
    show t.val + 1 = 32
    omega
  exact (congrFun (after2_10 V c t) _).trans (last2_down V c t ht e a b)

theorem second_down (e : Fin 4) (f : Fin 512) (j : Fin 1024) : (dat2 V c).arrAt 10 cfg2.N (ix3 (hi e) f j)
    = ∑ t : Fin cfg2.N, ∑ a, R V c (hi e) (at_ t a) f * R V c (hi e) (at_ t a) f * DY V c (at_ t a) j :=
  (down_where V c _).trans (if_pos (show (4 + e.val) / 4 = 1 by omega))

/-- The first four are left as they were found. -/
theorem down_kept (e : Fin 4) (f : Fin 512) (j : Fin 1024) :
    (dat2 V c).arrAt 10 cfg2.N (ix3 (lo e) f j) = V c main_v9_3 (ix3 (lo e) f j) :=
  ((down_where V c _).trans (if_neg (show ¬ e.val / 4 = 1 by omega))).trans (congrFun (A_eq2 V c 10) _)

end Arrays

end Cert.Proof.Mlp

end
-- ==== Proof.Mlp.Values.lean ====
/- WHAT EACH CALL READS, and what the run leaves: the last boundary's contents, traced back call by call, are the forward
   result (`end_out`) and the four gradients (`end_dx`, `end_dn`, `end_up`, `end_down`) as functions of the launch
   arguments. -/
module

public import proofs.«01_k».proof.Proof.Mlp.Forward
public import proofs.«01_k».proof.Proof.Mlp.First
public import proofs.«01_k».proof.Proof.Mlp.Second

@[expose] public section

noncomputable section

namespace Cert.Proof.Mlp

open Cert.MlpIdeal Cert.MlpIdeal.Gen Idealize.ShloMosaic Idealize.ShloMosaic.TcCoe Idealize.SL.Sem Cert.Rows

variable (m : (ℓ : Loc nD τ sig) → Buf (Elt Ideal) ℓ) (ρ : Dev nD → PrngReg) (c : Dev nD)

/-- A row of the input, at launch. -/
def aX (r : Fin 16384) (j : Fin 1024) : EReal := m ((c : Thread nD τ).loc main_arg0) (ix2 r j)
/-- The norm's weight, at launch. -/
def aW (j : Fin 1024) : EReal := m ((c : Thread nD τ).loc main_arg1) (ix1 j)
/-- The first weight, at launch. -/
def aU (e : Fin 8) (j : Fin 1024) (f : Fin 512) : EReal := m ((c : Thread nD τ).loc main_arg2) (ix2 j (col e f))
/-- The second weight, at launch. -/
def aD (e : Fin 8) (f : Fin 512) (j : Fin 1024) : EReal := m ((c : Thread nD τ).loc main_arg3) (ix2 (col e f) j)
/-- A row of the cotangent, at launch. -/
def aG (r : Fin 16384) (j : Fin 1024) : EReal := m ((c : Thread nD τ).loc main_arg4) (ix2 r j)

theorem up_1 : Up (V1 m ρ) c = aU m c := by
  funext e j f
  show V1 m ρ c main_v2 (ix3 e j f) = _
  unfold_abbrev_sides; after_results
  unfold aU col
  pointwise
theorem dn_1 : Dn (V1 m ρ) c = aD m c := by
  funext e f j
  show V1 m ρ c main_v4 (ix3 e f j) = _
  unfold_abbrev_sides; after_results
  unfold aD col
  pointwise
theorem w_1 : W0 (V1 m ρ) c = aW m c := by
  funext j
  show V1 m ρ c main_v5 (ix2 0 j) = _
  unfold_abbrev_sides; after_results
  unfold aW
  pointwise
theorem x_1 : X (V1 m ρ) c = aX m c := by
  funext r j; exact congrFun (W1_args m ρ c main_arg0 (by decide)) _
theorem relu_1 : relu0 (V1 m ρ) c = hid (aX m c) (aW m c) (aU m c) := by
  funext e r f; unfold relu0 hid; rw [x_1, w_1, up_1]

theorem keep3_v2 : V3 m ρ c main_v2 = V1 m ρ c main_v2 :=
  (W3_of m ρ c main_v2 (by decide)).trans (W2_of m ρ c main_v2 (by decide +kernel))
theorem keep3_v4 : V3 m ρ c main_v4 = V1 m ρ c main_v4 :=
  (W3_of m ρ c main_v4 (by decide)).trans (W2_of m ρ c main_v4 (by decide +kernel))

theorem x_3 : X (V3 m ρ) c = aX m c := by funext r j; exact congrFun (W3_args m ρ c main_arg0 (by decide)) _
theorem g_3 : DY (V3 m ρ) c = aG m c := by funext r j; exact congrFun (W3_args m ρ c main_arg4 (by decide)) _
theorem w_3 : W (V3 m ρ) c = aW m c := by
  funext j
  show V3 m ρ c main_v7 (ix2 0 j) = _
  unfold_abbrev_sides; after_results
  rw [W2_args m ρ c main_arg1 (by decide)]
  unfold aW
  pointwise
theorem up_3 : Up (V3 m ρ) c = aU m c := by
  rw [← up_1 m ρ]; funext e j f; exact congrFun (keep3_v2 m ρ c) _
theorem dn_3 : Dn (V3 m ρ) c = aD m c := by
  rw [← dn_1 m ρ]; funext e f j; exact congrFun (keep3_v4 m ρ c) _
theorem r_3 : R (V3 m ρ) c = hid (aX m c) (aW m c) (aU m c) := by
  funext e r f
  refine ((congrFun ((W3_of m ρ c main_v6_1 (by decide)).trans (W2_arr m ρ c 5)) _).trans
    (congrFun (forward_relu (V1 m ρ) c) (ix3 e r f))).trans ?_
  rw [relu_1]; rfl
theorem da_3 : DA (V3 m ρ) c = cotA (aX m c) (aW m c) (aU m c) (aD m c) (aG m c) := by
  funext e r f; unfold DA cotA; rw [g_3, dn_3, r_3]

theorem keep5_v2 : V5 m ρ c main_v2 = V3 m ρ c main_v2 :=
  (W5_of m ρ c main_v2 (by decide)).trans (W4_of m ρ c main_v2 (by decide +kernel))
theorem keep5_v4 : V5 m ρ c main_v4 = V3 m ρ c main_v4 :=
  (W5_of m ρ c main_v4 (by decide)).trans (W4_of m ρ c main_v4 (by decide +kernel))
theorem keep5_v6_1 : V5 m ρ c main_v6_1 = V3 m ρ c main_v6_1 :=
  (W5_of m ρ c main_v6_1 (by decide)).trans (W4_of m ρ c main_v6_1 (by decide +kernel))
theorem keep5_v7 : V5 m ρ c main_v7 = V3 m ρ c main_v7 :=
  (W5_of m ρ c main_v7 (by decide)).trans (W4_of m ρ c main_v7 (by decide +kernel))

theorem x_5 : X (V5 m ρ) c = aX m c := by funext r j; exact congrFun (W5_args m ρ c main_arg0 (by decide)) _
theorem g_5 : DY (V5 m ρ) c = aG m c := by funext r j; exact congrFun (W5_args m ρ c main_arg4 (by decide)) _
theorem w_5 : W (V5 m ρ) c = aW m c := by
  rw [← w_3 m ρ]; funext j; exact congrFun (keep5_v7 m ρ c) _
theorem up_5 : Up (V5 m ρ) c = aU m c := by
  rw [← up_3 m ρ]; funext e j f; exact congrFun (keep5_v2 m ρ c) _
theorem dn_5 : Dn (V5 m ρ) c = aD m c := by
  rw [← dn_3 m ρ]; funext e f j; exact congrFun (keep5_v4 m ρ c) _
theorem r_5 : R (V5 m ρ) c = hid (aX m c) (aW m c) (aU m c) := by
  rw [← r_3 m ρ]; funext e r f; exact congrFun (keep5_v6_1 m ρ c) _
theorem da_5 : DA (V5 m ρ) c = cotA (aX m c) (aW m c) (aU m c) (aD m c) (aG m c) := by
  funext e r f; unfold DA cotA; rw [g_5, dn_5, r_5]

/-- Eight blocks are the first four and the last four. -/
theorem sum_halves (f : Fin 8 → EReal) : ∑ e : Fin 4, f (lo e) + ∑ e : Fin 4, f (hi e) = ∑ e, f e :=
  (Fin.sum_univ_add (a := 4) (b := 4) f).symm

theorem dn_all : DN (V5 m ρ) c = cotN (aX m c) (aW m c) (aU m c) (aD m c) (aG m c) := by
  funext r j
  have h : DH (V5 m ρ) c r j = ∑ e : Fin 4, ∑ f, DA (V3 m ρ) c (lo e) r f * Up (V3 m ρ) c (lo e) j f :=
    (congrFun ((W5_of m ρ c main_v8_0 (by decide)).trans (W4_arr m ρ c 6)) _).trans (congrFun (first_dh (V3 m ρ) c) (ix2 r j))
  unfold DN cotN
  rw [h, da_3, up_3, da_5, up_5]
  exact sum_halves fun e => ∑ f, cotA (aX m c) (aW m c) (aU m c) (aD m c) (aG m c) e r f * aU m c e j f

/-- The rows are those of the 32 tiles. -/
theorem sum_rows (f : Fin 16384 → EReal) : ∑ t : Fin 32, ∑ a : Fin 512, f (at_ t a) = ∑ r, f r := Fin.sum_mul_add_fin 32 512 f

/-- A block is one of the first four or one of the last four. -/
theorem half_cases (e : Fin 8) : (∃ k, e = lo k) ∨ ∃ k, e = hi k := by
  by_cases h : e.val < 4
  · exact .inl ⟨⟨e.val, h⟩, rfl⟩
  · exact .inr ⟨⟨e.val - 4, by omega⟩, Fin.ext (show e.val = 4 + (e.val - 4) by omega)⟩

/-- The forward result. -/
theorem end_out (r : Fin 16384) (j : Fin 1024) :
    W6 m ρ c (Proc.devRef .tc main_v6_0) (ix2 r j) = outV (aX m c) (aW m c) (aU m c) (aD m c) r j := by
  refine (congrFun ((W6_of m ρ c main_v6_0 (by decide +kernel)).trans ((W5_of m ρ c main_v6_0 (by decide)).trans
    ((W4_of m ρ c main_v6_0 (by decide +kernel)).trans ((W3_of m ρ c main_v6_0 (by decide)).trans (W2_arr m ρ c 4))))) _).trans
    ((congrFun (forward_out (V1 m ρ) c) (ix2 r j)).trans ?_)
  rw [x_1, dn_1, relu_1]
  rfl

/-- The gradient of the input. -/
theorem end_dx (r : Fin 16384) (j : Fin 1024) : W6 m ρ c (Proc.devRef .tc main_v9_0) (ix2 r j)
    = dxV (aX m c) (aW m c) (aU m c) (aD m c) (aG m c) r j := by
  refine (congrFun (W6_arr m ρ c 7) _).trans ((congrFun (second_dx (V5 m ρ) c) (ix2 r j)).trans ?_)
  rw [x_5, w_5, g_5, dn_all]
  rfl

/-- The gradient of the norm's weight. -/
theorem end_dn (z : Fin 1) (j : Fin 1024) : W6 m ρ c (Proc.devRef .tc main_v9_1) (ix2 z j)
    = dnV (aX m c) (aW m c) (aU m c) (aD m c) (aG m c) j := by
  refine (congrFun (W6_arr m ρ c 8) _).trans ((congrFun (second_dn (V5 m ρ) c) (ix2 z j)).trans ?_)
  rw [x_5, dn_all]
  exact sum_rows fun r => aX m c r j * factor (aX m c r) * cotN (aX m c) (aW m c) (aU m c) (aD m c) (aG m c) r j

/-- The gradient of the first weight. -/
theorem end_up (e : Fin 8) (j : Fin 1024) (f : Fin 512) : W6 m ρ c (Proc.devRef .tc main_v9_2) (ix3 e j f)
    = duV (aX m c) (aW m c) (aU m c) (aD m c) (aG m c) e j f := by
  refine (congrFun (W6_arr m ρ c 9) _).trans ?_
  obtain ⟨e, rfl⟩ | ⟨e, rfl⟩ := half_cases e
  · refine (up_kept (V5 m ρ) c e j f).trans ?_
    have h : V5 m ρ c main_v9_2 = W4 m ρ c (Proc.devRef .tc main_v8_1) := by unfold_abbrev_sides; after_results; rfl
    refine (congrFun (h.trans (W4_arr m ρ c 7)) _).trans ((first_up (V3 m ρ) c e j f).trans ?_)
    rw [x_3, w_3, da_3]
    exact sum_rows fun r => norm (aX m c r) (aW m c) j * cotA (aX m c) (aW m c) (aU m c) (aD m c) (aG m c) (lo e) r f
  · refine (second_up (V5 m ρ) c e j f).trans ?_
    rw [x_5, w_5, da_5]
    exact sum_rows fun r => norm (aX m c r) (aW m c) j * cotA (aX m c) (aW m c) (aU m c) (aD m c) (aG m c) (hi e) r f

/-- The gradient of the second weight. -/
theorem end_down (e : Fin 8) (f : Fin 512) (j : Fin 1024) : W6 m ρ c (Proc.devRef .tc main_v9_3) (ix3 e f j)
    = ddV (aX m c) (aW m c) (aU m c) (aG m c) e f j := by
  refine (congrFun (W6_arr m ρ c 10) _).trans ?_
  obtain ⟨e, rfl⟩ | ⟨e, rfl⟩ := half_cases e
  · refine (down_kept (V5 m ρ) c e f j).trans ?_
    have h : V5 m ρ c main_v9_3 = W4 m ρ c (Proc.devRef .tc main_v8_2) := by unfold_abbrev_sides; after_results; rfl
    refine (congrFun (h.trans (W4_arr m ρ c 8)) _).trans ((first_down (V3 m ρ) c e f j).trans ?_)
    rw [r_3, g_3]
    exact sum_rows fun r => hid (aX m c) (aW m c) (aU m c) (lo e) r f * hid (aX m c) (aW m c) (aU m c) (lo e) r f * aG m c r j
  · refine (second_down (V5 m ρ) c e f j).trans ?_
    rw [r_5, g_5]
    exact sum_rows fun r => hid (aX m c) (aW m c) (aU m c) (hi e) r f * hid (aX m c) (aW m c) (aU m c) (hi e) r f * aG m c r j

end Cert.Proof.Mlp

end
-- ==== Proof.Mlp.Reference.lean ====
/- THE REFERENCE OF THE FEED-FORWARD BLOCK, read at an index: its forward lines, and the derivative jax takes of them. The
   derivative of the square of a positive part is twice the positive part, where the hidden entry is positive and where it
   is not. -/
module

public import proofs.«01_k».proof.Proof.Gen.MlpRefIdeal.Read
public import proofs.«01_k».proof.Proof.Mlp.Rows
public import proofs.«01_k».proof.Proof.Consts
public import Idealize.ShloMosaic.Lib.Pipeline.ValueKit

@[expose] public section

noncomputable section

namespace Cert.Proof.Mlp

open Cert.MlpRefIdeal Cert.MlpRefIdeal.Gen Cert.MlpRefIdeal.Read Idealize.ShloMosaic Cert.Rows

variable (x : Vec Ideal S16384x1024 .f32) (w : Vec Ideal S1024 .f32) (u : Vec Ideal S1024x4096 .f32)
  (d : Vec Ideal S4096x1024 .f32) (g : Vec Ideal S16384x1024 .f32)

/-- The arrays by their entries; the two weights by their eight blocks of the hidden layer. -/
abbrev mX (r : Fin 16384) (j : Fin 1024) : EReal := x (ix2 r j)
abbrev mW (j : Fin 1024) : EReal := w (ix1 j)
abbrev mU (e : Fin 8) (j : Fin 1024) (f : Fin 512) : EReal := u (ix2 j (col e f))
abbrev mD (e : Fin 8) (f : Fin 512) (j : Fin 1024) : EReal := d (ix2 (col e f) j)

/-- A sum over the hidden layer is the sum over its blocks. -/
theorem sum_col (h : Fin 4096 → EReal) : ∑ k, h k = ∑ e, ∑ f, h (col e f) := (Fin.sum_mul_add_fin 8 512 h).symm

/-- Twice a number. -/
theorem two_mul_self (y : EReal) : y + y = two * y := by
  unfold two
  rw [Consts.word_two]
  induction y using EReal.rec with
  | bot => rw [EReal.coe_mul_bot_of_pos (by norm_num)]; rfl
  | coe y => norm_cast; ring
  | top => rw [EReal.coe_mul_top_of_pos (by norm_num)]; rfl

/-- A hidden entry's cotangent: what jax takes through the square and the positive part. -/
theorem gate_eq (a s : EReal) :
    (if 0 < a then max a 0 * s + s * max a 0 else 0) = s * (two * max a 0) := by
  split_ifs with h
  · rw [mul_comm (max a 0) s, two_mul_self, mul_left_comm]
  · rw [max_eq_right (not_lt.1 h), mul_zero, mul_zero]

theorem ref_hid (r : Fin 16384) (k : Fin 4096) : val_main_v17 (F := Ideal) x w u (ix2 r k)
    = relu (mX x r) (mW w) fun j => u (ix2 j k) := by
  pointwise [val_main_v17, val_main_call0_v0, val_main_call0_cst, val_main_v16, val_main_v15, val_main_v14, val_main_v13, val_main_v12, val_main_v11, val_main_v7, val_main_v6, val_main_v5, val_main_cst_1, val_main_v4, val_main_v3, val_main_cst_0, val_main_v2, val_main_v1, val_main_cst, val_main_v0]
  rfl

theorem ref_cot (r : Fin 16384) (k : Fin 4096) : val_main_v32 (F := Ideal) x w u d g (ix2 r k)
    = gate (mX g r) (fun j => d (ix2 k j)) (relu (mX x r) (mW w) fun j => u (ix2 j k)) := by
  pointwise [val_main_v32, val_main_v31, val_main_cst_5, val_main_v30, val_main_v29, val_main_v28, val_main_v27, val_main_v24, val_main_v19, val_main_v18, val_main_cst_3, val_main_v17, val_main_call0_v0, val_main_call0_cst, val_main_v16, val_main_v15, val_main_v14, val_main_v13, val_main_v12, val_main_v11, val_main_v7, val_main_v6, val_main_v5, val_main_cst_1, val_main_v4, val_main_v3, val_main_cst_0, val_main_v2, val_main_v1, val_main_cst, val_main_v0]
  exact gate_eq _ _

theorem ref_cotn (r : Fin 16384) (j : Fin 1024) : val_main_v35 (F := Ideal) x w u d g (ix2 r j)
    = cotN (mX x) (mW w) (mU u) (mD d) (mX g) r j := by
  pointwise [val_main_v35]
  simp only [ref_cot]
  exact sum_col _

theorem ref_out (r : Fin 16384) (j : Fin 1024) : val_main_v23 (F := Ideal) x w u d (ix2 r j)
    = outV (mX x) (mW w) (mU u) (mD d) r j := by
  pointwise [val_main_v23, val_main_v22, val_main_v21]
  simp only [ref_hid]
  exact congrArg (_ + ·) (sum_col _)

theorem ref_dx (r : Fin 16384) (j : Fin 1024) : val_main_v56 (F := Ideal) x w u d g (ix2 r j)
    = dxV (mX x) (mW w) (mU u) (mD d) (mX g) r j := by
  pointwise [val_main_v56, val_main_v55, val_main_v54, val_main_v53, val_main_v52, val_main_v51, val_main_cst_10, val_main_v50, val_main_v49, val_main_cst_9, val_main_v48, val_main_v47, val_main_v46, val_main_v45, val_main_v44, val_main_v43, val_main_cst_8, val_main_v42, val_main_v40, val_main_v39, val_main_v13, val_main_v10, val_main_v9, val_main_cst_2, val_main_v8, val_main_v7, val_main_v6, val_main_v5, val_main_cst_1, val_main_v4, val_main_v3, val_main_cst_0, val_main_v2, val_main_v1, val_main_cst, val_main_v0]
  simp only [Finset.univ_unique, Finset.sum_singleton, ref_cotn]
  unfold dxV gradRow
  rw [← add_assoc, ← add_assoc]
  rfl

theorem ref_dn (z : Fin 1) (j : Fin 1024) : val_main_v57 (F := Ideal) x w u d g (ix2 z j)
    = dnV (mX x) (mW w) (mU u) (mD d) (mX g) j := by
  pointwise [val_main_v57, val_main_v41, val_main_cst_7, val_main_v38, val_main_v37, val_main_cst_6, val_main_v36, val_main_v12, val_main_v11, val_main_v7, val_main_v6, val_main_v5, val_main_cst_1, val_main_v4, val_main_v3, val_main_cst_0, val_main_v2, val_main_v1, val_main_cst, val_main_v0]
  simp only [Finset.univ_unique, Finset.sum_singleton, ref_cotn]
  rfl

theorem ref_du (e : Fin 8) (j : Fin 1024) (f : Fin 512) : val_main_v59 (F := Ideal) x w u d g (ix3 e j f)
    = duV (mX x) (mW w) (mU u) (mD d) (mX g) e j f := by
  pointwise [val_main_v59, val_main_v58, val_main_v34, val_main_v33, val_main_v15, val_main_v14, val_main_v13, val_main_v12, val_main_v11, val_main_v7, val_main_v6, val_main_v5, val_main_cst_1, val_main_v4, val_main_v3, val_main_cst_0, val_main_v2, val_main_v1, val_main_cst, val_main_v0]
  simp only [ref_cot]
  exact Finset.sum_congr rfl fun r _ => mul_comm _ _

theorem ref_dd (e : Fin 8) (f : Fin 512) (j : Fin 1024) : val_main_v60 (F := Ideal) x w u g (ix3 e f j)
    = ddV (mX x) (mW w) (mU u) (mX g) e f j := by
  pointwise [val_main_v60, val_main_v26, val_main_v25, val_main_v24, val_main_v21]
  simp only [ref_hid]
  exact Finset.sum_congr rfl fun r _ => mul_comm _ _

end Cert.Proof.Mlp

end
-- ==== Proof.Mlp.Equation.lean ====
/- THE FEED-FORWARD BLOCK'S CALLS COMPUTE ITS RESULT AND ITS FOUR GRADIENTS. -/
module

public import proofs.«01_k».proof.Defs
public import proofs.«01_k».proof.Proof.Gen.MlpRefIdeal.Run
public import proofs.«01_k».proof.Proof.Mlp.Run
public import proofs.«01_k».proof.Proof.Mlp.Values
public import proofs.«01_k».proof.Proof.Mlp.Reference

@[expose] public section

noncomputable section

namespace Cert.Proof.Mlp

open Idealize.ShloMosaic Idealize.ShloMosaic.TcCoe Idealize.SL.Sem Cert.Rows

section Values

variable (m : (ℓ : Loc MlpIdeal.nD MlpIdeal.τ MlpIdeal.sig) → Buf (Elt Ideal) ℓ) (c : Dev MlpIdeal.nD)

def outArr : Vec Ideal MlpIdeal.S16384x1024 .f32 := fun i => outV (aX m c) (aW m c) (aU m c) (aD m c) (i 0) (i 1)
def dxArr : Vec Ideal MlpIdeal.S16384x1024 .f32 := fun i => dxV (aX m c) (aW m c) (aU m c) (aD m c) (aG m c) (i 0) (i 1)
def dnArr : Vec Ideal MlpIdeal.S1x1024 .f32 := fun i => dnV (aX m c) (aW m c) (aU m c) (aD m c) (aG m c) (i 1)
def duArr : Vec Ideal MlpIdeal.S8x1024x512 .f32 := fun i => duV (aX m c) (aW m c) (aU m c) (aD m c) (aG m c) (i 0) (i 1) (i 2)
def ddArr : Vec Ideal MlpIdeal.S8x512x1024 .f32 := fun i => ddV (aX m c) (aW m c) (aU m c) (aG m c) (i 0) (i 1) (i 2)

end Values

/-- The reference's frame. -/
theorem ref_frame : Cert.quiescent_MlpRefIdeal := fun m ρ _ =>
  (θ_run MlpRefIdeal.defs _ _).mono (fun r h => ⟨fun c => (h c).2.2.2.2.2, sem_eq_zero_of_no_sems (by decide) r.2⟩)
    (MlpRefIdeal.Value.run (F := Ideal) m ρ)

theorem idx2 {a b : ℕ} (i : (Shape.mk 2 ![a, b]).Idx) : ∃ p q, i = ix2 p q := ⟨i 0, i 1, by funext k; fin_cases k <;> rfl⟩
theorem idx3 {a b c : ℕ} (i : (Shape.mk 3 ![a, b, c]).Idx) : ∃ p q r, i = ix3 p q r :=
  ⟨i 0, i 1, i 2, by funext k; fin_cases k <;> rfl⟩

theorem algebraic : Cert.algebraic_MlpIdeal_MlpRefIdeal := by
  intro m g m' g' _ hag
  refine ⟨outArr m, dxArr m, dnArr m, duArr m, ddArr m, ?_, ?_⟩
  · refine (θ_run MlpIdeal.defs _ _).mono (fun r h c => ?_) (run (F := Ideal) m g)
    refine ⟨(h c MlpIdeal.main_v6_0 (by decide)).trans ?_, (h c MlpIdeal.main_v9_0 (by decide)).trans ?_,
      (h c MlpIdeal.main_v9_1 (by decide)).trans ?_, (h c MlpIdeal.main_v9_2 (by decide)).trans ?_,
      (h c MlpIdeal.main_v9_3 (by decide)).trans ?_, ?_⟩
    · funext i; obtain ⟨p, q, rfl⟩ := idx2 i; exact end_out m g c p q
    · funext i; obtain ⟨p, q, rfl⟩ := idx2 i; exact end_dx m g c p q
    · funext i; obtain ⟨p, q, rfl⟩ := idx2 i; exact end_dn m g c p q
    · funext i; obtain ⟨p, q, r, rfl⟩ := idx3 i; exact end_up m g c p q r
    · funext i; obtain ⟨p, q, r, rfl⟩ := idx3 i; exact end_down m g c p q r
    · exact ⟨(h c MlpIdeal.main_arg0 (by decide)).trans (MlpIdeal.Gen.W6_main_arg0 m g c),
        (h c MlpIdeal.main_arg1 (by decide)).trans (MlpIdeal.Gen.W6_main_arg1 m g c),
        (h c MlpIdeal.main_arg2 (by decide)).trans (MlpIdeal.Gen.W6_main_arg2 m g c),
        (h c MlpIdeal.main_arg3 (by decide)).trans (MlpIdeal.Gen.W6_main_arg3 m g c),
        (h c MlpIdeal.main_arg4 (by decide)).trans (MlpIdeal.Gen.W6_main_arg4 m g c)⟩
  · refine (θ_run MlpRefIdeal.defs _ _).mono (fun r h c => ?_) (MlpRefIdeal.Value.run (F := Ideal) m' g')
    obtain ⟨h0, h1, h2, h3, h4, ha⟩ := h c
    obtain ⟨e0, e1, e2, e3, e4⟩ := hag c
    refine ⟨h0.trans ((MlpRefIdeal.Read.val_main_v23_eq _ _ _ _).trans ?_),
      h1.trans ((MlpRefIdeal.Read.val_main_v56_eq _ _).trans ?_), h2.trans ((MlpRefIdeal.Read.val_main_v57_eq _ _).trans ?_),
      h3.trans ((MlpRefIdeal.Read.val_main_v59_eq _ _).trans ?_), h4.trans ((MlpRefIdeal.Read.val_main_v60_eq _ _ _ _).trans ?_), ha⟩
    · rw [e0, e1, e2, e3]; funext i; obtain ⟨p, q, rfl⟩ := idx2 i; exact ref_out _ _ _ _ p q
    · rw [e0, e1, e2, e3, e4]; funext i; obtain ⟨p, q, rfl⟩ := idx2 i; exact ref_dx _ _ _ _ _ p q
    · rw [e0, e1, e2, e3, e4]; funext i; obtain ⟨p, q, rfl⟩ := idx2 i; exact ref_dn _ _ _ _ _ p q
    · rw [e0, e1, e2, e3, e4]; funext i; obtain ⟨p, q, r, rfl⟩ := idx3 i; exact ref_du _ _ _ _ _ p q r
    · rw [e0, e1, e2, e4]; funext i; obtain ⟨p, q, r, rfl⟩ := idx3 i; exact ref_dd _ _ _ _ p q r

end Cert.Proof.Mlp

end
-- ==== Proof.In.Rows.lean ====
/- A LAYER'S INPUT PROJECTION BACKWARD, a row at a time, over the extended reals: `x` is the layer's input, `w` the norm's
   weight, `u` the projection's weight by row and column, `p` the cotangent of the projection, `s` the cotangent that
   reaches the input past the layer. Both layers' calls and their references are stated by these functions, over their own
   number of columns. -/
module

public import proofs.«01_k».proof.Proof.Rows

@[expose] public section

noncomputable section

namespace Cert.Proof.In

open Cert.Rows

variable {R K : ℕ} (x : Fin R → Fin 1024 → EReal) (w : Fin 1024 → EReal) (u : Fin 1024 → Fin K → EReal)
  (p : Fin R → Fin K → EReal) (s : Fin R → Fin 1024 → EReal)

/-- The cotangent of a normalised row. -/
def cotN (r : Fin R) (j : Fin 1024) : EReal := ∑ k, p r k * u j k

/-- The gradient of the input, `n` being the cotangent of the normalised rows. -/
def dxV (n : Fin R → Fin 1024 → EReal) (r : Fin R) (j : Fin 1024) : EReal :=
  s r j + gradRow (x r) (fun j => n r j * w j) j

/-- The gradient of the norm's weight. -/
def dnV (n : Fin R → Fin 1024 → EReal) (j : Fin 1024) : EReal := ∑ r, x r j * factor (x r) * n r j

/-- The gradient of the projection's weight. -/
def dwV (j : Fin 1024) (k : Fin K) : EReal := ∑ r, norm (x r) w j * p r k

end Cert.Proof.In

end
-- ==== Proof.In1.Columns.lean ====
/- THE COLUMNS of the second layer's input projection. The calls hold its 3340 columns in another order (the last 268
   exchanged in two groups) and 116 columns of zeros after them: `place` reads a row so laid out. A sum over the laid out
   columns is the sum over the columns (`sum_place`), and the sum over four groups (`sum_groups`). -/
module

public import proofs.«01_k».proof.Proof.In.Rows

@[expose] public section

noncomputable section

namespace Cert.Proof.In1

/-- The four groups of columns the kernel reads and writes one at a time. -/
abbrev g0 (k : Fin 2304) : Fin 3456 := ⟨k.val, by omega⟩
abbrev g1 (k : Fin 768) : Fin 3456 := ⟨2304 + k.val, by omega⟩
abbrev g2 (k : Fin 256) : Fin 3456 := ⟨3072 + k.val, by omega⟩
abbrev g3 (k : Fin 128) : Fin 3456 := ⟨3328 + k.val, by omega⟩

/-- A row of 3340 columns, as it is laid out. -/
def place (f : Fin 3340 → EReal) (k : Fin 3456) : EReal :=
  if h : k.val < 3072 then f ⟨k.val, by omega⟩
  else if h : k.val < 3328 then f ⟨k.val + 12, by omega⟩
  else if h : k.val < 3340 then f ⟨k.val - 256, by omega⟩
  else 0

theorem place_g0 (f : Fin 3340 → EReal) (k : Fin 2304) : place f (g0 k) = f ⟨k.val, by omega⟩ :=
  dif_pos (show k.val < 3072 by omega)
theorem place_g1 (f : Fin 3340 → EReal) (k : Fin 768) : place f (g1 k) = f ⟨2304 + k.val, by omega⟩ :=
  dif_pos (show 2304 + k.val < 3072 by omega)
theorem place_g2 (f : Fin 3340 → EReal) (k : Fin 256) : place f (g2 k) = f ⟨3084 + k.val, by omega⟩ := by
  refine (dif_neg (by simp)).trans ((dif_pos (show 3072 + k.val < 3328 by omega)).trans (congrArg f (Fin.ext ?_)))
  simp only []; omega
theorem place_g3 (f : Fin 3340 → EReal) (k : Fin 128) :
    place f (g3 k) = if h : k.val < 12 then f ⟨3072 + k.val, by omega⟩ else 0 := by
  refine (dif_neg (show ¬ 3328 + k.val < 3072 by omega)).trans ((dif_neg (show ¬ 3328 + k.val < 3328 by omega)).trans ?_)
  by_cases h : k.val < 12
  · rw [dif_pos h]
    refine (dif_pos (show 3328 + k.val < 3340 by omega)).trans (congrArg f (Fin.ext ?_))
    simp only []; omega
  · rw [dif_neg h]
    exact dif_neg (show ¬ 3328 + k.val < 3340 by omega)

/-- The four groups are all the columns. -/
theorem sum_groups (f : Fin 3456 → EReal) :
    ∑ k, f (g0 k) + ∑ k, f (g1 k) + ∑ k, f (g2 k) + ∑ k, f (g3 k) = ∑ k, f k := by
  rw [show (∑ k, f k) = _ from Fin.sum_univ_add (a := 3328) (b := 128) f,
    Fin.sum_univ_add (a := 3072) (b := 256) fun k => f (Fin.castAdd 128 k),
    Fin.sum_univ_add (a := 2304) (b := 768) fun k => f (Fin.castAdd 128 (Fin.castAdd 256 k))]
  rfl

/-- The order of the columns and the columns of zeros do not matter to a sum of products. -/
theorem sum_place (f g : Fin 3340 → EReal) : ∑ k, place f k * place g k = ∑ k, f k * g k := by
  have e3 : ∑ k, place f (g3 k) * place g (g3 k)
      = ∑ k : Fin 12, f ⟨3072 + k.val, by omega⟩ * g ⟨3072 + k.val, by omega⟩ := by
    refine (Fin.sum_univ_add (a := 12) (b := 116) fun k => place f (g3 k) * place g (g3 k)).trans ?_
    have hz : ∑ k : Fin 116, place f (g3 (Fin.natAdd 12 k)) * place g (g3 (Fin.natAdd 12 k)) = 0 :=
      Finset.sum_eq_zero fun k _ => by
        rw [place_g3, dif_neg (by simp [Fin.natAdd]), zero_mul]
    rw [hz, add_zero]
    refine Finset.sum_congr rfl fun k _ => ?_
    rw [place_g3, place_g3, dif_pos (by simp [Fin.castAdd]), dif_pos (by simp [Fin.castAdd])]
    rfl
  rw [← sum_groups fun k => place f k * place g k, e3]
  simp only [place_g0, place_g1, place_g2]
  rw [show (∑ k, f k * g k) = _ from Fin.sum_univ_add (a := 3084) (b := 256) fun k => f k * g k,
    Fin.sum_univ_add (a := 3072) (b := 12) fun k => f (Fin.castAdd 256 k) * g (Fin.castAdd 256 k),
    Fin.sum_univ_add (a := 2304) (b := 768) fun k =>
      f (Fin.castAdd 256 (Fin.castAdd 12 k)) * g (Fin.castAdd 256 (Fin.castAdd 12 k)), add_right_comm]
  rfl

end Cert.Proof.In1

end
-- ==== Proof.In1.Kernel.lean ====
/- THE CALL ON THE SECOND LAYER'S INPUT PROJECTION, tile by tile. The grid walks the 16384 rows in 32 tiles of 512. A tile
   writes its rows' gradient (`final_dx`), and adds to two blocks that stay in place over the whole grid, zeroed at the
   first tile: the gradient of the projection's weight, in four groups of columns (`final_dw`), and that of the norm's
   weight (`final_dn`). -/
module

public import proofs.«01_k».proof.Proof.Gen.In1Ideal.Frame
public import proofs.«01_k».proof.Proof.In1.Columns
public import Idealize.ShloMosaic.Lib.Pipeline.ValueKit
public import Idealize.ShloMosaic.Lib.Pipeline.ReadBack

@[expose] public section

noncomputable section

namespace Cert.Proof.In1

open Cert.In1Ideal Cert.In1Ideal.Gen Idealize.ShloMosaic Idealize.ShloMosaic.TcCoe Idealize.SL.Sem Cert.Rows
  Idealize.ShloMosaic.Pipeline Cert.Proof.In

section Tile

variable (x : Vec Ideal S512x1024 .f32) (w : Vec Ideal S1x1024 .f32) (u : Vec Ideal S1024x3456 .bf16)
  (p0 : Vec Ideal S512x2304 .f32) (p1 : Vec Ideal S512x768 .f32) (p2 : Vec Ideal S512x256 .f32) (p3 : Vec Ideal S512x128 .f32)
  (s : Vec Ideal S512x1024 .f32)

/-- The cotangent of a tile's normalised row, from the tile's blocks. -/
def tN (a : Fin 512) (j : Fin 1024) : EReal :=
  ∑ k, p0 (ix2 a k) * u (ix2 j (g0 k)) + ∑ k, p1 (ix2 a k) * u (ix2 j (g1 k)) + ∑ k, p2 (ix2 a k) * u (ix2 j (g2 k))
    + ∑ k, p3 (ix2 a k) * u (ix2 j (g3 k))

/-- That cotangent with the first three groups, and the fourth group's columns of the weight. -/
abbrev threeGroups := k0_pay19
  (k0_pay14 p0 (View.ld u (Rect.unit ![0, 0] ![1024, 2304] inb_S1024x3456_S1024x2304_0_0)))
  p1 (View.ld u (Rect.unit ![0, 2304] ![1024, 768] inb_S1024x3456_S1024x768_0_2304))
  p2 (View.ld u (Rect.unit ![0, 3072] ![1024, 256] inb_S1024x3456_S1024x256_0_3072))
abbrev fourth := k0_pay22 (View.ld u (Rect.unit ![0, 3328] ![1024, 128] inb_S1024x3456_S1024x128_0_3328))

theorem tile_dx (a : Fin 512) (b : Fin 1024) : k0_pay3 x (k0_pay7 w) (k0_pay9 x) (k0_pay10 x)
      (threeGroups u p0 p1 p2) (fourth u)
      (k0_pay23 p3) (constant S512x1024 FTy.f32 0#32) s (ix2 a b)
    = dxV (fun a j => x (ix2 a j)) (fun j => w (ix2 0 j)) (fun a j => s (ix2 a j)) (tN u p0 p1 p2 p3) a b := by
  pointwise [threeGroups, fourth, k0_pay3, k0_pay1, k0_pay7, k0_pay8, k0_pay9, k0_pay10, k0_pay13, k0_pay14, k0_pay16, k0_pay18, k0_pay19, k0_pay21, k0_pay22, k0_pay23]
  simp only [Finset.univ_unique, Finset.sum_singleton]
  rfl

theorem tile_dn (o : Vec Ideal S1x1024 .f32) (z : Fin 1) (b : Fin 1024) : k0_pay4 (k0_pay11 x)
      (threeGroups u p0 p1 p2) (fourth u)
      (k0_pay23 p3) (constant S512x1024 FTy.f32 0#32) o (ix2 z b)
    = o (ix2 z b) + dnV (fun a j => x (ix2 a j)) (tN u p0 p1 p2 p3) b := by
  pointwise [threeGroups, fourth, k0_pay4, k0_pay1, k0_pay8, k0_pay9, k0_pay11, k0_pay13, k0_pay14, k0_pay16, k0_pay18, k0_pay19, k0_pay21, k0_pay22, k0_pay23]
  rfl

variable (o : Vec Ideal S1024x3456 .f32)

theorem tile_dw0 (j : Fin 1024) (k : Fin 2304) : k0_pay15 x w p0
      (View.ld o (Rect.unit ![0, 0] ![1024, 2304] inb_S1024x3456_S1024x2304_0_0)) (ix2 j k)
    = o (ix2 j (g0 k)) + dwV (fun a j => x (ix2 a j)) (fun j => w (ix2 0 j)) (fun a k => p0 (ix2 a k)) j k := by
  pointwise [k0_pay15, k0_pay12, k0_pay13, k0_pay11, k0_pay9, k0_pay8, k0_pay7]
  rfl

theorem tile_dw1 (j : Fin 1024) (k : Fin 768) : k0_pay17 (k0_pay12 x w) p1
      (View.ld o (Rect.unit ![0, 2304] ![1024, 768] inb_S1024x3456_S1024x768_0_2304)) (ix2 j k)
    = o (ix2 j (g1 k)) + dwV (fun a j => x (ix2 a j)) (fun j => w (ix2 0 j)) (fun a k => p1 (ix2 a k)) j k := by
  pointwise [k0_pay17, k0_pay16, k0_pay12, k0_pay13, k0_pay11, k0_pay9, k0_pay8, k0_pay7]
  rfl

theorem tile_dw2 (j : Fin 1024) (k : Fin 256) : k0_pay20 (k0_pay12 x w) p2
      (View.ld o (Rect.unit ![0, 3072] ![1024, 256] inb_S1024x3456_S1024x256_0_3072)) (ix2 j k)
    = o (ix2 j (g2 k)) + dwV (fun a j => x (ix2 a j)) (fun j => w (ix2 0 j)) (fun a k => p2 (ix2 a k)) j k := by
  pointwise [k0_pay20, k0_pay18, k0_pay12, k0_pay13, k0_pay11, k0_pay9, k0_pay8, k0_pay7]
  rfl

theorem tile_dw3 (j : Fin 1024) (k : Fin 128) : k0_pay2 (k0_pay12 x w) (k0_pay21 p3)
      (View.ld o (Rect.unit ![0, 3328] ![1024, 128] inb_S1024x3456_S1024x128_0_3328)) (ix2 j k)
    = o (ix2 j (g3 k)) + dwV (fun a j => x (ix2 a j)) (fun j => w (ix2 0 j)) (fun a k => p3 (ix2 a k)) j k := by
  pointwise [k0_pay2, k0_pay21, k0_pay12, k0_pay13, k0_pay11, k0_pay9, k0_pay8, k0_pay7]
  rfl

/-- The place of a group's column. -/
theorem emb_group (o n : ℕ) (inb) (j : Fin 1024) (k : Fin n) (h : o + k.val < 3456) :
    (Rect.unit (s := S1024x3456) ![0, o] ![1024, n] inb).emb (ix2 j k) = ix2 j ⟨o + k.val, h⟩ := by
  funext a; apply Fin.ext; rw [ValueKit.rect_emb_unit_val]; fin_cases a <;> simp [ix2]

/-- The four groups of columns, stored one after another, fill the block. -/
theorem fill (G : Vec Ideal S1024x3456 .f32) (q0 : Vec Ideal S1024x2304 .f32) (q1 : Vec Ideal S1024x768 .f32)
    (q2 : Vec Ideal S1024x256 .f32) (q3 : Vec Ideal S1024x128 .f32)
    (h0 : ∀ j k, q0 (ix2 j k) = G (ix2 j (g0 k))) (h1 : ∀ j k, q1 (ix2 j k) = G (ix2 j (g1 k)))
    (h2 : ∀ j k, q2 (ix2 j k) = G (ix2 j (g2 k))) (h3 : ∀ j k, q3 (ix2 j k) = G (ix2 j (g3 k)))
    (L : List (View.Piece (Elt Ideal) S1024x3456 .f32)) (i : S1024x3456.Idx) : View.canon
      ([⟨Rect.unit ![0, 3328] ![1024, 128] inb_S1024x3456_S1024x128_0_3328, q3⟩,
        ⟨Rect.unit ![0, 3072] ![1024, 256] inb_S1024x3456_S1024x256_0_3072, q2⟩,
        ⟨Rect.unit ![0, 2304] ![1024, 768] inb_S1024x3456_S1024x768_0_2304, q1⟩,
        ⟨Rect.unit ![0, 0] ![1024, 2304] inb_S1024x3456_S1024x2304_0_0, q0⟩] ++ L) i = G i := by
  refine View.canon_append_of_piecesOf G L _ ?_ i ?_
  · refine ⟨fun y => ?_, fun y => ?_, fun y => ?_, fun y => ?_, trivial⟩
    · obtain ⟨a, b, rfl⟩ : ∃ (a : Fin 1024) (b : Fin 128), y = ix2 a b := ⟨y 0, y 1, eq_ix2 y⟩
      exact (h3 a b).trans (congrArg G (emb_group 3328 128 inb_S1024x3456_S1024x128_0_3328 a b (by omega)).symm)
    · obtain ⟨a, b, rfl⟩ : ∃ (a : Fin 1024) (b : Fin 256), y = ix2 a b := ⟨y 0, y 1, eq_ix2 y⟩
      exact (h2 a b).trans (congrArg G (emb_group 3072 256 inb_S1024x3456_S1024x256_0_3072 a b (by omega)).symm)
    · obtain ⟨a, b, rfl⟩ : ∃ (a : Fin 1024) (b : Fin 768), y = ix2 a b := ⟨y 0, y 1, eq_ix2 y⟩
      exact (h1 a b).trans (congrArg G (emb_group 2304 768 inb_S1024x3456_S1024x768_0_2304 a b (by omega)).symm)
    · obtain ⟨a, b, rfl⟩ : ∃ (a : Fin 1024) (b : Fin 2304), y = ix2 a b := ⟨y 0, y 1, eq_ix2 y⟩
      refine (h0 a b).trans (congrArg G ((emb_group 0 2304 inb_S1024x3456_S1024x2304_0_0 a b (by omega)).trans ?_).symm)
      exact congrArg (ix2 a) (Fin.ext (Nat.zero_add _))
  · obtain ⟨a, b, rfl⟩ : ∃ (a : Fin 1024) (b : Fin 3456), i = ix2 a b := ⟨i 0, i 1, eq_ix2 i⟩
    by_cases c1 : b.val < 2304
    · exact ⟨_, .tail _ (.tail _ (.tail _ (.head _))), by rw [Rect.mem_set_unit]; intro d; fin_cases d <;> simp [ix2] <;> omega⟩
    by_cases c2 : b.val < 3072
    · exact ⟨_, .tail _ (.tail _ (.head _)), by rw [Rect.mem_set_unit]; intro d; fin_cases d <;> simp [ix2] <;> omega⟩
    by_cases c3 : b.val < 3328
    · exact ⟨_, .tail _ (.head _), by rw [Rect.mem_set_unit]; intro d; fin_cases d <;> simp [ix2] <;> omega⟩
    · exact ⟨_, .head _, by rw [Rect.mem_set_unit]; intro d; fin_cases d <;> simp [ix2] <;> omega⟩

end Tile

variable (m : (ℓ : Loc nD τ sig) → Buf (Elt Ideal) ℓ) (c : Dev nD)

/-- The input, the norm's weight, the projection's weight, the projection's cotangent, the cotangent past the layer. -/
def aX (r : Fin 16384) (j : Fin 1024) : EReal := m ((c : Thread nD τ).loc main_arg0) (ix2 r j)
def aW (j : Fin 1024) : EReal := m ((c : Thread nD τ).loc main_arg1) (ix1 j)
def aU (j : Fin 1024) (k : Fin 3340) : EReal := m ((c : Thread nD τ).loc main_arg2) (ix2 j k)
def aP (r : Fin 16384) (k : Fin 3340) : EReal := m ((c : Thread nD τ).loc main_arg3) (ix2 r k)
def aS (r : Fin 16384) (j : Fin 1024) : EReal := m ((c : Thread nD τ).loc main_arg4) (ix2 r j)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

/-- The row of the whole array that row `a` of tile `t` is. -/
def at_ (t : Fin cfg0.N) (a : Fin 512) : Fin 16384 :=
  ⟨t.val * 512 + a.val, by have : t.val < 32 := t.isLt; omega⟩

theorem host_u (j : Fin 1024) (k : Fin 3456) : V m c main_v5 (ix2 j k) = place (aU m c j) k := by
  show StableHlo.after hostOps0 (fun b => m (c, b)) (Proc.devRef .tc main_v5) (ix2 j k) = _
  after_results
  unfold aU
  pointwise
  unfold place
  by_cases h0 : k.val < 3072
  · refine (dif_pos h0).trans (Eq.trans ?_ (dif_pos h0).symm); after_results; pointwise
  refine (dif_neg h0).trans (Eq.trans ?_ (dif_neg h0).symm)
  by_cases h1 : k.val < 3328
  · refine (dif_pos (by omega)).trans (Eq.trans ?_ (dif_pos h1).symm); after_results; pointwise
    exact congrArg (fun k => m ((c : Thread nD τ).loc main_arg2) (ix2 j k)) (Fin.ext (by simp only []; omega))
  refine (dif_neg (by omega)).trans (Eq.trans ?_ (dif_neg h1).symm)
  by_cases h2 : k.val < 3340
  · refine (dif_pos (by omega)).trans (Eq.trans ?_ (dif_pos h2).symm); after_results; pointwise
    exact congrArg (fun k => m ((c : Thread nD τ).loc main_arg2) (ix2 j k)) (Fin.ext (by simp only []; omega))
  · refine (dif_neg (by omega)).trans (Eq.trans ?_ (dif_neg h2).symm);
    refine (congrFun (StableHlo.unary_result ..) _).trans ?_
    rw [StableHlo.nullary_result]; pointwise
theorem host_p0 (r : Fin 16384) (k : Fin 2304) : V m c main_v9 (ix2 r k) = place (aP m c r) (g0 k) := by
  rw [place_g0]
  show StableHlo.after hostOps0 (fun b => m (c, b)) (Proc.devRef .tc main_v9) (ix2 r k) = _
  after_results
  unfold aP
  pointwise
theorem host_p1 (r : Fin 16384) (k : Fin 768) : V m c main_v10 (ix2 r k) = place (aP m c r) (g1 k) := by
  rw [place_g1]
  show StableHlo.after hostOps0 (fun b => m (c, b)) (Proc.devRef .tc main_v10) (ix2 r k) = _
  after_results
  unfold aP
  pointwise
theorem host_p2 (r : Fin 16384) (k : Fin 256) : V m c main_v11 (ix2 r k) = place (aP m c r) (g2 k) := by
  rw [place_g2]
  show StableHlo.after hostOps0 (fun b => m (c, b)) (Proc.devRef .tc main_v11) (ix2 r k) = _
  after_results
  unfold aP
  pointwise
theorem host_p3 (r : Fin 16384) (k : Fin 128) : V m c main_v8 (ix2 r k) = place (aP m c r) (g3 k) := by
  rw [place_g3]
  show StableHlo.after hostOps0 (fun b => m (c, b)) (Proc.devRef .tc main_v8) (ix2 r k) = _
  after_results
  unfold aP
  pointwise

theorem host_w (z : Fin 1) (j : Fin 1024) : V m c main_v12 (ix2 z j) = aW m c j := by
  show StableHlo.after hostOps0 (fun b => m (c, b)) (Proc.devRef .tc main_v12) (ix2 z j) = _
  after_results
  unfold aW
  pointwise

theorem blkX (t : Fin cfg0.N) (a : Fin 512) (j : Fin 1024) : iblk m c 0 t (ix2 a j) = aX m c (at_ t a) j := by
  unfold aX at_
  blk_ext! [iblk, idx0 t, V_main_arg0]
theorem blkW (t : Fin cfg0.N) (z : Fin 1) (j : Fin 1024) : iblk m c 1 t (ix2 z j) = aW m c j := by
  rw [← host_w m c z]
  blk_ext! [iblk, idx1 t]
theorem blkU (t : Fin cfg0.N) (j : Fin 1024) (k : Fin 3456) : iblk m c 2 t (ix2 j k) = place (aU m c j) k := by
  rw [← host_u]
  blk_ext! [iblk, idx2 t]
theorem blkP0 (t : Fin cfg0.N) (a : Fin 512) (k : Fin 2304) : iblk m c 3 t (ix2 a k) = place (aP m c (at_ t a)) (g0 k) := by
  rw [← host_p0]; unfold at_
  blk_ext! [iblk, idx3 t]
theorem blkP1 (t : Fin cfg0.N) (a : Fin 512) (k : Fin 768) : iblk m c 4 t (ix2 a k) = place (aP m c (at_ t a)) (g1 k) := by
  rw [← host_p1]; unfold at_
  blk_ext! [iblk, idx4 t]
theorem blkP2 (t : Fin cfg0.N) (a : Fin 512) (k : Fin 256) : iblk m c 5 t (ix2 a k) = place (aP m c (at_ t a)) (g2 k) := by
  rw [← host_p2]; unfold at_
  blk_ext! [iblk, idx5 t]
theorem blkP3 (t : Fin cfg0.N) (a : Fin 512) (k : Fin 128) : iblk m c 6 t (ix2 a k) = place (aP m c (at_ t a)) (g3 k) := by
  rw [← host_p3]; unfold at_
  blk_ext! [iblk, idx6 t]
theorem blkS (t : Fin cfg0.N) (a : Fin 512) (j : Fin 1024) : iblk m c 7 t (ix2 a j) = aS m c (at_ t a) j := by
  unfold aS at_
  blk_ext! [iblk, idx7 t, V_main_arg4]

/-- A tile's cotangent of the normalised rows is the rows'. -/
theorem tile_n (t : Fin cfg0.N) : tN (iblk m c 2 t) (iblk m c 3 t) (iblk m c 4 t) (iblk m c 5 t) (iblk m c 6 t)
    = fun a j => cotN (aU m c) (aP m c) (at_ t a) j := by
  funext a j
  unfold tN cotN
  simp only [blkU, blkP0, blkP1, blkP2, blkP3]
  exact (sum_groups fun k => place (aP m c (at_ t a)) k * place (aU m c j) k).trans (sum_place _ _)

/-- What tile `t` adds to an entry of the norm's weight's gradient, and to one of the projection's. -/
def tileDn (t : Fin cfg0.N) (j : Fin 1024) : EReal :=
  dnV (fun a => aX m c (at_ t a)) (fun a => cotN (aU m c) (aP m c) (at_ t a)) j
def tileDw (t : Fin cfg0.N) (j : Fin 1024) (k : Fin 3456) : EReal :=
  dwV (fun a => aX m c (at_ t a)) (aW m c) (fun a => place (aP m c (at_ t a))) j k

/-- The gradient of the input: every row's own. -/
theorem final_dx : (dats m 0 c).arrAt 8 cfg0.N
    = fun i => dxV (aX m c) (aW m c) (aS m c) (cotN (aU m c) (aP m c)) (i 0) (i 1) := by
  refine (dats m 0 c).arrAt_eq_of_covers 8 _ (by decide +kernel) fun t hf y => ?_
  obtain ⟨a, b, rfl⟩ : ∃ a b, y = ix2 a b := ⟨y 0, y 1, by funext a; fin_cases a <;> rfl⟩
  have hx : dxV (fun a j => iblk m c 0 t (ix2 a j)) (fun j => iblk m c 1 t (ix2 0 j)) (fun a j => iblk m c 7 t (ix2 a j))
        (tN (iblk m c 2 t) (iblk m c 3 t) (iblk m c 4 t) (iblk m c 5 t) (iblk m c 6 t)) a b
      = dxV (aX m c) (aW m c) (aS m c) (cotN (aU m c) (aP m c)) (at_ t a) b := by
    rw [tile_n]; simp only [blkX, blkW, blkS]; rfl
  have hout : (dats m 0 c).after 8 t (ix2 a b)
      = dxV (aX m c) (aW m c) (aS m c) (cotN (aU m c) (aP m c)) (at_ t a) b := by
    rw [after0_8]
    by_cases h : t.val % 32 = 0
    · rw [outsAt0_A m c t h]; frame_out; exact (tile_dx _ _ _ _ _ _ _ _ a b).trans hx
    · rw [outsAt0_B m c t h]; frame_out; exact (tile_dx _ _ _ _ _ _ _ _ a b).trans hx
  have he : ((cfg0.win 8).blk t).view.emb (ix2 a b) = ix2 (at_ t a) b := by
    unfold at_; blk_ext [idx8 t]
  rw [he]
  exact hout

theorem zero_dw (i : S1024x3456.Idx) : k0_pay5 (F := Ideal) i = 0 := by unfold k0_pay5; pointwise
theorem zero_dn (i : S1x1024.Idx) : k0_pay6 (F := Ideal) i = 0 := by unfold k0_pay6; pointwise

/-- The norm's weight's gradient: every entry the sum over the tiles. -/
theorem final_dn : (dats m 0 c).arrAt 10 cfg0.N = fun i => ∑ t : Fin cfg0.N, tileDn m c t (i 1) := by
  have step (t : Fin cfg0.N) (o : Vec Ideal S1x1024 .f32) (i : S1x1024.Idx) : k0_pay4 (k0_pay11 (iblk m c 0 t))
      (threeGroups (iblk m c 2 t) (iblk m c 3 t) (iblk m c 4 t) (iblk m c 5 t)) (fourth (iblk m c 2 t))
      (k0_pay23 (iblk m c 6 t)) (constant S512x1024 FTy.f32 0#32) o i = o i + tileDn m c t (i 1) := by
    obtain ⟨z, b, rfl⟩ : ∃ z b, i = ix2 z b := ⟨i 0, i 1, by funext a; fin_cases a <;> rfl⟩
    refine (tile_dn _ _ _ _ _ _ _ z b).trans ?_
    rw [tile_n]
    simp only [blkX]
    rfl
  refine (dats m 0 c).arrAt_eq_of_after_last 10 (⟨31, by decide⟩ : Fin cfg0.N) (by decide +kernel)
    (G := (fun i => ∑ t : Fin cfg0.N, tileDn m c t (i 1) : Vec Ideal S1x1024 .f32)) fun i => ?_
  rw [after0_10, Pipeline.eq_sum_fin_of_reset_step_apply_last (fun n h => (outsAt0 m c n h).2.2) 32
    (k0_pay6 (F := Ideal)) (fun t i => tileDn m c t (i 1))
    (fun t h i => by rw [outsAt0_A m c t h]; frame_out; exact step t _ i)
    (fun t h i => by rw [outsAt0_B m c t h]; frame_out; exact step t _ i) (by decide) _ (by decide)]
  exact (congrArg (· + _) (zero_dn _)).trans (zero_add (M := EReal) _)

/-- One tile's step on the projection's weight's gradient. -/
theorem step_dw (t : Fin cfg0.N) (o : Vec Ideal S1024x3456 .f32) (L : List (View.Piece (Elt Ideal) S1024x3456 .f32))
    (i : S1024x3456.Idx) : View.canon
      ([⟨Rect.unit ![0, 3328] ![1024, 128] inb_S1024x3456_S1024x128_0_3328,
          k0_pay2 (k0_pay12 (iblk m c 0 t) (iblk m c 1 t)) (k0_pay21 (iblk m c 6 t))
            (View.ld o (Rect.unit ![0, 3328] ![1024, 128] inb_S1024x3456_S1024x128_0_3328))⟩,
        ⟨Rect.unit ![0, 3072] ![1024, 256] inb_S1024x3456_S1024x256_0_3072,
          k0_pay20 (k0_pay12 (iblk m c 0 t) (iblk m c 1 t)) (iblk m c 5 t)
            (View.ld o (Rect.unit ![0, 3072] ![1024, 256] inb_S1024x3456_S1024x256_0_3072))⟩,
        ⟨Rect.unit ![0, 2304] ![1024, 768] inb_S1024x3456_S1024x768_0_2304,
          k0_pay17 (k0_pay12 (iblk m c 0 t) (iblk m c 1 t)) (iblk m c 4 t)
            (View.ld o (Rect.unit ![0, 2304] ![1024, 768] inb_S1024x3456_S1024x768_0_2304))⟩,
        ⟨Rect.unit ![0, 0] ![1024, 2304] inb_S1024x3456_S1024x2304_0_0,
          k0_pay15 (iblk m c 0 t) (iblk m c 1 t) (iblk m c 3 t)
            (View.ld o (Rect.unit ![0, 0] ![1024, 2304] inb_S1024x3456_S1024x2304_0_0))⟩] ++ L) i
    = o i + tileDw m c t (i 0) (i 1) := by
  refine fill (fun i => o i + tileDw m c t (i 0) (i 1)) _ _ _ _ (fun j k => ?_) (fun j k => ?_) (fun j k => ?_)
    (fun j k => ?_) L i
  · refine (tile_dw0 _ _ _ _ j k).trans ?_; simp only [blkX, blkW, blkP0]; rfl
  · refine (tile_dw1 _ _ _ _ j k).trans ?_; simp only [blkX, blkW, blkP1]; rfl
  · refine (tile_dw2 _ _ _ _ j k).trans ?_; simp only [blkX, blkW, blkP2]; rfl
  · refine (tile_dw3 _ _ _ _ j k).trans ?_; simp only [blkX, blkW, blkP3]; rfl

/-- The projection's weight's gradient, as laid out: every entry the sum over the tiles. -/
theorem final_dw : (dats m 0 c).arrAt 9 cfg0.N = fun i => ∑ t : Fin cfg0.N, tileDw m c t (i 0) (i 1) := by
  refine (dats m 0 c).arrAt_eq_of_after_last 9 (⟨31, by decide⟩ : Fin cfg0.N) (by decide +kernel)
    (G := (fun i => ∑ t : Fin cfg0.N, tileDw m c t (i 0) (i 1) : Vec Ideal S1024x3456 .f32)) fun i => ?_
  rw [after0_9, Pipeline.eq_sum_fin_of_reset_step_apply_last (fun n h => (outsAt0 m c n h).2.1) 32
    (k0_pay5 (F := Ideal)) (fun t i => tileDw m c t (i 0) (i 1))
    (fun t h i => by
      rw [outsAt0_A m c t h]; frame_open; simp (disch := decide) only [↓View.readCov_skip, ↓View.readCov_fill]; frame_out
      exact step_dw m c t _ [_] i)
    (fun t h i => by
      rw [outsAt0_B m c t h]; frame_open; simp (disch := decide) only [↓View.readCov_skip, ↓View.readCov_fill]; frame_out
      exact step_dw m c t _ [] i) (by decide) _ (by decide)]
  exact (congrArg (· + _) (zero_dw _)).trans (zero_add (M := EReal) _)

end Cert.Proof.In1

end
-- ==== Proof.In1.Reference.lean ====
/- THE REFERENCE OF THE SECOND LAYER'S INPUT PROJECTION, read at an index: the derivative jax takes of the norm and the
   product after it, and the cotangent that passes the layer by. -/
module

public import proofs.«01_k».proof.Proof.Gen.In1RefIdeal.Read
public import proofs.«01_k».proof.Proof.In.Rows
public import Idealize.ShloMosaic.Lib.Pipeline.ValueKit

@[expose] public section

noncomputable section

namespace Cert.Proof.In1

open Cert.In1RefIdeal Cert.In1RefIdeal.Gen Cert.In1RefIdeal.Read Idealize.ShloMosaic Cert.Rows Cert.Proof.In

variable (x : Vec Ideal S16384x1024 .f32) (w : Vec Ideal S1024 .f32) (u : Vec Ideal S1024x3340 .f32)
  (p : Vec Ideal S16384x3340 .f32) (s : Vec Ideal S16384x1024 .f32)

/-- The arrays by their entries. -/
abbrev mX (r : Fin 16384) (j : Fin 1024) : EReal := x (ix2 r j)
abbrev mW (j : Fin 1024) : EReal := w (ix1 j)
abbrev mU (j : Fin 1024) (k : Fin 3340) : EReal := u (ix2 j k)
abbrev mP (r : Fin 16384) (k : Fin 3340) : EReal := p (ix2 r k)

theorem ref_n (r : Fin 16384) (j : Fin 1024) : val_main_v19 (F := Ideal) u p (ix2 r j) = cotN (mU u) (mP p) r j := by
  pointwise [val_main_v19]
  rfl

theorem ref_dx (r : Fin 16384) (j : Fin 1024) : val_main_v40 (F := Ideal) x w u p s (ix2 r j)
    = dxV (mX x) (mW w) (mX s) (cotN (mU u) (mP p)) r j := by
  pointwise [val_main_v40, val_main_v39, val_main_v38, val_main_v37, val_main_v36, val_main_v35, val_main_cst_7, val_main_v34, val_main_v33, val_main_cst_6, val_main_v32, val_main_v31, val_main_v30, val_main_v29, val_main_v28, val_main_v27, val_main_cst_5, val_main_v26, val_main_v24, val_main_v23, val_main_v13, val_main_v10, val_main_v9, val_main_cst_2, val_main_v8, val_main_v7, val_main_v6, val_main_v5, val_main_cst_1, val_main_v4, val_main_v3, val_main_cst_0, val_main_v2, val_main_v1, val_main_cst, val_main_v0]
  simp only [Finset.univ_unique, Finset.sum_singleton, ref_n]
  unfold dxV gradRow
  rw [← add_assoc, ← add_assoc]
  rfl

theorem ref_dn (z : Fin 1) (j : Fin 1024) : val_main_v41 (F := Ideal) x u p (ix2 z j)
    = dnV (mX x) (cotN (mU u) (mP p)) j := by
  pointwise [val_main_v41, val_main_v25, val_main_cst_4, val_main_v22, val_main_v21, val_main_cst_3, val_main_v20, val_main_v12, val_main_v11, val_main_v7, val_main_v6, val_main_v5, val_main_cst_1, val_main_v4, val_main_v3, val_main_cst_0, val_main_v2, val_main_v1, val_main_cst, val_main_v0]
  simp only [Finset.univ_unique, Finset.sum_singleton, ref_n]
  rfl

theorem ref_dw (j : Fin 1024) (k : Fin 3340) : val_main_v18 (F := Ideal) x w p (ix2 j k)
    = dwV (mX x) (mW w) (mP p) j k := by
  pointwise [val_main_v18, val_main_v17, val_main_v15, val_main_v14, val_main_v13, val_main_v12, val_main_v11, val_main_v7, val_main_v6, val_main_v5, val_main_cst_1, val_main_v4, val_main_v3, val_main_cst_0, val_main_v2, val_main_v1, val_main_cst, val_main_v0]
  exact Finset.sum_congr rfl fun r _ => mul_comm _ _

end Cert.Proof.In1

end
-- ==== Proof.In1.Equation.lean ====
/- THE CALL ON THE SECOND LAYER'S INPUT PROJECTION COMPUTES ITS THREE GRADIENTS: the sums over 32 tiles of 512 rows are the
   sums over the 16384 rows, and the lines after the call put the columns of the weight's gradient back in their order. -/
module

public import proofs.«01_k».proof.Defs
public import proofs.«01_k».proof.Proof.Gen.In1RefIdeal.Run
public import proofs.«01_k».proof.Proof.In1.Kernel
public import proofs.«01_k».proof.Proof.In1.Reference

@[expose] public section

noncomputable section

namespace Cert.Proof.In1

open Idealize.ShloMosaic Idealize.ShloMosaic.TcCoe Idealize.SL.Sem Cert.Rows Cert.Proof.In

section Values

variable (m : (ℓ : Loc In1Ideal.nD In1Ideal.τ In1Ideal.sig) → Buf (Elt Ideal) ℓ) (c : Dev In1Ideal.nD)

def dxArr : Vec Ideal In1Ideal.S16384x1024 .f32 :=
  fun i => dxV (aX m c) (aW m c) (aS m c) (cotN (aU m c) (aP m c)) (i 0) (i 1)
def dwArr : Vec Ideal In1Ideal.S1024x3340 .f32 := fun i => dwV (aX m c) (aW m c) (aP m c) (i 0) (i 1)
def dnArr : Vec Ideal In1Ideal.S1x1024 .f32 := fun i => dnV (aX m c) (cotN (aU m c) (aP m c)) (i 1)

open Cert.In1Ideal Cert.In1Ideal.Gen

/-- The weight's gradient as laid out, over all rows. -/
theorem sum_dw (j : Fin 1024) (k : Fin 3456) : ∑ t : Fin cfg0.N, tileDw m c t j k
    = dwV (aX m c) (aW m c) (fun r => place (aP m c r)) j k :=
  Fin.sum_mul_add_fin 32 512 fun r => norm (aX m c r) (aW m c) j * place (aP m c r) k

/-- A column of the weight's gradient, wherever it lies. -/
theorem dw_at (j : Fin 1024) (k : Fin 3340) (q : Fin 3456) (h : ∀ f, place f q = f k) :
    (dats m 0 c).arrAt 9 cfg0.N (ix2 j q) = dwArr m c (ix2 j k) := by
  refine (congrFun (final_dw m c) _).trans ((sum_dw m c j q).trans ?_)
  unfold dwArr dwV
  simp only [h]
  rfl

/-- The weight's gradient after the lines that follow the call. -/
theorem end_dw : Pipeline.afterTail₀ cfgs (dats m) 0 (V0 m) [hostOps1] c main_v17 = dwArr m c := by
  funext i
  obtain ⟨j, k, rfl⟩ : ∃ (j : Fin 1024) (k : Fin 3340), i = ix2 j k := ⟨i 0, i 1, eq_ix2 i⟩
  unfold Pipeline.afterTail₀
  show StableHlo.after hostOps1 _ (Proc.devRef .tc main_v17) (ix2 j k) = _
  have hA := Pipeline.withArrays_arr (cfgs 0).spec (by decide) c (V0 m c) (fun w => (dats m 0 c).arrAt w (cfgs 0).N) 9
  generalize Pipeline.withArrays (cfgs 0).spec c (V0 m c) (fun w => (dats m 0 c).arrAt w (cfgs 0).N) = A at hA ⊢
  have hA' (j : Fin 1024) (q : Fin 3456) : A (Proc.devRef .tc main_v13_1) (ix2 j q) = (dats m 0 c).arrAt 9 cfg0.N (ix2 j q) :=
    congrFun hA _
  have h14 : StableHlo.after (hostOps1.take 3) A (Proc.devRef .tc main_v14)
      = extractStridedSlice S1024x3072 ![0, 0] (A (Proc.devRef .tc main_v13_1)) slices_S1024x3456_S1024x3072_0_0 := by
    dsimp only [List.take]; after_results
  have h15 : StableHlo.after (hostOps1.take 3) A (Proc.devRef .tc main_v15)
      = extractStridedSlice S1024x12 ![0, 3328] (A (Proc.devRef .tc main_v13_1)) slices_S1024x3456_S1024x12_0_3328 := by
    dsimp only [List.take]; after_results
  have h16 : StableHlo.after (hostOps1.take 3) A (Proc.devRef .tc main_v16)
      = extractStridedSlice S1024x256 ![0, 3072] (A (Proc.devRef .tc main_v13_1)) slices_S1024x3456_S1024x256_0_3072 := by
    dsimp only [List.take]; after_results
  after_results
  pointwise
  by_cases h0 : k.val < 3072
  · refine (dif_pos h0).trans ((congrFun h14 _).trans ?_); pointwise
    refine (hA' j _).trans (dw_at m c j k _ fun f => ?_)
    unfold place; exact dif_pos h0
  refine (dif_neg h0).trans ?_
  by_cases h1 : k.val < 3084
  · refine (dif_pos (by omega)).trans ((congrFun h15 _).trans ?_); pointwise
    refine (hA' j _).trans (dw_at m c j k _ fun f => ?_)
    exact (place_g3 f ⟨k.val - 3072, by omega⟩).trans ((dif_pos (show k.val - 3072 < 12 by omega)).trans
      (congrArg f (Fin.ext (by simp only []; omega))))
  · refine (dif_neg (by omega)).trans ((congrFun h16 _).trans ?_); pointwise
    refine (hA' j _).trans (dw_at m c j k _ fun f => ?_)
    exact (place_g2 f ⟨k.val - 3072 - 12, by omega⟩).trans (congrArg f (Fin.ext (by simp only []; omega)))

end Values

/-- The reference's frame. -/
theorem ref_frame : Cert.quiescent_In1RefIdeal := fun m ρ _ =>
  (θ_run In1RefIdeal.defs _ _).mono (fun r h => ⟨fun c => (h c).2.2.2, sem_eq_zero_of_no_sems (by decide) r.2⟩)
    (In1RefIdeal.Value.run (F := Ideal) m ρ)

theorem algebraic : Cert.algebraic_In1Ideal_In1RefIdeal := by
  intro m g m' g' _ hag
  refine ⟨dxArr m, dwArr m, dnArr m, ?_, ?_⟩
  · refine (θ_run In1Ideal.defs _ _).mono (fun r h c => ?_) (θ_run_and (In1Ideal.Gen.run_main (F := Ideal) m g)
      (In1Ideal.Gen.unchanged (F := Ideal) m g))
    refine ⟨((h.1 c).1 8).trans (final_dx m c), ((h.1 c).2 In1Ideal.main_v17
      (Pipeline.mem_restRefs_of In1Ideal.main_v17 (by decide) (by decide))).trans (end_dw m c),
      ((h.1 c).1 10).trans ((final_dn m c).trans ?_), h.2 c⟩
    funext i
    exact Fin.sum_mul_add_fin 32 512 fun r => aX m c r (i 1) * factor (aX m c r) * cotN (aU m c) (aP m c) r (i 1)
  · refine (θ_run In1RefIdeal.defs _ _).mono (fun r h c => ?_) (In1RefIdeal.Value.run (F := Ideal) m' g')
    obtain ⟨h0, h1, h2, ha⟩ := h c
    obtain ⟨e0, e1, e2, e3, e4⟩ := hag c
    refine ⟨h0.trans ((In1RefIdeal.Read.val_main_v40_eq _ _).trans ?_),
      h1.trans ((In1RefIdeal.Read.val_main_v18_eq _ _ _).trans ?_),
      h2.trans ((In1RefIdeal.Read.val_main_v41_eq _ _ _).trans ?_), ha⟩
    · rw [e0, e1, e2, e3, e4]; funext i; obtain ⟨p, q, rfl⟩ : ∃ p q, i = ix2 p q := ⟨i 0, i 1, eq_ix2 i⟩; exact ref_dx _ _ _ _ _ p q
    · rw [e0, e1, e3]; funext i; obtain ⟨p, q, rfl⟩ : ∃ p q, i = ix2 p q := ⟨i 0, i 1, eq_ix2 i⟩; exact ref_dw _ _ _ p q
    · rw [e0, e2, e3]; funext i; obtain ⟨p, q, rfl⟩ : ∃ p q, i = ix2 p q := ⟨i 0, i 1, eq_ix2 i⟩; exact ref_dn _ _ _ p q

end Cert.Proof.In1

end
-- ==== Proof.In0.Columns.lean ====
/- THE COLUMNS of the first layer's input projection. The calls hold its 3592 columns in another order (two groups
   exchanged) and 120 columns of zeros after them: `place` reads a row so laid out. A sum over the laid out columns is the
   sum over the columns (`sum_place`), and the sum over seven groups (`sum_groups`). -/
module

public import proofs.«01_k».proof.Proof.In.Rows

@[expose] public section

noncomputable section

namespace Cert.Proof.In0

/-- The seven groups of columns the kernel reads and writes one at a time. -/
abbrev g0 (k : Fin 512) : Fin 3712 := ⟨k.val, by omega⟩
abbrev g1 (k : Fin 512) : Fin 3712 := ⟨512 + k.val, by omega⟩
abbrev g2 (k : Fin 512) : Fin 3712 := ⟨1024 + k.val, by omega⟩
abbrev g3 (k : Fin 512) : Fin 3712 := ⟨1536 + k.val, by omega⟩
abbrev g4 (k : Fin 1024) : Fin 3712 := ⟨2048 + k.val, by omega⟩
abbrev g5 (k : Fin 512) : Fin 3712 := ⟨3072 + k.val, by omega⟩
abbrev g6 (k : Fin 128) : Fin 3712 := ⟨3584 + k.val, by omega⟩

/-- A row of 3592 columns, as it is laid out. -/
def place (f : Fin 3592 → EReal) (k : Fin 3712) : EReal :=
  if h : k.val < 2048 then f ⟨k.val, by omega⟩
  else if h : k.val < 3072 then f ⟨k.val + 512, by omega⟩
  else if h : k.val < 3584 then f ⟨k.val - 1024, by omega⟩
  else if h : k.val < 3592 then f ⟨k.val, by omega⟩
  else 0

theorem place_g0 (f : Fin 3592 → EReal) (k : Fin 512) : place f (g0 k) = f ⟨k.val, by omega⟩ :=
  dif_pos (show k.val < 2048 by omega)
theorem place_g1 (f : Fin 3592 → EReal) (k : Fin 512) : place f (g1 k) = f ⟨512 + k.val, by omega⟩ :=
  dif_pos (show 512 + k.val < 2048 by omega)
theorem place_g2 (f : Fin 3592 → EReal) (k : Fin 512) : place f (g2 k) = f ⟨1024 + k.val, by omega⟩ :=
  dif_pos (show 1024 + k.val < 2048 by omega)
theorem place_g3 (f : Fin 3592 → EReal) (k : Fin 512) : place f (g3 k) = f ⟨1536 + k.val, by omega⟩ :=
  dif_pos (show 1536 + k.val < 2048 by omega)
theorem place_g4 (f : Fin 3592 → EReal) (k : Fin 1024) : place f (g4 k) = f ⟨2560 + k.val, by omega⟩ := by
  refine (dif_neg (show ¬ 2048 + k.val < 2048 by omega)).trans ((dif_pos (show 2048 + k.val < 3072 by omega)).trans
    (congrArg f (Fin.ext ?_)))
  simp only []; omega
theorem place_g5 (f : Fin 3592 → EReal) (k : Fin 512) : place f (g5 k) = f ⟨2048 + k.val, by omega⟩ := by
  refine (dif_neg (show ¬ 3072 + k.val < 2048 by omega)).trans ((dif_neg (show ¬ 3072 + k.val < 3072 by omega)).trans
    ((dif_pos (show 3072 + k.val < 3584 by omega)).trans (congrArg f (Fin.ext ?_))))
  simp only []; omega
theorem place_g6 (f : Fin 3592 → EReal) (k : Fin 128) :
    place f (g6 k) = if h : k.val < 8 then f ⟨3584 + k.val, by omega⟩ else 0 := by
  refine (dif_neg (show ¬ 3584 + k.val < 2048 by omega)).trans ((dif_neg (show ¬ 3584 + k.val < 3072 by omega)).trans
    ((dif_neg (show ¬ 3584 + k.val < 3584 by omega)).trans ?_))
  by_cases h : k.val < 8
  · rw [dif_pos h]
    exact dif_pos (show 3584 + k.val < 3592 by omega)
  · rw [dif_neg h]
    exact dif_neg (show ¬ 3584 + k.val < 3592 by omega)

/-- The seven groups are all the columns. -/
theorem sum_groups (f : Fin 3712 → EReal) :
    ∑ k, f (g0 k) + ∑ k, f (g1 k) + ∑ k, f (g2 k) + ∑ k, f (g3 k) + ∑ k, f (g4 k) + ∑ k, f (g5 k) + ∑ k, f (g6 k)
      = ∑ k, f k := by
  rw [show (∑ k, f k) = _ from Fin.sum_univ_add (a := 3584) (b := 128) f,
    Fin.sum_univ_add (a := 3072) (b := 512) fun k => f (Fin.castAdd 128 k),
    Fin.sum_univ_add (a := 2048) (b := 1024) fun k => f (Fin.castAdd 128 (Fin.castAdd 512 k)),
    Fin.sum_univ_add (a := 1536) (b := 512) fun k => f (Fin.castAdd 128 (Fin.castAdd 512 (Fin.castAdd 1024 k))),
    Fin.sum_univ_add (a := 1024) (b := 512) fun k =>
      f (Fin.castAdd 128 (Fin.castAdd 512 (Fin.castAdd 1024 (Fin.castAdd 512 k)))),
    Fin.sum_univ_add (a := 512) (b := 512) fun k =>
      f (Fin.castAdd 128 (Fin.castAdd 512 (Fin.castAdd 1024 (Fin.castAdd 512 (Fin.castAdd 512 k)))))]
  rfl

/-- The order of the columns and the columns of zeros do not matter to a sum of products. -/
theorem sum_place (f g : Fin 3592 → EReal) : ∑ k, place f k * place g k = ∑ k, f k * g k := by
  have e6 : ∑ k, place f (g6 k) * place g (g6 k)
      = ∑ k : Fin 8, f ⟨3584 + k.val, by omega⟩ * g ⟨3584 + k.val, by omega⟩ := by
    refine (Fin.sum_univ_add (a := 8) (b := 120) fun k => place f (g6 k) * place g (g6 k)).trans ?_
    have hz : ∑ k : Fin 120, place f (g6 (Fin.natAdd 8 k)) * place g (g6 (Fin.natAdd 8 k)) = 0 :=
      Finset.sum_eq_zero fun k _ => by
        rw [place_g6, dif_neg (by simp [Fin.natAdd]), zero_mul]
    rw [hz, add_zero]
    refine Finset.sum_congr rfl fun k _ => ?_
    rw [place_g6, place_g6, dif_pos (by simp [Fin.castAdd]), dif_pos (by simp [Fin.castAdd])]
    rfl
  rw [← sum_groups fun k => place f k * place g k, e6]
  simp only [place_g0, place_g1, place_g2, place_g3, place_g4, place_g5]
  rw [show (∑ k, f k * g k) = _ from Fin.sum_univ_add (a := 3584) (b := 8) fun k => f k * g k,
    Fin.sum_univ_add (a := 2560) (b := 1024) fun k => f (Fin.castAdd 8 k) * g (Fin.castAdd 8 k),
    Fin.sum_univ_add (a := 2048) (b := 512) fun k => f (Fin.castAdd 8 (Fin.castAdd 1024 k)) * g (Fin.castAdd 8 (Fin.castAdd 1024 k)),
    Fin.sum_univ_add (a := 1536) (b := 512) fun k =>
      f (Fin.castAdd 8 (Fin.castAdd 1024 (Fin.castAdd 512 k))) * g (Fin.castAdd 8 (Fin.castAdd 1024 (Fin.castAdd 512 k))),
    Fin.sum_univ_add (a := 1024) (b := 512) fun k =>
      f (Fin.castAdd 8 (Fin.castAdd 1024 (Fin.castAdd 512 (Fin.castAdd 512 k))))
        * g (Fin.castAdd 8 (Fin.castAdd 1024 (Fin.castAdd 512 (Fin.castAdd 512 k)))),
    Fin.sum_univ_add (a := 512) (b := 512) fun k =>
      f (Fin.castAdd 8 (Fin.castAdd 1024 (Fin.castAdd 512 (Fin.castAdd 512 (Fin.castAdd 512 k)))))
        * g (Fin.castAdd 8 (Fin.castAdd 1024 (Fin.castAdd 512 (Fin.castAdd 512 (Fin.castAdd 512 k)))))]
  exact congrArg (· + _) (add_right_comm _ _ _)

end Cert.Proof.In0

end
-- ==== Proof.In0.Kernel.lean ====
/- THE CALL ON THE FIRST LAYER'S INPUT PROJECTION, tile by tile. The grid walks the 16384 rows in 32 tiles of 512. A tile
   writes its rows' gradient (`final_dx`), and adds to two blocks that stay in place over the whole grid, zeroed at the
   first tile: the gradient of the projection's weight, in seven groups of columns (`final_dw`), and that of the norm's
   weight (`final_dn`). -/
module

public import proofs.«01_k».proof.Proof.Gen.In0Ideal.Frame
public import proofs.«01_k».proof.Proof.In0.Columns
public import Idealize.ShloMosaic.Lib.Pipeline.ValueKit
public import Idealize.ShloMosaic.Lib.Pipeline.ReadBack

@[expose] public section

noncomputable section

namespace Cert.Proof.In0

open Cert.In0Ideal Cert.In0Ideal.Gen Idealize.ShloMosaic Idealize.ShloMosaic.TcCoe Idealize.SL.Sem Cert.Rows
  Idealize.ShloMosaic.Pipeline Cert.Proof.In

section Tile

variable (x : Vec Ideal S512x1024 .f32) (w : Vec Ideal S1x1024 .f32) (u : Vec Ideal S1024x3712 .bf16)
  (p0 p1 p2 p3 : Vec Ideal S512x512 .f32) (p4 : Vec Ideal S512x1024 .f32) (p5 : Vec Ideal S512x512 .f32)
  (p6 : Vec Ideal S512x128 .f32) (s : Vec Ideal S512x1024 .f32)

/-- The cotangent of a tile's normalised row, from the tile's blocks. -/
def tN (a : Fin 512) (j : Fin 1024) : EReal :=
  ∑ k, p0 (ix2 a k) * u (ix2 j (g0 k)) + ∑ k, p1 (ix2 a k) * u (ix2 j (g1 k)) + ∑ k, p2 (ix2 a k) * u (ix2 j (g2 k))
    + ∑ k, p3 (ix2 a k) * u (ix2 j (g3 k)) + ∑ k, p4 (ix2 a k) * u (ix2 j (g4 k))
    + ∑ k, p5 (ix2 a k) * u (ix2 j (g5 k)) + ∑ k, p6 (ix2 a k) * u (ix2 j (g6 k))

/-- That cotangent with the first six groups, and the seventh group's columns of the weight. -/
abbrev sixGroups := k0_pay25
  (k0_pay16
    (k0_pay11 p0 (View.ld u (Rect.unit ![0, 0] ![1024, 512] inb_S1024x3712_S1024x512_0_0)))
    p1 (View.ld u (Rect.unit ![0, 512] ![1024, 512] inb_S1024x3712_S1024x512_0_512))
    p2 (View.ld u (Rect.unit ![0, 1024] ![1024, 512] inb_S1024x3712_S1024x512_0_1024)))
  (k0_pay19 (View.ld u (Rect.unit ![0, 1536] ![1024, 512] inb_S1024x3712_S1024x512_0_1536)))
  (k0_pay20 p3) (constant S512x1024 FTy.f32 0#32) p4
  (View.ld u (Rect.unit ![0, 2048] ![1024, 1024] inb_S1024x3712_S1024x1024_0_2048)) p5
  (View.ld u (Rect.unit ![0, 3072] ![1024, 512] inb_S1024x3712_S1024x512_0_3072))
abbrev seventh := View.ld u (Rect.unit ![0, 3584] ![1024, 128] inb_S1024x3712_S1024x128_0_3584)

theorem tile_dx (a : Fin 512) (b : Fin 1024) : k0_pay33 x (k0_pay4 w) (k0_pay6 x) (k0_pay7 x)
      (sixGroups u p0 p1 p2 p3 p4 p5) p6 (seventh u) s (ix2 a b)
    = dxV (fun a j => x (ix2 a j)) (fun j => w (ix2 0 j)) (fun a j => s (ix2 a j)) (tN u p0 p1 p2 p3 p4 p5 p6) a b := by
  pointwise [sixGroups, seventh, k0_pay33, k0_pay4, k0_pay5, k0_pay6, k0_pay7, k0_pay10, k0_pay11, k0_pay13, k0_pay15, k0_pay16, k0_pay18, k0_pay19, k0_pay20, k0_pay22, k0_pay24, k0_pay25, k0_pay29, k0_pay30]
  simp only [Finset.univ_unique, Finset.sum_singleton]
  rfl

theorem tile_dn (o : Vec Ideal S1x1024 .f32) (z : Fin 1) (b : Fin 1024) : k0_pay1 (k0_pay32 (k0_pay8 x)
      (sixGroups u p0 p1 p2 p3 p4 p5) p6 (seventh u)) o (ix2 z b)
    = o (ix2 z b) + dnV (fun a j => x (ix2 a j)) (tN u p0 p1 p2 p3 p4 p5 p6) b := by
  pointwise [sixGroups, seventh, k0_pay1, k0_pay32, k0_pay8, k0_pay5, k0_pay6, k0_pay10, k0_pay11, k0_pay13, k0_pay15, k0_pay16, k0_pay18, k0_pay19, k0_pay20, k0_pay22, k0_pay24, k0_pay25, k0_pay29, k0_pay30]
  rfl

variable (o : Vec Ideal S1024x3712 .f32)

theorem tile_dw0 (j : Fin 1024) (k : Fin 512) : k0_pay12 x w p0 (View.ld o (Rect.unit ![0, 0] ![1024, 512] inb_S1024x3712_S1024x512_0_0)) (ix2 j k)
    = o (ix2 j (g0 k)) + dwV (fun a j => x (ix2 a j)) (fun j => w (ix2 0 j)) (fun a k => p0 (ix2 a k)) j k := by
  pointwise [k0_pay12, k0_pay10, k0_pay9, k0_pay8, k0_pay6, k0_pay5, k0_pay4]
  rfl

theorem tile_dw1 (j : Fin 1024) (k : Fin 512) : k0_pay14 (k0_pay9 x w) p1 (View.ld o (Rect.unit ![0, 512] ![1024, 512] inb_S1024x3712_S1024x512_0_512)) (ix2 j k)
    = o (ix2 j (g1 k)) + dwV (fun a j => x (ix2 a j)) (fun j => w (ix2 0 j)) (fun a k => p1 (ix2 a k)) j k := by
  pointwise [k0_pay14, k0_pay13, k0_pay9, k0_pay8, k0_pay6, k0_pay5, k0_pay4]
  rfl

theorem tile_dw2 (j : Fin 1024) (k : Fin 512) : k0_pay17 (k0_pay9 x w) p2 (View.ld o (Rect.unit ![0, 1024] ![1024, 512] inb_S1024x3712_S1024x512_0_1024)) (ix2 j k)
    = o (ix2 j (g2 k)) + dwV (fun a j => x (ix2 a j)) (fun j => w (ix2 0 j)) (fun a k => p2 (ix2 a k)) j k := by
  pointwise [k0_pay17, k0_pay15, k0_pay9, k0_pay8, k0_pay6, k0_pay5, k0_pay4]
  rfl

theorem tile_dw3 (j : Fin 1024) (k : Fin 512) : k0_pay21 (k0_pay9 x w) (k0_pay18 p3) (View.ld o (Rect.unit ![0, 1536] ![1024, 512] inb_S1024x3712_S1024x512_0_1536)) (ix2 j k)
    = o (ix2 j (g3 k)) + dwV (fun a j => x (ix2 a j)) (fun j => w (ix2 0 j)) (fun a k => p3 (ix2 a k)) j k := by
  pointwise [k0_pay21, k0_pay18, k0_pay9, k0_pay8, k0_pay6, k0_pay5, k0_pay4]
  rfl

theorem tile_dw4 (j : Fin 1024) (k : Fin 1024) : k0_pay23 (k0_pay9 x w) p4 (View.ld o (Rect.unit ![0, 2048] ![1024, 1024] inb_S1024x3712_S1024x1024_0_2048)) (ix2 j k)
    = o (ix2 j (g4 k)) + dwV (fun a j => x (ix2 a j)) (fun j => w (ix2 0 j)) (fun a k => p4 (ix2 a k)) j k := by
  pointwise [k0_pay23, k0_pay22, k0_pay9, k0_pay8, k0_pay6, k0_pay5, k0_pay4]
  rfl

theorem tile_dw5 (j : Fin 1024) (k : Fin 512) : k0_pay28 (k0_pay26 (View.ld o (Rect.unit ![0, 3072] ![1024, 512] inb_S1024x3712_S1024x512_0_3072))) (k0_pay27 (k0_pay9 x w) p5) (ix2 j k)
    = o (ix2 j (g5 k)) + dwV (fun a j => x (ix2 a j)) (fun j => w (ix2 0 j)) (fun a k => p5 (ix2 a k)) j k := by
  pointwise [k0_pay28, k0_pay26, k0_pay27, k0_pay24, k0_pay9, k0_pay8, k0_pay6, k0_pay5, k0_pay4]
  rfl

theorem tile_dw6 (j : Fin 1024) (k : Fin 128) : k0_pay31 (k0_pay9 x w) p6 (View.ld o (Rect.unit ![0, 3584] ![1024, 128] inb_S1024x3712_S1024x128_0_3584)) (ix2 j k)
    = o (ix2 j (g6 k)) + dwV (fun a j => x (ix2 a j)) (fun j => w (ix2 0 j)) (fun a k => p6 (ix2 a k)) j k := by
  pointwise [k0_pay31, k0_pay29, k0_pay9, k0_pay8, k0_pay6, k0_pay5, k0_pay4]
  rfl

/-- The place of a group's column. -/
theorem emb_group (o n : ℕ) (inb) (j : Fin 1024) (k : Fin n) (h : o + k.val < 3712) :
    (Rect.unit (s := S1024x3712) ![0, o] ![1024, n] inb).emb (ix2 j k) = ix2 j ⟨o + k.val, h⟩ := by
  funext a; apply Fin.ext; rw [ValueKit.rect_emb_unit_val]; fin_cases a <;> simp [ix2]

/-- The seven groups of columns, stored one after another, fill the block. -/
theorem fill (G : Vec Ideal S1024x3712 .f32) (q0 q1 q2 q3 : Vec Ideal S1024x512 .f32) (q4 : Vec Ideal S1024x1024 .f32)
    (q5 : Vec Ideal S1024x512 .f32) (q6 : Vec Ideal S1024x128 .f32)
    (h0 : ∀ j k, q0 (ix2 j k) = G (ix2 j (g0 k)))
    (h1 : ∀ j k, q1 (ix2 j k) = G (ix2 j (g1 k)))
    (h2 : ∀ j k, q2 (ix2 j k) = G (ix2 j (g2 k)))
    (h3 : ∀ j k, q3 (ix2 j k) = G (ix2 j (g3 k)))
    (h4 : ∀ j k, q4 (ix2 j k) = G (ix2 j (g4 k)))
    (h5 : ∀ j k, q5 (ix2 j k) = G (ix2 j (g5 k)))
    (h6 : ∀ j k, q6 (ix2 j k) = G (ix2 j (g6 k)))
    (L : List (View.Piece (Elt Ideal) S1024x3712 .f32)) (i : S1024x3712.Idx) : View.canon
      ([⟨Rect.unit ![0, 3584] ![1024, 128] inb_S1024x3712_S1024x128_0_3584, q6⟩,
        ⟨Rect.unit ![0, 3072] ![1024, 512] inb_S1024x3712_S1024x512_0_3072, q5⟩,
        ⟨Rect.unit ![0, 2048] ![1024, 1024] inb_S1024x3712_S1024x1024_0_2048, q4⟩,
        ⟨Rect.unit ![0, 1536] ![1024, 512] inb_S1024x3712_S1024x512_0_1536, q3⟩,
        ⟨Rect.unit ![0, 1024] ![1024, 512] inb_S1024x3712_S1024x512_0_1024, q2⟩,
        ⟨Rect.unit ![0, 512] ![1024, 512] inb_S1024x3712_S1024x512_0_512, q1⟩,
        ⟨Rect.unit ![0, 0] ![1024, 512] inb_S1024x3712_S1024x512_0_0, q0⟩] ++ L) i = G i := by
  refine View.canon_append_of_piecesOf G L _ ?_ i ?_
  · refine ⟨fun y => ?_, fun y => ?_, fun y => ?_, fun y => ?_, fun y => ?_, fun y => ?_, fun y => ?_, trivial⟩
    · obtain ⟨a, b, rfl⟩ : ∃ (a : Fin 1024) (b : Fin 128), y = ix2 a b := ⟨y 0, y 1, eq_ix2 y⟩
      exact (h6 a b).trans (congrArg G (emb_group 3584 128 inb_S1024x3712_S1024x128_0_3584 a b (by omega)).symm)
    · obtain ⟨a, b, rfl⟩ : ∃ (a : Fin 1024) (b : Fin 512), y = ix2 a b := ⟨y 0, y 1, eq_ix2 y⟩
      exact (h5 a b).trans (congrArg G (emb_group 3072 512 inb_S1024x3712_S1024x512_0_3072 a b (by omega)).symm)
    · obtain ⟨a, b, rfl⟩ : ∃ (a : Fin 1024) (b : Fin 1024), y = ix2 a b := ⟨y 0, y 1, eq_ix2 y⟩
      exact (h4 a b).trans (congrArg G (emb_group 2048 1024 inb_S1024x3712_S1024x1024_0_2048 a b (by omega)).symm)
    · obtain ⟨a, b, rfl⟩ : ∃ (a : Fin 1024) (b : Fin 512), y = ix2 a b := ⟨y 0, y 1, eq_ix2 y⟩
      exact (h3 a b).trans (congrArg G (emb_group 1536 512 inb_S1024x3712_S1024x512_0_1536 a b (by omega)).symm)
    · obtain ⟨a, b, rfl⟩ : ∃ (a : Fin 1024) (b : Fin 512), y = ix2 a b := ⟨y 0, y 1, eq_ix2 y⟩
      exact (h2 a b).trans (congrArg G (emb_group 1024 512 inb_S1024x3712_S1024x512_0_1024 a b (by omega)).symm)
    · obtain ⟨a, b, rfl⟩ : ∃ (a : Fin 1024) (b : Fin 512), y = ix2 a b := ⟨y 0, y 1, eq_ix2 y⟩
      exact (h1 a b).trans (congrArg G (emb_group 512 512 inb_S1024x3712_S1024x512_0_512 a b (by omega)).symm)
    · obtain ⟨a, b, rfl⟩ : ∃ (a : Fin 1024) (b : Fin 512), y = ix2 a b := ⟨y 0, y 1, eq_ix2 y⟩
      refine (h0 a b).trans (congrArg G ((emb_group 0 512 inb_S1024x3712_S1024x512_0_0 a b (by omega)).trans ?_).symm)
      exact congrArg (ix2 a) (Fin.ext (Nat.zero_add _))
  · obtain ⟨a, b, rfl⟩ : ∃ (a : Fin 1024) (b : Fin 3712), i = ix2 a b := ⟨i 0, i 1, eq_ix2 i⟩
    by_cases c0 : b.val < 512
    · exact ⟨_, .tail _ (.tail _ (.tail _ (.tail _ (.tail _ (.tail _ (.head _)))))), by rw [Rect.mem_set_unit]; intro d; fin_cases d <;> simp [ix2] <;> omega⟩
    by_cases c1 : b.val < 1024
    · exact ⟨_, .tail _ (.tail _ (.tail _ (.tail _ (.tail _ (.head _))))), by rw [Rect.mem_set_unit]; intro d; fin_cases d <;> simp [ix2] <;> omega⟩
    by_cases c2 : b.val < 1536
    · exact ⟨_, .tail _ (.tail _ (.tail _ (.tail _ (.head _)))), by rw [Rect.mem_set_unit]; intro d; fin_cases d <;> simp [ix2] <;> omega⟩
    by_cases c3 : b.val < 2048
    · exact ⟨_, .tail _ (.tail _ (.tail _ (.head _))), by rw [Rect.mem_set_unit]; intro d; fin_cases d <;> simp [ix2] <;> omega⟩
    by_cases c4 : b.val < 3072
    · exact ⟨_, .tail _ (.tail _ (.head _)), by rw [Rect.mem_set_unit]; intro d; fin_cases d <;> simp [ix2] <;> omega⟩
    by_cases c5 : b.val < 3584
    · exact ⟨_, .tail _ (.head _), by rw [Rect.mem_set_unit]; intro d; fin_cases d <;> simp [ix2] <;> omega⟩
    · exact ⟨_, .head _, by rw [Rect.mem_set_unit]; intro d; fin_cases d <;> simp [ix2] <;> omega⟩

end Tile

variable (m : (ℓ : Loc nD τ sig) → Buf (Elt Ideal) ℓ) (c : Dev nD)

/-- The input, the norm's weight, the projection's weight, the projection's cotangent, the cotangent past the layer. -/
def aX (r : Fin 16384) (j : Fin 1024) : EReal := m ((c : Thread nD τ).loc main_arg0) (ix2 r j)
def aW (j : Fin 1024) : EReal := m ((c : Thread nD τ).loc main_arg1) (ix1 j)
def aU (j : Fin 1024) (k : Fin 3592) : EReal := m ((c : Thread nD τ).loc main_arg2) (ix2 j k)
def aP (r : Fin 16384) (k : Fin 3592) : EReal := m ((c : Thread nD τ).loc main_arg3) (ix2 r k)
def aS (r : Fin 16384) (j : Fin 1024) : EReal := m ((c : Thread nD τ).loc main_arg4) (ix2 r j)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)

/-- The row of the whole array that row `a` of tile `t` is. -/
def at_ (t : Fin cfg0.N) (a : Fin 512) : Fin 16384 :=
  ⟨t.val * 512 + a.val, by have : t.val < 32 := t.isLt; omega⟩

theorem host_u (j : Fin 1024) (k : Fin 3712) : V m c main_v6 (ix2 j k) = place (aU m c j) k := by
  show StableHlo.after hostOps0 (fun b => m (c, b)) (Proc.devRef .tc main_v6) (ix2 j k) = _
  after_results
  unfold aU
  pointwise
  unfold place
  by_cases h0 : k.val < 2048
  · refine (dif_pos h0).trans (Eq.trans ?_ (dif_pos h0).symm); after_results; pointwise
  refine (dif_neg h0).trans (Eq.trans ?_ (dif_neg h0).symm)
  by_cases h1 : k.val < 3072
  · refine (dif_pos (by omega)).trans (Eq.trans ?_ (dif_pos h1).symm); after_results; pointwise
    exact congrArg (fun k => m ((c : Thread nD τ).loc main_arg2) (ix2 j k)) (Fin.ext (by simp only []; omega))
  refine (dif_neg (by omega)).trans (Eq.trans ?_ (dif_neg h1).symm)
  by_cases h2 : k.val < 3584
  · refine (dif_pos (by omega)).trans (Eq.trans ?_ (dif_pos h2).symm); after_results; pointwise
    exact congrArg (fun k => m ((c : Thread nD τ).loc main_arg2) (ix2 j k)) (Fin.ext (by simp only []; omega))
  refine (dif_neg (by omega)).trans (Eq.trans ?_ (dif_neg h2).symm)
  by_cases h3 : k.val < 3592
  · refine (dif_pos (by omega)).trans (Eq.trans ?_ (dif_pos h3).symm); after_results; pointwise
    exact congrArg (fun k => m ((c : Thread nD τ).loc main_arg2) (ix2 j k)) (Fin.ext (by simp only []; omega))
  refine (dif_neg (by omega)).trans (Eq.trans ?_ (dif_neg h3).symm)
  refine (congrFun (StableHlo.unary_result ..) _).trans ?_
  rw [StableHlo.nullary_result]; pointwise
theorem host_p0 (r : Fin 16384) (k : Fin 512) : V m c main_v7 (ix2 r k) = place (aP m c r) (g0 k) := by
  rw [place_g0]
  show StableHlo.after hostOps0 (fun b => m (c, b)) (Proc.devRef .tc main_v7) (ix2 r k) = _
  after_results
  unfold aP
  pointwise
theorem host_p1 (r : Fin 16384) (k : Fin 512) : V m c main_v8 (ix2 r k) = place (aP m c r) (g1 k) := by
  rw [place_g1]
  show StableHlo.after hostOps0 (fun b => m (c, b)) (Proc.devRef .tc main_v8) (ix2 r k) = _
  after_results
  unfold aP
  pointwise
theorem host_p2 (r : Fin 16384) (k : Fin 512) : V m c main_v9 (ix2 r k) = place (aP m c r) (g2 k) := by
  rw [place_g2]
  show StableHlo.after hostOps0 (fun b => m (c, b)) (Proc.devRef .tc main_v9) (ix2 r k) = _
  after_results
  unfold aP
  pointwise
theorem host_p3 (r : Fin 16384) (k : Fin 512) : V m c main_v10 (ix2 r k) = place (aP m c r) (g3 k) := by
  rw [place_g3]
  show StableHlo.after hostOps0 (fun b => m (c, b)) (Proc.devRef .tc main_v10) (ix2 r k) = _
  after_results
  unfold aP
  pointwise
theorem host_p4 (r : Fin 16384) (k : Fin 1024) : V m c main_v14 (ix2 r k) = place (aP m c r) (g4 k) := by
  rw [place_g4]
  show StableHlo.after hostOps0 (fun b => m (c, b)) (Proc.devRef .tc main_v14) (ix2 r k) = _
  after_results
  unfold aP
  pointwise
theorem host_p5 (r : Fin 16384) (k : Fin 512) : V m c main_v15 (ix2 r k) = place (aP m c r) (g5 k) := by
  rw [place_g5]
  show StableHlo.after hostOps0 (fun b => m (c, b)) (Proc.devRef .tc main_v15) (ix2 r k) = _
  after_results
  unfold aP
  pointwise
theorem host_p6 (r : Fin 16384) (k : Fin 128) : V m c main_v13 (ix2 r k) = place (aP m c r) (g6 k) := by
  rw [place_g6]
  show StableHlo.after hostOps0 (fun b => m (c, b)) (Proc.devRef .tc main_v13) (ix2 r k) = _
  after_results
  unfold aP
  pointwise

theorem host_w (z : Fin 1) (j : Fin 1024) : V m c main_v16 (ix2 z j) = aW m c j := by
  show StableHlo.after hostOps0 (fun b => m (c, b)) (Proc.devRef .tc main_v16) (ix2 z j) = _
  after_results
  unfold aW
  pointwise

theorem blkX (t : Fin cfg0.N) (a : Fin 512) (j : Fin 1024) : iblk m c 0 t (ix2 a j) = aX m c (at_ t a) j := by
  unfold aX at_
  blk_ext! [iblk, idx0 t, V_main_arg0]
theorem blkW (t : Fin cfg0.N) (z : Fin 1) (j : Fin 1024) : iblk m c 1 t (ix2 z j) = aW m c j := by
  rw [← host_w m c z]
  blk_ext! [iblk, idx1 t]
theorem blkU (t : Fin cfg0.N) (j : Fin 1024) (k : Fin 3712) : iblk m c 2 t (ix2 j k) = place (aU m c j) k := by
  rw [← host_u]
  blk_ext! [iblk, idx2 t]
theorem blkP0 (t : Fin cfg0.N) (a : Fin 512) (k : Fin 512) : iblk m c 3 t (ix2 a k) = place (aP m c (at_ t a)) (g0 k) := by
  rw [← host_p0]; unfold at_
  blk_ext! [iblk, idx3 t]
theorem blkP1 (t : Fin cfg0.N) (a : Fin 512) (k : Fin 512) : iblk m c 4 t (ix2 a k) = place (aP m c (at_ t a)) (g1 k) := by
  rw [← host_p1]; unfold at_
  blk_ext! [iblk, idx4 t]
theorem blkP2 (t : Fin cfg0.N) (a : Fin 512) (k : Fin 512) : iblk m c 5 t (ix2 a k) = place (aP m c (at_ t a)) (g2 k) := by
  rw [← host_p2]; unfold at_
  blk_ext! [iblk, idx5 t]
theorem blkP3 (t : Fin cfg0.N) (a : Fin 512) (k : Fin 512) : iblk m c 6 t (ix2 a k) = place (aP m c (at_ t a)) (g3 k) := by
  rw [← host_p3]; unfold at_
  blk_ext! [iblk, idx6 t]
theorem blkP4 (t : Fin cfg0.N) (a : Fin 512) (k : Fin 1024) : iblk m c 7 t (ix2 a k) = place (aP m c (at_ t a)) (g4 k) := by
  rw [← host_p4]; unfold at_
  blk_ext! [iblk, idx7 t]
theorem blkP5 (t : Fin cfg0.N) (a : Fin 512) (k : Fin 512) : iblk m c 8 t (ix2 a k) = place (aP m c (at_ t a)) (g5 k) := by
  rw [← host_p5]; unfold at_
  blk_ext! [iblk, idx8 t]
theorem blkP6 (t : Fin cfg0.N) (a : Fin 512) (k : Fin 128) : iblk m c 9 t (ix2 a k) = place (aP m c (at_ t a)) (g6 k) := by
  rw [← host_p6]; unfold at_
  blk_ext! [iblk, idx9 t]
theorem blkS (t : Fin cfg0.N) (a : Fin 512) (j : Fin 1024) : iblk m c 10 t (ix2 a j) = aS m c (at_ t a) j := by
  unfold aS at_
  blk_ext! [iblk, idx10 t, V_main_arg4]

/-- A tile's cotangent of the normalised rows is the rows'. -/
theorem tile_n (t : Fin cfg0.N) : tN (iblk m c 2 t) (iblk m c 3 t) (iblk m c 4 t) (iblk m c 5 t) (iblk m c 6 t) (iblk m c 7 t) (iblk m c 8 t) (iblk m c 9 t)
    = fun a j => cotN (aU m c) (aP m c) (at_ t a) j := by
  funext a j
  unfold tN cotN
  simp only [blkU, blkP0, blkP1, blkP2, blkP3, blkP4, blkP5, blkP6]
  exact (sum_groups fun k => place (aP m c (at_ t a)) k * place (aU m c j) k).trans (sum_place _ _)

/-- What tile `t` adds to an entry of the norm's weight's gradient, and to one of the projection's. -/
def tileDn (t : Fin cfg0.N) (j : Fin 1024) : EReal :=
  dnV (fun a => aX m c (at_ t a)) (fun a => cotN (aU m c) (aP m c) (at_ t a)) j
def tileDw (t : Fin cfg0.N) (j : Fin 1024) (k : Fin 3712) : EReal :=
  dwV (fun a => aX m c (at_ t a)) (aW m c) (fun a => place (aP m c (at_ t a))) j k

/-- The gradient of the input: every row's own. -/
theorem final_dx : (dats m 0 c).arrAt 11 cfg0.N
    = fun i => dxV (aX m c) (aW m c) (aS m c) (cotN (aU m c) (aP m c)) (i 0) (i 1) := by
  refine (dats m 0 c).arrAt_eq_of_covers 11 _ (by decide +kernel) fun t hf y => ?_
  obtain ⟨a, b, rfl⟩ : ∃ a b, y = ix2 a b := ⟨y 0, y 1, by funext a; fin_cases a <;> rfl⟩
  have hx : dxV (fun a j => iblk m c 0 t (ix2 a j)) (fun j => iblk m c 1 t (ix2 0 j)) (fun a j => iblk m c 10 t (ix2 a j))
        (tN (iblk m c 2 t) (iblk m c 3 t) (iblk m c 4 t) (iblk m c 5 t) (iblk m c 6 t) (iblk m c 7 t) (iblk m c 8 t) (iblk m c 9 t)) a b
      = dxV (aX m c) (aW m c) (aS m c) (cotN (aU m c) (aP m c)) (at_ t a) b := by
    rw [tile_n]; simp only [blkX, blkW, blkS]; rfl
  have hout : (dats m 0 c).after 11 t (ix2 a b)
      = dxV (aX m c) (aW m c) (aS m c) (cotN (aU m c) (aP m c)) (at_ t a) b := by
    rw [after0_11]
    by_cases h : t.val % 32 = 0
    · rw [outsAt0_A m c t h]; frame_out; exact (tile_dx _ _ _ _ _ _ _ _ _ _ _ a b).trans hx
    · rw [outsAt0_B m c t h]; frame_out; exact (tile_dx _ _ _ _ _ _ _ _ _ _ _ a b).trans hx
  have he : ((cfg0.win 11).blk t).view.emb (ix2 a b) = ix2 (at_ t a) b := by
    unfold at_; blk_ext [idx11 t]
  rw [he]
  exact hout

theorem zero_dw (i : S1024x3712.Idx) : k0_pay2 (F := Ideal) i = 0 := by unfold k0_pay2; pointwise
theorem zero_dn (i : S1x1024.Idx) : k0_pay3 (F := Ideal) i = 0 := by unfold k0_pay3; pointwise

/-- The norm's weight's gradient: every entry the sum over the tiles. -/
theorem final_dn : (dats m 0 c).arrAt 13 cfg0.N = fun i => ∑ t : Fin cfg0.N, tileDn m c t (i 1) := by
  have step (t : Fin cfg0.N) (o : Vec Ideal S1x1024 .f32) (i : S1x1024.Idx) : k0_pay1 (k0_pay32 (k0_pay8 (iblk m c 0 t))
      (sixGroups (iblk m c 2 t) (iblk m c 3 t) (iblk m c 4 t) (iblk m c 5 t) (iblk m c 6 t) (iblk m c 7 t) (iblk m c 8 t)) (iblk m c 9 t) (seventh (iblk m c 2 t))) o i = o i + tileDn m c t (i 1) := by
    obtain ⟨z, b, rfl⟩ : ∃ z b, i = ix2 z b := ⟨i 0, i 1, by funext a; fin_cases a <;> rfl⟩
    refine (tile_dn _ _ _ _ _ _ _ _ _ _ z b).trans ?_
    rw [tile_n]
    simp only [blkX]
    rfl
  refine (dats m 0 c).arrAt_eq_of_after_last 13 (⟨31, by decide⟩ : Fin cfg0.N) (by decide +kernel)
    (G := (fun i => ∑ t : Fin cfg0.N, tileDn m c t (i 1) : Vec Ideal S1x1024 .f32)) fun i => ?_
  rw [after0_13, Pipeline.eq_sum_fin_of_reset_step_apply_last (fun n h => (outsAt0 m c n h).2.2) 32
    (k0_pay3 (F := Ideal)) (fun t i => tileDn m c t (i 1))
    (fun t h i => by rw [outsAt0_A m c t h]; frame_out; exact step t _ i)
    (fun t h i => by rw [outsAt0_B m c t h]; frame_out; exact step t _ i) (by decide) _ (by decide)]
  exact (congrArg (· + _) (zero_dn _)).trans (zero_add (M := EReal) _)

/-- One tile's step on the projection's weight's gradient. -/
theorem step_dw (t : Fin cfg0.N) (o : Vec Ideal S1024x3712 .f32) (L : List (View.Piece (Elt Ideal) S1024x3712 .f32))
    (i : S1024x3712.Idx) : View.canon
      ([⟨Rect.unit ![0, 3584] ![1024, 128] inb_S1024x3712_S1024x128_0_3584,
          k0_pay31 (k0_pay9 (iblk m c 0 t) (iblk m c 1 t)) (iblk m c 9 t) (View.ld o (Rect.unit ![0, 3584] ![1024, 128] inb_S1024x3712_S1024x128_0_3584))⟩,
        ⟨Rect.unit ![0, 3072] ![1024, 512] inb_S1024x3712_S1024x512_0_3072,
          k0_pay28 (k0_pay26 (View.ld o (Rect.unit ![0, 3072] ![1024, 512] inb_S1024x3712_S1024x512_0_3072))) (k0_pay27 (k0_pay9 (iblk m c 0 t) (iblk m c 1 t)) (iblk m c 8 t))⟩,
        ⟨Rect.unit ![0, 2048] ![1024, 1024] inb_S1024x3712_S1024x1024_0_2048,
          k0_pay23 (k0_pay9 (iblk m c 0 t) (iblk m c 1 t)) (iblk m c 7 t) (View.ld o (Rect.unit ![0, 2048] ![1024, 1024] inb_S1024x3712_S1024x1024_0_2048))⟩,
        ⟨Rect.unit ![0, 1536] ![1024, 512] inb_S1024x3712_S1024x512_0_1536,
          k0_pay21 (k0_pay9 (iblk m c 0 t) (iblk m c 1 t)) (k0_pay18 (iblk m c 6 t)) (View.ld o (Rect.unit ![0, 1536] ![1024, 512] inb_S1024x3712_S1024x512_0_1536))⟩,
        ⟨Rect.unit ![0, 1024] ![1024, 512] inb_S1024x3712_S1024x512_0_1024,
          k0_pay17 (k0_pay9 (iblk m c 0 t) (iblk m c 1 t)) (iblk m c 5 t) (View.ld o (Rect.unit ![0, 1024] ![1024, 512] inb_S1024x3712_S1024x512_0_1024))⟩,
        ⟨Rect.unit ![0, 512] ![1024, 512] inb_S1024x3712_S1024x512_0_512,
          k0_pay14 (k0_pay9 (iblk m c 0 t) (iblk m c 1 t)) (iblk m c 4 t) (View.ld o (Rect.unit ![0, 512] ![1024, 512] inb_S1024x3712_S1024x512_0_512))⟩,
        ⟨Rect.unit ![0, 0] ![1024, 512] inb_S1024x3712_S1024x512_0_0,
          k0_pay12 (iblk m c 0 t) (iblk m c 1 t) (iblk m c 3 t) (View.ld o (Rect.unit ![0, 0] ![1024, 512] inb_S1024x3712_S1024x512_0_0))⟩] ++ L) i
    = o i + tileDw m c t (i 0) (i 1) := by
  refine fill (fun i => o i + tileDw m c t (i 0) (i 1)) _ _ _ _ _ _ _ (fun j k => ?_) (fun j k => ?_) (fun j k => ?_) (fun j k => ?_) (fun j k => ?_) (fun j k => ?_) (fun j k => ?_) L i
  · refine (tile_dw0 _ _ _ _ j k).trans ?_; simp only [blkX, blkW, blkP0]; rfl
  · refine (tile_dw1 _ _ _ _ j k).trans ?_; simp only [blkX, blkW, blkP1]; rfl
  · refine (tile_dw2 _ _ _ _ j k).trans ?_; simp only [blkX, blkW, blkP2]; rfl
  · refine (tile_dw3 _ _ _ _ j k).trans ?_; simp only [blkX, blkW, blkP3]; rfl
  · refine (tile_dw4 _ _ _ _ j k).trans ?_; simp only [blkX, blkW, blkP4]; rfl
  · refine (tile_dw5 _ _ _ _ j k).trans ?_; simp only [blkX, blkW, blkP5]; rfl
  · refine (tile_dw6 _ _ _ _ j k).trans ?_; simp only [blkX, blkW, blkP6]; rfl

/-- The projection's weight's gradient, as laid out: every entry the sum over the tiles. -/
theorem final_dw : (dats m 0 c).arrAt 12 cfg0.N = fun i => ∑ t : Fin cfg0.N, tileDw m c t (i 0) (i 1) := by
  refine (dats m 0 c).arrAt_eq_of_after_last 12 (⟨31, by decide⟩ : Fin cfg0.N) (by decide +kernel)
    (G := (fun i => ∑ t : Fin cfg0.N, tileDw m c t (i 0) (i 1) : Vec Ideal S1024x3712 .f32)) fun i => ?_
  rw [after0_12, Pipeline.eq_sum_fin_of_reset_step_apply_last (fun n h => (outsAt0 m c n h).2.1) 32
    (k0_pay2 (F := Ideal)) (fun t i => tileDw m c t (i 0) (i 1))
    (fun t h i => by
      rw [outsAt0_A m c t h]; frame_open; simp (disch := decide) only [↓View.readCov_skip, ↓View.readCov_fill]; frame_out
      exact step_dw m c t _ [_] i)
    (fun t h i => by
      rw [outsAt0_B m c t h]; frame_open; simp (disch := decide) only [↓View.readCov_skip, ↓View.readCov_fill]; frame_out
      exact step_dw m c t _ [] i) (by decide) _ (by decide)]
  exact (congrArg (· + _) (zero_dw _)).trans (zero_add (M := EReal) _)

end Cert.Proof.In0

end
-- ==== Proof.In0.Reference.lean ====
/- THE REFERENCE OF THE FIRST LAYER'S INPUT PROJECTION, read at an index: the derivative jax takes of the norm and the
   product after it, and the cotangent that passes the layer by. -/
module

public import proofs.«01_k».proof.Proof.Gen.In0RefIdeal.Read
public import proofs.«01_k».proof.Proof.In.Rows
public import Idealize.ShloMosaic.Lib.Pipeline.ValueKit

@[expose] public section

noncomputable section

namespace Cert.Proof.In0

open Cert.In0RefIdeal Cert.In0RefIdeal.Gen Cert.In0RefIdeal.Read Idealize.ShloMosaic Cert.Rows Cert.Proof.In

variable (x : Vec Ideal S16384x1024 .f32) (w : Vec Ideal S1024 .f32) (u : Vec Ideal S1024x3592 .f32)
  (p : Vec Ideal S16384x3592 .f32) (s : Vec Ideal S16384x1024 .f32)

/-- The arrays by their entries. -/
abbrev mX (r : Fin 16384) (j : Fin 1024) : EReal := x (ix2 r j)
abbrev mW (j : Fin 1024) : EReal := w (ix1 j)
abbrev mU (j : Fin 1024) (k : Fin 3592) : EReal := u (ix2 j k)
abbrev mP (r : Fin 16384) (k : Fin 3592) : EReal := p (ix2 r k)

theorem ref_n (r : Fin 16384) (j : Fin 1024) : val_main_v19 (F := Ideal) u p (ix2 r j) = cotN (mU u) (mP p) r j := by
  pointwise [val_main_v19]
  rfl

theorem ref_dx (r : Fin 16384) (j : Fin 1024) : val_main_v40 (F := Ideal) x w u p s (ix2 r j)
    = dxV (mX x) (mW w) (mX s) (cotN (mU u) (mP p)) r j := by
  pointwise [val_main_v40, val_main_v39, val_main_v38, val_main_v37, val_main_v36, val_main_v35, val_main_cst_7, val_main_v34, val_main_v33, val_main_cst_6, val_main_v32, val_main_v31, val_main_v30, val_main_v29, val_main_v28, val_main_v27, val_main_cst_5, val_main_v26, val_main_v24, val_main_v23, val_main_v13, val_main_v10, val_main_v9, val_main_cst_2, val_main_v8, val_main_v7, val_main_v6, val_main_v5, val_main_cst_1, val_main_v4, val_main_v3, val_main_cst_0, val_main_v2, val_main_v1, val_main_cst, val_main_v0]
  simp only [Finset.univ_unique, Finset.sum_singleton, ref_n]
  unfold dxV gradRow
  rw [← add_assoc, ← add_assoc]
  rfl

theorem ref_dn (z : Fin 1) (j : Fin 1024) : val_main_v41 (F := Ideal) x u p (ix2 z j)
    = dnV (mX x) (cotN (mU u) (mP p)) j := by
  pointwise [val_main_v41, val_main_v25, val_main_cst_4, val_main_v22, val_main_v21, val_main_cst_3, val_main_v20, val_main_v12, val_main_v11, val_main_v7, val_main_v6, val_main_v5, val_main_cst_1, val_main_v4, val_main_v3, val_main_cst_0, val_main_v2, val_main_v1, val_main_cst, val_main_v0]
  simp only [Finset.univ_unique, Finset.sum_singleton, ref_n]
  rfl

theorem ref_dw (j : Fin 1024) (k : Fin 3592) : val_main_v18 (F := Ideal) x w p (ix2 j k)
    = dwV (mX x) (mW w) (mP p) j k := by
  pointwise [val_main_v18, val_main_v17, val_main_v15, val_main_v14, val_main_v13, val_main_v12, val_main_v11, val_main_v7, val_main_v6, val_main_v5, val_main_cst_1, val_main_v4, val_main_v3, val_main_cst_0, val_main_v2, val_main_v1, val_main_cst, val_main_v0]
  exact Finset.sum_congr rfl fun r _ => mul_comm _ _

end Cert.Proof.In0

end
-- ==== Proof.In0.Equation.lean ====
/- THE CALL ON THE FIRST LAYER'S INPUT PROJECTION COMPUTES ITS THREE GRADIENTS: the sums over 32 tiles of 512 rows are the
   sums over the 16384 rows, and the lines after the call put the columns of the weight's gradient back in their order. -/
module

public import proofs.«01_k».proof.Defs
public import proofs.«01_k».proof.Proof.Gen.In0RefIdeal.Run
public import proofs.«01_k».proof.Proof.In0.Kernel
public import proofs.«01_k».proof.Proof.In0.Reference

@[expose] public section

noncomputable section

namespace Cert.Proof.In0

open Idealize.ShloMosaic Idealize.ShloMosaic.TcCoe Idealize.SL.Sem Cert.Rows Cert.Proof.In

section Values

variable (m : (ℓ : Loc In0Ideal.nD In0Ideal.τ In0Ideal.sig) → Buf (Elt Ideal) ℓ) (c : Dev In0Ideal.nD)

def dxArr : Vec Ideal In0Ideal.S16384x1024 .f32 :=
  fun i => dxV (aX m c) (aW m c) (aS m c) (cotN (aU m c) (aP m c)) (i 0) (i 1)
def dwArr : Vec Ideal In0Ideal.S1024x3592 .f32 := fun i => dwV (aX m c) (aW m c) (aP m c) (i 0) (i 1)
def dnArr : Vec Ideal In0Ideal.S1x1024 .f32 := fun i => dnV (aX m c) (cotN (aU m c) (aP m c)) (i 1)

open Cert.In0Ideal Cert.In0Ideal.Gen

/-- The weight's gradient as laid out, over all rows. -/
theorem sum_dw (j : Fin 1024) (k : Fin 3712) : ∑ t : Fin cfg0.N, tileDw m c t j k
    = dwV (aX m c) (aW m c) (fun r => place (aP m c r)) j k :=
  Fin.sum_mul_add_fin 32 512 fun r => norm (aX m c r) (aW m c) j * place (aP m c r) k

/-- A column of the weight's gradient, wherever it lies. -/
theorem dw_at (j : Fin 1024) (k : Fin 3592) (q : Fin 3712) (h : ∀ f, place f q = f k) :
    (dats m 0 c).arrAt 12 cfg0.N (ix2 j q) = dwArr m c (ix2 j k) := by
  refine (congrFun (final_dw m c) _).trans ((sum_dw m c j q).trans ?_)
  unfold dwArr dwV
  simp only [h]
  rfl

/-- The weight's gradient after the lines that follow the call. -/
theorem end_dw : Pipeline.afterTail₀ cfgs (dats m) 0 (V0 m) [hostOps1] c main_v22 = dwArr m c := by
  funext i
  obtain ⟨j, k, rfl⟩ : ∃ (j : Fin 1024) (k : Fin 3592), i = ix2 j k := ⟨i 0, i 1, eq_ix2 i⟩
  unfold Pipeline.afterTail₀
  show StableHlo.after hostOps1 _ (Proc.devRef .tc main_v22) (ix2 j k) = _
  have hA := Pipeline.withArrays_arr (cfgs 0).spec (by decide) c (V0 m c) (fun w => (dats m 0 c).arrAt w (cfgs 0).N) 12
  generalize Pipeline.withArrays (cfgs 0).spec c (V0 m c) (fun w => (dats m 0 c).arrAt w (cfgs 0).N) = A at hA ⊢
  have hA' (j : Fin 1024) (q : Fin 3712) : A (Proc.devRef .tc main_v17_1) (ix2 j q) = (dats m 0 c).arrAt 12 cfg0.N (ix2 j q) :=
    congrFun hA _
  have h18 : StableHlo.after (hostOps1.take 4) A (Proc.devRef .tc main_v18)
      = extractStridedSlice S1024x2048 ![0, 0] (A (Proc.devRef .tc main_v17_1)) slices_S1024x3712_S1024x2048_0_0 := by
    dsimp only [List.take]; after_results
  have h19 : StableHlo.after (hostOps1.take 4) A (Proc.devRef .tc main_v19)
      = extractStridedSlice S1024x512 ![0, 3072] (A (Proc.devRef .tc main_v17_1)) slices_S1024x3712_S1024x512_0_3072 := by
    dsimp only [List.take]; after_results
  have h20 : StableHlo.after (hostOps1.take 4) A (Proc.devRef .tc main_v20)
      = extractStridedSlice S1024x1024 ![0, 2048] (A (Proc.devRef .tc main_v17_1)) slices_S1024x3712_S1024x1024_0_2048 := by
    dsimp only [List.take]; after_results
  have h21 : StableHlo.after (hostOps1.take 4) A (Proc.devRef .tc main_v21)
      = extractStridedSlice S1024x8 ![0, 3584] (A (Proc.devRef .tc main_v17_1)) slices_S1024x3712_S1024x8_0_3584 := by
    dsimp only [List.take]; after_results
  after_results
  pointwise
  by_cases h0 : k.val < 2048
  · refine (dif_pos h0).trans ((congrFun h18 _).trans ?_); pointwise
    refine (hA' j _).trans (dw_at m c j k _ fun f => ?_)
    unfold place; exact dif_pos h0
  refine (dif_neg h0).trans ?_
  by_cases h1 : k.val < 2560
  · refine (dif_pos (by omega)).trans ((congrFun h19 _).trans ?_); pointwise
    refine (hA' j _).trans (dw_at m c j k _ fun f => ?_)
    exact (place_g5 f ⟨k.val - 2048, by omega⟩).trans (congrArg f (Fin.ext (by simp only []; omega)))
  refine (dif_neg (by omega)).trans ?_
  by_cases h2 : k.val < 3584
  · refine (dif_pos (by omega)).trans ((congrFun h20 _).trans ?_); pointwise
    refine (hA' j _).trans (dw_at m c j k _ fun f => ?_)
    exact (place_g4 f ⟨k.val - 2048 - 512, by omega⟩).trans (congrArg f (Fin.ext (by simp only []; omega)))
  · refine (dif_neg (by omega)).trans ((congrFun h21 _).trans ?_); pointwise
    refine (hA' j _).trans (dw_at m c j k _ fun f => ?_)
    exact (place_g6 f ⟨k.val - 2048 - 512 - 1024, by omega⟩).trans
      ((dif_pos (show k.val - 2048 - 512 - 1024 < 8 by omega)).trans (congrArg f (Fin.ext (by simp only []; omega))))

end Values

/-- The reference's frame. -/
theorem ref_frame : Cert.quiescent_In0RefIdeal := fun m ρ _ =>
  (θ_run In0RefIdeal.defs _ _).mono (fun r h => ⟨fun c => (h c).2.2.2, sem_eq_zero_of_no_sems (by decide) r.2⟩)
    (In0RefIdeal.Value.run (F := Ideal) m ρ)

theorem algebraic : Cert.algebraic_In0Ideal_In0RefIdeal := by
  intro m g m' g' _ hag
  refine ⟨dxArr m, dwArr m, dnArr m, ?_, ?_⟩
  · refine (θ_run In0Ideal.defs _ _).mono (fun r h c => ?_) (θ_run_and (In0Ideal.Gen.run_main (F := Ideal) m g)
      (In0Ideal.Gen.unchanged (F := Ideal) m g))
    refine ⟨((h.1 c).1 11).trans (final_dx m c), ((h.1 c).2 In0Ideal.main_v22
      (Pipeline.mem_restRefs_of In0Ideal.main_v22 (by decide) (by decide))).trans (end_dw m c),
      ((h.1 c).1 13).trans ((final_dn m c).trans ?_), h.2 c⟩
    funext i
    exact Fin.sum_mul_add_fin 32 512 fun r => aX m c r (i 1) * factor (aX m c r) * cotN (aU m c) (aP m c) r (i 1)
  · refine (θ_run In0RefIdeal.defs _ _).mono (fun r h c => ?_) (In0RefIdeal.Value.run (F := Ideal) m' g')
    obtain ⟨h0, h1, h2, ha⟩ := h c
    obtain ⟨e0, e1, e2, e3, e4⟩ := hag c
    refine ⟨h0.trans ((In0RefIdeal.Read.val_main_v40_eq _ _).trans ?_),
      h1.trans ((In0RefIdeal.Read.val_main_v18_eq _ _ _).trans ?_),
      h2.trans ((In0RefIdeal.Read.val_main_v41_eq _ _ _).trans ?_), ha⟩
    · rw [e0, e1, e2, e3, e4]; funext i; obtain ⟨p, q, rfl⟩ : ∃ p q, i = ix2 p q := ⟨i 0, i 1, eq_ix2 i⟩; exact ref_dx _ _ _ _ _ p q
    · rw [e0, e1, e3]; funext i; obtain ⟨p, q, rfl⟩ : ∃ p q, i = ix2 p q := ⟨i 0, i 1, eq_ix2 i⟩; exact ref_dw _ _ _ p q
    · rw [e0, e2, e3]; funext i; obtain ⟨p, q, rfl⟩ : ∃ p q, i = ix2 p q := ⟨i 0, i 1, eq_ix2 i⟩; exact ref_dn _ _ _ p q

end Cert.Proof.In0

end
-- ==== Proof.Prep.Cells.lean ====
/- ONE CELL of the preparation of the state-space parameters: the gradients at one group and one state, from the cell's
   parameters `a + i b` (the transition), the group's step `s`, the cell's sixteen input weights `p k + i q k`, and the
   cotangents: `dl + i dm` of the discretised transition, `tr k`, `ti k` of the discretised input weights. -/
module

public import Idealize.ShloMosaic.Lib.Pipeline.ValueKit

@[expose] public section

noncomputable section

namespace Cert.Proof.Prep

open Idealize.ShloMosaic

section
variable (a b s dl dm : EReal) (p q tr ti : Fin 16 → EReal)

/-- The squared length of the transition. -/
def den : EReal := a * a + b * b
/-- The discretised transition less one. -/
def xr : EReal := Ideal.exp (a * s) * Ideal.cos (b * s) - 1
def xi : EReal := Ideal.exp (a * s) * Ideal.sin (b * s)
/-- The quotient's numerator, its two parts. -/
def nr : EReal := xr a b s * a + xi a b s * b
def ni : EReal := xi a b s * a - xr a b s * b
/-- The input weight's gradient, its two parts. -/
def dP (k : Fin 16) : EReal := Ideal.div (ni a b s) (den a b) * ti k + Ideal.div (nr a b s) (den a b) * tr k
def dQ (k : Fin 16) : EReal := Ideal.div (nr a b s) (den a b) * ti k + Ideal.div (ni a b s) (den a b) * (0 - tr k)
/-- The quotient's cotangent, its two parts. -/
def dcr : EReal := ∑ k, ti k * q k + ∑ k, tr k * p k
def dci : EReal := ∑ k, ti k * p k + ∑ k, (0 - tr k) * q k
def ur : EReal := Ideal.div (dcr p q tr ti) (den a b)
def ui : EReal := Ideal.div (dci p q tr ti) (den a b)
/-- The discretised transition's cotangent, its two parts. -/
def dxr : EReal := dl + (0 - ui a b p q tr ti) * b + ur a b p q tr ti * a
def dxi : EReal := dm + ui a b p q tr ti * a + ur a b p q tr ti * b
/-- The cotangent of the transition times the step, its two parts. -/
def dzr : EReal := (dxi a b dm p q tr ti * Ideal.sin (b * s) + dxr a b dl p q tr ti * Ideal.cos (b * s)) * Ideal.exp (a * s)
def dzi : EReal := Ideal.exp (a * s) * dxi a b dm p q tr ti * Ideal.cos (b * s)
  + (0 - Ideal.exp (a * s) * dxr a b dl p q tr ti) * Ideal.sin (b * s)
/-- The cotangent of the squared length. -/
def dden : EReal := 0 - dci p q tr ti * Ideal.div 1 (den a b * den a b) * ni a b s
  + (0 - dcr p q tr ti * Ideal.div 1 (den a b * den a b) * nr a b s)
/-- The transition's gradient, its two parts. -/
def dA : EReal := xi a b s * ui a b p q tr ti + xr a b s * ur a b p q tr ti + a * dden a b s p q tr ti
  + dden a b s p q tr ti * a + dzr a b s dl dm p q tr ti * s
def dB : EReal := xr a b s * (0 - ui a b p q tr ti) + xi a b s * ur a b p q tr ti + b * dden a b s p q tr ti
  + dden a b s p q tr ti * b + dzi a b s dl dm p q tr ti * s
/-- The step's cotangent from this cell. -/
def dS : EReal := b * dzi a b s dl dm p q tr ti + a * dzr a b s dl dm p q tr ti

end

end Cert.Proof.Prep

end
-- ==== Proof.Prep.Masks.lean ====
/- THE CALL'S BLOCKS: the masks that keep a group's rows, and each result's block from the arguments' blocks. -/
module

public import proofs.«01_k».proof.Proof.Prep.Cells
public import proofs.«01_k».proof.Proof.Gen.PrepIdeal.Frame
public import Idealize.ShloMosaic.Lib.Pipeline.ValueKit

@[expose] public section

noncomputable section

namespace Cert.Proof.Prep

open Idealize.ShloMosaic Idealize.SL.Sem Cert.PrepIdeal Cert.PrepIdeal.Gen

theorem floor64 : ∀ c : Fin 1024, Scalar.select
            (IntOp.andi
              (IntOp.cmpi CmpIPredicate.ne
                (IntOp.subi (BitVec.setWidth 32 (IntOp.cmpi CmpIPredicate.sgt (BitVec.ofNat 32 c.val) 0#32))
                  (BitVec.setWidth 32 (IntOp.cmpi CmpIPredicate.slt (BitVec.ofNat 32 c.val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 c.val) 64#32) 0#32))
            (IntOp.subi (IntOp.divsi ArithUnit.vector (BitVec.ofNat 32 c.val) 64#32) 1#32)
            (IntOp.divsi ArithUnit.vector (BitVec.ofNat 32 c.val) 64#32) = BitVec.ofNat 32 (c.val / 64) := by
  decide +kernel
theorem floor16 : ∀ c : Fin 256, Scalar.select
            (IntOp.andi
              (IntOp.cmpi CmpIPredicate.ne
                (IntOp.subi (BitVec.setWidth 32 (IntOp.cmpi CmpIPredicate.sgt (BitVec.ofNat 32 c.val) 0#32))
                  (BitVec.setWidth 32 (IntOp.cmpi CmpIPredicate.slt (BitVec.ofNat 32 c.val) 0#32)))
                (Scalar.subi (Scalar.extui (Scalar.cmpi CmpIPredicate.sgt 16#32 0#32))
                  (Scalar.extui (Scalar.cmpi CmpIPredicate.slt 16#32 0#32))))
              (IntOp.cmpi CmpIPredicate.ne (IntOp.remsi ArithUnit.vector (BitVec.ofNat 32 c.val) 16#32) 0#32))
            (IntOp.subi (IntOp.divsi ArithUnit.vector (BitVec.ofNat 32 c.val) 16#32) 1#32)
            (IntOp.divsi ArithUnit.vector (BitVec.ofNat 32 c.val) 16#32) = BitVec.ofNat 32 (c.val / 16) := by
  decide +kernel

theorem eq_word (a b : Nat) (ha : a < 1024) (hb : b < 1024) :
    (FloatOps.sitofp (F := Ideal) FTy.f32 (BitVec.setWidth 32 (IntOp.cmpi CmpIPredicate.eq (BitVec.ofNat 32 a) (BitVec.ofNat 32 b))) : EReal)
      = if a = b then 1 else 0 := by
  by_cases h : a = b
  · subst h; simp [IntOp.cmpi, FloatOps.sitofp]
  · have hw : (BitVec.ofNat 32 a == BitVec.ofNat 32 b) = false := beq_eq_false_iff_ne.mpr fun e => h (by
      have := congrArg BitVec.toNat e
      rwa [BitVec.toNat_ofNat, BitVec.toNat_ofNat, Nat.mod_eq_of_lt (by omega), Nat.mod_eq_of_lt (by omega)] at this)
    simp [IntOp.cmpi, FloatOps.sitofp, h, hw]

theorem onehot (r : Fin 128) (c : Fin 1024) : k0_pay5 (F := Ideal) (ix2 r c) = if c.val / 64 = r.val then 1 else 0 := by
  pointwise [k0_pay5]
  rw [floor64]
  exact eq_word _ _ (by omega) (by omega)

theorem mask (r : Fin 256) (c : Fin 1024) : k0_pay25 (F := Ideal) (iota .tc S256x1024 32 [1] iota_S256x1024_d1_w32) k0_pay23 k0_pay24 1#32 (ix2 r c) = if r.val / 16 = c.val / 64 then 1 else 0 := by
  pointwise [k0_pay25, k0_pay24, k0_pay23]
  rw [floor64, floor16]
  exact eq_word _ _ (by omega) (by omega)

/-- The row of a block matrix that holds a column's group's `k`-th row. -/
abbrev row (k : Fin 16) (c : Fin 1024) : Fin 256 := ⟨16 * (c.val / 64) + k.val, by omega⟩

/-- Of the sixteen groups of rows the mask leaves the column's own. -/
theorem pick (x : FVec Ideal S256x1024 .f32) (k : Fin 16) (c : Fin 1024) :
    Ideal.reduceAdd reduces_S16x16x1x1024_S16x1024
      (shapeCast (α := Ideal .f32) S16x16x1x1024 (mulf x (k0_pay25 (iota .tc S256x1024 32 [1] iota_S256x1024_d1_w32) k0_pay23 k0_pay24 1#32))
        shapeCasts_S256x1024_S16x16x1x1024) (ix2 k c) = x (ix2 (row k c) c) := by
  have hv (i : Fin 16) (j : Fin 16) (l : Fin 1) (d : Fin 1024) : (shapeCast (α := Ideal .f32) S16x16x1x1024 (mulf x
        (k0_pay25 (iota .tc S256x1024 32 [1] iota_S256x1024_d1_w32) k0_pay23 k0_pay24 1#32))
        shapeCasts_S256x1024_S16x16x1x1024) (ix4 i j l d)
      = x (ix2 ⟨16 * i.val + j.val, by omega⟩ d) * (if i.val = d.val / 64 then 1 else 0) := by
    have hm := mask ⟨16 * i.val + j.val, by omega⟩ d
    rw [show (16 * i.val + j.val) / 16 = i.val by omega] at hm
    rw [← hm]
    generalize (k0_pay25 (F := Ideal) (iota .tc S256x1024 32 [1] iota_S256x1024_d1_w32) k0_pay23 k0_pay24 1#32) = M
    pointwise
    rw [show (⟨i.val * 16 + j.val, by omega⟩ : Fin 256) = ⟨16 * i.val + j.val, by omega⟩ from Fin.ext (by simp only []; omega)]
  unfold Ideal.reduceAdd
  refine (Finset.sum_eq_single (ix4 (⟨c.val / 64, by omega⟩ : Fin 16) k (0 : Fin 1) c) (fun i hi hne => ?_) fun h => ?_).trans ?_
  · obtain ⟨e0, e1, e2, e3, rfl⟩ : ∃ (e0 : Fin 16) (e1 : Fin 16) (e2 : Fin 1) (e3 : Fin 1024), i = ix4 e0 e1 e2 e3 := ⟨i 0, i 1, i 2, i 3, eq_ix4 i⟩
    have hd := (Finset.mem_filter.mp hi).2
    have h1 : e1.val = k.val := congrArg Fin.val (congrFun hd 0)
    have h3 : e3.val = c.val := congrArg Fin.val (congrFun hd 1)
    rw [hv, if_neg, mul_zero]
    intro h0
    obtain rfl : e1 = k := Fin.ext h1
    obtain rfl : e3 = c := Fin.ext h3
    obtain rfl : e2 = 0 := Subsingleton.elim _ _
    exact hne (congrArg (fun e => ix4 e e1 0 e3) (Fin.ext h0))
  · exact absurd (Finset.mem_filter.mpr ⟨Finset.mem_univ _, by funext b; fin_cases b <;> rfl⟩) h
  · rw [hv, if_pos rfl, mul_one]

/-- The same of the sum over the groups of rows. -/
theorem pick28 (x : FVec Ideal S256x1024 .f32) (k : Fin 16) (c : Fin 1024) :
    k0_pay28 (mulf x (k0_pay25 (iota .tc S256x1024 32 [1] iota_S256x1024_d1_w32) k0_pay23 k0_pay24 1#32)) (ix2 k c)
      = x (ix2 (row k c) c) := by
  rw [← pick x k c]
  generalize (k0_pay25 (F := Ideal) (iota .tc S256x1024 32 [1] iota_S256x1024_d1_w32) k0_pay23 k0_pay24 1#32) = M
  pointwise [k0_pay28]

/-- A parameter of one number per group, at a column. -/
theorem spread (x : Vec Ideal S1x128 .f32) (z : Fin 1) (c : Fin 1024) :
    k0_pay6 x (ix2 z c) = Ideal.exp (x (ix2 z ⟨c.val / 64, by omega⟩)) := by
  pointwise [k0_pay6]
  simp only [onehot]
  congr 1
  refine (Finset.sum_eq_single (⟨c.val / 64, by omega⟩ : Fin 128) (fun i _ hi => ?_) fun h => absurd (Finset.mem_univ _) h).trans ?_
  · rw [if_neg fun h => hi (Fin.ext h.symm), mul_zero]
  · rw [if_pos rfl, mul_one]

section
variable (x0 : Vec Ideal S1x1024 .f32) (x1 : Vec Ideal S1x1024 .f32) (x2 : Vec Ideal S1x128 .f32)
  (x3 x4 x5 x6 : Vec Ideal S16x1024 .f32) (x7 x8 : Vec Ideal S1x1024 .f32) (x9 x10 x11 x12 : Vec Ideal S256x1024 .f32)

/-- The step at a column, and a block matrix's own rows. -/
def st (c : Fin 1024) : EReal := Ideal.exp (x2 (ix2 0 ⟨c.val / 64, by omega⟩))
def own (x : Vec Ideal S256x1024 .f32) (c : Fin 1024) (k : Fin 16) : EReal := x (ix2 (row k c) c)

theorem out13 (c : Fin 1024) : out0_13 x0 x1 x2 x3 x4 x5 x6 x7 x8 x9 x10 x11 x12 (ix2 0 c) = dA (x0 (ix2 0 c)) (x1 (ix2 0 c)) (st x2 c) (x7 (ix2 0 c)) (x8 (ix2 0 c)) (fun k => x3 (ix2 k c)) (fun k => x4 (ix2 k c)) (own x9 c) (own x10 c) := by
  have hp := pick28
  unfold_out out0_13
  frame_out
  generalize hM : (k0_pay25 (F := Ideal) (iota .tc S256x1024 32 [1] iota_S256x1024_d1_w32) k0_pay23 k0_pay24 1#32) = M
  rw [hM] at hp
  pointwise [k0_pay28] at hp
  pointwise [k0_pay1, k0_pay2, k0_pay3, k0_pay4, k0_pay7, k0_pay8, k0_pay9, k0_pay10, k0_pay11, k0_pay12, k0_pay13, k0_pay14, k0_pay15, k0_pay16, k0_pay17, k0_pay18, k0_pay19, k0_pay20, k0_pay21, k0_pay22, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
  simp only [hp, spread]
  rfl

theorem out14 (c : Fin 1024) : out0_14 x0 x1 x2 x3 x4 x5 x6 x7 x8 x9 x10 x11 x12 (ix2 0 c) = dB (x0 (ix2 0 c)) (x1 (ix2 0 c)) (st x2 c) (x7 (ix2 0 c)) (x8 (ix2 0 c)) (fun k => x3 (ix2 k c)) (fun k => x4 (ix2 k c)) (own x9 c) (own x10 c) := by
  have hp := pick28
  unfold_out out0_14
  frame_out
  generalize hM : (k0_pay25 (F := Ideal) (iota .tc S256x1024 32 [1] iota_S256x1024_d1_w32) k0_pay23 k0_pay24 1#32) = M
  rw [hM] at hp
  pointwise [k0_pay28] at hp
  pointwise [k0_pay1, k0_pay2, k0_pay3, k0_pay4, k0_pay7, k0_pay8, k0_pay9, k0_pay10, k0_pay11, k0_pay12, k0_pay13, k0_pay14, k0_pay15, k0_pay16, k0_pay17, k0_pay18, k0_pay19, k0_pay20, k0_pay21, k0_pay22, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
  simp only [hp, spread]
  rfl

theorem out15 (r : Fin 128) : out0_15 x0 x1 x2 x3 x4 x5 x6 x7 x8 x9 x10 x11 x12 (ix2 0 r) = ∑ c, dS (x0 (ix2 0 c)) (x1 (ix2 0 c)) (st x2 c) (x7 (ix2 0 c)) (x8 (ix2 0 c)) (fun k => x3 (ix2 k c)) (fun k => x4 (ix2 k c)) (own x9 c) (own x10 c) * st x2 c * (if c.val / 64 = r.val then 1 else 0) := by
  have hp := pick28
  unfold_out out0_15
  frame_out
  generalize hM : (k0_pay25 (F := Ideal) (iota .tc S256x1024 32 [1] iota_S256x1024_d1_w32) k0_pay23 k0_pay24 1#32) = M
  rw [hM] at hp
  pointwise [k0_pay28] at hp
  pointwise [k0_pay1, k0_pay2, k0_pay3, k0_pay4, k0_pay7, k0_pay8, k0_pay9, k0_pay10, k0_pay11, k0_pay12, k0_pay13, k0_pay14, k0_pay15, k0_pay16, k0_pay17, k0_pay18, k0_pay19, k0_pay20, k0_pay21, k0_pay22, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
  simp only [hp, spread, onehot]
  rfl

theorem out16 (z : Fin 16) (c : Fin 1024) : out0_16 x0 x1 x2 x3 x4 x5 x6 x7 x8 x9 x10 x11 x12 (ix2 z c) = dP (x0 (ix2 0 c)) (x1 (ix2 0 c)) (st x2 c) (own x9 c) (own x10 c) z := by
  have hp := pick28
  unfold_out out0_16
  frame_out
  generalize hM : (k0_pay25 (F := Ideal) (iota .tc S256x1024 32 [1] iota_S256x1024_d1_w32) k0_pay23 k0_pay24 1#32) = M
  rw [hM] at hp
  pointwise [k0_pay28] at hp
  pointwise [k0_pay1, k0_pay2, k0_pay3, k0_pay4, k0_pay7, k0_pay8, k0_pay9, k0_pay10, k0_pay11, k0_pay12, k0_pay13, k0_pay14, k0_pay15, k0_pay16, k0_pay17, k0_pay18, k0_pay19, k0_pay20, k0_pay21, k0_pay22, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
  simp only [hp, spread]
  rfl

theorem out17 (z : Fin 16) (c : Fin 1024) : out0_17 x0 x1 x2 x3 x4 x5 x6 x7 x8 x9 x10 x11 x12 (ix2 z c) = dQ (x0 (ix2 0 c)) (x1 (ix2 0 c)) (st x2 c) (own x9 c) (own x10 c) z := by
  have hp := pick28
  unfold_out out0_17
  frame_out
  generalize hM : (k0_pay25 (F := Ideal) (iota .tc S256x1024 32 [1] iota_S256x1024_d1_w32) k0_pay23 k0_pay24 1#32) = M
  rw [hM] at hp
  pointwise [k0_pay28] at hp
  pointwise [k0_pay1, k0_pay2, k0_pay3, k0_pay4, k0_pay7, k0_pay8, k0_pay9, k0_pay10, k0_pay11, k0_pay12, k0_pay13, k0_pay14, k0_pay15, k0_pay16, k0_pay17, k0_pay18, k0_pay19, k0_pay20, k0_pay21, k0_pay22, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
  simp only [hp, spread]
  rfl

theorem out18 (z : Fin 16) (c : Fin 1024) : out0_18 x0 x1 x2 x3 x4 x5 x6 x7 x8 x9 x10 x11 x12 (ix2 z c) = own x11 c z := by
  unfold_out out0_18
  frame_out
  exact pick28 x11 z c
theorem out19 (z : Fin 16) (c : Fin 1024) : out0_19 x0 x1 x2 x3 x4 x5 x6 x7 x8 x9 x10 x11 x12 (ix2 z c) = own x12 c z := by
  unfold_out out0_19
  frame_out
  exact pick28 x12 z c

end

end Cert.Proof.Prep

end
-- ==== Proof.Prep.Kernel.lean ====
/- THE CALL ON THE STATE-SPACE PARAMETERS: what its seven results hold, from the arguments, and the lines after it. -/
module

public import proofs.«01_k».proof.Proof.Prep.Masks
public import Idealize.ShloMosaic.Lib.Pipeline.ReadBack
public import Idealize.ShloMosaic.Lib.KernelVsHost

@[expose] public section

noncomputable section

namespace Cert.Proof.Prep

open Cert.PrepIdeal Cert.PrepIdeal.Gen Idealize.ShloMosaic Idealize.ShloMosaic.TcCoe Idealize.SL.Sem
  Idealize.ShloMosaic.Pipeline

/-- A column's group and its state. -/
abbrev grp (c : Fin 1024) : Fin 16 := ⟨c.val / 64, by omega⟩
abbrev sta (c : Fin 1024) : Fin 64 := ⟨c.val % 64, by omega⟩
/-- The column of a group's state. -/
abbrev col (g : Fin 16) (n : Fin 64) : Fin 1024 := ⟨g.val * 64 + n.val, by omega⟩

variable (m : (ℓ : Loc nD τ sig) → Buf (Elt Ideal) ℓ) (c : Dev nD)

/-- The arguments, by their entries. -/
def aA (g : Fin 16) (n : Fin 64) : EReal := (m ((c : Thread nD τ).loc main_arg0) : _ → EReal) (ix2 g n)
def aB (g : Fin 16) (n : Fin 64) : EReal := (m ((c : Thread nD τ).loc main_arg1) : _ → EReal) (ix2 g n)
def aL (g : Fin 16) : EReal := (m ((c : Thread nD τ).loc main_arg2) : _ → EReal) (ix1 g)
def aP (g : Fin 16) (n : Fin 64) (k : Fin 16) : EReal := (m ((c : Thread nD τ).loc main_arg3) : _ → EReal) (ix3 g n k)
def aQ (g : Fin 16) (n : Fin 64) (k : Fin 16) : EReal := (m ((c : Thread nD τ).loc main_arg4) : _ → EReal) (ix3 g n k)
def aC (g k : Fin 16) (n : Fin 64) : EReal := (m ((c : Thread nD τ).loc main_arg5) : _ → EReal) (ix3 g k n)
def aE (g k : Fin 16) (n : Fin 64) : EReal := (m ((c : Thread nD τ).loc main_arg6) : _ → EReal) (ix3 g k n)
def aDL (j : Fin 1024) : EReal := (m ((c : Thread nD τ).loc main_arg7) : _ → EReal) (ix2 0 j)
def aDM (j : Fin 1024) : EReal := (m ((c : Thread nD τ).loc main_arg8) : _ → EReal) (ix2 0 j)
def aTR (r : Fin 256) (j : Fin 1024) : EReal := (m ((c : Thread nD τ).loc main_arg9) : _ → EReal) (ix2 r j)
def aTI (r : Fin 256) (j : Fin 1024) : EReal := (m ((c : Thread nD τ).loc main_arg10) : _ → EReal) (ix2 r j)
def aUR (r : Fin 256) (j : Fin 1024) : EReal := (m ((c : Thread nD τ).loc main_arg11) : _ → EReal) (ix2 r j)
def aUI (r : Fin 256) (j : Fin 1024) : EReal := (m ((c : Thread nD τ).loc main_arg12) : _ → EReal) (ix2 r j)

theorem host_A (z : Fin 1) (j : Fin 1024) : V m c main_v0 (ix2 z j) = aA m c (grp j) (sta j) := by
  show StableHlo.after (hostOps0 ++ hostOps0_1 ++ hostOps0_2) (fun b => m (c, b)) (Proc.devRef .tc main_v0) (ix2 z j) = _
  simp only [hostOps0, hostOps0_1, hostOps0_2, List.cons_append, List.nil_append]
  after_results
  unfold aA
  pointwise
theorem host_B (z : Fin 1) (j : Fin 1024) : V m c main_v1 (ix2 z j) = aB m c (grp j) (sta j) := by
  show StableHlo.after (hostOps0 ++ hostOps0_1 ++ hostOps0_2) (fun b => m (c, b)) (Proc.devRef .tc main_v1) (ix2 z j) = _
  simp only [hostOps0, hostOps0_1, hostOps0_2, List.cons_append, List.nil_append]
  after_results
  unfold aB
  pointwise
theorem host_L (z : Fin 1) (g : Fin 16) : V m c main_v3 (ix2 z ⟨g.val, by omega⟩) = aL m c g := by
  show StableHlo.after (hostOps0 ++ hostOps0_1 ++ hostOps0_2) (fun b => m (c, b)) (Proc.devRef .tc main_v3) (ix2 z ⟨g.val, by omega⟩) = _
  simp only [hostOps0, hostOps0_1, hostOps0_2, List.cons_append, List.nil_append]
  after_results
  unfold aL
  pointwise
  exact pad_apply_of_inside ![0] ![112] ![0] (m ((c : Thread nD τ).loc main_arg2) : S16.Idx → EReal) _ pads_S16_S128_01120 h_S_
    (ix1 ⟨g.val, by omega⟩) (ix1 g) (fun a => by fin_cases a; show g.val = 0 + g.val * 1; omega)
theorem host_P (k : Fin 16) (j : Fin 1024) : V m c main_v5 (ix2 k j) = aP m c (grp j) (sta j) k := by
  show StableHlo.after (hostOps0 ++ hostOps0_1 ++ hostOps0_2) (fun b => m (c, b)) (Proc.devRef .tc main_v5) (ix2 k j) = _
  simp only [hostOps0, hostOps0_1, hostOps0_2, List.cons_append, List.nil_append]
  after_results
  unfold aP
  pointwise
theorem host_Q (k : Fin 16) (j : Fin 1024) : V m c main_v7 (ix2 k j) = aQ m c (grp j) (sta j) k := by
  show StableHlo.after (hostOps0 ++ hostOps0_1 ++ hostOps0_2) (fun b => m (c, b)) (Proc.devRef .tc main_v7) (ix2 k j) = _
  simp only [hostOps0, hostOps0_1, hostOps0_2, List.cons_append, List.nil_append]
  after_results
  unfold aQ
  pointwise

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![0, 0] := (by decide +kernel : ∀ t : Fin grid0.N, _)
theorem idx17 : ∀ t : Fin cfg0.N, win0_17.index t = ![0, 0] := (by decide +kernel : ∀ t : Fin grid0.N, _)
theorem idx18 : ∀ t : Fin cfg0.N, win0_18.index t = ![0, 0] := (by decide +kernel : ∀ t : Fin grid0.N, _)
theorem idx19 : ∀ t : Fin cfg0.N, win0_19.index t = ![0, 0] := (by decide +kernel : ∀ t : Fin grid0.N, _)

theorem blkA (t : Fin cfg0.N) (j : Fin 1024) : iblk m c 0 t (ix2 0 j) = aA m c (grp j) (sta j) := by
  rw [← host_A m c 0]
  blk_ext! [iblk, idx0 t]
theorem blkB (t : Fin cfg0.N) (j : Fin 1024) : iblk m c 1 t (ix2 0 j) = aB m c (grp j) (sta j) := by
  rw [← host_B m c 0]
  blk_ext! [iblk, idx1 t]
theorem blkL (t : Fin cfg0.N) (g : Fin 16) : iblk m c 2 t (ix2 0 ⟨g.val, by omega⟩) = aL m c g := by
  rw [← host_L m c 0]
  blk_ext! [iblk, idx2 t]
theorem blkP (t : Fin cfg0.N) (k : Fin 16) (j : Fin 1024) : iblk m c 3 t (ix2 k j) = aP m c (grp j) (sta j) k := by
  rw [← host_P]
  blk_ext! [iblk, idx3 t]
theorem blkQ (t : Fin cfg0.N) (k : Fin 16) (j : Fin 1024) : iblk m c 4 t (ix2 k j) = aQ m c (grp j) (sta j) k := by
  rw [← host_Q]
  blk_ext! [iblk, idx4 t]
theorem blkDL (t : Fin cfg0.N) (j : Fin 1024) : iblk m c 7 t (ix2 0 j) = aDL m c j := by
  unfold aDL
  blk_ext! [iblk, idx7 t, V_main_arg7]
theorem blkDM (t : Fin cfg0.N) (j : Fin 1024) : iblk m c 8 t (ix2 0 j) = aDM m c j := by
  unfold aDM
  blk_ext! [iblk, idx8 t, V_main_arg8]
theorem blkTR (t : Fin cfg0.N) (r : Fin 256) (j : Fin 1024) : iblk m c 9 t (ix2 r j) = aTR m c r j := by
  unfold aTR
  blk_ext! [iblk, idx9 t, V_main_arg9]
theorem blkTI (t : Fin cfg0.N) (r : Fin 256) (j : Fin 1024) : iblk m c 10 t (ix2 r j) = aTI m c r j := by
  unfold aTI
  blk_ext! [iblk, idx10 t, V_main_arg10]
theorem blkUR (t : Fin cfg0.N) (r : Fin 256) (j : Fin 1024) : iblk m c 11 t (ix2 r j) = aUR m c r j := by
  unfold aUR
  blk_ext! [iblk, idx11 t, V_main_arg11]
theorem blkUI (t : Fin cfg0.N) (r : Fin 256) (j : Fin 1024) : iblk m c 12 t (ix2 r j) = aUI m c r j := by
  unfold aUI
  blk_ext! [iblk, idx12 t, V_main_arg12]

/-- A group's step, and a block matrix's own rows. -/
def step (g : Fin 16) : EReal := Ideal.exp (aL m c g)
def tr (j : Fin 1024) (k : Fin 16) : EReal := aTR m c (row k j) j
def ti (j : Fin 1024) (k : Fin 16) : EReal := aTI m c (row k j) j

theorem blk_st (t : Fin cfg0.N) (j : Fin 1024) : st (iblk m c 2 t) j = step m c (grp j) := by
  unfold st step; rw [← blkL m c t (grp j)]
theorem blk_tr (t : Fin cfg0.N) (j : Fin 1024) : own (iblk m c 9 t) j = tr m c j := by
  funext k; exact blkTR m c t _ _
theorem blk_ti (t : Fin cfg0.N) (j : Fin 1024) : own (iblk m c 10 t) j = ti m c j := by
  funext k; exact blkTI m c t _ _

/-- The results, by column. -/
def oA (j : Fin 1024) : EReal := dA (aA m c (grp j) (sta j)) (aB m c (grp j) (sta j)) (step m c (grp j)) (aDL m c j) (aDM m c j) (aP m c (grp j) (sta j)) (aQ m c (grp j) (sta j)) (tr m c j) (ti m c j)
def oB (j : Fin 1024) : EReal := dB (aA m c (grp j) (sta j)) (aB m c (grp j) (sta j)) (step m c (grp j)) (aDL m c j) (aDM m c j) (aP m c (grp j) (sta j)) (aQ m c (grp j) (sta j)) (tr m c j) (ti m c j)
def oL (r : Fin 128) : EReal := ∑ j, dS (aA m c (grp j) (sta j)) (aB m c (grp j) (sta j)) (step m c (grp j)) (aDL m c j) (aDM m c j) (aP m c (grp j) (sta j)) (aQ m c (grp j) (sta j)) (tr m c j) (ti m c j) * step m c (grp j) * (if j.val / 64 = r.val then 1 else 0)
def oP (k : Fin 16) (j : Fin 1024) : EReal := dP (aA m c (grp j) (sta j)) (aB m c (grp j) (sta j)) (step m c (grp j)) (tr m c j) (ti m c j) k
def oQ (k : Fin 16) (j : Fin 1024) : EReal := dQ (aA m c (grp j) (sta j)) (aB m c (grp j) (sta j)) (step m c (grp j)) (tr m c j) (ti m c j) k
def oC (k : Fin 16) (j : Fin 1024) : EReal := aUR m c (row k j) j
def oE (k : Fin 16) (j : Fin 1024) : EReal := aUI m c (row k j) j

theorem final_oA : (dats m 0 c).arrAt 13 cfg0.N = fun i => oA m c (i 1) := by
  refine (dats m 0 c).arrAt_eq_of_covers 13 _ (by decide +kernel) fun t hf y => ?_
  obtain ⟨a, b, rfl⟩ : ∃ (a : Fin 1) (b : Fin 1024), y = ix2 a b := ⟨y 0, y 1, eq_ix2 y⟩
  obtain rfl : a = 0 := Subsingleton.elim _ _
  have hout : (dats m 0 c).after 13 t (ix2 0 b) = oA m c b := by
    rw [after0_13]
    refine (out13 _ _ _ _ _ _ _ _ _ _ _ _ _ b).trans ?_
    simp only [blkA, blkB, blkP, blkQ, blkDL, blkDM, blk_st, blk_tr, blk_ti]; rfl
  have he : ((cfg0.win 13).blk t).view.emb (ix2 0 b) = ix2 0 b := by
    blk_ext [idx13 t]
  rw [he]
  exact hout
theorem final_oB : (dats m 0 c).arrAt 14 cfg0.N = fun i => oB m c (i 1) := by
  refine (dats m 0 c).arrAt_eq_of_covers 14 _ (by decide +kernel) fun t hf y => ?_
  obtain ⟨a, b, rfl⟩ : ∃ (a : Fin 1) (b : Fin 1024), y = ix2 a b := ⟨y 0, y 1, eq_ix2 y⟩
  obtain rfl : a = 0 := Subsingleton.elim _ _
  have hout : (dats m 0 c).after 14 t (ix2 0 b) = oB m c b := by
    rw [after0_14]
    refine (out14 _ _ _ _ _ _ _ _ _ _ _ _ _ b).trans ?_
    simp only [blkA, blkB, blkP, blkQ, blkDL, blkDM, blk_st, blk_tr, blk_ti]; rfl
  have he : ((cfg0.win 14).blk t).view.emb (ix2 0 b) = ix2 0 b := by
    blk_ext [idx14 t]
  rw [he]
  exact hout
theorem final_oL : (dats m 0 c).arrAt 15 cfg0.N = fun i => oL m c (i 1) := by
  refine (dats m 0 c).arrAt_eq_of_covers 15 _ (by decide +kernel) fun t hf y => ?_
  obtain ⟨a, b, rfl⟩ : ∃ (a : Fin 1) (b : Fin 128), y = ix2 a b := ⟨y 0, y 1, eq_ix2 y⟩
  obtain rfl : a = 0 := Subsingleton.elim _ _
  have hout : (dats m 0 c).after 15 t (ix2 0 b) = oL m c b := by
    rw [after0_15]
    refine (out15 _ _ _ _ _ _ _ _ _ _ _ _ _ b).trans ?_
    simp only [blkA, blkB, blkP, blkQ, blkDL, blkDM, blk_st, blk_tr, blk_ti]; rfl
  have he : ((cfg0.win 15).blk t).view.emb (ix2 0 b) = ix2 0 b := by
    blk_ext [idx15 t]
  rw [he]
  exact hout
theorem final_oP : (dats m 0 c).arrAt 16 cfg0.N = fun i => oP m c (i 0) (i 1) := by
  refine (dats m 0 c).arrAt_eq_of_covers 16 _ (by decide +kernel) fun t hf y => ?_
  obtain ⟨a, b, rfl⟩ : ∃ (a : Fin 16) (b : Fin 1024), y = ix2 a b := ⟨y 0, y 1, eq_ix2 y⟩
  have hout : (dats m 0 c).after 16 t (ix2 a b) = oP m c a b := by
    rw [after0_16]
    refine (out16 _ _ _ _ _ _ _ _ _ _ _ _ _ a b).trans ?_
    simp only [blkA, blkB, blkP, blkQ, blkDL, blkDM, blk_st, blk_tr, blk_ti]; rfl
  have he : ((cfg0.win 16).blk t).view.emb (ix2 a b) = ix2 a b := by
    blk_ext [idx16 t]
  rw [he]
  exact hout
theorem final_oQ : (dats m 0 c).arrAt 17 cfg0.N = fun i => oQ m c (i 0) (i 1) := by
  refine (dats m 0 c).arrAt_eq_of_covers 17 _ (by decide +kernel) fun t hf y => ?_
  obtain ⟨a, b, rfl⟩ : ∃ (a : Fin 16) (b : Fin 1024), y = ix2 a b := ⟨y 0, y 1, eq_ix2 y⟩
  have hout : (dats m 0 c).after 17 t (ix2 a b) = oQ m c a b := by
    rw [after0_17]
    refine (out17 _ _ _ _ _ _ _ _ _ _ _ _ _ a b).trans ?_
    simp only [blkA, blkB, blkP, blkQ, blkDL, blkDM, blk_st, blk_tr, blk_ti]; rfl
  have he : ((cfg0.win 17).blk t).view.emb (ix2 a b) = ix2 a b := by
    blk_ext [idx17 t]
  rw [he]
  exact hout
theorem final_oC : (dats m 0 c).arrAt 18 cfg0.N = fun i => oC m c (i 0) (i 1) := by
  refine (dats m 0 c).arrAt_eq_of_covers 18 _ (by decide +kernel) fun t hf y => ?_
  obtain ⟨a, b, rfl⟩ : ∃ (a : Fin 16) (b : Fin 1024), y = ix2 a b := ⟨y 0, y 1, eq_ix2 y⟩
  have hout : (dats m 0 c).after 18 t (ix2 a b) = oC m c a b := by
    rw [after0_18]
    refine (out18 _ _ _ _ _ _ _ _ _ _ _ _ _ a b).trans ?_
    exact blkUR m c t _ _
  have he : ((cfg0.win 18).blk t).view.emb (ix2 a b) = ix2 a b := by
    blk_ext [idx18 t]
  rw [he]
  exact hout
theorem final_oE : (dats m 0 c).arrAt 19 cfg0.N = fun i => oE m c (i 0) (i 1) := by
  refine (dats m 0 c).arrAt_eq_of_covers 19 _ (by decide +kernel) fun t hf y => ?_
  obtain ⟨a, b, rfl⟩ : ∃ (a : Fin 16) (b : Fin 1024), y = ix2 a b := ⟨y 0, y 1, eq_ix2 y⟩
  have hout : (dats m 0 c).after 19 t (ix2 a b) = oE m c a b := by
    rw [after0_19]
    refine (out19 _ _ _ _ _ _ _ _ _ _ _ _ _ a b).trans ?_
    exact blkUI m c t _ _
  have he : ((cfg0.win 19).blk t).view.emb (ix2 a b) = ix2 a b := by
    blk_ext [idx19 t]
  rw [he]
  exact hout

/-- The sixteen groups' numbers after the lines that follow the call. -/
theorem end_L : Pipeline.afterTail₀ cfgs (dats m) 0 (V0 m) [hostOps1] c main_v14
    = fun i => oL m c (Fin.castLE (by decide : 16 ≤ 128) (i 0)) := by
  funext i
  obtain ⟨g, rfl⟩ : ∃ g : Fin 16, i = ix1 g := ⟨i 0, by funext a; fin_cases a; rfl⟩
  unfold Pipeline.afterTail₀
  show StableHlo.after hostOps1 _ (Proc.devRef .tc main_v14) (ix1 g) = _
  have hA := Pipeline.withArrays_arr (cfgs 0).spec (by decide) c (V0 m c) (fun w => (dats m 0 c).arrAt w (cfgs 0).N) 15
  generalize Pipeline.withArrays (cfgs 0).spec c (V0 m c) (fun w => (dats m 0 c).arrAt w (cfgs 0).N) = A at hA ⊢
  after_results
  pointwise
  exact (congrFun hA _).trans (congrFun (final_oL m c) _)

theorem end_P : Pipeline.afterTail₀ cfgs (dats m) 0 (V0 m) [hostOps1] c main_v16 = fun i => oP m c (i 2) (col (i 0) (i 1)) := by
  funext i
  obtain ⟨g, n, k, rfl⟩ : ∃ (g : Fin 16) (n : Fin 64) (k : Fin 16), i = ix3 g n k := ⟨i 0, i 1, i 2, eq_ix3 i⟩
  unfold Pipeline.afterTail₀
  show StableHlo.after hostOps1 _ (Proc.devRef .tc main_v16) (ix3 g n k) = _
  have hA := Pipeline.withArrays_arr (cfgs 0).spec (by decide) c (V0 m c) (fun w => (dats m 0 c).arrAt w (cfgs 0).N) 16
  generalize Pipeline.withArrays (cfgs 0).spec c (V0 m c) (fun w => (dats m 0 c).arrAt w (cfgs 0).N) = A at hA ⊢
  after_results
  pointwise
  refine (congrFun hA _).trans ((congrFun (final_oP m c) _).trans ?_)
  rfl
theorem end_Q : Pipeline.afterTail₀ cfgs (dats m) 0 (V0 m) [hostOps1] c main_v18 = fun i => oQ m c (i 2) (col (i 0) (i 1)) := by
  funext i
  obtain ⟨g, n, k, rfl⟩ : ∃ (g : Fin 16) (n : Fin 64) (k : Fin 16), i = ix3 g n k := ⟨i 0, i 1, i 2, eq_ix3 i⟩
  unfold Pipeline.afterTail₀
  show StableHlo.after hostOps1 _ (Proc.devRef .tc main_v18) (ix3 g n k) = _
  have hA := Pipeline.withArrays_arr (cfgs 0).spec (by decide) c (V0 m c) (fun w => (dats m 0 c).arrAt w (cfgs 0).N) 17
  generalize Pipeline.withArrays (cfgs 0).spec c (V0 m c) (fun w => (dats m 0 c).arrAt w (cfgs 0).N) = A at hA ⊢
  after_results
  pointwise
  refine (congrFun hA _).trans ((congrFun (final_oQ m c) _).trans ?_)
  rfl
theorem end_C : Pipeline.afterTail₀ cfgs (dats m) 0 (V0 m) [hostOps1] c main_v20 = fun i => oC m c (i 1) (col (i 0) (i 2)) := by
  funext i
  obtain ⟨g, k, n, rfl⟩ : ∃ (g : Fin 16) (k : Fin 16) (n : Fin 64), i = ix3 g k n := ⟨i 0, i 1, i 2, eq_ix3 i⟩
  unfold Pipeline.afterTail₀
  show StableHlo.after hostOps1 _ (Proc.devRef .tc main_v20) (ix3 g k n) = _
  have hA := Pipeline.withArrays_arr (cfgs 0).spec (by decide) c (V0 m c) (fun w => (dats m 0 c).arrAt w (cfgs 0).N) 18
  generalize Pipeline.withArrays (cfgs 0).spec c (V0 m c) (fun w => (dats m 0 c).arrAt w (cfgs 0).N) = A at hA ⊢
  after_results
  pointwise
  refine (congrFun hA _).trans ((congrFun (final_oC m c) _).trans ?_)
  rfl
theorem end_E : Pipeline.afterTail₀ cfgs (dats m) 0 (V0 m) [hostOps1] c main_v22 = fun i => oE m c (i 1) (col (i 0) (i 2)) := by
  funext i
  obtain ⟨g, k, n, rfl⟩ : ∃ (g : Fin 16) (k : Fin 16) (n : Fin 64), i = ix3 g k n := ⟨i 0, i 1, i 2, eq_ix3 i⟩
  unfold Pipeline.afterTail₀
  show StableHlo.after hostOps1 _ (Proc.devRef .tc main_v22) (ix3 g k n) = _
  have hA := Pipeline.withArrays_arr (cfgs 0).spec (by decide) c (V0 m c) (fun w => (dats m 0 c).arrAt w (cfgs 0).N) 19
  generalize Pipeline.withArrays (cfgs 0).spec c (V0 m c) (fun w => (dats m 0 c).arrAt w (cfgs 0).N) = A at hA ⊢
  after_results
  pointwise
  refine (congrFun hA _).trans ((congrFun (final_oE m c) _).trans ?_)
  rfl

end Cert.Proof.Prep

end
-- ==== Proof.Prep.Reference.lean ====
/- THE REFERENCE'S GRADIENTS OF THE STATE-SPACE PARAMETERS, cell by cell. -/
module

public import proofs.«01_k».proof.Proof.Prep.Masks
public import proofs.«01_k».proof.Proof.Gen.PrepRefIdeal.Read

@[expose] public section

noncomputable section

namespace Cert.Proof.Prep

open Cert.PrepRefIdeal Cert.PrepRefIdeal.Read Idealize.ShloMosaic Idealize.ShloMosaic.TcCoe Idealize.SL.Sem

theorem eye (g h : Fin 16) : val_main_v49 (F := Ideal) (ix2 g h) = if g = h then 1 else 0 := by
  have hw : IntOp.cmpi CmpIPredicate.eq (IntOp.addi (BitVec.ofNat 32 g.val) 0#32) (BitVec.ofNat 32 h.val)
      = if g = h then 1#1 else 0#1 := by
    revert g h; decide +kernel
  pointwise [val_main_v49, val_main_v48, val_main_v47, val_main_v46, val_main_c, val_main_v45, val_main_v44]
  rw [hw]
  split <;> simp [FloatOps.uitofp]

theorem eye_sum (f : Fin 16 → EReal) (g : Fin 16) : ∑ h, val_main_v49 (F := Ideal) (ix2 g h) * f h = f g := by
  simp only [eye, ite_mul, one_mul, zero_mul, Finset.sum_ite_eq, Finset.mem_univ, if_true]

section
variable (x0 x1 : Vec Ideal S16x64 .f32) (x2 : Vec Ideal S16 .f32) (x3 x4 : Vec Ideal S16x64x16 .f32)
  (x7 x8 : Vec Ideal S1x1024 .f32) (x9 x10 x11 x12 : Vec Ideal S256x1024 .f32) (g : Fin 16) (n : Fin 64) (k : Fin 16)

/-- The column of a group's state, and its own rows of a block matrix. -/
abbrev cell : Fin 1024 := ⟨g.val * 64 + n.val, by omega⟩
def rows (x : Vec Ideal S256x1024 .f32) (k : Fin 16) : EReal := x (ix2 ⟨g.val * 16 + k.val, by omega⟩ (cell g n))

theorem ref_e : val_main_v83 (F := Ideal) x12 (ix3 g k n) = rows g n x12 k := by
  pointwise [val_main_v83, val_main_v82, val_main_v81, val_main_v80, val_main_v79, val_main_v72, val_main_v78, val_main_cst_2, val_main_cst_3]
  simp only [Finset.univ_unique, Finset.sum_singleton]
  exact eye_sum (fun h => x12 (ix2 ⟨g.val * 16 + k.val, by omega⟩ ⟨h.val * 64 + n.val, by omega⟩)) g
theorem ref_c : val_main_v89 (F := Ideal) x11 (ix3 g k n) = rows g n x11 k := by
  pointwise [val_main_v89, val_main_v88, val_main_v87, val_main_v86, val_main_v85, val_main_v66, val_main_v84, val_main_cst_4, val_main_cst_5]
  simp only [Finset.univ_unique, Finset.sum_singleton]
  exact eye_sum (fun h => x11 (ix2 ⟨g.val * 16 + k.val, by omega⟩ ⟨h.val * 64 + n.val, by omega⟩)) g
theorem ref_tr : val_main_v103 (F := Ideal) x9 (ix3 g n k) = rows g n x9 k := by
  pointwise [val_main_v103, val_main_v102, val_main_v101, val_main_v100, val_main_v99, val_main_v98, val_main_v53, val_main_v97, val_main_cst_8, val_main_cst_9]
  simp only [Finset.univ_unique, Finset.sum_singleton]
  exact eye_sum (fun h => x9 (ix2 ⟨g.val * 16 + k.val, by omega⟩ ⟨h.val * 64 + n.val, by omega⟩)) g
theorem ref_ti : val_main_v96 (F := Ideal) x10 (ix3 g n k) = rows g n x10 k := by
  pointwise [val_main_v96, val_main_v95, val_main_v94, val_main_v93, val_main_v92, val_main_v91, val_main_v60, val_main_v90, val_main_cst_6, val_main_cst_7]
  simp only [Finset.univ_unique, Finset.sum_singleton]
  exact eye_sum (fun h => x10 (ix2 ⟨g.val * 16 + k.val, by omega⟩ ⟨h.val * 64 + n.val, by omega⟩)) g
theorem ref_dP : val_main_v126 (F := Ideal) x0 x1 x2 x9 x10 (ix3 g n k) = dP (x0 (ix2 g n)) (x1 (ix2 g n)) (Ideal.exp (x2 (ix1 g))) (rows g n x9) (rows g n x10) k := by
  pointwise [val_main_v126, val_main_v107, val_main_v106, val_main_v33, val_main_v28, val_main_v27, val_main_v25, val_main_v12, val_main_v6, val_main_v3, val_main_v2, val_main_v1, val_main_v0, val_main_v10, val_main_v5, val_main_v4, val_main_v26, val_main_v17, val_main_v9, val_main_v7, val_main_v16, val_main_cst, val_main_v15, val_main_v13, val_main_v14, val_main_v125, val_main_v124, val_main_v32, val_main_v21, val_main_v20, val_main_v18, val_main_v19]
  simp only [Finset.univ_unique, Finset.sum_singleton, ref_tr, ref_ti]
  simp only [dP, dQ, nr, ni, xr, xi, den, zero_sub]
theorem ref_dQ : val_main_v119 (F := Ideal) x0 x1 x2 x9 x10 (ix3 g n k) = dQ (x0 (ix2 g n)) (x1 (ix2 g n)) (Ideal.exp (x2 (ix1 g))) (rows g n x9) (rows g n x10) k := by
  pointwise [val_main_v119, val_main_v112, val_main_v111, val_main_v32, val_main_v21, val_main_v20, val_main_v18, val_main_v17, val_main_v9, val_main_v6, val_main_v3, val_main_v2, val_main_v1, val_main_v0, val_main_v7, val_main_v5, val_main_v4, val_main_v16, val_main_cst, val_main_v19, val_main_v12, val_main_v10, val_main_v15, val_main_v13, val_main_v14, val_main_v118, val_main_v117, val_main_v33, val_main_v28, val_main_v27, val_main_v25, val_main_v26, val_main_v116]
  simp only [Finset.univ_unique, Finset.sum_singleton, ref_tr, ref_ti]
  simp only [dP, dQ, nr, ni, xr, xi, den, zero_sub]
theorem ref_dci : val_main_v131 (F := Ideal) x3 x4 x9 x10 (ix2 g n) = dci (fun k => x3 (ix3 g n k)) (fun k => x4 (ix3 g n k)) (rows g n x9) (rows g n x10) := by
  pointwise [val_main_v131, val_main_v123, val_main_v110, val_main_v109, val_main_v108, val_main_cst_10, val_main_v122, val_main_v121, val_main_v120, val_main_v116, val_main_cst_12, val_main_cst_14]
  simp only [Finset.univ_unique, Finset.sum_singleton, ref_tr, ref_ti]
  simp only [dci, zero_sub]
theorem ref_dcr : val_main_v132 (F := Ideal) x3 x4 x9 x10 (ix2 g n) = dcr (fun k => x3 (ix3 g n k)) (fun k => x4 (ix3 g n k)) (rows g n x9) (rows g n x10) := by
  pointwise [val_main_v132, val_main_v130, val_main_v115, val_main_v114, val_main_v113, val_main_cst_11, val_main_v129, val_main_v128, val_main_v127, val_main_cst_13, val_main_cst_15]
  simp only [Finset.univ_unique, Finset.sum_singleton, ref_tr, ref_ti]
  simp only [dcr, zero_sub]
theorem ref_ui : val_main_v136 (F := Ideal) x0 x1 x3 x4 x9 x10 (ix2 g n) = ui (x0 (ix2 g n)) (x1 (ix2 g n)) (fun k => x3 (ix3 g n k)) (fun k => x4 (ix3 g n k)) (rows g n x9) (rows g n x10) := by
  pointwise [val_main_v136, val_main_v15, val_main_v13, val_main_v14]
  simp only [Finset.univ_unique, Finset.sum_singleton, ref_dci]
  simp only [ui, den, zero_sub]
theorem ref_ur : val_main_v148 (F := Ideal) x0 x1 x3 x4 x9 x10 (ix2 g n) = ur (x0 (ix2 g n)) (x1 (ix2 g n)) (fun k => x3 (ix3 g n k)) (fun k => x4 (ix3 g n k)) (rows g n x9) (rows g n x10) := by
  pointwise [val_main_v148, val_main_v15, val_main_v13, val_main_v14]
  simp only [Finset.univ_unique, Finset.sum_singleton, ref_dcr]
  simp only [ur, den, zero_sub]
theorem ref_dden : val_main_v147 (F := Ideal) x0 x1 x2 x3 x4 x9 x10 (ix2 g n) = dden (x0 (ix2 g n)) (x1 (ix2 g n)) (Ideal.exp (x2 (ix1 g))) (fun k => x3 (ix3 g n k)) (fun k => x4 (ix3 g n k)) (rows g n x9) (rows g n x10) := by
  pointwise [val_main_v147, val_main_v135, val_main_v134, val_main_v133, val_main_v31, val_main_v30, val_main_cst_1, val_main_v29, val_main_v15, val_main_v13, val_main_v14, val_main_v27, val_main_v25, val_main_v12, val_main_v6, val_main_v3, val_main_v2, val_main_v1, val_main_v0, val_main_v10, val_main_v5, val_main_v4, val_main_v26, val_main_v17, val_main_v9, val_main_v7, val_main_v16, val_main_cst, val_main_v146, val_main_v145, val_main_v144, val_main_v24, val_main_v23, val_main_cst_0, val_main_v22, val_main_v20, val_main_v18, val_main_v19]
  simp only [Finset.univ_unique, Finset.sum_singleton, ref_dci, ref_dcr]
  simp only [dden, nr, ni, xr, xi, den, zero_sub]
theorem ref_dxi : val_main_v152 (F := Ideal) x0 x1 x3 x4 x8 x9 x10 (ix2 g n) = dxi (x0 (ix2 g n)) (x1 (ix2 g n)) (x8 (ix2 0 (cell g n))) (fun k => x3 (ix3 g n k)) (fun k => x4 (ix3 g n k)) (rows g n x9) (rows g n x10) := by
  pointwise [val_main_v152, val_main_v143, val_main_v104, val_main_v142, val_main_v151]
  simp only [Finset.univ_unique, Finset.sum_singleton, ref_ui, ref_ur]
  simp only [dxi, zero_sub]
theorem ref_dxr : val_main_v156 (F := Ideal) x0 x1 x3 x4 x7 x9 x10 (ix2 g n) = dxr (x0 (ix2 g n)) (x1 (ix2 g n)) (x7 (ix2 0 (cell g n))) (fun k => x3 (ix3 g n k)) (fun k => x4 (ix3 g n k)) (rows g n x9) (rows g n x10) := by
  pointwise [val_main_v156, val_main_v140, val_main_v105, val_main_v139, val_main_v137, val_main_v155]
  simp only [Finset.univ_unique, Finset.sum_singleton, ref_ui, ref_ur]
  simp only [dxr, zero_sub]
theorem ref_dzi : val_main_v173 (F := Ideal) x0 x1 x2 x3 x4 x7 x8 x9 x10 (ix2 g n) = dzi (x0 (ix2 g n)) (x1 (ix2 g n)) (Ideal.exp (x2 (ix1 g))) (x7 (ix2 0 (cell g n))) (x8 (ix2 0 (cell g n))) (fun k => x3 (ix3 g n k)) (fun k => x4 (ix3 g n k)) (rows g n x9) (rows g n x10) := by
  pointwise [val_main_v173, val_main_v167, val_main_v165, val_main_v6, val_main_v3, val_main_v2, val_main_v1, val_main_v0, val_main_v11, val_main_v5, val_main_v4, val_main_v172, val_main_v171, val_main_v168, val_main_v8]
  simp only [Finset.univ_unique, Finset.sum_singleton, ref_dxr, ref_dxi]
  simp only [dzi, zero_sub]
theorem ref_dzr : val_main_v174 (F := Ideal) x0 x1 x2 x3 x4 x7 x8 x9 x10 (ix2 g n) = dzr (x0 (ix2 g n)) (x1 (ix2 g n)) (Ideal.exp (x2 (ix1 g))) (x7 (ix2 0 (cell g n))) (x8 (ix2 0 (cell g n))) (fun k => x3 (ix3 g n k)) (fun k => x4 (ix3 g n k)) (rows g n x9) (rows g n x10) := by
  pointwise [val_main_v174, val_main_v170, val_main_v166, val_main_v10, val_main_v5, val_main_v4, val_main_v1, val_main_v0, val_main_v169, val_main_v7, val_main_v6, val_main_v3, val_main_v2]
  simp only [Finset.univ_unique, Finset.sum_singleton, ref_dxr, ref_dxi]
  simp only [dzr, zero_sub]
theorem ref_dA : val_main_v187 (F := Ideal) x0 x1 x2 x3 x4 x7 x8 x9 x10 (ix2 g n) = dA (x0 (ix2 g n)) (x1 (ix2 g n)) (Ideal.exp (x2 (ix1 g))) (x7 (ix2 0 (cell g n))) (x8 (ix2 0 (cell g n))) (fun k => x3 (ix3 g n k)) (fun k => x4 (ix3 g n k)) (rows g n x9) (rows g n x10) := by
  pointwise [val_main_v187, val_main_v164, val_main_v162, val_main_v154, val_main_v141, val_main_v12, val_main_v6, val_main_v3, val_main_v2, val_main_v1, val_main_v0, val_main_v10, val_main_v5, val_main_v4, val_main_v153, val_main_v17, val_main_v9, val_main_v7, val_main_v16, val_main_cst, val_main_v161, val_main_v163, val_main_v186, val_main_v185]
  simp only [Finset.univ_unique, Finset.sum_singleton, ref_ui, ref_ur, ref_dden, ref_dzr]
  simp only [dA, xr, xi, zero_sub]
theorem ref_dB : val_main_v180 (F := Ideal) x0 x1 x2 x3 x4 x7 x8 x9 x10 (ix2 g n) = dB (x0 (ix2 g n)) (x1 (ix2 g n)) (Ideal.exp (x2 (ix1 g))) (x7 (ix2 0 (cell g n))) (x8 (ix2 0 (cell g n))) (fun k => x3 (ix3 g n k)) (fun k => x4 (ix3 g n k)) (rows g n x9) (rows g n x10) := by
  pointwise [val_main_v180, val_main_v160, val_main_v158, val_main_v150, val_main_v138, val_main_v17, val_main_v9, val_main_v6, val_main_v3, val_main_v2, val_main_v1, val_main_v0, val_main_v7, val_main_v5, val_main_v4, val_main_v16, val_main_cst, val_main_v137, val_main_v149, val_main_v12, val_main_v10, val_main_v157, val_main_v159, val_main_v179, val_main_v178]
  simp only [Finset.univ_unique, Finset.sum_singleton, ref_ui, ref_ur, ref_dden, ref_dzi]
  simp only [dB, xr, xi, zero_sub]
theorem ref_dL : val_main_v189 (F := Ideal) x0 x1 x2 x3 x4 x7 x8 x9 x10 (ix1 g) = (∑ n, (x1 (ix2 g n)) * dzi (x0 (ix2 g n)) (x1 (ix2 g n)) (Ideal.exp (x2 (ix1 g))) (x7 (ix2 0 (cell g n))) (x8 (ix2 0 (cell g n))) (fun k => x3 (ix3 g n k)) (fun k => x4 (ix3 g n k)) (rows g n x9) (rows g n x10) + ∑ n, (x0 (ix2 g n)) * dzr (x0 (ix2 g n)) (x1 (ix2 g n)) (Ideal.exp (x2 (ix1 g))) (x7 (ix2 0 (cell g n))) (x8 (ix2 0 (cell g n))) (fun k => x3 (ix3 g n k)) (fun k => x4 (ix3 g n k)) (rows g n x9) (rows g n x10)) * (Ideal.exp (x2 (ix1 g))) := by
  pointwise [val_main_v189, val_main_v188, val_main_v184, val_main_v177, val_main_v176, val_main_v175, val_main_cst_16, val_main_v183, val_main_v182, val_main_v181, val_main_cst_17, val_main_cst_18, val_main_v0]
  simp only [Finset.univ_unique, Finset.sum_singleton, ref_dzi, ref_dzr]
  skip

end

end Cert.Proof.Prep

end
-- ==== Proof.Prep.Equation.lean ====
/- THE GRADIENTS OF THE STATE-SPACE PARAMETERS: the kernel's seven results are the reference's, and the claim. -/
module

public import proofs.«01_k».proof.Defs
public import proofs.«01_k».proof.Proof.Consts
public import proofs.«01_k».proof.Proof.Prep.Kernel
public import proofs.«01_k».proof.Proof.Prep.Reference
public import proofs.«01_k».proof.Proof.Gen.PrepRefIdeal.Run

@[expose] public section

noncomputable section

namespace Cert.Proof.Prep

open Idealize.ShloMosaic Idealize.ShloMosaic.TcCoe Idealize.SL.Sem Cert.PrepRefIdeal.Read

/-- The precondition's one shape relation. -/
instance facts_pre : Cert.Pre_step_finite.Facts := ⟨by decide⟩

/-- A sum over the 1024 columns that keeps one group's is the sum over that group's 64 states. -/
theorem sum_group (f : Fin 1024 → EReal) (g : Fin 16) :
    ∑ j, f j * (if j.val / 64 = g.val then 1 else 0) = ∑ n : Fin 64, f (cell g n) := by
  have e : ∑ j, f j * (if j.val / 64 = g.val then 1 else 0)
      = ∑ p : Fin 16 × Fin 64, f (cell p.1 p.2) * (if p.1 = g then 1 else 0) := by
    refine (Fintype.sum_equiv (finProdFinEquiv (m := 16) (n := 64)) _ _ fun p => ?_).symm
    have hc : finProdFinEquiv p = cell p.1 p.2 := Fin.ext (by simp [finProdFinEquiv, cell]; omega)
    have hd : (cell p.1 p.2).val / 64 = p.1.val := by show (p.1.val * 64 + p.2.val) / 64 = _; omega
    rw [hc, hd]
    exact congrArg (f (cell p.1 p.2) * ·) (if_congr Fin.ext_iff rfl rfl)
  rw [e, Fintype.sum_prod_type, Finset.sum_eq_single g]
  · simp
  · intro b _ hb; simp [hb]
  · simp

/-- What the precondition says: a group's step is a nonnegative real. -/
theorem step_real [Cert.Pre_step_finite.Facts] (m : (ℓ : Loc Cert.PrepIdeal.nD Cert.PrepIdeal.τ Cert.PrepIdeal.sig) → Buf (Elt Ideal) ℓ)
    (h : Cert.Pre_PrepIdeal_step_finite m) (c : Dev Cert.PrepIdeal.nD) (g : Fin 16) :
    ∃ r : ℝ, 0 ≤ r ∧ step m c g = (r : EReal) := by
  have h1 := congrFun (h c) (ix1 g)
  unfold Cert.Pre_step_finite.fn at h1
  pointwise at h1
  have h2 : aL m c g ≠ ⊤ := fun e => by
    have h3 : aL m c g < Ideal.ofBits .f32 2139095040#32 := by
      by_contra h4
      have h5 : decide (aL m c g < Ideal.ofBits .f32 2139095040#32) = false := decide_eq_false h4
      exact absurd ((congrArg BitVec.ofBool h5).symm.trans h1) (by decide)
    rw [e] at h3
    exact not_top_lt h3
  unfold step
  induction hx : aL m c g using EReal.rec with
  | bot => exact ⟨0, le_refl _, rfl⟩
  | top => exact absurd hx h2
  | coe r => exact ⟨Real.exp r, (Real.exp_pos r).le, rfl⟩

theorem cell_eta (j : Fin 1024) : cell (grp j) (sta j) = j := Fin.ext (by show j.val / 64 * 64 + j.val % 64 = _; omega)
theorem grp_cell (g : Fin 16) (n : Fin 64) : grp (cell g n) = g := Fin.ext (by show (g.val * 64 + n.val) / 64 = _; omega)
theorem sta_cell (g : Fin 16) (n : Fin 64) : sta (cell g n) = n := Fin.ext (by show (g.val * 64 + n.val) % 64 = _; omega)

section
variable (m : (ℓ : Loc Cert.PrepIdeal.nD Cert.PrepIdeal.τ Cert.PrepIdeal.sig) → Buf (Elt Ideal) ℓ) (c : Dev Cert.PrepIdeal.nD)

theorem rows_eq (x : Vec Ideal Cert.PrepRefIdeal.S256x1024 .f32) (j : Fin 1024) (k : Fin 16) :
    x (ix2 (row k j) j) = rows (grp j) (sta j) x k := by
  unfold rows
  exact congrArg₂ (fun a b => x (ix2 a b)) (Fin.ext (by show 16 * (j.val / 64) + k.val = j.val / 64 * 16 + k.val; omega)) (cell_eta j).symm
theorem tr_eq (j : Fin 1024) : tr m c j = rows (grp j) (sta j) (m ((c : Thread Cert.PrepIdeal.nD Cert.PrepIdeal.τ).loc Cert.PrepIdeal.main_arg9)) := funext fun k => rows_eq (m ((c : Thread Cert.PrepIdeal.nD Cert.PrepIdeal.τ).loc Cert.PrepIdeal.main_arg9)) j k
theorem ti_eq (j : Fin 1024) : ti m c j = rows (grp j) (sta j) (m ((c : Thread Cert.PrepIdeal.nD Cert.PrepIdeal.τ).loc Cert.PrepIdeal.main_arg10)) := funext fun k => rows_eq (m ((c : Thread Cert.PrepIdeal.nD Cert.PrepIdeal.τ).loc Cert.PrepIdeal.main_arg10)) j k

theorem ref_A (j : Fin 1024) : val_main_v190 (F := Ideal) (m ((c : Thread Cert.PrepIdeal.nD Cert.PrepIdeal.τ).loc Cert.PrepIdeal.main_arg0)) (m ((c : Thread Cert.PrepIdeal.nD Cert.PrepIdeal.τ).loc Cert.PrepIdeal.main_arg1)) (m ((c : Thread Cert.PrepIdeal.nD Cert.PrepIdeal.τ).loc Cert.PrepIdeal.main_arg2)) (m ((c : Thread Cert.PrepIdeal.nD Cert.PrepIdeal.τ).loc Cert.PrepIdeal.main_arg3)) (m ((c : Thread Cert.PrepIdeal.nD Cert.PrepIdeal.τ).loc Cert.PrepIdeal.main_arg4)) (m ((c : Thread Cert.PrepIdeal.nD Cert.PrepIdeal.τ).loc Cert.PrepIdeal.main_arg7)) (m ((c : Thread Cert.PrepIdeal.nD Cert.PrepIdeal.τ).loc Cert.PrepIdeal.main_arg8)) (m ((c : Thread Cert.PrepIdeal.nD Cert.PrepIdeal.τ).loc Cert.PrepIdeal.main_arg9)) (m ((c : Thread Cert.PrepIdeal.nD Cert.PrepIdeal.τ).loc Cert.PrepIdeal.main_arg10)) (ix2 0 j) = oA m c j := by
  have h : val_main_v190 (F := Ideal) (m ((c : Thread Cert.PrepIdeal.nD Cert.PrepIdeal.τ).loc Cert.PrepIdeal.main_arg0)) (m ((c : Thread Cert.PrepIdeal.nD Cert.PrepIdeal.τ).loc Cert.PrepIdeal.main_arg1)) (m ((c : Thread Cert.PrepIdeal.nD Cert.PrepIdeal.τ).loc Cert.PrepIdeal.main_arg2)) (m ((c : Thread Cert.PrepIdeal.nD Cert.PrepIdeal.τ).loc Cert.PrepIdeal.main_arg3)) (m ((c : Thread Cert.PrepIdeal.nD Cert.PrepIdeal.τ).loc Cert.PrepIdeal.main_arg4)) (m ((c : Thread Cert.PrepIdeal.nD Cert.PrepIdeal.τ).loc Cert.PrepIdeal.main_arg7)) (m ((c : Thread Cert.PrepIdeal.nD Cert.PrepIdeal.τ).loc Cert.PrepIdeal.main_arg8)) (m ((c : Thread Cert.PrepIdeal.nD Cert.PrepIdeal.τ).loc Cert.PrepIdeal.main_arg9)) (m ((c : Thread Cert.PrepIdeal.nD Cert.PrepIdeal.τ).loc Cert.PrepIdeal.main_arg10)) (ix2 0 j) = val_main_v187 (F := Ideal) (m ((c : Thread Cert.PrepIdeal.nD Cert.PrepIdeal.τ).loc Cert.PrepIdeal.main_arg0)) (m ((c : Thread Cert.PrepIdeal.nD Cert.PrepIdeal.τ).loc Cert.PrepIdeal.main_arg1)) (m ((c : Thread Cert.PrepIdeal.nD Cert.PrepIdeal.τ).loc Cert.PrepIdeal.main_arg2)) (m ((c : Thread Cert.PrepIdeal.nD Cert.PrepIdeal.τ).loc Cert.PrepIdeal.main_arg3)) (m ((c : Thread Cert.PrepIdeal.nD Cert.PrepIdeal.τ).loc Cert.PrepIdeal.main_arg4)) (m ((c : Thread Cert.PrepIdeal.nD Cert.PrepIdeal.τ).loc Cert.PrepIdeal.main_arg7)) (m ((c : Thread Cert.PrepIdeal.nD Cert.PrepIdeal.τ).loc Cert.PrepIdeal.main_arg8)) (m ((c : Thread Cert.PrepIdeal.nD Cert.PrepIdeal.τ).loc Cert.PrepIdeal.main_arg9)) (m ((c : Thread Cert.PrepIdeal.nD Cert.PrepIdeal.τ).loc Cert.PrepIdeal.main_arg10)) (ix2 (grp j) (sta j)) := by
    pointwise [val_main_v190]
  rw [h, ref_dA, cell_eta]
  unfold oA
  rw [tr_eq, ti_eq]
  rfl
theorem ref_B (j : Fin 1024) : val_main_v191 (F := Ideal) (m ((c : Thread Cert.PrepIdeal.nD Cert.PrepIdeal.τ).loc Cert.PrepIdeal.main_arg0)) (m ((c : Thread Cert.PrepIdeal.nD Cert.PrepIdeal.τ).loc Cert.PrepIdeal.main_arg1)) (m ((c : Thread Cert.PrepIdeal.nD Cert.PrepIdeal.τ).loc Cert.PrepIdeal.main_arg2)) (m ((c : Thread Cert.PrepIdeal.nD Cert.PrepIdeal.τ).loc Cert.PrepIdeal.main_arg3)) (m ((c : Thread Cert.PrepIdeal.nD Cert.PrepIdeal.τ).loc Cert.PrepIdeal.main_arg4)) (m ((c : Thread Cert.PrepIdeal.nD Cert.PrepIdeal.τ).loc Cert.PrepIdeal.main_arg7)) (m ((c : Thread Cert.PrepIdeal.nD Cert.PrepIdeal.τ).loc Cert.PrepIdeal.main_arg8)) (m ((c : Thread Cert.PrepIdeal.nD Cert.PrepIdeal.τ).loc Cert.PrepIdeal.main_arg9)) (m ((c : Thread Cert.PrepIdeal.nD Cert.PrepIdeal.τ).loc Cert.PrepIdeal.main_arg10)) (ix2 0 j) = oB m c j := by
  have h : val_main_v191 (F := Ideal) (m ((c : Thread Cert.PrepIdeal.nD Cert.PrepIdeal.τ).loc Cert.PrepIdeal.main_arg0)) (m ((c : Thread Cert.PrepIdeal.nD Cert.PrepIdeal.τ).loc Cert.PrepIdeal.main_arg1)) (m ((c : Thread Cert.PrepIdeal.nD Cert.PrepIdeal.τ).loc Cert.PrepIdeal.main_arg2)) (m ((c : Thread Cert.PrepIdeal.nD Cert.PrepIdeal.τ).loc Cert.PrepIdeal.main_arg3)) (m ((c : Thread Cert.PrepIdeal.nD Cert.PrepIdeal.τ).loc Cert.PrepIdeal.main_arg4)) (m ((c : Thread Cert.PrepIdeal.nD Cert.PrepIdeal.τ).loc Cert.PrepIdeal.main_arg7)) (m ((c : Thread Cert.PrepIdeal.nD Cert.PrepIdeal.τ).loc Cert.PrepIdeal.main_arg8)) (m ((c : Thread Cert.PrepIdeal.nD Cert.PrepIdeal.τ).loc Cert.PrepIdeal.main_arg9)) (m ((c : Thread Cert.PrepIdeal.nD Cert.PrepIdeal.τ).loc Cert.PrepIdeal.main_arg10)) (ix2 0 j) = val_main_v180 (F := Ideal) (m ((c : Thread Cert.PrepIdeal.nD Cert.PrepIdeal.τ).loc Cert.PrepIdeal.main_arg0)) (m ((c : Thread Cert.PrepIdeal.nD Cert.PrepIdeal.τ).loc Cert.PrepIdeal.main_arg1)) (m ((c : Thread Cert.PrepIdeal.nD Cert.PrepIdeal.τ).loc Cert.PrepIdeal.main_arg2)) (m ((c : Thread Cert.PrepIdeal.nD Cert.PrepIdeal.τ).loc Cert.PrepIdeal.main_arg3)) (m ((c : Thread Cert.PrepIdeal.nD Cert.PrepIdeal.τ).loc Cert.PrepIdeal.main_arg4)) (m ((c : Thread Cert.PrepIdeal.nD Cert.PrepIdeal.τ).loc Cert.PrepIdeal.main_arg7)) (m ((c : Thread Cert.PrepIdeal.nD Cert.PrepIdeal.τ).loc Cert.PrepIdeal.main_arg8)) (m ((c : Thread Cert.PrepIdeal.nD Cert.PrepIdeal.τ).loc Cert.PrepIdeal.main_arg9)) (m ((c : Thread Cert.PrepIdeal.nD Cert.PrepIdeal.τ).loc Cert.PrepIdeal.main_arg10)) (ix2 (grp j) (sta j)) := by
    pointwise [val_main_v191]
  rw [h, ref_dB, cell_eta]
  unfold oB
  rw [tr_eq, ti_eq]
  rfl
theorem ref_P (g : Fin 16) (n : Fin 64) (k : Fin 16) :
    val_main_v126 (F := Ideal) (m ((c : Thread Cert.PrepIdeal.nD Cert.PrepIdeal.τ).loc Cert.PrepIdeal.main_arg0)) (m ((c : Thread Cert.PrepIdeal.nD Cert.PrepIdeal.τ).loc Cert.PrepIdeal.main_arg1)) (m ((c : Thread Cert.PrepIdeal.nD Cert.PrepIdeal.τ).loc Cert.PrepIdeal.main_arg2)) (m ((c : Thread Cert.PrepIdeal.nD Cert.PrepIdeal.τ).loc Cert.PrepIdeal.main_arg9)) (m ((c : Thread Cert.PrepIdeal.nD Cert.PrepIdeal.τ).loc Cert.PrepIdeal.main_arg10)) (ix3 g n k) = oP m c k (col g n) := by
  rw [ref_dP]
  unfold oP
  rw [tr_eq, ti_eq, show grp (col g n) = g from grp_cell g n, show sta (col g n) = n from sta_cell g n]
  rfl
theorem ref_Q (g : Fin 16) (n : Fin 64) (k : Fin 16) :
    val_main_v119 (F := Ideal) (m ((c : Thread Cert.PrepIdeal.nD Cert.PrepIdeal.τ).loc Cert.PrepIdeal.main_arg0)) (m ((c : Thread Cert.PrepIdeal.nD Cert.PrepIdeal.τ).loc Cert.PrepIdeal.main_arg1)) (m ((c : Thread Cert.PrepIdeal.nD Cert.PrepIdeal.τ).loc Cert.PrepIdeal.main_arg2)) (m ((c : Thread Cert.PrepIdeal.nD Cert.PrepIdeal.τ).loc Cert.PrepIdeal.main_arg9)) (m ((c : Thread Cert.PrepIdeal.nD Cert.PrepIdeal.τ).loc Cert.PrepIdeal.main_arg10)) (ix3 g n k) = oQ m c k (col g n) := by
  rw [ref_dQ]
  unfold oQ
  rw [tr_eq, ti_eq, show grp (col g n) = g from grp_cell g n, show sta (col g n) = n from sta_cell g n]
  rfl
theorem ref_C (g k : Fin 16) (n : Fin 64) : val_main_v89 (F := Ideal) (m ((c : Thread Cert.PrepIdeal.nD Cert.PrepIdeal.τ).loc Cert.PrepIdeal.main_arg11)) (ix3 g k n) = oC m c k (col g n) := by
  rw [ref_c]
  refine Eq.trans ?_ (rows_eq (m ((c : Thread Cert.PrepIdeal.nD Cert.PrepIdeal.τ).loc Cert.PrepIdeal.main_arg11)) (col g n) k).symm
  rw [show grp (col g n) = g from grp_cell g n, show sta (col g n) = n from sta_cell g n]
theorem ref_E (g k : Fin 16) (n : Fin 64) : val_main_v83 (F := Ideal) (m ((c : Thread Cert.PrepIdeal.nD Cert.PrepIdeal.τ).loc Cert.PrepIdeal.main_arg12)) (ix3 g k n) = oE m c k (col g n) := by
  rw [ref_e]
  refine Eq.trans ?_ (rows_eq (m ((c : Thread Cert.PrepIdeal.nD Cert.PrepIdeal.τ).loc Cert.PrepIdeal.main_arg12)) (col g n) k).symm
  rw [show grp (col g n) = g from grp_cell g n, show sta (col g n) = n from sta_cell g n]
theorem ref_L [Cert.Pre_step_finite.Facts] (h : Cert.Pre_PrepIdeal_step_finite m) (g : Fin 16) :
    val_main_v189 (F := Ideal) (m ((c : Thread Cert.PrepIdeal.nD Cert.PrepIdeal.τ).loc Cert.PrepIdeal.main_arg0)) (m ((c : Thread Cert.PrepIdeal.nD Cert.PrepIdeal.τ).loc Cert.PrepIdeal.main_arg1)) (m ((c : Thread Cert.PrepIdeal.nD Cert.PrepIdeal.τ).loc Cert.PrepIdeal.main_arg2)) (m ((c : Thread Cert.PrepIdeal.nD Cert.PrepIdeal.τ).loc Cert.PrepIdeal.main_arg3)) (m ((c : Thread Cert.PrepIdeal.nD Cert.PrepIdeal.τ).loc Cert.PrepIdeal.main_arg4)) (m ((c : Thread Cert.PrepIdeal.nD Cert.PrepIdeal.τ).loc Cert.PrepIdeal.main_arg7)) (m ((c : Thread Cert.PrepIdeal.nD Cert.PrepIdeal.τ).loc Cert.PrepIdeal.main_arg8)) (m ((c : Thread Cert.PrepIdeal.nD Cert.PrepIdeal.τ).loc Cert.PrepIdeal.main_arg9)) (m ((c : Thread Cert.PrepIdeal.nD Cert.PrepIdeal.τ).loc Cert.PrepIdeal.main_arg10)) (ix1 g) = oL m c (Fin.castLE (by decide : 16 ≤ 128) g) := by
  rw [ref_dL]
  have hs : oL m c (Fin.castLE (by decide : 16 ≤ 128) g)
      = ∑ n : Fin 64, dS (aA m c g n) (aB m c g n) (step m c g) (aDL m c (cell g n)) (aDM m c (cell g n)) (aP m c g n) (aQ m c g n)
          (tr m c (cell g n)) (ti m c (cell g n)) * step m c g := by
    refine (sum_group _ g).trans (Finset.sum_congr rfl fun n _ => ?_)
    rw [grp_cell, sta_cell]
  rw [hs]
  obtain ⟨r, hr, hstep⟩ := step_real m h c g
  simp only [mul_comm _ (step m c g)]
  rw [hstep, ← Cert.Consts.mul_sum r hr, ← hstep]
  simp only [dS, Finset.sum_add_distrib, tr_eq, ti_eq, grp_cell, sta_cell]
  exact mul_comm _ _

/-- The seven results. -/
def arrA : Vec Ideal Cert.PrepIdeal.S1x1024 .f32 := fun i => oA m c (i 1)
def arrB : Vec Ideal Cert.PrepIdeal.S1x1024 .f32 := fun i => oB m c (i 1)
def arrL : Vec Ideal Cert.PrepIdeal.S16 .f32 := fun i => oL m c (Fin.castLE (by decide : 16 ≤ 128) (i 0))
def arrP : Vec Ideal Cert.PrepIdeal.S16x64x16 .f32 := fun i => oP m c (i 2) (col (i 0) (i 1))
def arrQ : Vec Ideal Cert.PrepIdeal.S16x64x16 .f32 := fun i => oQ m c (i 2) (col (i 0) (i 1))
def arrC : Vec Ideal Cert.PrepIdeal.S16x16x64 .f32 := fun i => oC m c (i 1) (col (i 0) (i 2))
def arrE : Vec Ideal Cert.PrepIdeal.S16x16x64 .f32 := fun i => oE m c (i 1) (col (i 0) (i 2))

end

/-- The reference's frame. -/
theorem ref_frame : Cert.quiescent_PrepRefIdeal := fun m ρ _ =>
  (θ_run Cert.PrepRefIdeal.defs _ _).mono (fun r h => ⟨fun c => (h c).2.2.2.2.2.2.2, sem_eq_zero_of_no_sems (by decide) r.2⟩)
    (Cert.PrepRefIdeal.Value.run (F := Ideal) m ρ)

open Cert.PrepIdeal Cert.PrepIdeal.Gen in
theorem algebraic [Cert.Pre_step_finite.Facts] : Cert.algebraic_PrepIdeal_PrepRefIdeal_pre_step_finite := by
  intro m g m' g' hpre hag
  refine ⟨arrA m, arrB m, arrL m, arrP m, arrQ m, arrC m, arrE m, ?_, ?_⟩
  · refine (θ_run Cert.PrepIdeal.defs _ _).mono (fun r h c => ?_) (θ_run_and (Cert.PrepIdeal.Gen.run_main (F := Ideal) m g)
      (Cert.PrepIdeal.Gen.unchanged (F := Ideal) m g))
    have rest (b : Ref Cert.PrepIdeal.sig .tc) (hb) := (h.1 c).2 b hb
    exact ⟨((h.1 c).1 13).trans (final_oA m c), ((h.1 c).1 14).trans (final_oB m c),
      (rest Cert.PrepIdeal.main_v14 (Pipeline.mem_restRefs_of Cert.PrepIdeal.main_v14 (by decide) (by decide))).trans (end_L m c),
      (rest Cert.PrepIdeal.main_v16 (Pipeline.mem_restRefs_of Cert.PrepIdeal.main_v16 (by decide) (by decide))).trans (end_P m c),
      (rest Cert.PrepIdeal.main_v18 (Pipeline.mem_restRefs_of Cert.PrepIdeal.main_v18 (by decide) (by decide))).trans (end_Q m c),
      (rest Cert.PrepIdeal.main_v20 (Pipeline.mem_restRefs_of Cert.PrepIdeal.main_v20 (by decide) (by decide))).trans (end_C m c),
      (rest Cert.PrepIdeal.main_v22 (Pipeline.mem_restRefs_of Cert.PrepIdeal.main_v22 (by decide) (by decide))).trans (end_E m c), h.2 c⟩
  · refine (θ_run Cert.PrepRefIdeal.defs _ _).mono (fun r h c => ?_) (Cert.PrepRefIdeal.Value.run (F := Ideal) m' g')
    obtain ⟨h0, h1, h2, h3, h4, h5, h6, ha⟩ := h c
    obtain ⟨e0, e1, e2, e3, e4, e5, e6, e7, e8, e9, e10, e11, e12⟩ := hag c
    replace e0 : StableHlo.launchContents m' c (Proc.devRef .tc Cert.PrepRefIdeal.main_arg0) = m ((c : Thread Cert.PrepIdeal.nD Cert.PrepIdeal.τ).loc Cert.PrepIdeal.main_arg0) := e0
    replace e1 : StableHlo.launchContents m' c (Proc.devRef .tc Cert.PrepRefIdeal.main_arg1) = m ((c : Thread Cert.PrepIdeal.nD Cert.PrepIdeal.τ).loc Cert.PrepIdeal.main_arg1) := e1
    replace e2 : StableHlo.launchContents m' c (Proc.devRef .tc Cert.PrepRefIdeal.main_arg2) = m ((c : Thread Cert.PrepIdeal.nD Cert.PrepIdeal.τ).loc Cert.PrepIdeal.main_arg2) := e2
    replace e3 : StableHlo.launchContents m' c (Proc.devRef .tc Cert.PrepRefIdeal.main_arg3) = m ((c : Thread Cert.PrepIdeal.nD Cert.PrepIdeal.τ).loc Cert.PrepIdeal.main_arg3) := e3
    replace e4 : StableHlo.launchContents m' c (Proc.devRef .tc Cert.PrepRefIdeal.main_arg4) = m ((c : Thread Cert.PrepIdeal.nD Cert.PrepIdeal.τ).loc Cert.PrepIdeal.main_arg4) := e4
    replace e7 : StableHlo.launchContents m' c (Proc.devRef .tc Cert.PrepRefIdeal.main_arg7) = m ((c : Thread Cert.PrepIdeal.nD Cert.PrepIdeal.τ).loc Cert.PrepIdeal.main_arg7) := e7
    replace e8 : StableHlo.launchContents m' c (Proc.devRef .tc Cert.PrepRefIdeal.main_arg8) = m ((c : Thread Cert.PrepIdeal.nD Cert.PrepIdeal.τ).loc Cert.PrepIdeal.main_arg8) := e8
    replace e9 : StableHlo.launchContents m' c (Proc.devRef .tc Cert.PrepRefIdeal.main_arg9) = m ((c : Thread Cert.PrepIdeal.nD Cert.PrepIdeal.τ).loc Cert.PrepIdeal.main_arg9) := e9
    replace e10 : StableHlo.launchContents m' c (Proc.devRef .tc Cert.PrepRefIdeal.main_arg10) = m ((c : Thread Cert.PrepIdeal.nD Cert.PrepIdeal.τ).loc Cert.PrepIdeal.main_arg10) := e10
    replace e11 : StableHlo.launchContents m' c (Proc.devRef .tc Cert.PrepRefIdeal.main_arg11) = m ((c : Thread Cert.PrepIdeal.nD Cert.PrepIdeal.τ).loc Cert.PrepIdeal.main_arg11) := e11
    replace e12 : StableHlo.launchContents m' c (Proc.devRef .tc Cert.PrepRefIdeal.main_arg12) = m ((c : Thread Cert.PrepIdeal.nD Cert.PrepIdeal.τ).loc Cert.PrepIdeal.main_arg12) := e12
    refine ⟨h0.trans ((val_main_v190_eq _).trans ?_), h1.trans ((val_main_v191_eq _).trans ?_), h2.trans ((val_main_v189_eq _).trans ?_),
      h3.trans ((val_main_v126_eq _).trans ?_), h4.trans ((val_main_v119_eq _).trans ?_), h5.trans ((val_main_v89_eq _).trans ?_),
      h6.trans ((val_main_v83_eq _).trans ?_), ha⟩
    · rw [e0, e1, e2, e3, e4, e7, e8, e9, e10]; funext i
      obtain ⟨p, q, rfl⟩ : ∃ (p : Fin 1) (q : Fin 1024), i = ix2 p q := ⟨i 0, i 1, eq_ix2 i⟩
      obtain rfl : p = 0 := Subsingleton.elim _ _
      exact ref_A m c q
    · rw [e0, e1, e2, e3, e4, e7, e8, e9, e10]; funext i
      obtain ⟨p, q, rfl⟩ : ∃ (p : Fin 1) (q : Fin 1024), i = ix2 p q := ⟨i 0, i 1, eq_ix2 i⟩
      obtain rfl : p = 0 := Subsingleton.elim _ _
      exact ref_B m c q
    · rw [e0, e1, e2, e3, e4, e7, e8, e9, e10]; funext i
      obtain ⟨p, rfl⟩ : ∃ p : Fin 16, i = ix1 p := ⟨i 0, by funext a; fin_cases a; rfl⟩
      exact ref_L m c hpre p
    · rw [e0, e1, e2, e9, e10]; funext i
      obtain ⟨p, q, r, rfl⟩ : ∃ (p : Fin 16) (q : Fin 64) (r : Fin 16), i = ix3 p q r := ⟨i 0, i 1, i 2, eq_ix3 i⟩
      exact ref_P m c p q r
    · rw [e0, e1, e2, e9, e10]; funext i
      obtain ⟨p, q, r, rfl⟩ : ∃ (p : Fin 16) (q : Fin 64) (r : Fin 16), i = ix3 p q r := ⟨i 0, i 1, i 2, eq_ix3 i⟩
      exact ref_Q m c p q r
    · rw [e11]; funext i
      obtain ⟨p, q, r, rfl⟩ : ∃ (p : Fin 16) (q : Fin 16) (r : Fin 64), i = ix3 p q r := ⟨i 0, i 1, i 2, eq_ix3 i⟩
      exact ref_C m c p q r
    · rw [e12]; funext i
      obtain ⟨p, q, r, rfl⟩ : ∃ (p : Fin 16) (q : Fin 16) (r : Fin 64), i = ix3 p q r := ⟨i 0, i 1, i 2, eq_ix3 i⟩
      exact ref_E m c p q r

end Cert.Proof.Prep

end
-- ==== Proof.PrepFwd.Kernel.lean ====
/- THE CALL THAT PREPARES THE STATE-SPACE PARAMETERS: the discretised transition of every group's states, laid out along
   1024 columns, and the four weights as block matrices, a group's rows on its own columns and zeros elsewhere. -/
module

public import proofs.«01_k».proof.Proof.Prep.Cells
public import proofs.«01_k».proof.Proof.Prep.Masks
public import proofs.«01_k».proof.Proof.Gen.PrepFwdIdeal.Frame
public import Idealize.ShloMosaic.Lib.Pipeline.ValueKit
public import Idealize.ShloMosaic.Lib.Pipeline.ReadBack
public import Idealize.ShloMosaic.Lib.KernelVsHost

@[expose] public section

noncomputable section

namespace Cert.Proof.PrepFwd

open Cert.PrepFwdIdeal Cert.PrepFwdIdeal.Gen Idealize.ShloMosaic Idealize.ShloMosaic.TcCoe Idealize.SL.Sem
  Idealize.ShloMosaic.Pipeline
open Cert.Proof.Prep (floor64 floor16 eq_word xr xi nr ni den)

/-- A column's group and its state; a row's place in its group. -/
abbrev grp (c : Fin 1024) : Fin 16 := ⟨c.val / 64, by omega⟩
abbrev sta (c : Fin 1024) : Fin 64 := ⟨c.val % 64, by omega⟩
abbrev plc (r : Fin 256) : Fin 16 := ⟨r.val % 16, by omega⟩

/-- One where the row's group is the column's, zero elsewhere. -/
def same (r : Fin 256) (c : Fin 1024) : EReal := if r.val / 16 = c.val / 64 then 1 else 0

theorem mask (r : Fin 256) (c : Fin 1024) : k0_pay25 (F := Ideal) (iota .tc S256x1024 32 [0] iota_S256x1024_d0_w32)
    (iota .tc S256x1024 32 [1] iota_S256x1024_d1_w32) 16#32 k0_pay22 k0_pay23 k0_pay24 (ix2 r c) = same r c := by
  pointwise [k0_pay25, k0_pay24, k0_pay23, k0_pay22]
  rw [floor64, floor16]
  exact eq_word _ _ (by omega) (by omega)

/-- The step of every group at its columns. -/
theorem step_at (x : Vec Ideal S1x128 .f32) (z : Fin 1) (c : Fin 1024) : k0_pay11 (k0_pay3 x)
      (iota .tc S128x1024 32 [0] iota_S128x1024_d0_w32) k0_pay8 k0_pay9 k0_pay10 (ix2 z c)
    = Ideal.exp (x (ix2 z ⟨c.val / 64, by omega⟩)) := by
  pointwise [k0_pay11, k0_pay3, k0_pay8, k0_pay9, k0_pay10]
  congr 1
  have hone (r : Fin 128) := (congrArg (fun w => (FloatOps.sitofp (F := Ideal) FTy.f32 (BitVec.setWidth 32
    (IntOp.cmpi CmpIPredicate.eq w (BitVec.ofNat 32 r.val))) : EReal)) (floor64 c)).trans
      (eq_word (c.val / 64) r.val (by omega) (by omega))
  refine (Finset.sum_congr rfl fun r _ => congrArg (x (ix2 z r) * ·) (hone r)).trans ?_
  refine (Finset.sum_eq_single (⟨c.val / 64, by omega⟩ : Fin 128) (fun i _ hi => ?_) fun h => absurd (Finset.mem_univ _) h).trans ?_
  · rw [if_neg fun h => hi (Fin.ext h.symm), mul_zero]
  · rw [if_pos rfl, mul_one]

/-- Sixteen copies one under another, read at a row. -/
theorem copies (x : Vec Ideal S16x1024 .f32) (h) (r : Fin 256) (c : Fin 1024) : concatenate S256x1024 0
    (List.replicate 16 (⟨S16x1024, x⟩ : (s : Shape) × (s.Idx → EReal))) h (ix2 r c) = x (ix2 (plc r) c) :=
  concatenate_replicate_apply (α := EReal) (t := S256x1024) (s₁ := S16x1024) 0 16 x h rfl (ix2 r c) (ix2 (plc r) c) rfl
    fun b hb => by fin_cases b <;> first | rfl | exact absurd rfl hb

section Blocks

variable (x0 x1 : Vec Ideal S1x1024 .f32) (x2 : Vec Ideal S1x128 .f32) (x3 x4 x5 x6 : Vec Ideal S16x1024 .f32)

/-- The step at a column. -/
def st (c : Fin 1024) : EReal := Ideal.exp (x2 (ix2 0 ⟨c.val / 64, by omega⟩))

theorem out7 (c : Fin 1024) : out0_7 x0 x1 x2 x3 x4 x5 x6 (ix2 0 c) = Ideal.exp (x0 (ix2 0 c) * st x2 c) * Ideal.cos (x1 (ix2 0 c) * st x2 c) := by
  unfold_out out0_7
  frame_out
  pointwise [k0_pay1, k0_pay2, k0_pay4, k0_pay5, k0_pay6, k0_pay7, k0_pay12, k0_pay13, k0_pay14, k0_pay15, k0_pay16, k0_pay17, k0_pay18, k0_pay19, k0_pay20, k0_pay21]
  rw [show st x2 c = _ from (step_at x2 0 c).symm]

theorem out8 (c : Fin 1024) : out0_8 x0 x1 x2 x3 x4 x5 x6 (ix2 0 c) = Ideal.exp (x0 (ix2 0 c) * st x2 c) * Ideal.sin (x1 (ix2 0 c) * st x2 c) := by
  unfold_out out0_8
  frame_out
  pointwise [k0_pay1, k0_pay2, k0_pay4, k0_pay5, k0_pay6, k0_pay7, k0_pay12, k0_pay13, k0_pay14, k0_pay15, k0_pay16, k0_pay17, k0_pay18, k0_pay19, k0_pay20, k0_pay21]
  rw [show st x2 c = _ from (step_at x2 0 c).symm]

theorem out9 (r : Fin 256) (c : Fin 1024) : out0_9 x0 x1 x2 x3 x4 x5 x6 (ix2 r c)
    = (Ideal.div (nr (x0 (ix2 0 c)) (x1 (ix2 0 c)) (st x2 c)) (den (x0 (ix2 0 c)) (x1 (ix2 0 c))) * x3 (ix2 (plc r) c) - Ideal.div (ni (x0 (ix2 0 c)) (x1 (ix2 0 c)) (st x2 c)) (den (x0 (ix2 0 c)) (x1 (ix2 0 c))) * x4 (ix2 (plc r) c)) * same r c := by
  unfold_out out0_9
  frame_out
  refine (congrArg₂ (· * ·) (copies _ _ r c) (mask r c)).trans (congrArg (· * same r c) ?_)
  pointwise [k0_pay1, k0_pay2, k0_pay4, k0_pay5, k0_pay6, k0_pay7, k0_pay12, k0_pay13, k0_pay14, k0_pay15, k0_pay16, k0_pay17, k0_pay18, k0_pay19, k0_pay20, k0_pay21]
  rw [show st x2 c = _ from (step_at x2 0 c).symm]
  rfl

theorem out10 (r : Fin 256) (c : Fin 1024) : out0_10 x0 x1 x2 x3 x4 x5 x6 (ix2 r c)
    = (Ideal.div (nr (x0 (ix2 0 c)) (x1 (ix2 0 c)) (st x2 c)) (den (x0 (ix2 0 c)) (x1 (ix2 0 c))) * x4 (ix2 (plc r) c) + Ideal.div (ni (x0 (ix2 0 c)) (x1 (ix2 0 c)) (st x2 c)) (den (x0 (ix2 0 c)) (x1 (ix2 0 c))) * x3 (ix2 (plc r) c)) * same r c := by
  unfold_out out0_10
  frame_out
  refine (congrArg₂ (· * ·) (copies _ _ r c) (mask r c)).trans (congrArg (· * same r c) ?_)
  pointwise [k0_pay1, k0_pay2, k0_pay4, k0_pay5, k0_pay6, k0_pay7, k0_pay12, k0_pay13, k0_pay14, k0_pay15, k0_pay16, k0_pay17, k0_pay18, k0_pay19, k0_pay20, k0_pay21]
  rw [show st x2 c = _ from (step_at x2 0 c).symm]
  rfl

theorem out11 (r : Fin 256) (c : Fin 1024) : out0_11 x0 x1 x2 x3 x4 x5 x6 (ix2 r c) = x5 (ix2 (plc r) c) * same r c := by
  unfold_out out0_11
  frame_out
  refine (congrArg₂ (· * ·) (copies _ _ r c) (mask r c)).trans (congrArg (· * same r c) ?_)
  pointwise [k0_pay6, k0_pay7]

theorem out12 (r : Fin 256) (c : Fin 1024) : out0_12 x0 x1 x2 x3 x4 x5 x6 (ix2 r c) = x6 (ix2 (plc r) c) * same r c := by
  unfold_out out0_12
  frame_out
  refine (congrArg₂ (· * ·) (copies _ _ r c) (mask r c)).trans (congrArg (· * same r c) ?_)
  pointwise [k0_pay6, k0_pay7]

end Blocks

variable (m : (ℓ : Loc nD τ sig) → Buf (Elt Ideal) ℓ) (c : Dev nD)

/-- The arguments, by their entries. -/
def aA (g : Fin 16) (n : Fin 64) : EReal := (m ((c : Thread nD τ).loc main_arg0) : _ → EReal) (ix2 g n)
def aB (g : Fin 16) (n : Fin 64) : EReal := (m ((c : Thread nD τ).loc main_arg1) : _ → EReal) (ix2 g n)
def aL (g : Fin 16) : EReal := (m ((c : Thread nD τ).loc main_arg2) : _ → EReal) (ix1 g)
def aP (g : Fin 16) (n : Fin 64) (k : Fin 16) : EReal := (m ((c : Thread nD τ).loc main_arg3) : _ → EReal) (ix3 g n k)
def aQ (g : Fin 16) (n : Fin 64) (k : Fin 16) : EReal := (m ((c : Thread nD τ).loc main_arg4) : _ → EReal) (ix3 g n k)
def aC (g k : Fin 16) (n : Fin 64) : EReal := (m ((c : Thread nD τ).loc main_arg5) : _ → EReal) (ix3 g k n)
def aE (g k : Fin 16) (n : Fin 64) : EReal := (m ((c : Thread nD τ).loc main_arg6) : _ → EReal) (ix3 g k n)

theorem host_A (z : Fin 1) (j : Fin 1024) : V m c main_v0 (ix2 z j) = aA m c (grp j) (sta j) := by
  show StableHlo.after (hostOps0 ++ hostOps0_1 ++ hostOps0_2) (fun b => m (c, b)) (Proc.devRef .tc main_v0) (ix2 z j) = _
  simp only [hostOps0, hostOps0_1, hostOps0_2, List.cons_append, List.nil_append]
  after_results
  unfold aA
  pointwise
theorem host_B (z : Fin 1) (j : Fin 1024) : V m c main_v1 (ix2 z j) = aB m c (grp j) (sta j) := by
  show StableHlo.after (hostOps0 ++ hostOps0_1 ++ hostOps0_2) (fun b => m (c, b)) (Proc.devRef .tc main_v1) (ix2 z j) = _
  simp only [hostOps0, hostOps0_1, hostOps0_2, List.cons_append, List.nil_append]
  after_results
  unfold aB
  pointwise
theorem host_L (z : Fin 1) (g : Fin 16) : V m c main_v3 (ix2 z ⟨g.val, by omega⟩) = aL m c g := by
  show StableHlo.after (hostOps0 ++ hostOps0_1 ++ hostOps0_2) (fun b => m (c, b)) (Proc.devRef .tc main_v3) (ix2 z ⟨g.val, by omega⟩) = _
  simp only [hostOps0, hostOps0_1, hostOps0_2, List.cons_append, List.nil_append]
  after_results
  unfold aL
  pointwise
  exact pad_apply_of_inside ![0] ![112] ![0] (m ((c : Thread nD τ).loc main_arg2) : S16.Idx → EReal) _ pads_S16_S128_01120 h_S_
    (ix1 ⟨g.val, by omega⟩) (ix1 g) (fun a => by fin_cases a; show g.val = 0 + g.val * 1; omega)
theorem host_P (k : Fin 16) (j : Fin 1024) : V m c main_v5 (ix2 k j) = aP m c (grp j) (sta j) k := by
  show StableHlo.after (hostOps0 ++ hostOps0_1 ++ hostOps0_2) (fun b => m (c, b)) (Proc.devRef .tc main_v5) (ix2 k j) = _
  simp only [hostOps0, hostOps0_1, hostOps0_2, List.cons_append, List.nil_append]
  after_results
  unfold aP
  pointwise
theorem host_Q (k : Fin 16) (j : Fin 1024) : V m c main_v7 (ix2 k j) = aQ m c (grp j) (sta j) k := by
  show StableHlo.after (hostOps0 ++ hostOps0_1 ++ hostOps0_2) (fun b => m (c, b)) (Proc.devRef .tc main_v7) (ix2 k j) = _
  simp only [hostOps0, hostOps0_1, hostOps0_2, List.cons_append, List.nil_append]
  after_results
  unfold aQ
  pointwise
theorem host_C (k : Fin 16) (j : Fin 1024) : V m c main_v9 (ix2 k j) = aC m c (grp j) k (sta j) := by
  show StableHlo.after (hostOps0 ++ hostOps0_1 ++ hostOps0_2) (fun b => m (c, b)) (Proc.devRef .tc main_v9) (ix2 k j) = _
  simp only [hostOps0, hostOps0_1, hostOps0_2, List.cons_append, List.nil_append]
  after_results
  unfold aC
  pointwise
theorem host_E (k : Fin 16) (j : Fin 1024) : V m c main_v11 (ix2 k j) = aE m c (grp j) k (sta j) := by
  show StableHlo.after (hostOps0 ++ hostOps0_1 ++ hostOps0_2) (fun b => m (c, b)) (Proc.devRef .tc main_v11) (ix2 k j) = _
  simp only [hostOps0, hostOps0_1, hostOps0_2, List.cons_append, List.nil_append]
  after_results
  unfold aE
  pointwise

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)

theorem blkA (t : Fin cfg0.N) (j : Fin 1024) : iblk m c 0 t (ix2 0 j) = aA m c (grp j) (sta j) := by
  rw [← host_A m c 0]
  blk_ext! [iblk, idx0 t]
theorem blkB (t : Fin cfg0.N) (j : Fin 1024) : iblk m c 1 t (ix2 0 j) = aB m c (grp j) (sta j) := by
  rw [← host_B m c 0]
  blk_ext! [iblk, idx1 t]
theorem blkL (t : Fin cfg0.N) (g : Fin 16) : iblk m c 2 t (ix2 0 ⟨g.val, by omega⟩) = aL m c g := by
  rw [← host_L m c 0]
  blk_ext! [iblk, idx2 t]
theorem blkP (t : Fin cfg0.N) (k : Fin 16) (j : Fin 1024) : iblk m c 3 t (ix2 k j) = aP m c (grp j) (sta j) k := by
  rw [← host_P]
  blk_ext! [iblk, idx3 t]
theorem blkQ (t : Fin cfg0.N) (k : Fin 16) (j : Fin 1024) : iblk m c 4 t (ix2 k j) = aQ m c (grp j) (sta j) k := by
  rw [← host_Q]
  blk_ext! [iblk, idx4 t]
theorem blkC (t : Fin cfg0.N) (k : Fin 16) (j : Fin 1024) : iblk m c 5 t (ix2 k j) = aC m c (grp j) k (sta j) := by
  rw [← host_C]
  blk_ext! [iblk, idx5 t]
theorem blkE (t : Fin cfg0.N) (k : Fin 16) (j : Fin 1024) : iblk m c 6 t (ix2 k j) = aE m c (grp j) k (sta j) := by
  rw [← host_E]
  blk_ext! [iblk, idx6 t]

/-- A group's step. -/
def step (g : Fin 16) : EReal := Ideal.exp (aL m c g)

theorem blk_st (t : Fin cfg0.N) (j : Fin 1024) : st (iblk m c 2 t) j = step m c (grp j) := by
  unfold st step; rw [← blkL m c t (grp j)]

/-- The results, by row and column. -/
def oL (j : Fin 1024) : EReal := Ideal.exp (aA m c (grp j) (sta j) * step m c (grp j)) * Ideal.cos (aB m c (grp j) (sta j) * step m c (grp j))
def oM (j : Fin 1024) : EReal := Ideal.exp (aA m c (grp j) (sta j) * step m c (grp j)) * Ideal.sin (aB m c (grp j) (sta j) * step m c (grp j))
def oP (r : Fin 256) (j : Fin 1024) : EReal :=
  (Ideal.div (nr (aA m c (grp j) (sta j)) (aB m c (grp j) (sta j)) (step m c (grp j))) (den (aA m c (grp j) (sta j)) (aB m c (grp j) (sta j))) * aP m c (grp j) (sta j) (plc r)
    - Ideal.div (ni (aA m c (grp j) (sta j)) (aB m c (grp j) (sta j)) (step m c (grp j))) (den (aA m c (grp j) (sta j)) (aB m c (grp j) (sta j))) * aQ m c (grp j) (sta j) (plc r)) * same r j
def oQ (r : Fin 256) (j : Fin 1024) : EReal :=
  (Ideal.div (nr (aA m c (grp j) (sta j)) (aB m c (grp j) (sta j)) (step m c (grp j))) (den (aA m c (grp j) (sta j)) (aB m c (grp j) (sta j))) * aQ m c (grp j) (sta j) (plc r)
    + Ideal.div (ni (aA m c (grp j) (sta j)) (aB m c (grp j) (sta j)) (step m c (grp j))) (den (aA m c (grp j) (sta j)) (aB m c (grp j) (sta j))) * aP m c (grp j) (sta j) (plc r)) * same r j
def oC (r : Fin 256) (j : Fin 1024) : EReal :=
  aC m c (grp j) (plc r) (sta j) * same r j
def oE (r : Fin 256) (j : Fin 1024) : EReal :=
  aE m c (grp j) (plc r) (sta j) * same r j

theorem final_oL : (dats m 0 c).arrAt 7 cfg0.N = fun i => oL m c (i 1) := by
  refine (dats m 0 c).arrAt_eq_of_covers 7 _ (by decide +kernel) fun t hf y => ?_
  obtain ⟨a, b, rfl⟩ : ∃ (a : Fin 1) (b : Fin 1024), y = ix2 a b := ⟨y 0, y 1, eq_ix2 y⟩
  obtain rfl : a = 0 := Subsingleton.elim _ _
  have hout : (dats m 0 c).after 7 t (ix2 0 b) = oL m c b := by
    rw [after0_7]
    refine (out7 _ _ _ _ _ _ _ b).trans ?_
    simp only [blkA, blkB, blk_st]; rfl
  have he : ((cfg0.win 7).blk t).view.emb (ix2 0 b) = ix2 0 b := by
    blk_ext [idx7 t]
  rw [he]
  exact hout
theorem final_oM : (dats m 0 c).arrAt 8 cfg0.N = fun i => oM m c (i 1) := by
  refine (dats m 0 c).arrAt_eq_of_covers 8 _ (by decide +kernel) fun t hf y => ?_
  obtain ⟨a, b, rfl⟩ : ∃ (a : Fin 1) (b : Fin 1024), y = ix2 a b := ⟨y 0, y 1, eq_ix2 y⟩
  obtain rfl : a = 0 := Subsingleton.elim _ _
  have hout : (dats m 0 c).after 8 t (ix2 0 b) = oM m c b := by
    rw [after0_8]
    refine (out8 _ _ _ _ _ _ _ b).trans ?_
    simp only [blkA, blkB, blk_st]; rfl
  have he : ((cfg0.win 8).blk t).view.emb (ix2 0 b) = ix2 0 b := by
    blk_ext [idx8 t]
  rw [he]
  exact hout
theorem final_oP : (dats m 0 c).arrAt 9 cfg0.N = fun i => oP m c (i 0) (i 1) := by
  refine (dats m 0 c).arrAt_eq_of_covers 9 _ (by decide +kernel) fun t hf y => ?_
  obtain ⟨a, b, rfl⟩ : ∃ (a : Fin 256) (b : Fin 1024), y = ix2 a b := ⟨y 0, y 1, eq_ix2 y⟩
  have hout : (dats m 0 c).after 9 t (ix2 a b) = oP m c a b := by
    rw [after0_9]
    refine (out9 _ _ _ _ _ _ _ a b).trans ?_
    simp only [blkA, blkB, blkP, blkQ, blkC, blkE, blk_st]; rfl
  have he : ((cfg0.win 9).blk t).view.emb (ix2 a b) = ix2 a b := by
    blk_ext [idx9 t]
  rw [he]
  exact hout
theorem final_oQ : (dats m 0 c).arrAt 10 cfg0.N = fun i => oQ m c (i 0) (i 1) := by
  refine (dats m 0 c).arrAt_eq_of_covers 10 _ (by decide +kernel) fun t hf y => ?_
  obtain ⟨a, b, rfl⟩ : ∃ (a : Fin 256) (b : Fin 1024), y = ix2 a b := ⟨y 0, y 1, eq_ix2 y⟩
  have hout : (dats m 0 c).after 10 t (ix2 a b) = oQ m c a b := by
    rw [after0_10]
    refine (out10 _ _ _ _ _ _ _ a b).trans ?_
    simp only [blkA, blkB, blkP, blkQ, blkC, blkE, blk_st]; rfl
  have he : ((cfg0.win 10).blk t).view.emb (ix2 a b) = ix2 a b := by
    blk_ext [idx10 t]
  rw [he]
  exact hout
theorem final_oC : (dats m 0 c).arrAt 11 cfg0.N = fun i => oC m c (i 0) (i 1) := by
  refine (dats m 0 c).arrAt_eq_of_covers 11 _ (by decide +kernel) fun t hf y => ?_
  obtain ⟨a, b, rfl⟩ : ∃ (a : Fin 256) (b : Fin 1024), y = ix2 a b := ⟨y 0, y 1, eq_ix2 y⟩
  have hout : (dats m 0 c).after 11 t (ix2 a b) = oC m c a b := by
    rw [after0_11]
    refine (out11 _ _ _ _ _ _ _ a b).trans ?_
    simp only [blkA, blkB, blkP, blkQ, blkC, blkE, blk_st]; rfl
  have he : ((cfg0.win 11).blk t).view.emb (ix2 a b) = ix2 a b := by
    blk_ext [idx11 t]
  rw [he]
  exact hout
theorem final_oE : (dats m 0 c).arrAt 12 cfg0.N = fun i => oE m c (i 0) (i 1) := by
  refine (dats m 0 c).arrAt_eq_of_covers 12 _ (by decide +kernel) fun t hf y => ?_
  obtain ⟨a, b, rfl⟩ : ∃ (a : Fin 256) (b : Fin 1024), y = ix2 a b := ⟨y 0, y 1, eq_ix2 y⟩
  have hout : (dats m 0 c).after 12 t (ix2 a b) = oE m c a b := by
    rw [after0_12]
    refine (out12 _ _ _ _ _ _ _ a b).trans ?_
    simp only [blkA, blkB, blkP, blkQ, blkC, blkE, blk_st]; rfl
  have he : ((cfg0.win 12).blk t).view.emb (ix2 a b) = ix2 a b := by
    blk_ext [idx12 t]
  rw [he]
  exact hout

end Cert.Proof.PrepFwd

end
-- ==== Proof.PrepFwd.Equation.lean ====
/- THE PARAMETERS ARE PREPARED AS THE REFERENCE DOES: its six arrays, read at an index, are the call's. -/
module

public import proofs.«01_k».proof.Defs
public import proofs.«01_k».proof.Proof.Gen.PrepFwdRefIdeal.Run
public import proofs.«01_k».proof.Proof.Gen.PrepFwdRefIdeal.Read
public import proofs.«01_k».proof.Proof.PrepFwd.Kernel

@[expose] public section

noncomputable section

namespace Cert.Proof.PrepFwd

open Idealize.ShloMosaic Idealize.ShloMosaic.TcCoe Idealize.SL.Sem
open Cert.Proof.Prep (xr xi nr ni den)

section Reference

open Cert.PrepFwdRefIdeal Cert.PrepFwdRefIdeal.Read

theorem eye (g h : Fin 16) : val_main_v41 (F := Ideal) (ix2 g h) = if g = h then 1 else 0 := by
  have hw : IntOp.cmpi CmpIPredicate.eq (IntOp.addi (BitVec.ofNat 32 g.val) 0#32) (BitVec.ofNat 32 h.val)
      = if g = h then 1#1 else 0#1 := by
    revert g h; decide +kernel
  pointwise [val_main_v41, val_main_v40, val_main_v39, val_main_v36, val_main_v38, val_main_c, val_main_v37]
  rw [hw]
  split <;> simp [FloatOps.uitofp]

theorem eye_same (r : Fin 256) (c : Fin 1024) : val_main_v41 (F := Ideal) (ix2 ⟨r.val / 16, by omega⟩ ⟨c.val / 64, by omega⟩)
    = same r c := by
  refine (eye _ _).trans ?_
  unfold same
  by_cases h : r.val / 16 = c.val / 64
  · rw [if_pos h, if_pos (Fin.ext h)]
  · rw [if_neg h, if_neg fun e => h (congrArg Fin.val e)]

/-- Two factors of the mask agree wherever it is not zero. -/
theorem side (r : Fin 256) (j : Fin 1024) (a b : EReal) (h : r.val / 16 = j.val / 64 → a = b) :
    same r j * a = b * same r j := by
  unfold same
  by_cases e : r.val / 16 = j.val / 64
  · rw [if_pos e, one_mul, mul_one, h e]
  · rw [if_neg e, zero_mul, mul_zero]

variable (x0 x1 : Vec Ideal S16x64 .f32) (x2 : Vec Ideal S16 .f32) (x3 x4 : Vec Ideal S16x64x16 .f32)
  (x5 x6 : Vec Ideal S16x16x64 .f32)

theorem ref_l (z : Fin 1) (j : Fin 1024) : val_main_v42 (F := Ideal) x0 x1 x2 (ix2 z j)
    = Ideal.exp (x0 (ix2 (grp j) (sta j)) * Ideal.exp (x2 (ix1 (grp j)))) * Ideal.cos (x1 (ix2 (grp j) (sta j)) * Ideal.exp (x2 (ix1 (grp j)))) := by
  pointwise [val_main_v42, val_main_v8, val_main_v6, val_main_v3, val_main_v2, val_main_v1, val_main_v0, val_main_v7, val_main_v5, val_main_v4]

theorem ref_m (z : Fin 1) (j : Fin 1024) : val_main_v43 (F := Ideal) x0 x1 x2 (ix2 z j)
    = Ideal.exp (x0 (ix2 (grp j) (sta j)) * Ideal.exp (x2 (ix1 (grp j)))) * Ideal.sin (x1 (ix2 (grp j) (sta j)) * Ideal.exp (x2 (ix1 (grp j)))) := by
  pointwise [val_main_v43, val_main_v10, val_main_v6, val_main_v3, val_main_v2, val_main_v1, val_main_v0, val_main_v9, val_main_v5, val_main_v4]

theorem ref_p (r : Fin 256) (j : Fin 1024) : val_main_v50 (F := Ideal) x0 x1 x2 x3 x4 (ix2 r j)
    = (Ideal.div (nr (x0 (ix2 (grp j) (sta j))) (x1 (ix2 (grp j) (sta j))) (Ideal.exp (x2 (ix1 (grp j))))) (den (x0 (ix2 (grp j) (sta j))) (x1 (ix2 (grp j) (sta j)))) * x3 (ix3 (grp j) (sta j) (plc r)) - Ideal.div (ni (x0 (ix2 (grp j) (sta j))) (x1 (ix2 (grp j) (sta j))) (Ideal.exp (x2 (ix1 (grp j))))) (den (x0 (ix2 (grp j) (sta j))) (x1 (ix2 (grp j) (sta j)))) * x4 (ix3 (grp j) (sta j) (plc r))) * same r j := by
  pointwise [val_main_v50, val_main_v49, val_main_v47, val_main_v45, val_main_v48, val_main_v46, val_main_v44, val_main_v30, val_main_v27, val_main_v26, val_main_v24, val_main_v19, val_main_v18, val_main_v16, val_main_v15, val_main_v8, val_main_v6, val_main_v3, val_main_v2, val_main_v1, val_main_v0, val_main_v7, val_main_v5, val_main_v4, val_main_v14, val_main_cst, val_main_v17, val_main_v10, val_main_v9, val_main_v13, val_main_v11, val_main_v12, val_main_v29, val_main_v28, val_main_v25, val_main_v23, val_main_v22, val_main_v20, val_main_v21]
  simp only [eye_same]
  refine side r j _ _ fun h => ?_
  exact congrArg (fun g : Fin 16 => (Ideal.div (nr (x0 (ix2 g (sta j))) (x1 (ix2 g (sta j))) (Ideal.exp (x2 (ix1 g)))) (den (x0 (ix2 g (sta j))) (x1 (ix2 g (sta j)))) * x3 (ix3 g (sta j) (plc r)) - Ideal.div (ni (x0 (ix2 g (sta j))) (x1 (ix2 g (sta j))) (Ideal.exp (x2 (ix1 g)))) (den (x0 (ix2 g (sta j))) (x1 (ix2 g (sta j)))) * x4 (ix3 g (sta j) (plc r)) : EReal)) (Fin.ext h : (⟨r.val / 16, by omega⟩ : Fin 16) = grp j)

theorem ref_q (r : Fin 256) (j : Fin 1024) : val_main_v57 (F := Ideal) x0 x1 x2 x3 x4 (ix2 r j)
    = (Ideal.div (nr (x0 (ix2 (grp j) (sta j))) (x1 (ix2 (grp j) (sta j))) (Ideal.exp (x2 (ix1 (grp j))))) (den (x0 (ix2 (grp j) (sta j))) (x1 (ix2 (grp j) (sta j)))) * x4 (ix3 (grp j) (sta j) (plc r)) + Ideal.div (ni (x0 (ix2 (grp j) (sta j))) (x1 (ix2 (grp j) (sta j))) (Ideal.exp (x2 (ix1 (grp j))))) (den (x0 (ix2 (grp j) (sta j))) (x1 (ix2 (grp j) (sta j)))) * x3 (ix3 (grp j) (sta j) (plc r))) * same r j := by
  pointwise [val_main_v57, val_main_v56, val_main_v54, val_main_v52, val_main_v55, val_main_v53, val_main_v51, val_main_v35, val_main_v32, val_main_v31, val_main_v24, val_main_v19, val_main_v18, val_main_v16, val_main_v15, val_main_v8, val_main_v6, val_main_v3, val_main_v2, val_main_v1, val_main_v0, val_main_v7, val_main_v5, val_main_v4, val_main_v14, val_main_cst, val_main_v17, val_main_v10, val_main_v9, val_main_v13, val_main_v11, val_main_v12, val_main_v34, val_main_v33, val_main_v25, val_main_v23, val_main_v22, val_main_v20, val_main_v21]
  simp only [eye_same]
  refine side r j _ _ fun h => ?_
  exact congrArg (fun g : Fin 16 => (Ideal.div (nr (x0 (ix2 g (sta j))) (x1 (ix2 g (sta j))) (Ideal.exp (x2 (ix1 g)))) (den (x0 (ix2 g (sta j))) (x1 (ix2 g (sta j)))) * x4 (ix3 g (sta j) (plc r)) + Ideal.div (ni (x0 (ix2 g (sta j))) (x1 (ix2 g (sta j))) (Ideal.exp (x2 (ix1 g)))) (den (x0 (ix2 g (sta j))) (x1 (ix2 g (sta j)))) * x3 (ix3 g (sta j) (plc r)) : EReal)) (Fin.ext h : (⟨r.val / 16, by omega⟩ : Fin 16) = grp j)

theorem ref_c (r : Fin 256) (j : Fin 1024) : val_main_v63 (F := Ideal) x5 (ix2 r j)
    = x5 (ix3 (grp j) (plc r) (sta j)) * same r j := by
  pointwise [val_main_v63, val_main_v62, val_main_v60, val_main_v58, val_main_v61, val_main_v59]
  simp only [eye_same]
  refine side r j _ _ fun h => ?_
  exact congrArg (fun g : Fin 16 => (x5 (ix3 g (plc r) (sta j)) : EReal)) (Fin.ext h : (⟨r.val / 16, by omega⟩ : Fin 16) = grp j)

theorem ref_e (r : Fin 256) (j : Fin 1024) : val_main_v69 (F := Ideal) x6 (ix2 r j)
    = x6 (ix3 (grp j) (plc r) (sta j)) * same r j := by
  pointwise [val_main_v69, val_main_v68, val_main_v66, val_main_v64, val_main_v67, val_main_v65]
  simp only [eye_same]
  refine side r j _ _ fun h => ?_
  exact congrArg (fun g : Fin 16 => (x6 (ix3 g (plc r) (sta j)) : EReal)) (Fin.ext h : (⟨r.val / 16, by omega⟩ : Fin 16) = grp j)

end Reference

/-- The reference's frame. -/
theorem ref_frame : Cert.quiescent_PrepFwdRefIdeal := fun m ρ _ =>
  (θ_run PrepFwdRefIdeal.defs _ _).mono (fun r h => ⟨fun c => (h c).2.2.2.2.2.2, sem_eq_zero_of_no_sems (by decide) r.2⟩)
    (PrepFwdRefIdeal.Value.run (F := Ideal) m ρ)

section Values

variable (m : (ℓ : Loc PrepFwdIdeal.nD PrepFwdIdeal.τ PrepFwdIdeal.sig) → Buf (Elt Ideal) ℓ) (c : Dev PrepFwdIdeal.nD)

def lArr : Vec Ideal PrepFwdIdeal.S1x1024 .f32 := fun i => oL m c (i 1)
def mArr : Vec Ideal PrepFwdIdeal.S1x1024 .f32 := fun i => oM m c (i 1)
def pArr : Vec Ideal PrepFwdIdeal.S256x1024 .f32 := fun i => oP m c (i 0) (i 1)
def qArr : Vec Ideal PrepFwdIdeal.S256x1024 .f32 := fun i => oQ m c (i 0) (i 1)
def cArr : Vec Ideal PrepFwdIdeal.S256x1024 .f32 := fun i => oC m c (i 0) (i 1)
def eArr : Vec Ideal PrepFwdIdeal.S256x1024 .f32 := fun i => oE m c (i 0) (i 1)

end Values

theorem algebraic : Cert.algebraic_PrepFwdIdeal_PrepFwdRefIdeal := by
  intro m g m' g' _ hag
  refine ⟨lArr m, mArr m, pArr m, qArr m, cArr m, eArr m, ?_, ?_⟩
  · exact (θ_run PrepFwdIdeal.defs _ _).mono (fun r h c => ⟨((h.1 c).1 7).trans (final_oL m c), ((h.1 c).1 8).trans (final_oM m c),
      ((h.1 c).1 9).trans (final_oP m c), ((h.1 c).1 10).trans (final_oQ m c), ((h.1 c).1 11).trans (final_oC m c),
      ((h.1 c).1 12).trans (final_oE m c), h.2 c⟩)
      (θ_run_and (PrepFwdIdeal.Gen.run_main (F := Ideal) m g) (PrepFwdIdeal.Gen.unchanged (F := Ideal) m g))
  · refine (θ_run PrepFwdRefIdeal.defs _ _).mono (fun r h c => ?_) (PrepFwdRefIdeal.Value.run (F := Ideal) m' g')
    obtain ⟨h0, h1, h2, h3, h4, h5, ha⟩ := h c
    obtain ⟨e0, e1, e2, e3, e4, e5, e6⟩ := hag c
    refine ⟨h0.trans ((PrepFwdRefIdeal.Read.val_main_v42_eq _ _ _).trans ?_),
      h1.trans ((PrepFwdRefIdeal.Read.val_main_v43_eq _ _ _).trans ?_),
      h2.trans ((PrepFwdRefIdeal.Read.val_main_v50_eq _ _ _ _ _).trans ?_),
      h3.trans ((PrepFwdRefIdeal.Read.val_main_v57_eq _ _ _ _ _).trans ?_),
      h4.trans ((PrepFwdRefIdeal.Read.val_main_v63_eq _).trans ?_),
      h5.trans ((PrepFwdRefIdeal.Read.val_main_v69_eq _).trans ?_), ha⟩
    · rw [e0, e1, e2]; funext i; obtain ⟨p, q, rfl⟩ : ∃ p q, i = ix2 p q := ⟨i 0, i 1, eq_ix2 i⟩; exact ref_l _ _ _ p q
    · rw [e0, e1, e2]; funext i; obtain ⟨p, q, rfl⟩ : ∃ p q, i = ix2 p q := ⟨i 0, i 1, eq_ix2 i⟩; exact ref_m _ _ _ p q
    · rw [e0, e1, e2, e3, e4]; funext i; obtain ⟨p, q, rfl⟩ : ∃ p q, i = ix2 p q := ⟨i 0, i 1, eq_ix2 i⟩; exact ref_p _ _ _ _ _ p q
    · rw [e0, e1, e2, e3, e4]; funext i; obtain ⟨p, q, rfl⟩ : ∃ p q, i = ix2 p q := ⟨i 0, i 1, eq_ix2 i⟩; exact ref_q _ _ _ _ _ p q
    · rw [e5]; funext i; obtain ⟨p, q, rfl⟩ : ∃ p q, i = ix2 p q := ⟨i 0, i 1, eq_ix2 i⟩; exact ref_c _ p q
    · rw [e6]; funext i; obtain ⟨p, q, rfl⟩ : ∃ p q, i = ix2 p q := ⟨i 0, i 1, eq_ix2 i⟩; exact ref_e _ p q

end Cert.Proof.PrepFwd

end
-- ==== Proof.In0Fwd.Kernel.lean ====
/- THE CALL THAT COMPUTES THE FIRST LAYER'S INPUT PROJECTION: the grid walks the 16384 rows in 32 tiles of 512; a tile
   normalises its rows and multiplies them by the projection's weight, whose columns are laid out in the calls' order
   (`place`). -/
module

public import proofs.«01_k».proof.Proof.Gen.In0FwdIdeal.Frame
public import proofs.«01_k».proof.Proof.In0.Columns
public import Idealize.ShloMosaic.Lib.Pipeline.ValueKit
public import Idealize.ShloMosaic.Lib.Pipeline.ReadBack

@[expose] public section

noncomputable section

namespace Cert.Proof.In0Fwd

open Cert.In0FwdIdeal Cert.In0FwdIdeal.Gen Idealize.ShloMosaic Idealize.ShloMosaic.TcCoe Idealize.SL.Sem Cert.Rows
  Idealize.ShloMosaic.Pipeline Cert.Proof.In0

theorem tile_p (x : Vec Ideal S512x1024 .f32) (w : Vec Ideal S1x1024 .f32) (u : Vec Ideal S1024x3712 .bf16)
    (a : Fin 512) (k : Fin 3712) : out0_3 x w u (ix2 a k)
      = ∑ j, norm (fun j => x (ix2 a j)) (fun j => w (ix2 0 j)) j * u (ix2 j k) := by
  unfold out0_3; frame_out
  pointwise [k0_pay1]
  rfl

variable (m : (ℓ : Loc nD τ sig) → Buf (Elt Ideal) ℓ) (c : Dev nD)

/-- The input, the norm's weight, the projection's weight. -/
def aX (r : Fin 16384) (j : Fin 1024) : EReal := m ((c : Thread nD τ).loc main_arg0) (ix2 r j)
def aW (j : Fin 1024) : EReal := m ((c : Thread nD τ).loc main_arg1) (ix1 j)
def aU (j : Fin 1024) (k : Fin 3592) : EReal := m ((c : Thread nD τ).loc main_arg2) (ix2 j k)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

/-- The row of the whole array that row `a` of tile `t` is. -/
def at_ (t : Fin cfg0.N) (a : Fin 512) : Fin 16384 :=
  ⟨t.val * 512 + a.val, by have : t.val < 32 := t.isLt; omega⟩

theorem host_u (j : Fin 1024) (k : Fin 3712) : V m c main_v6 (ix2 j k) = place (aU m c j) k := by
  show StableHlo.after hostOps0 (fun b => m (c, b)) (Proc.devRef .tc main_v6) (ix2 j k) = _
  after_results
  unfold aU
  pointwise
  unfold place
  by_cases h0 : k.val < 2048
  · refine (dif_pos h0).trans (Eq.trans ?_ (dif_pos h0).symm); after_results; pointwise
  refine (dif_neg h0).trans (Eq.trans ?_ (dif_neg h0).symm)
  by_cases h1 : k.val < 3072
  · refine (dif_pos (by omega)).trans (Eq.trans ?_ (dif_pos h1).symm); after_results; pointwise
    exact congrArg (fun k => m ((c : Thread nD τ).loc main_arg2) (ix2 j k)) (Fin.ext (by simp only []; omega))
  refine (dif_neg (by omega)).trans (Eq.trans ?_ (dif_neg h1).symm)
  by_cases h2 : k.val < 3584
  · refine (dif_pos (by omega)).trans (Eq.trans ?_ (dif_pos h2).symm); after_results; pointwise
    exact congrArg (fun k => m ((c : Thread nD τ).loc main_arg2) (ix2 j k)) (Fin.ext (by simp only []; omega))
  refine (dif_neg (by omega)).trans (Eq.trans ?_ (dif_neg h2).symm)
  by_cases h3 : k.val < 3592
  · refine (dif_pos (by omega)).trans (Eq.trans ?_ (dif_pos h3).symm); after_results; pointwise
    exact congrArg (fun k => m ((c : Thread nD τ).loc main_arg2) (ix2 j k)) (Fin.ext (by simp only []; omega))
  refine (dif_neg (by omega)).trans (Eq.trans ?_ (dif_neg h3).symm)
  refine (congrFun (StableHlo.unary_result ..) _).trans ?_
  rw [StableHlo.nullary_result]; pointwise
theorem host_w (z : Fin 1) (j : Fin 1024) : V m c main_v7 (ix2 z j) = aW m c j := by
  show StableHlo.after hostOps0 (fun b => m (c, b)) (Proc.devRef .tc main_v7) (ix2 z j) = _
  after_results
  unfold aW
  pointwise

theorem blkX (t : Fin cfg0.N) (a : Fin 512) (j : Fin 1024) : iblk m c 0 t (ix2 a j) = aX m c (at_ t a) j := by
  unfold aX at_
  blk_ext! [iblk, idx0 t, V_main_arg0]
theorem blkW (t : Fin cfg0.N) (z : Fin 1) (j : Fin 1024) : iblk m c 1 t (ix2 z j) = aW m c j := by
  rw [← host_w m c z]
  blk_ext! [iblk, idx1 t]
theorem blkU (t : Fin cfg0.N) (j : Fin 1024) (k : Fin 3712) : iblk m c 2 t (ix2 j k) = place (aU m c j) k := by
  rw [← host_u]
  blk_ext! [iblk, idx2 t]

/-- The projection as the call leaves it, columns in the calls' order. -/
def laid : Vec Ideal S16384x3712 .f32 := fun i => ∑ j, norm (aX m c (i 0)) (aW m c) j * place (aU m c j) (i 1)

theorem final_p : (dats m 0 c).arrAt 3 cfg0.N = laid m c := by
  refine (dats m 0 c).arrAt_eq_of_covers 3 _ (by decide +kernel) fun t hf y => ?_
  obtain ⟨a, b, rfl⟩ : ∃ a b, y = ix2 a b := ⟨y 0, y 1, by funext a; fin_cases a <;> rfl⟩
  have hout : (dats m 0 c).after 3 t (ix2 a b)
      = ∑ j, norm (aX m c (at_ t a)) (aW m c) j * place (aU m c j) b := by
    rw [after0_3]
    refine (tile_p (iblk m c 0 t) (iblk m c 1 t) (iblk m c 2 t) a b).trans ?_
    simp only [blkX, blkW, blkU]
  have he : ((cfg0.win 3).blk t).view.emb (ix2 a b) = ix2 (at_ t a) b := by
    unfold at_; blk_ext [idx3 t]
  rw [he]
  exact hout

end Cert.Proof.In0Fwd

end
-- ==== Proof.In0Fwd.Equation.lean ====
/- THE FIRST LAYER'S INPUT PROJECTION IS COMPUTED: with its columns put back in their order, the call's result is the
   reference's product of the normalised rows and the projection's weight. -/
module

public import proofs.«01_k».proof.Defs
public import proofs.«01_k».proof.Proof.Gen.In0FwdRefIdeal.Run
public import proofs.«01_k».proof.Proof.Gen.In0FwdRefIdeal.Read
public import proofs.«01_k».proof.Proof.In0Fwd.Kernel

@[expose] public section

noncomputable section

namespace Cert.Proof.In0Fwd

open Idealize.ShloMosaic Idealize.ShloMosaic.TcCoe Idealize.SL.Sem Cert.Rows Cert.Proof.In0

section Reference

open Cert.In0FwdRefIdeal Cert.In0FwdRefIdeal.Read

/-- The reference at an index. -/
theorem ref_p (x : Vec Ideal S16384x1024 .f32) (w : Vec Ideal S1024 .f32) (u : Vec Ideal S1024x3592 .f32)
    (r : Fin 16384) (k : Fin 3592) : val_main_v13 (F := Ideal) x w u (ix2 r k)
      = ∑ j, norm (fun j => x (ix2 r j)) (fun j => w (ix1 j)) j * u (ix2 j k) := by
  pointwise [val_main_v13, val_main_v12, val_main_v11, val_main_v10, val_main_v9, val_main_v8, val_main_v7, val_main_v6,
    val_main_v5, val_main_cst_1, val_main_v4, val_main_v3, val_main_cst_0, val_main_v2, val_main_v1, val_main_cst, val_main_v0]
  rfl

end Reference

section Values

variable (m : (ℓ : Loc In0FwdIdeal.nD In0FwdIdeal.τ In0FwdIdeal.sig) → Buf (Elt Ideal) ℓ) (c : Dev In0FwdIdeal.nD)

def pArr : Vec Ideal In0FwdIdeal.S16384x3592 .f32 := fun i => ∑ j, norm (aX m c (i 0)) (aW m c) j * aU m c j (i 1)

open Cert.In0FwdIdeal Cert.In0FwdIdeal.Gen

/-- A column of the projection, wherever it lies. -/
theorem p_at (r : Fin 16384) (k : Fin 3592) (q : Fin 3712) (h : ∀ f, place f q = f k) :
    (dats m 0 c).arrAt 3 cfg0.N (ix2 r q) = pArr m c (ix2 r k) := by
  refine (congrFun (final_p m c) _).trans ?_
  show (∑ j, norm (aX m c r) (aW m c) j * place (aU m c j) q : EReal) = ∑ j, norm (aX m c r) (aW m c) j * aU m c j k
  exact Finset.sum_congr rfl fun j _ => congrArg (norm (aX m c r) (aW m c) j * ·) (h (aU m c j))

/-- The projection after the lines that follow the call. -/
theorem end_p : Pipeline.afterTail₀ cfgs (dats m) 0 (V0 m) [hostOps1] c main_v13 = pArr m c := by
  funext i
  obtain ⟨r, k, rfl⟩ : ∃ (r : Fin 16384) (k : Fin 3592), i = ix2 r k := ⟨i 0, i 1, eq_ix2 i⟩
  unfold Pipeline.afterTail₀
  show StableHlo.after hostOps1 _ (Proc.devRef .tc main_v13) (ix2 r k) = _
  have hA := Pipeline.withArrays_arr (cfgs 0).spec (by decide) c (V0 m c) (fun w => (dats m 0 c).arrAt w (cfgs 0).N) 3
  generalize Pipeline.withArrays (cfgs 0).spec c (V0 m c) (fun w => (dats m 0 c).arrAt w (cfgs 0).N) = A at hA ⊢
  have hA' (r : Fin 16384) (q : Fin 3712) : A (Proc.devRef .tc main_v8) (ix2 r q) = (dats m 0 c).arrAt 3 cfg0.N (ix2 r q) :=
    congrFun hA _
  have h_v9 : StableHlo.after (hostOps1.take 4) A (Proc.devRef .tc main_v9)
      = extractStridedSlice S16384x2048 ![0, 0] (A (Proc.devRef .tc main_v8)) slices_S16384x3712_S16384x2048_0_0 := by
    dsimp only [List.take]; after_results
  have h_v10 : StableHlo.after (hostOps1.take 4) A (Proc.devRef .tc main_v10)
      = extractStridedSlice S16384x512 ![0, 3072] (A (Proc.devRef .tc main_v8)) slices_S16384x3712_S16384x512_0_3072 := by
    dsimp only [List.take]; after_results
  have h_v11 : StableHlo.after (hostOps1.take 4) A (Proc.devRef .tc main_v11)
      = extractStridedSlice S16384x1024 ![0, 2048] (A (Proc.devRef .tc main_v8)) slices_S16384x3712_S16384x1024_0_2048 := by
    dsimp only [List.take]; after_results
  have h_v12 : StableHlo.after (hostOps1.take 4) A (Proc.devRef .tc main_v12)
      = extractStridedSlice S16384x8 ![0, 3584] (A (Proc.devRef .tc main_v8)) slices_S16384x3712_S16384x8_0_3584 := by
    dsimp only [List.take]; after_results
  after_results
  pointwise
  by_cases h0 : k.val < 2048
  · refine (dif_pos h0).trans ((congrFun h_v9 _).trans ?_); pointwise
    refine (hA' r _).trans (p_at m c r k _ fun f => ?_)
    unfold place; exact dif_pos h0
  refine (dif_neg (by omega)).trans ?_
  by_cases h1 : k.val < 2560
  · refine (dif_pos (by omega)).trans ((congrFun h_v10 _).trans ?_); pointwise
    refine (hA' r _).trans (p_at m c r k _ fun f => ?_)
    unfold place; refine (dif_neg (by first | omega | (simp only []; omega))).trans ((dif_neg (by first | omega | (simp only []; omega))).trans ((dif_pos (by simp only []; omega)).trans (congrArg f (Fin.ext (by simp only []; omega)))))
  refine (dif_neg (by omega)).trans ?_
  by_cases h2 : k.val < 3584
  · refine (dif_pos (by omega)).trans ((congrFun h_v11 _).trans ?_); pointwise
    refine (hA' r _).trans (p_at m c r k _ fun f => ?_)
    unfold place; refine (dif_neg (by first | omega | (simp only []; omega))).trans ((dif_pos (by simp only []; omega)).trans (congrArg f (Fin.ext (by simp only []; omega))))
  · refine (dif_neg (by omega)).trans ((congrFun h_v12 _).trans ?_); pointwise
    refine (hA' r _).trans (p_at m c r k _ fun f => ?_)
    unfold place; refine (dif_neg (by first | omega | (simp only []; omega))).trans ((dif_neg (by first | omega | (simp only []; omega))).trans ((dif_neg (by first | omega | (simp only []; omega))).trans ((dif_pos (by simp only []; omega)).trans (congrArg f (Fin.ext (by simp only []; omega))))))

end Values

/-- The reference's frame. -/
theorem ref_frame : Cert.quiescent_In0FwdRefIdeal := fun m ρ _ =>
  (θ_run In0FwdRefIdeal.defs _ _).mono (fun r h => ⟨fun c => (h c).2, sem_eq_zero_of_no_sems (by decide) r.2⟩)
    (In0FwdRefIdeal.Value.run (F := Ideal) m ρ)

theorem algebraic : Cert.algebraic_In0FwdIdeal_In0FwdRefIdeal := by
  intro m g m' g' _ hag
  refine ⟨pArr m, ?_, ?_⟩
  · exact (θ_run In0FwdIdeal.defs _ _).mono (fun r h c => ⟨((h.1 c).2 In0FwdIdeal.main_v13
      (Pipeline.mem_restRefs_of In0FwdIdeal.main_v13 (by decide) (by decide))).trans (end_p m c), h.2 c⟩)
      (θ_run_and (In0FwdIdeal.Gen.run_main (F := Ideal) m g) (In0FwdIdeal.Gen.unchanged (F := Ideal) m g))
  · refine (θ_run In0FwdRefIdeal.defs _ _).mono (fun r h c => ?_) (In0FwdRefIdeal.Value.run (F := Ideal) m' g')
    obtain ⟨h0, ha⟩ := h c
    obtain ⟨e0, e1, e2⟩ := hag c
    refine ⟨h0.trans ((In0FwdRefIdeal.Read.val_main_v13_eq _ _ _).trans ?_), ha⟩
    rw [e0, e1, e2]; funext i; obtain ⟨p, q, rfl⟩ : ∃ p q, i = ix2 p q := ⟨i 0, i 1, eq_ix2 i⟩; exact ref_p _ _ _ p q

end Cert.Proof.In0Fwd

end
-- ==== Proof.In1Fwd.Kernel.lean ====
/- THE CALL THAT COMPUTES THE SECOND LAYER'S INPUT PROJECTION: the grid walks the 16384 rows in 32 tiles of 512; a tile
   normalises its rows and multiplies them by the projection's weight, whose columns are laid out in the calls' order
   (`place`). -/
module

public import proofs.«01_k».proof.Proof.Gen.In1FwdIdeal.Frame
public import proofs.«01_k».proof.Proof.In1.Columns
public import Idealize.ShloMosaic.Lib.Pipeline.ValueKit
public import Idealize.ShloMosaic.Lib.Pipeline.ReadBack

@[expose] public section

noncomputable section

namespace Cert.Proof.In1Fwd

open Cert.In1FwdIdeal Cert.In1FwdIdeal.Gen Idealize.ShloMosaic Idealize.ShloMosaic.TcCoe Idealize.SL.Sem Cert.Rows
  Idealize.ShloMosaic.Pipeline Cert.Proof.In1

theorem tile_p (x : Vec Ideal S512x1024 .f32) (w : Vec Ideal S1x1024 .f32) (u : Vec Ideal S1024x3456 .bf16)
    (a : Fin 512) (k : Fin 3456) : out0_3 x w u (ix2 a k)
      = ∑ j, norm (fun j => x (ix2 a j)) (fun j => w (ix2 0 j)) j * u (ix2 j k) := by
  unfold out0_3; frame_out
  pointwise [k0_pay1]
  rfl

variable (m : (ℓ : Loc nD τ sig) → Buf (Elt Ideal) ℓ) (c : Dev nD)

/-- The input, the norm's weight, the projection's weight. -/
def aX (r : Fin 16384) (j : Fin 1024) : EReal := m ((c : Thread nD τ).loc main_arg0) (ix2 r j)
def aW (j : Fin 1024) : EReal := m ((c : Thread nD τ).loc main_arg1) (ix1 j)
def aU (j : Fin 1024) (k : Fin 3340) : EReal := m ((c : Thread nD τ).loc main_arg2) (ix2 j k)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

/-- The row of the whole array that row `a` of tile `t` is. -/
def at_ (t : Fin cfg0.N) (a : Fin 512) : Fin 16384 :=
  ⟨t.val * 512 + a.val, by have : t.val < 32 := t.isLt; omega⟩

theorem host_u (j : Fin 1024) (k : Fin 3456) : V m c main_v5 (ix2 j k) = place (aU m c j) k := by
  show StableHlo.after hostOps0 (fun b => m (c, b)) (Proc.devRef .tc main_v5) (ix2 j k) = _
  after_results
  unfold aU
  pointwise
  unfold place
  by_cases h0 : k.val < 3072
  · refine (dif_pos h0).trans (Eq.trans ?_ (dif_pos h0).symm); after_results; pointwise
  refine (dif_neg h0).trans (Eq.trans ?_ (dif_neg h0).symm)
  by_cases h1 : k.val < 3328
  · refine (dif_pos (by omega)).trans (Eq.trans ?_ (dif_pos h1).symm); after_results; pointwise
    exact congrArg (fun k => m ((c : Thread nD τ).loc main_arg2) (ix2 j k)) (Fin.ext (by simp only []; omega))
  refine (dif_neg (by omega)).trans (Eq.trans ?_ (dif_neg h1).symm)
  by_cases h2 : k.val < 3340
  · refine (dif_pos (by omega)).trans (Eq.trans ?_ (dif_pos h2).symm); after_results; pointwise
    exact congrArg (fun k => m ((c : Thread nD τ).loc main_arg2) (ix2 j k)) (Fin.ext (by simp only []; omega))
  refine (dif_neg (by omega)).trans (Eq.trans ?_ (dif_neg h2).symm)
  refine (congrFun (StableHlo.unary_result ..) _).trans ?_
  rw [StableHlo.nullary_result]; pointwise
theorem host_w (z : Fin 1) (j : Fin 1024) : V m c main_v6 (ix2 z j) = aW m c j := by
  show StableHlo.after hostOps0 (fun b => m (c, b)) (Proc.devRef .tc main_v6) (ix2 z j) = _
  after_results
  unfold aW
  pointwise

theorem blkX (t : Fin cfg0.N) (a : Fin 512) (j : Fin 1024) : iblk m c 0 t (ix2 a j) = aX m c (at_ t a) j := by
  unfold aX at_
  blk_ext! [iblk, idx0 t, V_main_arg0]
theorem blkW (t : Fin cfg0.N) (z : Fin 1) (j : Fin 1024) : iblk m c 1 t (ix2 z j) = aW m c j := by
  rw [← host_w m c z]
  blk_ext! [iblk, idx1 t]
theorem blkU (t : Fin cfg0.N) (j : Fin 1024) (k : Fin 3456) : iblk m c 2 t (ix2 j k) = place (aU m c j) k := by
  rw [← host_u]
  blk_ext! [iblk, idx2 t]

/-- The projection as the call leaves it, columns in the calls' order. -/
def laid : Vec Ideal S16384x3456 .f32 := fun i => ∑ j, norm (aX m c (i 0)) (aW m c) j * place (aU m c j) (i 1)

theorem final_p : (dats m 0 c).arrAt 3 cfg0.N = laid m c := by
  refine (dats m 0 c).arrAt_eq_of_covers 3 _ (by decide +kernel) fun t hf y => ?_
  obtain ⟨a, b, rfl⟩ : ∃ a b, y = ix2 a b := ⟨y 0, y 1, by funext a; fin_cases a <;> rfl⟩
  have hout : (dats m 0 c).after 3 t (ix2 a b)
      = ∑ j, norm (aX m c (at_ t a)) (aW m c) j * place (aU m c j) b := by
    rw [after0_3]
    refine (tile_p (iblk m c 0 t) (iblk m c 1 t) (iblk m c 2 t) a b).trans ?_
    simp only [blkX, blkW, blkU]
  have he : ((cfg0.win 3).blk t).view.emb (ix2 a b) = ix2 (at_ t a) b := by
    unfold at_; blk_ext [idx3 t]
  rw [he]
  exact hout

end Cert.Proof.In1Fwd

end
-- ==== Proof.In1Fwd.Equation.lean ====
/- THE SECOND LAYER'S INPUT PROJECTION IS COMPUTED: with its columns put back in their order, the call's result is the
   reference's product of the normalised rows and the projection's weight. -/
module

public import proofs.«01_k».proof.Defs
public import proofs.«01_k».proof.Proof.Gen.In1FwdRefIdeal.Run
public import proofs.«01_k».proof.Proof.Gen.In1FwdRefIdeal.Read
public import proofs.«01_k».proof.Proof.In1Fwd.Kernel

@[expose] public section

noncomputable section

namespace Cert.Proof.In1Fwd

open Idealize.ShloMosaic Idealize.ShloMosaic.TcCoe Idealize.SL.Sem Cert.Rows Cert.Proof.In1

section Reference

open Cert.In1FwdRefIdeal Cert.In1FwdRefIdeal.Read

/-- The reference at an index. -/
theorem ref_p (x : Vec Ideal S16384x1024 .f32) (w : Vec Ideal S1024 .f32) (u : Vec Ideal S1024x3340 .f32)
    (r : Fin 16384) (k : Fin 3340) : val_main_v13 (F := Ideal) x w u (ix2 r k)
      = ∑ j, norm (fun j => x (ix2 r j)) (fun j => w (ix1 j)) j * u (ix2 j k) := by
  pointwise [val_main_v13, val_main_v12, val_main_v11, val_main_v10, val_main_v9, val_main_v8, val_main_v7, val_main_v6,
    val_main_v5, val_main_cst_1, val_main_v4, val_main_v3, val_main_cst_0, val_main_v2, val_main_v1, val_main_cst, val_main_v0]
  rfl

end Reference

section Values

variable (m : (ℓ : Loc In1FwdIdeal.nD In1FwdIdeal.τ In1FwdIdeal.sig) → Buf (Elt Ideal) ℓ) (c : Dev In1FwdIdeal.nD)

def pArr : Vec Ideal In1FwdIdeal.S16384x3340 .f32 := fun i => ∑ j, norm (aX m c (i 0)) (aW m c) j * aU m c j (i 1)

open Cert.In1FwdIdeal Cert.In1FwdIdeal.Gen

/-- A column of the projection, wherever it lies. -/
theorem p_at (r : Fin 16384) (k : Fin 3340) (q : Fin 3456) (h : ∀ f, place f q = f k) :
    (dats m 0 c).arrAt 3 cfg0.N (ix2 r q) = pArr m c (ix2 r k) := by
  refine (congrFun (final_p m c) _).trans ?_
  show (∑ j, norm (aX m c r) (aW m c) j * place (aU m c j) q : EReal) = ∑ j, norm (aX m c r) (aW m c) j * aU m c j k
  exact Finset.sum_congr rfl fun j _ => congrArg (norm (aX m c r) (aW m c) j * ·) (h (aU m c j))

/-- The projection after the lines that follow the call. -/
theorem end_p : Pipeline.afterTail₀ cfgs (dats m) 0 (V0 m) [hostOps1] c main_v11 = pArr m c := by
  funext i
  obtain ⟨r, k, rfl⟩ : ∃ (r : Fin 16384) (k : Fin 3340), i = ix2 r k := ⟨i 0, i 1, eq_ix2 i⟩
  unfold Pipeline.afterTail₀
  show StableHlo.after hostOps1 _ (Proc.devRef .tc main_v11) (ix2 r k) = _
  have hA := Pipeline.withArrays_arr (cfgs 0).spec (by decide) c (V0 m c) (fun w => (dats m 0 c).arrAt w (cfgs 0).N) 3
  generalize Pipeline.withArrays (cfgs 0).spec c (V0 m c) (fun w => (dats m 0 c).arrAt w (cfgs 0).N) = A at hA ⊢
  have hA' (r : Fin 16384) (q : Fin 3456) : A (Proc.devRef .tc main_v7) (ix2 r q) = (dats m 0 c).arrAt 3 cfg0.N (ix2 r q) :=
    congrFun hA _
  have h_v8 : StableHlo.after (hostOps1.take 3) A (Proc.devRef .tc main_v8)
      = extractStridedSlice S16384x3072 ![0, 0] (A (Proc.devRef .tc main_v7)) slices_S16384x3456_S16384x3072_0_0 := by
    dsimp only [List.take]; after_results
  have h_v9 : StableHlo.after (hostOps1.take 3) A (Proc.devRef .tc main_v9)
      = extractStridedSlice S16384x12 ![0, 3328] (A (Proc.devRef .tc main_v7)) slices_S16384x3456_S16384x12_0_3328 := by
    dsimp only [List.take]; after_results
  have h_v10 : StableHlo.after (hostOps1.take 3) A (Proc.devRef .tc main_v10)
      = extractStridedSlice S16384x256 ![0, 3072] (A (Proc.devRef .tc main_v7)) slices_S16384x3456_S16384x256_0_3072 := by
    dsimp only [List.take]; after_results
  after_results
  pointwise
  by_cases h0 : k.val < 3072
  · refine (dif_pos h0).trans ((congrFun h_v8 _).trans ?_); pointwise
    refine (hA' r _).trans (p_at m c r k _ fun f => ?_)
    unfold place; exact dif_pos h0
  refine (dif_neg (by omega)).trans ?_
  by_cases h1 : k.val < 3084
  · refine (dif_pos (by omega)).trans ((congrFun h_v9 _).trans ?_); pointwise
    refine (hA' r _).trans (p_at m c r k _ fun f => ?_)
    unfold place; refine (dif_neg (by first | omega | (simp only []; omega))).trans ((dif_neg (by first | omega | (simp only []; omega))).trans ((dif_pos (by simp only []; omega)).trans (congrArg f (Fin.ext (by simp only []; omega)))))
  · refine (dif_neg (by omega)).trans ((congrFun h_v10 _).trans ?_); pointwise
    refine (hA' r _).trans (p_at m c r k _ fun f => ?_)
    unfold place; refine (dif_neg (by first | omega | (simp only []; omega))).trans ((dif_pos (by simp only []; omega)).trans (congrArg f (Fin.ext (by simp only []; omega))))

end Values

/-- The reference's frame. -/
theorem ref_frame : Cert.quiescent_In1FwdRefIdeal := fun m ρ _ =>
  (θ_run In1FwdRefIdeal.defs _ _).mono (fun r h => ⟨fun c => (h c).2, sem_eq_zero_of_no_sems (by decide) r.2⟩)
    (In1FwdRefIdeal.Value.run (F := Ideal) m ρ)

theorem algebraic : Cert.algebraic_In1FwdIdeal_In1FwdRefIdeal := by
  intro m g m' g' _ hag
  refine ⟨pArr m, ?_, ?_⟩
  · exact (θ_run In1FwdIdeal.defs _ _).mono (fun r h c => ⟨((h.1 c).2 In1FwdIdeal.main_v11
      (Pipeline.mem_restRefs_of In1FwdIdeal.main_v11 (by decide) (by decide))).trans (end_p m c), h.2 c⟩)
      (θ_run_and (In1FwdIdeal.Gen.run_main (F := Ideal) m g) (In1FwdIdeal.Gen.unchanged (F := Ideal) m g))
  · refine (θ_run In1FwdRefIdeal.defs _ _).mono (fun r h c => ?_) (In1FwdRefIdeal.Value.run (F := Ideal) m' g')
    obtain ⟨h0, ha⟩ := h c
    obtain ⟨e0, e1, e2⟩ := hag c
    refine ⟨h0.trans ((In1FwdRefIdeal.Read.val_main_v13_eq _ _ _).trans ?_), ha⟩
    rw [e0, e1, e2]; funext i; obtain ⟨p, q, rfl⟩ : ∃ p q, i = ix2 p q := ⟨i 0, i 1, eq_ix2 i⟩; exact ref_p _ _ _ p q

end Cert.Proof.In1Fwd

end
-- ==== Proof.Out.Halves.lean ====
/- TWO MIXERS' ROWS SIDE BY SIDE: 768 columns of the first, then 256 of the second, as one row of 1024. -/
module

public import Idealize.ShloMosaic.Lib.ValueIdx

@[expose] public section

noncomputable section

namespace Cert.Proof.Out

open Idealize.ShloMosaic

/-- A column of the first part, and of the second, in the whole row. -/
def lo (k : Fin 768) : Fin 1024 := ⟨k.val, by omega⟩
def hi (k : Fin 256) : Fin 1024 := ⟨768 + k.val, by omega⟩

/-- The two parts as one row. -/
def beside (a : Fin 768 → EReal) (b : Fin 256 → EReal) (k : Fin 1024) : EReal :=
  if h : k.val < 768 then a ⟨k.val, h⟩ else b ⟨k.val - 768, by omega⟩

theorem beside_lo (a : Fin 768 → EReal) (b : Fin 256 → EReal) (k : Fin 768) : beside a b (lo k) = a k := by
  unfold beside lo
  exact dif_pos k.isLt

theorem beside_hi (a : Fin 768 → EReal) (b : Fin 256 → EReal) (k : Fin 256) : beside a b (hi k) = b k := by
  unfold beside hi
  refine (dif_neg (by simp only []; omega)).trans (congrArg b (Fin.ext (by simp only []; omega)))

/-- The sum of the products of two rows' entries. -/
def dot {n : ℕ} (f g : Fin n → EReal) : EReal := ∑ j, f j * g j

/-- A product with the whole row is the sum of the parts' products. -/
theorem sum_beside (a : Fin 768 → EReal) (b : Fin 256 → EReal) (w : Fin 1024 → EReal) :
    ∑ k, beside a b k * w k = ∑ k, a k * w (lo k) + ∑ k, b k * w (hi k) := by
  refine (Fin.sum_univ_add (a := 768) (b := 256) fun k => beside a b k * w k).trans ?_
  refine congr (congrArg _ (Finset.sum_congr rfl fun k _ => ?_)) (Finset.sum_congr rfl fun k _ => ?_)
  · have h : (Fin.castAdd 256 k : Fin 1024) = lo k := rfl
    rw [h, beside_lo]
  · have h : (Fin.natAdd 768 k : Fin 1024) = hi k := rfl
    rw [h, beside_hi]

end Cert.Proof.Out

end
-- ==== Proof.OutFwd.Kernel.lean ====
/- THE PRODUCT THAT CLOSES THE SECOND LAYER'S MIXERS: the grid walks the 16384 rows in 32 tiles of 512; a tile multiplies
   the two mixers' rows by their own part of the weight's rows and adds both products to the input. -/
module

public import proofs.«01_k».proof.Proof.Gen.OutFwdIdeal.Frame
public import proofs.«01_k».proof.Proof.Out.Halves
public import Idealize.ShloMosaic.Lib.Pipeline.ValueKit
public import Idealize.ShloMosaic.Lib.Pipeline.ReadBack

@[expose] public section

noncomputable section

namespace Cert.Proof.OutFwd

open Cert.OutFwdIdeal Cert.OutFwdIdeal.Gen Idealize.ShloMosaic Idealize.ShloMosaic.TcCoe Idealize.SL.Sem
  Idealize.ShloMosaic.Pipeline Cert.Proof.Out

theorem tile_y (x : Vec Ideal S512x1024 .f32) (a : Vec Ideal S512x768 .f32) (b : Vec Ideal S512x256 .f32)
    (w : Vec Ideal S1024x1024 .bf16) (r : Fin 512) (j : Fin 1024) : out0_4 x a b w (ix2 r j)
      = x (ix2 r j) + ∑ k, a (ix2 r k) * w (ix2 (lo k) j) + ∑ k, b (ix2 r k) * w (ix2 (hi k) j) := by
  unfold out0_4; frame_out
  pointwise [k0_pay1]
  rfl

variable (m : (ℓ : Loc nD τ sig) → Buf (Elt Ideal) ℓ) (c : Dev nD)

/-- The input, the two mixers' outputs, the weight. -/
def aX (r : Fin 16384) (j : Fin 1024) : EReal := m ((c : Thread nD τ).loc main_arg0) (ix2 r j)
def aA (r : Fin 16384) (k : Fin 768) : EReal := m ((c : Thread nD τ).loc main_arg1) (ix2 r k)
def aB (r : Fin 16384) (k : Fin 256) : EReal := m ((c : Thread nD τ).loc main_arg2) (ix2 r k)
def aW (k j : Fin 1024) : EReal := m ((c : Thread nD τ).loc main_arg3) (ix2 k j)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)

/-- The row of the whole array that row `a` of tile `t` is. -/
def at_ (t : Fin cfg0.N) (a : Fin 512) : Fin 16384 :=
  ⟨t.val * 512 + a.val, by have : t.val < 32 := t.isLt; omega⟩

theorem host_w (k j : Fin 1024) : V m c main_v0 (ix2 k j) = aW m c k j := by
  show StableHlo.after hostOps0 (fun b => m (c, b)) (Proc.devRef .tc main_v0) (ix2 k j) = _
  after_results
  unfold aW
  pointwise

theorem blkX (t : Fin cfg0.N) (a : Fin 512) (j : Fin 1024) : iblk m c 0 t (ix2 a j) = aX m c (at_ t a) j := by
  unfold aX at_
  blk_ext! [iblk, idx0 t, V_main_arg0]
theorem blkA (t : Fin cfg0.N) (a : Fin 512) (k : Fin 768) : iblk m c 1 t (ix2 a k) = aA m c (at_ t a) k := by
  unfold aA at_
  blk_ext! [iblk, idx1 t, V_main_arg1]
theorem blkB (t : Fin cfg0.N) (a : Fin 512) (k : Fin 256) : iblk m c 2 t (ix2 a k) = aB m c (at_ t a) k := by
  unfold aB at_
  blk_ext! [iblk, idx2 t, V_main_arg2]
theorem blkW (t : Fin cfg0.N) (k j : Fin 1024) : iblk m c 3 t (ix2 k j) = aW m c k j := by
  rw [← host_w]
  blk_ext! [iblk, idx3 t]

/-- The layer's output, both products added to the input. -/
def yArr : Vec Ideal S16384x1024 .f32 := fun i =>
  aX m c (i 0) (i 1) + ∑ k, beside (aA m c (i 0)) (aB m c (i 0)) k * aW m c k (i 1)

theorem final_y : (dats m 0 c).arrAt 4 cfg0.N = yArr m c := by
  refine (dats m 0 c).arrAt_eq_of_covers 4 _ (by decide +kernel) fun t hf y => ?_
  obtain ⟨a, b, rfl⟩ : ∃ a b, y = ix2 a b := ⟨y 0, y 1, by funext a; fin_cases a <;> rfl⟩
  have hout : (dats m 0 c).after 4 t (ix2 a b)
      = aX m c (at_ t a) b + ∑ k, beside (aA m c (at_ t a)) (aB m c (at_ t a)) k * aW m c k b := by
    rw [after0_4]
    refine (tile_y (iblk m c 0 t) (iblk m c 1 t) (iblk m c 2 t) (iblk m c 3 t) a b).trans ?_
    simp only [blkX, blkA, blkB, blkW]
    rw [sum_beside, add_assoc]
  have he : ((cfg0.win 4).blk t).view.emb (ix2 a b) = ix2 (at_ t a) b := by
    unfold at_; blk_ext [idx4 t]
  rw [he]
  exact hout

end Cert.Proof.OutFwd

end
-- ==== Proof.OutFwd.Equation.lean ====
/- THE SECOND LAYER'S OUTPUT PRODUCT IS COMPUTED: the call's result is the input plus the reference's product of the two
   mixers' outputs side by side and the weight. -/
module

public import proofs.«01_k».proof.Defs
public import proofs.«01_k».proof.Proof.Gen.OutFwdRefIdeal.Run
public import proofs.«01_k».proof.Proof.Gen.OutFwdRefIdeal.Read
public import proofs.«01_k».proof.Proof.OutFwd.Kernel

@[expose] public section

noncomputable section

namespace Cert.Proof.OutFwd

open Idealize.ShloMosaic Idealize.ShloMosaic.TcCoe Idealize.SL.Sem Cert.Proof.Out

section Reference

open Cert.OutFwdRefIdeal Cert.OutFwdRefIdeal.Read

theorem ref_row (a : Vec Ideal S16384x768 .f32) (b : Vec Ideal S16384x256 .f32) (r : Fin 16384) (k : Fin 1024) :
    val_main_v0 (F := Ideal) a b (ix2 r k) = beside (fun k => a (ix2 r k)) (fun k => b (ix2 r k)) k := by
  pointwise [val_main_v0]
  rfl

/-- The reference at an index. -/
theorem ref_y (x : Vec Ideal S16384x1024 .f32) (a : Vec Ideal S16384x768 .f32) (b : Vec Ideal S16384x256 .f32)
    (w : Vec Ideal S1024x1024 .f32) (r : Fin 16384) (j : Fin 1024) : val_main_v2 (F := Ideal) x a b w (ix2 r j)
      = x (ix2 r j) + ∑ k, beside (fun k => a (ix2 r k)) (fun k => b (ix2 r k)) k * w (ix2 k j) := by
  pointwise [val_main_v2, val_main_v1]
  exact congrArg (x (ix2 r j) + ·) (Finset.sum_congr rfl fun k _ => congrArg (· * w (ix2 k j)) (ref_row a b r k))

end Reference

/-- The reference's frame. -/
theorem ref_frame : Cert.quiescent_OutFwdRefIdeal := fun m ρ _ =>
  (θ_run OutFwdRefIdeal.defs _ _).mono (fun r h => ⟨fun c => (h c).2, sem_eq_zero_of_no_sems (by decide) r.2⟩)
    (OutFwdRefIdeal.Value.run (F := Ideal) m ρ)

theorem algebraic : Cert.algebraic_OutFwdIdeal_OutFwdRefIdeal := by
  intro m g m' g' _ hag
  refine ⟨yArr m, ?_, ?_⟩
  · exact (θ_run OutFwdIdeal.defs _ _).mono (fun r h c => ⟨((h.1 c).1 4).trans (final_y m c), h.2 c⟩)
      (θ_run_and (OutFwdIdeal.Gen.run_main (F := Ideal) m g) (OutFwdIdeal.Gen.unchanged (F := Ideal) m g))
  · refine (θ_run OutFwdRefIdeal.defs _ _).mono (fun r h c => ?_) (OutFwdRefIdeal.Value.run (F := Ideal) m' g')
    obtain ⟨h0, ha⟩ := h c
    obtain ⟨e0, e1, e2, e3⟩ := hag c
    refine ⟨h0.trans ((OutFwdRefIdeal.Read.val_main_v2_eq _ _ _ _).trans ?_), ha⟩
    rw [e0, e1, e2, e3]; funext i; obtain ⟨p, q, rfl⟩ : ∃ p q, i = ix2 p q := ⟨i 0, i 1, eq_ix2 i⟩; exact ref_y _ _ _ _ p q

end Cert.Proof.OutFwd

end
-- ==== Proof.Out.Kernel.lean ====
/- THE BACKWARD CALL OF THE PRODUCT THAT CLOSES THE SECOND LAYER'S MIXERS: the grid walks the 16384 rows in 32 tiles of
   512. A tile writes the gradients of its rows of the two mixers (`final_da`, `final_db`), and adds to the weight's
   gradient, which stays in place over the whole grid, zeroed at the first tile (`final_dw`). -/
module

public import proofs.«01_k».proof.Proof.Gen.OutIdeal.Frame
public import proofs.«01_k».proof.Proof.Out.Halves
public import Idealize.ShloMosaic.Lib.Pipeline.ValueKit
public import Idealize.ShloMosaic.Lib.Pipeline.ReadBack

@[expose] public section

noncomputable section

namespace Cert.Proof.Out

open Cert.OutIdeal Cert.OutIdeal.Gen Idealize.ShloMosaic Idealize.ShloMosaic.TcCoe Idealize.SL.Sem
  Idealize.ShloMosaic.Pipeline

section Tile

variable (y : Vec Ideal S512x1024 .f32) (a : Vec Ideal S512x768 .f32) (b : Vec Ideal S512x256 .f32)
  (w : Vec Ideal S1024x1024 .bf16) (o : Vec Ideal S1024x1024 .f32)

theorem tile_da (r : Fin 512) (k : Fin 768) :
    k0_pay2 y (View.ld w (Rect.unit ![0, 0] ![768, 1024] inb_S1024x1024_S768x1024_0_0)) (ix2 r k)
      = dot (fun j => y (ix2 r j)) (fun j => w (ix2 (lo k) j)) := by
  pointwise [k0_pay2]
  rfl

theorem tile_db (r : Fin 512) (k : Fin 256) :
    k0_pay3 y (View.ld w (Rect.unit ![768, 0] ![256, 1024] inb_S1024x1024_S256x1024_768_0)) (ix2 r k)
      = dot (fun j => y (ix2 r j)) (fun j => w (ix2 (hi k) j)) := by
  pointwise [k0_pay3]
  rfl

theorem tile_dwlo (k : Fin 768) (j : Fin 1024) :
    k0_pay4 y (View.ld o (Rect.unit ![0, 0] ![768, 1024] inb_S1024x1024_S768x1024_0_0)) a (ix2 k j)
      = o (ix2 (lo k) j) + dot (fun r => a (ix2 r k)) (fun r => y (ix2 r j)) := by
  pointwise [k0_pay4]
  rfl

theorem tile_dwhi (k : Fin 256) (j : Fin 1024) :
    k0_pay5 y (View.ld o (Rect.unit ![768, 0] ![256, 1024] inb_S1024x1024_S256x1024_768_0)) b (ix2 k j)
      = o (ix2 (hi k) j) + dot (fun r => b (ix2 r k)) (fun r => y (ix2 r j)) := by
  pointwise [k0_pay5]
  rfl

/-- The place of a part's row. -/
theorem emb_part (o n : ℕ) (inb) (k : Fin n) (j : Fin 1024) (h : o + k.val < 1024) :
    (Rect.unit (s := S1024x1024) ![o, 0] ![n, 1024] inb).emb (ix2 k j) = ix2 ⟨o + k.val, h⟩ j := by
  funext a; apply Fin.ext; rw [ValueKit.rect_emb_unit_val]; fin_cases a <;> simp [ix2]

/-- The two parts' rows, stored one after the other, fill the block. -/
theorem fill (G : Vec Ideal S1024x1024 .f32) (q0 : Vec Ideal S768x1024 .f32) (q1 : Vec Ideal S256x1024 .f32)
    (h0 : ∀ k j, q0 (ix2 k j) = G (ix2 (lo k) j)) (h1 : ∀ k j, q1 (ix2 k j) = G (ix2 (hi k) j))
    (L : List (View.Piece (Elt Ideal) S1024x1024 .f32)) (i : S1024x1024.Idx) : View.canon
      ([⟨Rect.unit ![768, 0] ![256, 1024] inb_S1024x1024_S256x1024_768_0, q1⟩,
        ⟨Rect.unit ![0, 0] ![768, 1024] inb_S1024x1024_S768x1024_0_0, q0⟩] ++ L) i = G i := by
  refine View.canon_append_of_piecesOf G L _ ?_ i ?_
  · refine ⟨fun y => ?_, fun y => ?_, trivial⟩
    · obtain ⟨a, b, rfl⟩ : ∃ (a : Fin 256) (b : Fin 1024), y = ix2 a b := ⟨y 0, y 1, eq_ix2 y⟩
      exact (h1 a b).trans (congrArg G (emb_part 768 256 inb_S1024x1024_S256x1024_768_0 a b (by omega)).symm)
    · obtain ⟨a, b, rfl⟩ : ∃ (a : Fin 768) (b : Fin 1024), y = ix2 a b := ⟨y 0, y 1, eq_ix2 y⟩
      refine (h0 a b).trans (congrArg G ((emb_part 0 768 inb_S1024x1024_S768x1024_0_0 a b (by omega)).trans ?_).symm)
      exact congrArg (fun k => ix2 k b) (Fin.ext (Nat.zero_add _))
  · obtain ⟨a, b, rfl⟩ : ∃ (a : Fin 1024) (b : Fin 1024), i = ix2 a b := ⟨i 0, i 1, eq_ix2 i⟩
    by_cases c1 : a.val < 768
    · exact ⟨_, .tail _ (.head _), by rw [Rect.mem_set_unit]; intro d; fin_cases d <;> simp [ix2] <;> omega⟩
    · exact ⟨_, .head _, by rw [Rect.mem_set_unit]; intro d; fin_cases d <;> simp [ix2] <;> omega⟩

end Tile

variable (m : (ℓ : Loc nD τ sig) → Buf (Elt Ideal) ℓ) (c : Dev nD)

/-- The two mixers' outputs, the weight, the cotangent. -/
def aA (r : Fin 16384) (k : Fin 768) : EReal := m ((c : Thread nD τ).loc main_arg0) (ix2 r k)
def aB (r : Fin 16384) (k : Fin 256) : EReal := m ((c : Thread nD τ).loc main_arg1) (ix2 r k)
def aW (k j : Fin 1024) : EReal := m ((c : Thread nD τ).loc main_arg2) (ix2 k j)
def aY (r : Fin 16384) (j : Fin 1024) : EReal := m ((c : Thread nD τ).loc main_arg3) (ix2 r j)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)

/-- The row of the whole array that row `a` of tile `t` is. -/
def at_ (t : Fin cfg0.N) (a : Fin 512) : Fin 16384 :=
  ⟨t.val * 512 + a.val, by have : t.val < 32 := t.isLt; omega⟩

theorem host_w (k j : Fin 1024) : V m c main_v0 (ix2 k j) = aW m c k j := by
  show StableHlo.after hostOps0 (fun b => m (c, b)) (Proc.devRef .tc main_v0) (ix2 k j) = _
  after_results
  unfold aW
  pointwise

theorem blkY (t : Fin cfg0.N) (a : Fin 512) (j : Fin 1024) : iblk m c 0 t (ix2 a j) = aY m c (at_ t a) j := by
  unfold aY at_
  blk_ext! [iblk, idx0 t, V_main_arg3]
theorem blkA (t : Fin cfg0.N) (a : Fin 512) (k : Fin 768) : iblk m c 1 t (ix2 a k) = aA m c (at_ t a) k := by
  unfold aA at_
  blk_ext! [iblk, idx1 t, V_main_arg0]
theorem blkB (t : Fin cfg0.N) (a : Fin 512) (k : Fin 256) : iblk m c 2 t (ix2 a k) = aB m c (at_ t a) k := by
  unfold aB at_
  blk_ext! [iblk, idx2 t, V_main_arg1]
theorem blkW (t : Fin cfg0.N) (k j : Fin 1024) : iblk m c 3 t (ix2 k j) = aW m c k j := by
  rw [← host_w]
  blk_ext! [iblk, idx3 t]

/-- The gradients of the two mixers' outputs, and of the weight. -/
def daArr : Vec Ideal S16384x768 .f32 := fun i => ∑ j, aY m c (i 0) j * aW m c (lo (i 1)) j
def dbArr : Vec Ideal S16384x256 .f32 := fun i => ∑ j, aY m c (i 0) j * aW m c (hi (i 1)) j
def dwArr : Vec Ideal S1024x1024 .f32 := fun i => ∑ r, beside (aA m c r) (aB m c r) (i 0) * aY m c r (i 1)

theorem final_da : (dats m 0 c).arrAt 4 cfg0.N = daArr m c := by
  refine (dats m 0 c).arrAt_eq_of_covers 4 _ (by decide +kernel) fun t hf y => ?_
  obtain ⟨a, b, rfl⟩ : ∃ a b, y = ix2 a b := ⟨y 0, y 1, by funext a; fin_cases a <;> rfl⟩
  have hx : dot (fun j => iblk m c 0 t (ix2 a j)) (fun j => iblk m c 3 t (ix2 (lo b) j)) = daArr m c (ix2 (at_ t a) b) := by
    simp only [blkY, blkW]; rfl
  have hout : (dats m 0 c).after 4 t (ix2 a b) = daArr m c (ix2 (at_ t a) b) := by
    rw [after0_4]
    by_cases h : t.val % 32 = 0
    · rw [outsAt0_A m c t h]; frame_out; exact (tile_da _ _ a b).trans hx
    · rw [outsAt0_B m c t h]; frame_out; exact (tile_da _ _ a b).trans hx
  have he : ((cfg0.win 4).blk t).view.emb (ix2 a b) = ix2 (at_ t a) b := by
    unfold at_; blk_ext [idx4 t]
  rw [he]
  exact hout

theorem final_db : (dats m 0 c).arrAt 5 cfg0.N = dbArr m c := by
  refine (dats m 0 c).arrAt_eq_of_covers 5 _ (by decide +kernel) fun t hf y => ?_
  obtain ⟨a, b, rfl⟩ : ∃ a b, y = ix2 a b := ⟨y 0, y 1, by funext a; fin_cases a <;> rfl⟩
  have hx : dot (fun j => iblk m c 0 t (ix2 a j)) (fun j => iblk m c 3 t (ix2 (hi b) j)) = dbArr m c (ix2 (at_ t a) b) := by
    simp only [blkY, blkW]; rfl
  have hout : (dats m 0 c).after 5 t (ix2 a b) = dbArr m c (ix2 (at_ t a) b) := by
    rw [after0_5]
    by_cases h : t.val % 32 = 0
    · rw [outsAt0_A m c t h]; frame_out; exact (tile_db _ _ a b).trans hx
    · rw [outsAt0_B m c t h]; frame_out; exact (tile_db _ _ a b).trans hx
  have he : ((cfg0.win 5).blk t).view.emb (ix2 a b) = ix2 (at_ t a) b := by
    unfold at_; blk_ext [idx5 t]
  rw [he]
  exact hout

/-- What tile `t` adds to an entry of the weight's gradient. -/
def tileDw (t : Fin cfg0.N) (k j : Fin 1024) : EReal :=
  ∑ a, beside (aA m c (at_ t a)) (aB m c (at_ t a)) k * aY m c (at_ t a) j

theorem zero_dw (i : S1024x1024.Idx) : k0_pay1 (F := Ideal) i = 0 := by unfold k0_pay1; pointwise

/-- One tile's step on the weight's gradient. -/
theorem step_dw (t : Fin cfg0.N) (o : Vec Ideal S1024x1024 .f32) (L : List (View.Piece (Elt Ideal) S1024x1024 .f32))
    (i : S1024x1024.Idx) : View.canon
      ([⟨Rect.unit ![768, 0] ![256, 1024] inb_S1024x1024_S256x1024_768_0,
          k0_pay5 (iblk m c 0 t) (View.ld o (Rect.unit ![768, 0] ![256, 1024] inb_S1024x1024_S256x1024_768_0))
            (iblk m c 2 t)⟩,
        ⟨Rect.unit ![0, 0] ![768, 1024] inb_S1024x1024_S768x1024_0_0,
          k0_pay4 (iblk m c 0 t) (View.ld o (Rect.unit ![0, 0] ![768, 1024] inb_S1024x1024_S768x1024_0_0))
            (iblk m c 1 t)⟩] ++ L) i
    = o i + tileDw m c t (i 0) (i 1) := by
  refine fill (fun i => o i + tileDw m c t (i 0) (i 1)) _ _ (fun k j => ?_) (fun k j => ?_) L i
  · refine (tile_dwlo _ _ _ k j).trans ?_
    simp only [blkA, blkY]
    refine congrArg (o (ix2 (lo k) j) + ·) (Finset.sum_congr rfl fun a _ => ?_)
    exact congrArg (· * aY m c (at_ t a) j) (beside_lo (aA m c (at_ t a)) (aB m c (at_ t a)) k).symm
  · refine (tile_dwhi _ _ _ k j).trans ?_
    simp only [blkB, blkY]
    refine congrArg (o (ix2 (hi k) j) + ·) (Finset.sum_congr rfl fun a _ => ?_)
    exact congrArg (· * aY m c (at_ t a) j) (beside_hi (aA m c (at_ t a)) (aB m c (at_ t a)) k).symm

/-- The weight's gradient: every entry the sum over the tiles, that is over the rows. -/
theorem final_dw : (dats m 0 c).arrAt 6 cfg0.N = dwArr m c := by
  have tiles : (fun i => ∑ t : Fin cfg0.N, tileDw m c t (i 0) (i 1) : Vec Ideal S1024x1024 .f32) = dwArr m c := by
    funext i
    exact Fin.sum_mul_add_fin 32 512 fun r => beside (aA m c r) (aB m c r) (i 0) * aY m c r (i 1)
  rw [← tiles]
  refine (dats m 0 c).arrAt_eq_of_after_last 6 (⟨31, by decide⟩ : Fin cfg0.N) (by decide +kernel)
    (G := (fun i => ∑ t : Fin cfg0.N, tileDw m c t (i 0) (i 1) : Vec Ideal S1024x1024 .f32)) fun i => ?_
  rw [after0_6, Pipeline.eq_sum_fin_of_reset_step_apply_last (fun n h => (outsAt0 m c n h).2.2) 32
    (k0_pay1 (F := Ideal)) (fun t i => tileDw m c t (i 0) (i 1))
    (fun t h i => by
      rw [outsAt0_A m c t h]; frame_open; simp (disch := decide) only [↓View.readCov_skip, ↓View.readCov_fill]; frame_out
      exact step_dw m c t _ [_] i)
    (fun t h i => by
      rw [outsAt0_B m c t h]; frame_open; simp (disch := decide) only [↓View.readCov_skip, ↓View.readCov_fill]; frame_out
      exact step_dw m c t _ [] i) (by decide) _ (by decide)]
  exact (congrArg (· + _) (zero_dw _)).trans (zero_add (M := EReal) _)

end Cert.Proof.Out

end
-- ==== Proof.Out.Equation.lean ====
/- THE GRADIENTS OF THE SECOND LAYER'S OUTPUT PRODUCT ARE COMPUTED: the two mixers' rows and the weight, each equal to the
   reference's. -/
module

public import proofs.«01_k».proof.Defs
public import proofs.«01_k».proof.Proof.Gen.OutRefIdeal.Run
public import proofs.«01_k».proof.Proof.Gen.OutRefIdeal.Read
public import proofs.«01_k».proof.Proof.Out.Kernel

@[expose] public section

noncomputable section

namespace Cert.Proof.Out

open Idealize.ShloMosaic Idealize.ShloMosaic.TcCoe Idealize.SL.Sem

section Reference

open Cert.OutRefIdeal Cert.OutRefIdeal.Read

variable (a : Vec Ideal S16384x768 .f32) (b : Vec Ideal S16384x256 .f32) (w : Vec Ideal S1024x1024 .f32)
  (y : Vec Ideal S16384x1024 .f32)

theorem ref_row (r : Fin 16384) (k : Fin 1024) :
    val_main_v0 (F := Ideal) a b (ix2 r k) = beside (fun k => a (ix2 r k)) (fun k => b (ix2 r k)) k := by
  pointwise [val_main_v0]
  rfl

theorem ref_da (r : Fin 16384) (k : Fin 768) :
    val_main_v5 (F := Ideal) w y (ix2 r k) = ∑ j, y (ix2 r j) * w (ix2 (lo k) j) := by
  pointwise [val_main_v5, val_main_v4]
  rfl

theorem ref_db (r : Fin 16384) (k : Fin 256) :
    val_main_v6 (F := Ideal) w y (ix2 r k) = ∑ j, y (ix2 r j) * w (ix2 (hi k) j) := by
  pointwise [val_main_v6, val_main_v4]
  rfl

theorem ref_dw (k j : Fin 1024) : val_main_v3 (F := Ideal) a b y (ix2 k j)
    = ∑ r, beside (fun k => a (ix2 r k)) (fun k => b (ix2 r k)) k * y (ix2 r j) := by
  have side (u v p : EReal) (h : v = p) : u * v = p * u := by rw [h, mul_comm]
  pointwise [val_main_v3, val_main_v2]
  exact Finset.sum_congr rfl fun r _ => side _ _ _ (ref_row a b r k)

end Reference

/-- The reference's frame. -/
theorem ref_frame : Cert.quiescent_OutRefIdeal := fun m ρ _ =>
  (θ_run OutRefIdeal.defs _ _).mono (fun r h => ⟨fun c => (h c).2.2.2, sem_eq_zero_of_no_sems (by decide) r.2⟩)
    (OutRefIdeal.Value.run (F := Ideal) m ρ)

theorem algebraic : Cert.algebraic_OutIdeal_OutRefIdeal := by
  intro m g m' g' _ hag
  refine ⟨daArr m, dbArr m, dwArr m, ?_, ?_⟩
  · exact (θ_run OutIdeal.defs _ _).mono (fun r h c => ⟨((h.1 c).1 4).trans (final_da m c),
      ((h.1 c).1 5).trans (final_db m c), ((h.1 c).1 6).trans (final_dw m c), h.2 c⟩)
      (θ_run_and (OutIdeal.Gen.run_main (F := Ideal) m g) (OutIdeal.Gen.unchanged (F := Ideal) m g))
  · refine (θ_run OutRefIdeal.defs _ _).mono (fun r h c => ?_) (OutRefIdeal.Value.run (F := Ideal) m' g')
    obtain ⟨h0, h1, h2, ha⟩ := h c
    obtain ⟨e0, e1, e2, e3⟩ := hag c
    refine ⟨h0.trans ((OutRefIdeal.Read.val_main_v5_eq _ _).trans ?_), h1.trans ((OutRefIdeal.Read.val_main_v6_eq _ _).trans ?_),
      h2.trans ((OutRefIdeal.Read.val_main_v3_eq _ _ _).trans ?_), ha⟩
    · rw [e2, e3]; funext i; obtain ⟨p, q, rfl⟩ : ∃ p q, i = ix2 p q := ⟨i 0, i 1, eq_ix2 i⟩; exact ref_da _ _ p q
    · rw [e2, e3]; funext i; obtain ⟨p, q, rfl⟩ : ∃ p q, i = ix2 p q := ⟨i 0, i 1, eq_ix2 i⟩; exact ref_db _ _ p q
    · rw [e0, e1, e3]; funext i; obtain ⟨p, q, rfl⟩ : ∃ p q, i = ix2 p q := ⟨i 0, i 1, eq_ix2 i⟩; exact ref_dw _ _ _ p q

end Cert.Proof.Out

end
-- ==== Proof.Adam.Kernel.lean ====
/- THE OPTIMISER'S CALL ON ONE WEIGHT: the grid walks the weight's 1024 rows in two tiles of 512. A tile adds the eight
   partial gradients and takes one step of the optimiser on every entry. -/
module

public import proofs.«01_k».proof.Proof.Gen.AdamIdeal.Frame
public import Idealize.ShloMosaic.Lib.Pipeline.ValueKit
public import Idealize.ShloMosaic.Lib.Pipeline.ReadBack

@[expose] public section

noncomputable section

namespace Cert.Proof.Adam

open Cert.AdamIdeal Cert.AdamIdeal.Gen Idealize.ShloMosaic Idealize.ShloMosaic.TcCoe Idealize.SL.Sem
  Idealize.ShloMosaic.Pipeline

/-- The running mean of the gradient, that of its square, and the step, for one entry; the constants are the float words
    the programs write. -/
def mean (mu g : EReal) : EReal := Ideal.ofBits .f32 0x3F666666#32 * mu + Ideal.ofBits .f32 0x3DCCCCCD#32 * g
def square (nu g : EReal) : EReal := Ideal.ofBits .f32 0x3F7FBE77#32 * nu + Ideal.ofBits .f32 0x3A83126F#32 * (g * g)
def delta (w mu nu : EReal) : EReal := Ideal.ofBits .f32 0xBA83126F#32 *
  (Ideal.div (Ideal.div mu (Ideal.ofBits .f32 0x3F26BD02#32))
      (Ideal.sqrt (Ideal.div nu (Ideal.ofBits .f32 0x3C231ACC#32)) + Ideal.ofBits .f32 0x322BCC77#32)
    + Ideal.ofBits .f32 0x3C23D70A#32 * w)

section Tile

variable (p : Vec Ideal S8x512x512 .f32) (w mu nu : Vec Ideal S512x512 .f32) (a b : Fin 512)

theorem pay_g : k0_pay5 p w mu nu (ix2 a b) = ∑ s : Fin 8, p (ix3 s a b) := by
  rw [Fin.sum_univ_eight]
  pointwise [k0_pay5, k0_pay3]

theorem pay_mu : k0_pay6 p w mu nu (ix2 a b) = mean (mu (ix2 a b)) (∑ s : Fin 8, p (ix3 s a b)) := by
  rw [← pay_g p w mu nu]
  pointwise [k0_pay6, k0_pay4, k0_pay5]
  rfl

theorem pay_nu (g : FVec Ideal S512x512 .f32) : k0_pay1 g nu (ix2 a b) = square (nu (ix2 a b)) (g (ix2 a b)) := by
  pointwise [k0_pay1]
  rfl

theorem pay_delta (g v : FVec Ideal S512x512 .f32) : k0_pay2 g v nu w (ix2 a b)
    = delta (w (ix2 a b)) (v (ix2 a b)) (square (nu (ix2 a b)) (g (ix2 a b))) := by
  rw [← pay_nu]
  pointwise [k0_pay2]
  rfl

theorem tile_g : out0_4 p w mu nu (ix2 a b) = ∑ s : Fin 8, p (ix3 s a b) := by
  unfold out0_4; frame_out; exact pay_g p w mu nu a b
theorem tile_delta : out0_5 p w mu nu (ix2 a b)
    = delta (w (ix2 a b)) (mean (mu (ix2 a b)) (∑ s : Fin 8, p (ix3 s a b)))
        (square (nu (ix2 a b)) (∑ s : Fin 8, p (ix3 s a b))) := by
  unfold out0_5; frame_out
  refine (pay_delta _ _ _ _ _ _).trans ?_
  rw [pay_g, pay_mu]
theorem tile_mu : out0_6 p w mu nu (ix2 a b) = mean (mu (ix2 a b)) (∑ s : Fin 8, p (ix3 s a b)) := by
  unfold out0_6; frame_out; exact pay_mu p w mu nu a b
theorem tile_nu : out0_7 p w mu nu (ix2 a b) = square (nu (ix2 a b)) (∑ s : Fin 8, p (ix3 s a b)) := by
  unfold out0_7; frame_out
  refine (pay_nu _ _ _ _).trans ?_
  rw [pay_g]

end Tile

variable (m : (ℓ : Loc nD τ sig) → Buf (Elt Ideal) ℓ) (c : Dev nD)

/-- The partial gradients, the weight, and the two running means. -/
def aP (s : Fin 8) (r : Fin 1024) (j : Fin 512) : EReal := m ((c : Thread nD τ).loc main_arg0) (ix3 s r j)
def aW (r : Fin 1024) (j : Fin 512) : EReal := m ((c : Thread nD τ).loc main_arg1) (ix2 r j)
def aM (r : Fin 1024) (j : Fin 512) : EReal := m ((c : Thread nD τ).loc main_arg2) (ix2 r j)
def aV (r : Fin 1024) (j : Fin 512) : EReal := m ((c : Thread nD τ).loc main_arg3) (ix2 r j)

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

/-- The row of the whole array that row `a` of tile `t` is. -/
def at_ (t : Fin cfg0.N) (a : Fin 512) : Fin 1024 :=
  ⟨t.val * 512 + a.val, by have : t.val < 2 := t.isLt; omega⟩

theorem blkP (t : Fin cfg0.N) (s : Fin 8) (a b : Fin 512) : iblk m c 0 t (ix3 s a b) = aP m c s (at_ t a) b := by
  unfold aP at_
  blk_ext! [iblk, idx0 t, V_main_arg0]
theorem blkW (t : Fin cfg0.N) (a b : Fin 512) : iblk m c 1 t (ix2 a b) = aW m c (at_ t a) b := by
  unfold aW at_
  blk_ext! [iblk, idx1 t, V_main_arg1]
theorem blkM (t : Fin cfg0.N) (a b : Fin 512) : iblk m c 2 t (ix2 a b) = aM m c (at_ t a) b := by
  unfold aM at_
  blk_ext! [iblk, idx2 t, V_main_arg2]
theorem blkV (t : Fin cfg0.N) (a b : Fin 512) : iblk m c 3 t (ix2 a b) = aV m c (at_ t a) b := by
  unfold aV at_
  blk_ext! [iblk, idx3 t, V_main_arg3]

/-- The gradient, the new running means and the step, entry by entry. -/
def gArr : Vec Ideal S1024x512 .f32 := fun i => ∑ s, aP m c s (i 0) (i 1)
def muArr : Vec Ideal S1024x512 .f32 := fun i => mean (aM m c (i 0) (i 1)) (gArr m c i)
def nuArr : Vec Ideal S1024x512 .f32 := fun i => square (aV m c (i 0) (i 1)) (gArr m c i)
def deltaArr : Vec Ideal S1024x512 .f32 := fun i => delta (aW m c (i 0) (i 1)) (muArr m c i) (nuArr m c i)

theorem final_g : (dats m 0 c).arrAt 4 cfg0.N = gArr m c := by
  refine (dats m 0 c).arrAt_eq_of_covers 4 _ (by decide +kernel) fun t hf y => ?_
  obtain ⟨a, b, rfl⟩ : ∃ a b, y = ix2 a b := ⟨y 0, y 1, by funext a; fin_cases a <;> rfl⟩
  have hout : (dats m 0 c).after 4 t (ix2 a b) = gArr m c (ix2 (at_ t a) b) := by
    rw [after0_4]
    refine (tile_g (iblk m c 0 t) (iblk m c 1 t) (iblk m c 2 t) (iblk m c 3 t) a b).trans ?_
    simp only [blkP]; rfl
  have he : ((cfg0.win 4).blk t).view.emb (ix2 a b) = ix2 (at_ t a) b := by
    unfold at_; blk_ext [idx4 t]
  rw [he]
  exact hout

theorem final_delta : (dats m 0 c).arrAt 5 cfg0.N = deltaArr m c := by
  refine (dats m 0 c).arrAt_eq_of_covers 5 _ (by decide +kernel) fun t hf y => ?_
  obtain ⟨a, b, rfl⟩ : ∃ a b, y = ix2 a b := ⟨y 0, y 1, by funext a; fin_cases a <;> rfl⟩
  have hout : (dats m 0 c).after 5 t (ix2 a b) = deltaArr m c (ix2 (at_ t a) b) := by
    rw [after0_5]
    refine (tile_delta (iblk m c 0 t) (iblk m c 1 t) (iblk m c 2 t) (iblk m c 3 t) a b).trans ?_
    simp only [blkP, blkW, blkM, blkV]; rfl
  have he : ((cfg0.win 5).blk t).view.emb (ix2 a b) = ix2 (at_ t a) b := by
    unfold at_; blk_ext [idx5 t]
  rw [he]
  exact hout

theorem final_mu : (dats m 0 c).arrAt 6 cfg0.N = muArr m c := by
  refine (dats m 0 c).arrAt_eq_of_covers 6 _ (by decide +kernel) fun t hf y => ?_
  obtain ⟨a, b, rfl⟩ : ∃ a b, y = ix2 a b := ⟨y 0, y 1, by funext a; fin_cases a <;> rfl⟩
  have hout : (dats m 0 c).after 6 t (ix2 a b) = muArr m c (ix2 (at_ t a) b) := by
    rw [after0_6]
    refine (tile_mu (iblk m c 0 t) (iblk m c 1 t) (iblk m c 2 t) (iblk m c 3 t) a b).trans ?_
    simp only [blkP, blkM]; rfl
  have he : ((cfg0.win 6).blk t).view.emb (ix2 a b) = ix2 (at_ t a) b := by
    unfold at_; blk_ext [idx6 t]
  rw [he]
  exact hout

theorem final_nu : (dats m 0 c).arrAt 7 cfg0.N = nuArr m c := by
  refine (dats m 0 c).arrAt_eq_of_covers 7 _ (by decide +kernel) fun t hf y => ?_
  obtain ⟨a, b, rfl⟩ : ∃ a b, y = ix2 a b := ⟨y 0, y 1, by funext a; fin_cases a <;> rfl⟩
  have hout : (dats m 0 c).after 7 t (ix2 a b) = nuArr m c (ix2 (at_ t a) b) := by
    rw [after0_7]
    refine (tile_nu (iblk m c 0 t) (iblk m c 1 t) (iblk m c 2 t) (iblk m c 3 t) a b).trans ?_
    simp only [blkP, blkV]; rfl
  have he : ((cfg0.win 7).blk t).view.emb (ix2 a b) = ix2 (at_ t a) b := by
    unfold at_; blk_ext [idx7 t]
  rw [he]
  exact hout

end Cert.Proof.Adam

end
-- ==== Proof.Adam.Equation.lean ====
/- THE OPTIMISER'S STEP IS COMPUTED: the call's gradient, step and running means are the reference's, entry by entry. -/
module

public import proofs.«01_k».proof.Defs
public import proofs.«01_k».proof.Proof.Gen.AdamRefIdeal.Run
public import proofs.«01_k».proof.Proof.Gen.AdamRefIdeal.Read
public import proofs.«01_k».proof.Proof.Adam.Kernel

@[expose] public section

noncomputable section

namespace Cert.Proof.Adam

open Idealize.ShloMosaic Idealize.ShloMosaic.TcCoe Idealize.SL.Sem

section Reference

open Cert.AdamRefIdeal Cert.AdamRefIdeal.Read

variable (p : Vec Ideal S8x1024x512 .f32) (w mu nu : Vec Ideal S1024x512 .f32) (r : Fin 1024) (j : Fin 512)

theorem ref_g : val_main_v0 (F := Ideal) p (ix2 r j) = ∑ s : Fin 8, p (ix3 s r j) := by
  pointwise [val_main_v0, val_main_cst]

theorem ref_mu : val_main_v5 (F := Ideal) p mu (ix2 r j) = mean (mu (ix2 r j)) (∑ s : Fin 8, p (ix3 s r j)) := by
  rw [← ref_g]
  pointwise [val_main_v5, val_main_v4, val_main_v3, val_main_cst_1, val_main_v2, val_main_v1, val_main_cst_0]
  rfl

theorem ref_nu : val_main_v11 (F := Ideal) p nu (ix2 r j) = square (nu (ix2 r j)) (∑ s : Fin 8, p (ix3 s r j)) := by
  rw [← ref_g]
  pointwise [val_main_v11, val_main_v10, val_main_v9, val_main_cst_3, val_main_v8, val_main_v7, val_main_v6, val_main_cst_2]
  rfl

theorem ref_delta : val_main_v24 (F := Ideal) p w mu nu (ix2 r j)
    = delta (w (ix2 r j)) (val_main_v5 (F := Ideal) p mu (ix2 r j)) (val_main_v11 (F := Ideal) p nu (ix2 r j)) := by
  pointwise [val_main_v24, val_main_v23, val_main_cst_8, val_main_v22, val_main_v21, val_main_v20, val_main_cst_7,
    val_main_v19, val_main_v18, val_main_v17, val_main_cst_6, val_main_v16, val_main_v15, val_main_v14, val_main_cst_5,
    val_main_v13, val_main_v12, val_main_cst_4]
  rfl

end Reference

/-- The reference's frame. -/
theorem ref_frame : Cert.quiescent_AdamRefIdeal := fun m ρ _ =>
  (θ_run AdamRefIdeal.defs _ _).mono (fun r h => ⟨fun c => (h c).2.2.2.2, sem_eq_zero_of_no_sems (by decide) r.2⟩)
    (AdamRefIdeal.Value.run (F := Ideal) m ρ)

theorem algebraic : Cert.algebraic_AdamIdeal_AdamRefIdeal := by
  intro m g m' g' _ hag
  refine ⟨gArr m, deltaArr m, muArr m, nuArr m, ?_, ?_⟩
  · exact (θ_run AdamIdeal.defs _ _).mono (fun r h c => ⟨((h.1 c).1 4).trans (final_g m c),
      ((h.1 c).1 5).trans (final_delta m c), ((h.1 c).1 6).trans (final_mu m c), ((h.1 c).1 7).trans (final_nu m c), h.2 c⟩)
      (θ_run_and (AdamIdeal.Gen.run_main (F := Ideal) m g) (AdamIdeal.Gen.unchanged (F := Ideal) m g))
  · refine (θ_run AdamRefIdeal.defs _ _).mono (fun r h c => ?_) (AdamRefIdeal.Value.run (F := Ideal) m' g')
    obtain ⟨h0, h1, h2, h3, ha⟩ := h c
    obtain ⟨e0, e1, e2, e3⟩ := hag c
    refine ⟨h0.trans ((AdamRefIdeal.Read.val_main_v0_eq _).trans ?_), h1.trans ((AdamRefIdeal.Read.val_main_v24_eq _ _ _ _).trans ?_),
      h2.trans ((AdamRefIdeal.Read.val_main_v5_eq _ _).trans ?_), h3.trans ((AdamRefIdeal.Read.val_main_v11_eq _ _).trans ?_), ha⟩
    · rw [e0]; funext i; obtain ⟨p, q, rfl⟩ : ∃ p q, i = ix2 p q := ⟨i 0, i 1, eq_ix2 i⟩; exact ref_g _ p q
    · rw [e0, e1, e2, e3]; funext i; obtain ⟨p, q, rfl⟩ : ∃ p q, i = ix2 p q := ⟨i 0, i 1, eq_ix2 i⟩
      refine (ref_delta _ _ _ _ p q).trans ?_
      rw [ref_mu, ref_nu]; rfl
    · rw [e0, e2]; funext i; obtain ⟨p, q, rfl⟩ : ∃ p q, i = ix2 p q := ⟨i 0, i 1, eq_ix2 i⟩; exact ref_mu _ _ p q
    · rw [e0, e3]; funext i; obtain ⟨p, q, rfl⟩ : ∃ p q, i = ix2 p q := ⟨i 0, i 1, eq_ix2 i⟩; exact ref_nu _ _ p q

end Cert.Proof.Adam

end
-- ==== Proof.LossSum.Run.lean ====
/- THE EXCHANGE OF THE LOSS RUNS: eight devices add their parts of the loss by one all-reduce. At any float values the run
   ends, the argument is unchanged, every counter is zero again, and each device's result is the fold of the eight parts. -/
module

public import proofs.«01_k».proof.Defs
public import proofs.«01_k».proof.Proof.Gen.LossSum
public import proofs.«01_k».proof.Proof.Gen.LossSumIdeal
public import proofs.«01_k».proof.Proof.Gen.LossSumIdeal.Launch
public import proofs.«01_k».proof.Proof.Gen.LossSumIdeal.RegionsRQ

@[expose] public section

noncomputable section

namespace Cert.Proof.LossSum

open Cert.LossSumIdeal Cert.LossSumIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernels' part of the algebra (there is no kernel here) and the all-reduce's. -/
abbrev UU : Type := UR sig nD τ × Sites.UC

local notation "𝕄" => MT nD τ sig ℕ (Elt F) ℕ UU ℕ

abbrev EP : Emb (UR sig nD τ) (MT nD τ sig ℕ (Elt F) ℕ UU ℕ) := embL
abbrev EC : Emb Sites.UC (MT nD τ sig ℕ (Elt F) ℕ UU ℕ) := embR

variable (m : (ℓ : Loc nD τ sig) → Buf (Elt F) ℓ)

/-- What each device holds when the all-reduce is done. -/
abbrev done (c : Dev nD) : Valuation τ sig (Elt F) := (ar0 (F := F)).after₀ (V1 m) c

/-- The all-reduce's cells stand under their invariants. -/
abbrev invs : sProp 𝕄 := iprop(∃ κ, (AllReduce.Dat.once (ar0 (F := F)) (V1 m)).cellInvs (Sites.E0 EC) κ)

/-- What a device keeps of the all-reduce once it is past: enough to read its three counters. -/
abbrev past (c : Dev nD) : sProp 𝕄 := iprop(invs m ∗ Sites.Ghost0 EC c)

/-- What rides beside the buffers before the all-reduce and after it. -/
def rest : Fin 2 → Dev nD → sProp 𝕄
  | ⟨0, _⟩, c => Sites.Es EC (V1 m) 0 c
  | ⟨1, _⟩, c => iprop(past m c ∗ ∃ W, owes (c : Thread nD τ) (0 : CellTallies nD τ sig ℕ) W)

/-- The all-reduce as a piece of the program. -/
abbrev piece : Pipeline.HostSeg (Ix := ℕ) (Name := ℕ) (U := UU) (Lvl := ℕ) (pcfgs (F := F)) defs₀ Variants.none Sites.L Sites.lv :=
  Sites.seg0 EC Variants.none (V1 m) (Sites.Rest0 (V1 m) fun _ => invs m)

theorem enter (c : Dev nD) :
    iprop(StableHlo.held (c : Thread nD τ) (Pipeline.ucRefs τ sig) (V1 m c) ∗ rest m 0 c) ⊢ (piece m).pre c := by
  refine BI.Entails.trans ?_ (Sites.pre0 EC Variants.none (V1 m) (fun _ => invs m) c)
  show iprop(StableHlo.held (c : Thread nD τ) (Pipeline.ucRefs τ sig) (V1 m c) ∗ Sites.Es EC (V1 m) 0 c) ⊢ _
  rw [Sites.Es_0]
  iintro ⟨Hh, HO, Hp, Hr⟩
  ihave #Hi := (show Sites.rides0 EC (V1 m) c ⊢ invs m from by
    unfold Sites.rides0 AllReduce.Dat.rides; iintro ⟨Hi, -⟩; iexact Hi) $$ Hr
  isplitl [Hh]; · iexact Hh
  isplitl [HO Hp Hr]
  · isplitl [HO]; · iexact HO
    isplitl [Hp] <;> iassumption
  iexact Hi

/-- The nine buffers the all-reduce writes are the ones the valuation after it takes from `done`. -/
theorem agree (c : Dev nD) : ∀ b ∈ Pipeline.ucRefs τ sig, V2 m (fun _ b c => done m c b) c b = done m c b := fun b _ => by
  unfold V2
  by_cases h : b ∈ W2.map (Proc.devRef (τ := τ) .tc)
  · rw [if_pos h]
  · rw [if_neg h]
    refine ((ar0 (F := F)).after₀_of_notMem (V1 m) c fun hb => h ?_).symm
    rcases Finset.mem_insert.mp hb with rfl | hb
    · exact List.mem_map_of_mem (show main_v2 ∈ W2 by decide)
    · obtain ⟨j, rfl⟩ := (ar0 (F := F)).mem_stageRefs.mp hb
      exact List.mem_map_of_mem ((show ∀ j : Fin 8, ar0_stage j ∈ W2 by decide) j)

theorem leave (c : Dev nD) : (piece m).post c
    ⊢ iprop(StableHlo.held (c : Thread nD τ) (Pipeline.ucRefs τ sig) (V2 m (fun _ b c => done m c b) c) ∗ rest m 1 c) := by
  refine BI.Entails.trans (Sites.post0' EC Variants.none (V1 m) (fun _ => invs m) c _ (agree m c)) ?_
  show _ ⊢ iprop(_ ∗ past m c ∗ ∃ W, owes (c : Thread nD τ) (0 : CellTallies nD τ sig ℕ) W)
  iintro ⟨Hh, He, Hg, Hi⟩
  isplitl [Hh]; · iexact Hh
  isplitl [Hg Hi]; · isplitl [Hi] <;> iassumption
  iapply (Sites.hE_last EC (V1 m) c); iexact He

theorem counters (c : Dev nD) (s' : Phys nD τ sig (Elt F)) : iprop(past m c ∗ SI s')
    ⊢ (|={Set.univ}=> iprop(⌜∀ sm : SemLoc sig, sm.isScoped .tc = false → s'.mem.sem ((c.tc : Thread nD τ), sm) = 0⌝ ∗ SI s') : sProp 𝕄) := by
  iintro ⟨Hp, HSI⟩
  imod ((AllReduce.Dat.once (ar0 (F := F)) (V1 m)).ghostAfter_read (Sites.E0 EC) c (k := 0) le_rfl s') $$ [Hp HSI] with ⟨%h, HSI⟩
  · isplitl [Hp] <;> iassumption
  imodintro
  isplitr
  · ipureintro
    intro sm hsm
    have hl : ∀ sm : SemLoc sig, sm.isScoped .tc = false → sm = .reg ar0_barrier ∨ sm = .dma ar0_recv ∨ sm = .dma ar0_send := by decide
    rcases hl sm hsm with rfl | rfl | rfl
    exacts [h.1, h.2.1, h.2.2]
  iexact HSI

/-- The launch element: the kernels' (none) and the all-reduce's. -/
def start : UU :=
  (initOf (Pipeline.cells cfgs cellOf_inj) (Pipeline.launchToks cfgs cellOf_inj), Sites.uC (U := UU) (V1 m))

/-- THE RUN. -/
theorem run (ρ : Dev nD → PrngReg) : θ_run defs (onTc (τ := τ) (main (F := F))) ⟨m, fun _ => 0, ρ⟩ (fun r =>
    (∀ c : Dev nD, r.2.mem ((c.tc : Thread nD τ).loc main_arg0) = m ((c.tc : Thread nD τ).loc main_arg0))
    ∧ (∀ c : Dev nD, ∀ b ∈ Pipeline.ucRefs τ sig, r.2.mem ((c : Thread nD τ).1, b) = V2 m (fun _ b c => done m c b) c b)
    ∧ r.2.sem = fun _ => 0) :=
  frame_condRQ m EP 0 Variants.none Sites.L Sites.lv Sites.hL ρ (fun _ b c => done m c b) (fun p => p.elim0)
    (Sites.O0 (F := F)) (Sites.G EC (V1 m)) (start m)
    (by
      unfold start
      iintro Hu
      ihave H := (ownU_pair _ _) $$ Hu
      icases H with ⟨HP, HX⟩
      imodintro
      isplitl [HP]; · iexact HP
      rw [Sites.bigSep_G]; iexact HX)
    (rest m) (Sites.hE0 EC (V1 m) ρ) (past m) (fun _ => .rfl) (counters m) (piece m) rfl (enter m) (leave m)

/-- The frame of the ideal program, and of the program itself: the same lines at the other float values. -/
theorem ideal_frame : Cert.quiescent_LossSumIdeal := fun m ρ _ =>
  (θ_run LossSumIdeal.defs _ _).mono (fun _ h => ⟨h.1, h.2.2⟩) (run (F := Ideal) m ρ)

theorem bits_frame : Cert.quiescent_LossSum := fun m ρ _ =>
  (θ_run LossSumIdeal.defs _ _).mono (fun _ h => ⟨h.1, h.2.2⟩) (run (F := Bits) m ρ)

end Cert.Proof.LossSum

end
-- ==== Proof.LossSum.Equation.lean ====
/- THE EXCHANGE OF THE LOSS ADDS: every device ends with the sum of the eight parts. -/
module

public import proofs.«01_k».proof.Defs
public import proofs.«01_k».proof.Proof.Gen.LossSumRefIdeal
public import proofs.«01_k».proof.Proof.Gen.LossSumRefIdeal.Run
public import proofs.«01_k».proof.Proof.Gen.LossSumRefIdeal.Read
public import proofs.«01_k».proof.Proof.LossSum.Run
public import Idealize.ShloMosaic.Lib.Pipeline.ValueKit
public import Idealize.ShloMosaic.Lib.Pipeline.ReadBack

@[expose] public section

noncomputable section

namespace Cert.Proof.LossSum

open Idealize.ShloMosaic Idealize.ShloMosaic.TcCoe Idealize.SL.Sem

/-- An array of eight numbers is indexed by its devices. -/
theorem sum_eight (f : Cert.LossSumRefIdeal.S8.Idx → EReal) : ∑ i, f i = ∑ s : Fin 8, f (ix1 s) :=
  (Equiv.sum_comp ⟨ix1, fun i => i 0, fun _ => rfl, fun i => (eq_ix1 i).symm⟩ f).symm

/-- The reference's sum. -/
theorem ref_sum (x : Vec Ideal Cert.LossSumRefIdeal.S8 .f32) (i : Cert.LossSumRefIdeal.S_.Idx) :
    LossSumRefIdeal.Read.val_main_v0 (F := Ideal) x i = ∑ s : Fin 8, x (ix1 s) := by
  rw [LossSumRefIdeal.Read.val_main_v0_apply, sum_eight]
  pointwise [LossSumRefIdeal.Read.val_main_cst]

/-- Eight numbers added one after another are their sum. -/
theorem fold_eight (f : Fin 8 → EReal) : ((List.finRange 8).drop 1).foldl (fun a j => a + f j) (f 0) = ∑ s, f s := by
  rw [Fin.sum_univ_eight]; rfl

section Kernel

open Cert.LossSumIdeal Cert.LossSumIdeal.Gen

variable (m : (ℓ : Loc nD τ sig) → Buf (Elt Ideal) ℓ)

/-- A device's part. -/
abbrev part (s : Dev nD) : EReal := m ((s.tc : Thread nD τ).loc main_arg0) (ix1 (0 : Fin 1))

/-- What a device sends is its part. -/
theorem sent (s : Dev nD) (i : S_.Idx) : V1 m s main_v1 i = part m s := by
  after_results
  show shapeCast S_ (m ((s.tc : Thread nD τ).loc main_arg0)) shapeCasts_S1_S_ i = _
  unfold shapeCast
  exact congrArg _ ((eq_ix1 _).trans (congrArg ix1 (Subsingleton.elim _ _)))

/-- The sum of the parts. -/
def total : EReal := ∑ s : Fin 8, part m s

/-- What every device ends with. -/
theorem result (c : Dev nD) (i : S_.Idx) : done m c main_v2 i = total m := by
  have e : done m c main_v2 = (ar0 (F := Ideal)).foldGroup fun j => V1 m ((ar0 (F := Ideal)).peer c j) main_v1 :=
    ((ar0 (F := Ideal)).after₀_result (V1 m) c).trans (by unfold AllReduce.Cfg.toResult; exact cast_eq _ _)
  have hp (j : Fin 8) : (ar0 (F := Ideal)).peer c j = j :=
    (show ∀ (c : Dev nD) (j : Fin 8), ar0_mem ((ar0_pos c).1, j) = j by decide) c j
  have h (j : Fin 8) : V1 m ((ar0 (F := Ideal)).peer c j) main_v1 i = part m j := by rw [hp j]; exact sent m j i
  refine (congrFun e i).trans (Eq.trans ?_ (fold_eight (part m)))
  show ((List.finRange 8).drop 1).foldl (fun (a : EReal) (j : Fin 8) => a + (V1 m ((ar0 (F := Ideal)).peer c j) main_v1 i : EReal))
    (V1 m ((ar0 (F := Ideal)).peer c 0) main_v1 i) = _
  simp only [h]

end Kernel

/-- The reference's frame. -/
theorem ref_frame : Cert.quiescent_LossSumRefIdeal := fun m ρ _ =>
  (θ_run LossSumRefIdeal.defs _ _).mono (fun r h => ⟨fun c => (h c).2, sem_eq_zero_of_no_sems (by decide) r.2⟩)
    (LossSumRefIdeal.Value.run (F := Ideal) m ρ)

theorem algebraic : Cert.algebraic_LossSumIdeal_LossSumRefIdeal := by
  intro m g m' g' _ hag
  refine ⟨fun _ => total m, ?_, ?_⟩
  · refine (θ_run LossSumIdeal.defs _ _).mono (fun r h c => ⟨?_, h.1 c⟩) (run (F := Ideal) m g)
    refine (h.2.1 c _ (Finset.mem_filter.mpr ⟨StableHlo.devRef_mem_tcRefs LossSumIdeal.main_v2, by decide⟩)).trans ?_
    funext i
    exact result m c i
  · refine (θ_run LossSumRefIdeal.defs _ _).mono (fun r h => ?_) (LossSumRefIdeal.Value.run (F := Ideal) m' g')
    obtain ⟨h0, ha⟩ := h 0
    refine ⟨h0.trans ((LossSumRefIdeal.Read.val_main_v0_eq _).trans ?_), ha⟩
    funext i
    refine (ref_sum _ i).trans (Finset.sum_congr rfl fun s _ => ?_)
    refine Eq.trans ?_ (congrFun (hag s) (ix1 (0 : Fin 1))).symm
    rw [Layout.block_apply]
    refine congrArg _ ?_
    funext a
    obtain rfl : a = 0 := Subsingleton.elim _ _
    exact Fin.ext (show s.val = s.val * 1 + 0 by omega)

end Cert.Proof.LossSum

end
-- ==== Proof.lean ====
/- THE CERTIFICATE: every claim of the statement, assembled from the modules of Proof/. -/
module

public import proofs.«01_k».proof.Defs
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Loss.Equation
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.MlpRefIdeal.Run
public import proofs.«01_k».proof.Proof.Gen.MlpRefIdeal.Read
public import proofs.«01_k».proof.Proof.Mlp.Equation
public import proofs.«01_k».proof.Proof.Gen.In1
public import proofs.«01_k».proof.Proof.Gen.In1.Skeleton
public import proofs.«01_k».proof.Proof.Gen.In1.Launch
public import proofs.«01_k».proof.Proof.Gen.In1.Points
public import proofs.«01_k».proof.Proof.Gen.In1.Frame
public import proofs.«01_k».proof.Proof.Gen.In1Ideal
public import proofs.«01_k».proof.Proof.Gen.In1Ideal.Skeleton
public import proofs.«01_k».proof.Proof.Gen.In1Ideal.Launch
public import proofs.«01_k».proof.Proof.Gen.In1Ideal.Points
public import proofs.«01_k».proof.Proof.Gen.In1Ideal.Frame
public import proofs.«01_k».proof.Proof.Gen.In1RefIdeal
public import proofs.«01_k».proof.Proof.Gen.In1RefIdeal.Run
public import proofs.«01_k».proof.Proof.Gen.In1RefIdeal.Read
public import proofs.«01_k».proof.Proof.In1.Equation
public import proofs.«01_k».proof.Proof.Gen.In0
public import proofs.«01_k».proof.Proof.Gen.In0.Skeleton
public import proofs.«01_k».proof.Proof.Gen.In0.Launch
public import proofs.«01_k».proof.Proof.Gen.In0.Points
public import proofs.«01_k».proof.Proof.Gen.In0.Frame
public import proofs.«01_k».proof.Proof.Gen.In0Ideal
public import proofs.«01_k».proof.Proof.Gen.In0Ideal.Skeleton
public import proofs.«01_k».proof.Proof.Gen.In0Ideal.Launch
public import proofs.«01_k».proof.Proof.Gen.In0Ideal.Points
public import proofs.«01_k».proof.Proof.Gen.In0Ideal.Frame
public import proofs.«01_k».proof.Proof.Gen.In0RefIdeal
public import proofs.«01_k».proof.Proof.Gen.In0RefIdeal.Run
public import proofs.«01_k».proof.Proof.Gen.In0RefIdeal.Read
public import proofs.«01_k».proof.Proof.In0.Equation
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepRefIdeal
public import proofs.«01_k».proof.Proof.Gen.PrepRefIdeal.Run
public import proofs.«01_k».proof.Proof.Gen.PrepRefIdeal.Read
public import proofs.«01_k».proof.Proof.Prep.Equation
public import proofs.«01_k».proof.Proof.Gen.PrepFwd
public import proofs.«01_k».proof.Proof.Gen.PrepFwd.Skeleton
public import proofs.«01_k».proof.Proof.Gen.PrepFwd.Launch
public import proofs.«01_k».proof.Proof.Gen.PrepFwd.Points
public import proofs.«01_k».proof.Proof.Gen.PrepFwd.Frame
public import proofs.«01_k».proof.Proof.Gen.PrepFwdIdeal
public import proofs.«01_k».proof.Proof.Gen.PrepFwdIdeal.Skeleton
public import proofs.«01_k».proof.Proof.Gen.PrepFwdIdeal.Launch
public import proofs.«01_k».proof.Proof.Gen.PrepFwdIdeal.Points
public import proofs.«01_k».proof.Proof.Gen.PrepFwdIdeal.Frame
public import proofs.«01_k».proof.Proof.Gen.PrepFwdRefIdeal
public import proofs.«01_k».proof.Proof.Gen.PrepFwdRefIdeal.Run
public import proofs.«01_k».proof.Proof.Gen.PrepFwdRefIdeal.Read
public import proofs.«01_k».proof.Proof.PrepFwd.Equation
public import proofs.«01_k».proof.Proof.Gen.In0Fwd
public import proofs.«01_k».proof.Proof.Gen.In0Fwd.Skeleton
public import proofs.«01_k».proof.Proof.Gen.In0Fwd.Launch
public import proofs.«01_k».proof.Proof.Gen.In0Fwd.Points
public import proofs.«01_k».proof.Proof.Gen.In0Fwd.Frame
public import proofs.«01_k».proof.Proof.Gen.In0FwdIdeal
public import proofs.«01_k».proof.Proof.Gen.In0FwdIdeal.Skeleton
public import proofs.«01_k».proof.Proof.Gen.In0FwdIdeal.Launch
public import proofs.«01_k».proof.Proof.Gen.In0FwdIdeal.Points
public import proofs.«01_k».proof.Proof.Gen.In0FwdIdeal.Frame
public import proofs.«01_k».proof.Proof.Gen.In0FwdRefIdeal
public import proofs.«01_k».proof.Proof.Gen.In0FwdRefIdeal.Run
public import proofs.«01_k».proof.Proof.Gen.In0FwdRefIdeal.Read
public import proofs.«01_k».proof.Proof.In0Fwd.Equation
public import proofs.«01_k».proof.Proof.Gen.In1Fwd
public import proofs.«01_k».proof.Proof.Gen.In1Fwd.Skeleton
public import proofs.«01_k».proof.Proof.Gen.In1Fwd.Launch
public import proofs.«01_k».proof.Proof.Gen.In1Fwd.Points
public import proofs.«01_k».proof.Proof.Gen.In1Fwd.Frame
public import proofs.«01_k».proof.Proof.Gen.In1FwdIdeal
public import proofs.«01_k».proof.Proof.Gen.In1FwdIdeal.Skeleton
public import proofs.«01_k».proof.Proof.Gen.In1FwdIdeal.Launch
public import proofs.«01_k».proof.Proof.Gen.In1FwdIdeal.Points
public import proofs.«01_k».proof.Proof.Gen.In1FwdIdeal.Frame
public import proofs.«01_k».proof.Proof.Gen.In1FwdRefIdeal
public import proofs.«01_k».proof.Proof.Gen.In1FwdRefIdeal.Run
public import proofs.«01_k».proof.Proof.Gen.In1FwdRefIdeal.Read
public import proofs.«01_k».proof.Proof.In1Fwd.Equation
public import proofs.«01_k».proof.Proof.Gen.OutFwd
public import proofs.«01_k».proof.Proof.Gen.OutFwd.Skeleton
public import proofs.«01_k».proof.Proof.Gen.OutFwd.Launch
public import proofs.«01_k».proof.Proof.Gen.OutFwd.Points
public import proofs.«01_k».proof.Proof.Gen.OutFwd.Frame
public import proofs.«01_k».proof.Proof.Gen.OutFwdIdeal
public import proofs.«01_k».proof.Proof.Gen.OutFwdIdeal.Skeleton
public import proofs.«01_k».proof.Proof.Gen.OutFwdIdeal.Launch
public import proofs.«01_k».proof.Proof.Gen.OutFwdIdeal.Points
public import proofs.«01_k».proof.Proof.Gen.OutFwdIdeal.Frame
public import proofs.«01_k».proof.Proof.Gen.OutFwdRefIdeal
public import proofs.«01_k».proof.Proof.Gen.OutFwdRefIdeal.Run
public import proofs.«01_k».proof.Proof.Gen.OutFwdRefIdeal.Read
public import proofs.«01_k».proof.Proof.OutFwd.Equation
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutRefIdeal.Run
public import proofs.«01_k».proof.Proof.Gen.OutRefIdeal.Read
public import proofs.«01_k».proof.Proof.Out.Equation
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamRefIdeal
public import proofs.«01_k».proof.Proof.Gen.AdamRefIdeal.Run
public import proofs.«01_k».proof.Proof.Gen.AdamRefIdeal.Read
public import proofs.«01_k».proof.Proof.Adam.Equation
public import proofs.«01_k».proof.Proof.Gen.LossSum
public import proofs.«01_k».proof.Proof.Gen.LossSum.Launch
public import proofs.«01_k».proof.Proof.Gen.LossSumIdeal
public import proofs.«01_k».proof.Proof.Gen.LossSumIdeal.Launch
public import proofs.«01_k».proof.Proof.Gen.LossSumRefIdeal
public import proofs.«01_k».proof.Proof.Gen.LossSumRefIdeal.Run
public import proofs.«01_k».proof.Proof.Gen.LossSumRefIdeal.Read
public import proofs.«01_k».proof.Proof.LossSum.Equation
public import proofs.«01_k».proof.Proof.Gen.RetFwd
public import proofs.«01_k».proof.Proof.Gen.RetFwd.Skeleton
public import proofs.«01_k».proof.Proof.Gen.RetFwd.Launch
public import proofs.«01_k».proof.Proof.Gen.RetFwd.Points
public import proofs.«01_k».proof.Proof.Gen.RetFwd.Frame
public import proofs.«01_k».proof.Proof.Gen.RetFwdIdeal
public import proofs.«01_k».proof.Proof.Gen.RetFwdIdeal.Skeleton
public import proofs.«01_k».proof.Proof.Gen.RetFwdIdeal.Launch
public import proofs.«01_k».proof.Proof.Gen.RetFwdIdeal.Points
public import proofs.«01_k».proof.Proof.Gen.RetFwdIdeal.Frame
public import proofs.«01_k».proof.Proof.Gen.GdnFwd
public import proofs.«01_k».proof.Proof.Gen.GdnFwd.Skeleton
public import proofs.«01_k».proof.Proof.Gen.GdnFwd.Launch
public import proofs.«01_k».proof.Proof.Gen.GdnFwd.Points
public import proofs.«01_k».proof.Proof.Gen.GdnFwd.Frame
public import proofs.«01_k».proof.Proof.Gen.GdnFwdIdeal
public import proofs.«01_k».proof.Proof.Gen.GdnFwdIdeal.Skeleton
public import proofs.«01_k».proof.Proof.Gen.GdnFwdIdeal.Launch
public import proofs.«01_k».proof.Proof.Gen.GdnFwdIdeal.Points
public import proofs.«01_k».proof.Proof.Gen.GdnFwdIdeal.Frame
public import proofs.«01_k».proof.Proof.Gen.SsdFwd
public import proofs.«01_k».proof.Proof.Gen.SsdFwd.Skeleton
public import proofs.«01_k».proof.Proof.Gen.SsdFwd.Launch
public import proofs.«01_k».proof.Proof.Gen.SsdFwd.Points
public import proofs.«01_k».proof.Proof.Gen.SsdFwd.Frame
public import proofs.«01_k».proof.Proof.Gen.SsdFwdIdeal
public import proofs.«01_k».proof.Proof.Gen.SsdFwdIdeal.Skeleton
public import proofs.«01_k».proof.Proof.Gen.SsdFwdIdeal.Launch
public import proofs.«01_k».proof.Proof.Gen.SsdFwdIdeal.Points
public import proofs.«01_k».proof.Proof.Gen.SsdFwdIdeal.Frame
public import proofs.«01_k».proof.Proof.Gen.S5Fwd
public import proofs.«01_k».proof.Proof.Gen.S5Fwd.Skeleton
public import proofs.«01_k».proof.Proof.Gen.S5Fwd.Launch
public import proofs.«01_k».proof.Proof.Gen.S5Fwd.Points
public import proofs.«01_k».proof.Proof.Gen.S5Fwd.Frame
public import proofs.«01_k».proof.Proof.Gen.S5FwdIdeal
public import proofs.«01_k».proof.Proof.Gen.S5FwdIdeal.Skeleton
public import proofs.«01_k».proof.Proof.Gen.S5FwdIdeal.Launch
public import proofs.«01_k».proof.Proof.Gen.S5FwdIdeal.Points
public import proofs.«01_k».proof.Proof.Gen.S5FwdIdeal.Frame
public import proofs.«01_k».proof.Proof.Gen.RetBwd
public import proofs.«01_k».proof.Proof.Gen.RetBwd.Skeleton
public import proofs.«01_k».proof.Proof.Gen.RetBwd.Launch
public import proofs.«01_k».proof.Proof.Gen.RetBwd.Points
public import proofs.«01_k».proof.Proof.Gen.RetBwd.Frame
public import proofs.«01_k».proof.Proof.Gen.RetBwdIdeal
public import proofs.«01_k».proof.Proof.Gen.RetBwdIdeal.Skeleton
public import proofs.«01_k».proof.Proof.Gen.RetBwdIdeal.Launch
public import proofs.«01_k».proof.Proof.Gen.RetBwdIdeal.Points
public import proofs.«01_k».proof.Proof.Gen.RetBwdIdeal.Frame
public import Idealize.ShloMosaic.Adequacy
public import Idealize.ShloMosaic.Init

@[expose] public section

noncomputable section

-- Every frame also says that every semaphore counter ends at zero.

namespace Cert.Proof

open Idealize.ShloMosaic Idealize.SL.Sem

theorem claim : Cert.Claim :=
  ⟨Cert.Loss.Gen.facts, Cert.LossIdeal.Gen.facts, Cert.LossRefIdeal.Gen.facts,
    Cert.Mlp.Gen.facts, Cert.MlpIdeal.Gen.facts, Cert.MlpRefIdeal.Gen.facts,
    Cert.In1.Gen.facts, Cert.In1Ideal.Gen.facts, Cert.In1RefIdeal.Gen.facts,
    Cert.In0.Gen.facts, Cert.In0Ideal.Gen.facts, Cert.In0RefIdeal.Gen.facts,
    Cert.Prep.Gen.facts, Cert.PrepIdeal.Gen.facts, Cert.PrepRefIdeal.Gen.facts,
    Cert.PrepFwd.Gen.facts, Cert.PrepFwdIdeal.Gen.facts, Cert.PrepFwdRefIdeal.Gen.facts,
    Cert.In0Fwd.Gen.facts, Cert.In0FwdIdeal.Gen.facts, Cert.In0FwdRefIdeal.Gen.facts,
    Cert.In1Fwd.Gen.facts, Cert.In1FwdIdeal.Gen.facts, Cert.In1FwdRefIdeal.Gen.facts,
    Cert.OutFwd.Gen.facts, Cert.OutFwdIdeal.Gen.facts, Cert.OutFwdRefIdeal.Gen.facts,
    Cert.Out.Gen.facts, Cert.OutIdeal.Gen.facts, Cert.OutRefIdeal.Gen.facts,
    Cert.Adam.Gen.facts, Cert.AdamIdeal.Gen.facts, Cert.AdamRefIdeal.Gen.facts,
    Cert.LossSum.Gen.facts, Cert.LossSumIdeal.Gen.facts, Cert.LossSumRefIdeal.Gen.facts,
    Cert.RetFwd.Gen.facts, Cert.RetFwdIdeal.Gen.facts,
    Cert.GdnFwd.Gen.facts, Cert.GdnFwdIdeal.Gen.facts,
    Cert.SsdFwd.Gen.facts, Cert.SsdFwdIdeal.Gen.facts,
    Cert.S5Fwd.Gen.facts, Cert.S5FwdIdeal.Gen.facts,
    Cert.RetBwd.Gen.facts, Cert.RetBwdIdeal.Gen.facts,
    Prep.facts_pre,
    fun m ρ _ => Cert.Loss.Gen.frame m ρ, fun m ρ _ => Cert.LossIdeal.Gen.frame m ρ, Loss.ref_frame,
    fun m ρ _ => Cert.Mlp.Gen.frame m ρ, fun m ρ _ => Cert.MlpIdeal.Gen.frame m ρ, Mlp.ref_frame,
    fun m ρ _ => Cert.In1.Gen.frame m ρ, fun m ρ _ => Cert.In1Ideal.Gen.frame m ρ, In1.ref_frame,
    fun m ρ _ => Cert.In0.Gen.frame m ρ, fun m ρ _ => Cert.In0Ideal.Gen.frame m ρ, In0.ref_frame,
    fun m ρ _ => Cert.Prep.Gen.frame m ρ, fun m ρ _ => Cert.PrepIdeal.Gen.frame m ρ, fun m ρ _ => Cert.PrepIdeal.Gen.frame m ρ, Prep.ref_frame, fun m ρ _ => Prep.ref_frame m ρ trivial,
    fun m ρ _ => Cert.PrepFwd.Gen.frame m ρ, fun m ρ _ => Cert.PrepFwdIdeal.Gen.frame m ρ, PrepFwd.ref_frame,
    fun m ρ _ => Cert.In0Fwd.Gen.frame m ρ, fun m ρ _ => Cert.In0FwdIdeal.Gen.frame m ρ, In0Fwd.ref_frame,
    fun m ρ _ => Cert.In1Fwd.Gen.frame m ρ, fun m ρ _ => Cert.In1FwdIdeal.Gen.frame m ρ, In1Fwd.ref_frame,
    fun m ρ _ => Cert.OutFwd.Gen.frame m ρ, fun m ρ _ => Cert.OutFwdIdeal.Gen.frame m ρ, OutFwd.ref_frame,
    fun m ρ _ => Cert.Out.Gen.frame m ρ, fun m ρ _ => Cert.OutIdeal.Gen.frame m ρ, Out.ref_frame,
    fun m ρ _ => Cert.Adam.Gen.frame m ρ, fun m ρ _ => Cert.AdamIdeal.Gen.frame m ρ, Adam.ref_frame,
    LossSum.bits_frame, LossSum.ideal_frame, LossSum.ref_frame,
    fun m ρ _ => Cert.RetFwd.Gen.frame m ρ, fun m ρ _ => Cert.RetFwdIdeal.Gen.frame m ρ,
    fun m ρ _ => Cert.GdnFwd.Gen.frame m ρ, fun m ρ _ => Cert.GdnFwdIdeal.Gen.frame m ρ,
    fun m ρ _ => Cert.SsdFwd.Gen.frame m ρ, fun m ρ _ => Cert.SsdFwdIdeal.Gen.frame m ρ,
    fun m ρ _ => Cert.S5Fwd.Gen.frame m ρ, fun m ρ _ => Cert.S5FwdIdeal.Gen.frame m ρ,
    fun m ρ _ => Cert.RetBwd.Gen.frame m ρ, fun m ρ _ => Cert.RetBwdIdeal.Gen.frame m ρ,
    trivial, Loss.algebraic,
    trivial, Mlp.algebraic,
    trivial, In1.algebraic,
    trivial, In0.algebraic,
    trivial, Prep.algebraic,
    trivial, PrepFwd.algebraic,
    trivial, In0Fwd.algebraic,
    trivial, In1Fwd.algebraic,
    trivial, OutFwd.algebraic,
    trivial, Out.algebraic,
    trivial, Adam.algebraic,
    trivial, LossSum.algebraic,
    trivial, trivial, trivial, trivial, trivial⟩

end Cert.Proof

end
